-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Kernel38Ideal_all_finite [hPre_all_finite : Cert.Pre_all_finite.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_all_finite.fn (F := Ideal) (m ((c.tc : Thread Cert.Kernel38Ideal.nD Cert.Kernel38Ideal.τ).loc Cert.Kernel38Ideal.main_arg0))) = (fun _ => 1#1)

def Pre_Reference38Ideal (m : (ℓ : Loc Cert.Reference38Ideal.nD Cert.Reference38Ideal.τ Cert.Reference38Ideal.sig) → Buf (Elt Ideal) ℓ) : Prop :=
  True

def Pre_Reference38Ideal_all_finite [hPre_all_finite : Cert.Pre_all_finite.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_all_finite.fn (F := Ideal) (m ((c.tc : Thread Cert.Reference38Ideal.nD Cert.Reference38Ideal.τ).loc Cert.Reference38Ideal.main_arg0))) = (fun _ => 1#1)

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Kernel39Ideal_all_finite [hPre_all_finite : Cert.Pre_all_finite.Facts] (m : (ℓ : Loc Cert.Kernel39Ideal.nD Cert.Kernel39Ideal.τ Cert.Kernel39Ideal.sig) → Buf (Elt Ideal) ℓ) : Prop :=
  ∀ c : Dev Cert.Kernel39Ideal.nD,
    (Cert.Pre_all_finite.fn (F := Ideal) (m ((c.tc : Thread Cert.Kernel39Ideal.nD Cert.Kernel39Ideal.τ).loc Cert.Kernel39Ideal.main_arg0))) = (fun _ => 1#1)

def Pre_Reference39Ideal (m : (ℓ : Loc Cert.Reference39Ideal.nD Cert.Reference39Ideal.τ Cert.Reference39Ideal.sig) → Buf (Elt Ideal) ℓ) : Prop :=
  True

def Pre_Reference39Ideal_all_finite [hPre_all_finite : Cert.Pre_all_finite.Facts] (m : (ℓ : Loc Cert.Reference39Ideal.nD Cert.Reference39Ideal.τ Cert.Reference39Ideal.sig) → Buf (Elt Ideal) ℓ) : Prop :=
  ∀ c : Dev Cert.Reference39Ideal.nD,
    (Cert.Pre_all_finite.fn (F := Ideal) (m ((c.tc : Thread Cert.Reference39Ideal.nD Cert.Reference39Ideal.τ).loc Cert.Reference39Ideal.main_arg0))) = (fun _ => 1#1)

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Kernel38Ideal_pre_all_finite [hKernel38Ideal : Cert.Kernel38Ideal.Facts] [hPre_all_finite : Cert.Pre_all_finite.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal_all_finite m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Reference38Ideal_pre_all_finite [hReference38Ideal : Cert.Reference38Ideal.Facts] [hPre_all_finite : Cert.Pre_all_finite.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal_all_finite m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Kernel39Ideal_pre_all_finite [hKernel39Ideal : Cert.Kernel39Ideal.Facts] [hPre_all_finite : Cert.Pre_all_finite.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal_all_finite m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Reference39Ideal_pre_all_finite [hReference39Ideal : Cert.Reference39Ideal.Facts] [hPre_all_finite : Cert.Pre_all_finite.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal_all_finite m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4)
      ∧ r.2.mem ((c.tc : Thread Cert.Kernel41.nD Cert.Kernel41.τ).loc Cert.Kernel41.main_arg5) = m ((c.tc : Thread Cert.Kernel41.nD Cert.Kernel41.τ).loc Cert.Kernel41.main_arg5)
      ∧ r.2.mem ((c.tc : Thread Cert.Kernel41.nD Cert.Kernel41.τ).loc Cert.Kernel41.main_arg6) = m ((c.tc : Thread Cert.Kernel41.nD Cert.Kernel41.τ).loc Cert.Kernel41.main_arg6))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
      ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
      ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4)
      ∧ r.2.mem ((c.tc : Thread Cert.Reference41Ideal.nD Cert.Reference41Ideal.τ).loc Cert.Reference41Ideal.main_arg5) = m ((c.tc : Thread Cert.Reference41Ideal.nD Cert.Reference41Ideal.τ).loc Cert.Reference41Ideal.main_arg5)
      ∧ r.2.mem ((c.tc : Thread Cert.Reference41Ideal.nD Cert.Reference41Ideal.τ).loc Cert.Reference41Ideal.main_arg6) = m ((c.tc : Thread Cert.Reference41Ideal.nD Cert.Reference41Ideal.τ).loc Cert.Reference41Ideal.main_arg6))
      ∧ r.2.sem = fun _ => 0)

def preserves_Kernel_KernelIdeal : Prop :=
  True

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v27) = v1 c
          ∧ r.2.mem ((c.tc : Thread Cert.Reference20Ideal.nD Cert.Reference20Ideal.τ).loc Cert.Reference20Ideal.main_v8) = v2 c
          ∧ r.2.mem ((c.tc : Thread Cert.Reference20Ideal.nD Cert.Reference20Ideal.τ).loc Cert.Reference20Ideal.main_v14) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_v27) = v1 c
          ∧ r.2.mem ((c.tc : Thread Cert.Reference21Ideal.nD Cert.Reference21Ideal.τ).loc Cert.Reference21Ideal.main_v8) = v2 c
          ∧ r.2.mem ((c.tc : Thread Cert.Reference21Ideal.nD Cert.Reference21Ideal.τ).loc Cert.Reference21Ideal.main_v14) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v37) = v0 c
          ∧ r.2.mem ((c.tc : Thread Cert.Reference30Ideal.nD Cert.Reference30Ideal.τ).loc Cert.Reference30Ideal.main_v19) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v12) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v34) = v0 c
          ∧ r.2.mem ((c.tc : Thread Cert.Reference32Ideal.nD Cert.Reference32Ideal.τ).loc Cert.Reference32Ideal.main_v37) = v1 c
          ∧ r.2.mem ((c.tc : Thread Cert.Reference32Ideal.nD Cert.Reference32Ideal.τ).loc Cert.Reference32Ideal.main_v17) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v21) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v38) = v0 c
          ∧ r.2.mem ((c.tc : Thread Cert.Reference34Ideal.nD Cert.Reference34Ideal.τ).loc Cert.Reference34Ideal.main_v37) = v1 c
          ∧ r.2.mem ((c.tc : Thread Cert.Reference34Ideal.nD Cert.Reference34Ideal.τ).loc Cert.Reference34Ideal.main_v36) = v2 c
          ∧ r.2.mem ((c.tc : Thread Cert.Reference34Ideal.nD Cert.Reference34Ideal.τ).loc Cert.Reference34Ideal.main_v35) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v16) = v0 c
          ∧ r.2.mem ((c.tc : Thread Cert.Reference35Ideal.nD Cert.Reference35Ideal.τ).loc Cert.Reference35Ideal.main_v19) = v1 c
          ∧ r.2.mem ((c.tc : Thread Cert.Reference35Ideal.nD Cert.Reference35Ideal.τ).loc Cert.Reference35Ideal.main_v28) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v37) = v0 c
          ∧ r.2.mem ((c.tc : Thread Cert.Reference36Ideal.nD Cert.Reference36Ideal.τ).loc Cert.Reference36Ideal.main_v19) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v34) = v0 c
          ∧ r.2.mem ((c.tc : Thread Cert.Reference37Ideal.nD Cert.Reference37Ideal.τ).loc Cert.Reference37Ideal.main_v35) = v1 c
          ∧ r.2.mem ((c.tc : Thread Cert.Reference37Ideal.nD Cert.Reference37Ideal.τ).loc Cert.Reference37Ideal.main_v17) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal_pre_all_finite [hKernel38Ideal : Cert.Kernel38Ideal.Facts] [hReference38Ideal : Cert.Reference38Ideal.Facts] [hPre_all_finite : Cert.Pre_all_finite.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal_all_finite m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v0) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0))

def preserves_Kernel39_Kernel39Ideal : Prop :=
  True

def algebraic_Kernel39Ideal_Reference39Ideal_pre_all_finite [hKernel39Ideal : Cert.Kernel39Ideal.Facts] [hReference39Ideal : Cert.Reference39Ideal.Facts] [hPre_all_finite : Cert.Pre_all_finite.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal_all_finite m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v2) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v25) = v0 c
          ∧ r.2.mem ((c.tc : Thread Cert.Reference40Ideal.nD Cert.Reference40Ideal.τ).loc Cert.Reference40Ideal.main_v43) = v1 c
          ∧ r.2.mem ((c.tc : Thread Cert.Reference40Ideal.nD Cert.Reference40Ideal.τ).loc Cert.Reference40Ideal.main_v51) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)
      ∧ m' ((c.tc : Thread Cert.Reference41Ideal.nD Cert.Reference41Ideal.τ).loc Cert.Reference41Ideal.main_arg5) = m ((c.tc : Thread Cert.Kernel41Ideal.nD Cert.Kernel41Ideal.τ).loc Cert.Kernel41Ideal.main_arg5)
      ∧ m' ((c.tc : Thread Cert.Reference41Ideal.nD Cert.Reference41Ideal.τ).loc Cert.Reference41Ideal.main_arg6) = m ((c.tc : Thread Cert.Kernel41Ideal.nD Cert.Kernel41Ideal.τ).loc Cert.Kernel41Ideal.main_arg6)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4)
          ∧ r.2.mem ((c.tc : Thread Cert.Kernel41Ideal.nD Cert.Kernel41Ideal.τ).loc Cert.Kernel41Ideal.main_arg5) = m ((c.tc : Thread Cert.Kernel41Ideal.nD Cert.Kernel41Ideal.τ).loc Cert.Kernel41Ideal.main_arg5)
          ∧ r.2.mem ((c.tc : Thread Cert.Kernel41Ideal.nD Cert.Kernel41Ideal.τ).loc Cert.Kernel41Ideal.main_arg6) = m ((c.tc : Thread Cert.Kernel41Ideal.nD Cert.Kernel41Ideal.τ).loc Cert.Kernel41Ideal.main_arg6))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v107) = v0 c
          ∧ r.2.mem ((c.tc : Thread Cert.Reference41Ideal.nD Cert.Reference41Ideal.τ).loc Cert.Reference41Ideal.main_v41) = v1 c
          ∧ r.2.mem ((c.tc : Thread Cert.Reference41Ideal.nD Cert.Reference41Ideal.τ).loc Cert.Reference41Ideal.main_v84) = v2 c
          ∧ r.2.mem ((c.tc : Thread Cert.Reference41Ideal.nD Cert.Reference41Ideal.τ).loc Cert.Reference41Ideal.main_v105) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4)
          ∧ r.2.mem ((c.tc : Thread Cert.Reference41Ideal.nD Cert.Reference41Ideal.τ).loc Cert.Reference41Ideal.main_arg5) = m' ((c.tc : Thread Cert.Reference41Ideal.nD Cert.Reference41Ideal.τ).loc Cert.Reference41Ideal.main_arg5)
          ∧ r.2.mem ((c.tc : Thread Cert.Reference41Ideal.nD Cert.Reference41Ideal.τ).loc Cert.Reference41Ideal.main_arg6) = m' ((c.tc : Thread Cert.Reference41Ideal.nD Cert.Reference41Ideal.τ).loc Cert.Reference41Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hPre_finite : Cert.Pre_finite.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Kernel38Ideal_pre_all_finite (hKernel38Ideal := hKernel38Ideal) (hPre_all_finite := hPre_all_finite)
    ∧ quiescent_Reference38Ideal (hReference38Ideal := hReference38Ideal)
    ∧ quiescent_Reference38Ideal_pre_all_finite (hReference38Ideal := hReference38Ideal) (hPre_all_finite := hPre_all_finite)
    ∧ quiescent_Kernel39 (hKernel39 := hKernel39)
    ∧ quiescent_Kernel39Ideal (hKernel39Ideal := hKernel39Ideal)
    ∧ quiescent_Kernel39Ideal_pre_all_finite (hKernel39Ideal := hKernel39Ideal) (hPre_all_finite := hPre_all_finite)
    ∧ quiescent_Reference39Ideal (hReference39Ideal := hReference39Ideal)
    ∧ quiescent_Reference39Ideal_pre_all_finite (hReference39Ideal := hReference39Ideal) (hPre_all_finite := hPre_all_finite)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ preserves_Kernel_KernelIdeal
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal_pre_all_finite (hKernel38Ideal := hKernel38Ideal) (hReference38Ideal := hReference38Ideal) (hPre_all_finite := hPre_all_finite)
    ∧ preserves_Kernel39_Kernel39Ideal
    ∧ algebraic_Kernel39Ideal_Reference39Ideal_pre_all_finite (hKernel39Ideal := hKernel39Ideal) (hReference39Ideal := hReference39Ideal) (hPre_all_finite := hPre_all_finite)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
-- ==== Pre_all_finite.lean ====
abbrev S4352x128 : Shape := ⟨2, ![4352, 128]⟩
abbrev S_ : Shape := ⟨0, ![]⟩

class Facts : Prop where
  bcast_S_S4352x128 : S_.BroadcastsInDim S4352x128 (![] : Fin 0 → Fin S4352x128.rank)
  reducesTo_S4352x128_S_d0_1 : S4352x128.ReducesTo [0, 1] S_
  h_S_ : 0 < S_.numel

variable [Facts]

def fn {F : FTy → Type} [FloatOps F] (main_arg0 : FVec F S4352x128 .f32) : IVec S_ 1 :=
  let main_v0 : FVec F S4352x128 .f32 := Host.absf main_arg0
  let main_cst : FVec F S_ .f32 := constant S_ .f32 0x7F800000#32
  let main_v1 : FVec F S4352x128 .f32 := broadcastInDim S4352x128 ![] bcast_S_S4352x128 main_cst
  let main_v2 : IVec S4352x128 1 := cmpf .olt main_v0 main_v1
  let main_c : IVec S_ 1 := constantI S_ 1 1#1
  let main_v3 : IVec S_ 1 := (fun x v => Host.reduce IntOp.andi x v reducesTo_S4352x128_S_d0_1 h_S_) main_v2 main_c
  main_v3
-- ==== Pre_finite.lean ====
abbrev S4352x2048 : Shape := ⟨2, ![4352, 2048]⟩
abbrev S8x2x2048x704 : Shape := ⟨4, ![8, 2, 2048, 704]⟩
abbrev S8x704x2048 : Shape := ⟨3, ![8, 704, 2048]⟩
abbrev S_ : Shape := ⟨0, ![]⟩

class Facts : Prop where
  bcast_S_S4352x2048 : S_.BroadcastsInDim S4352x2048 (![] : Fin 0 → Fin S4352x2048.rank)
  reducesTo_S4352x2048_S_d0_1 : S4352x2048.ReducesTo [0, 1] S_
  h_S_ : 0 < S_.numel
  bcast_S_S8x2x2048x704 : S_.BroadcastsInDim S8x2x2048x704 (![] : Fin 0 → Fin S8x2x2048x704.rank)
  reducesTo_S8x2x2048x704_S_d0_1_2_3 : S8x2x2048x704.ReducesTo [0, 1, 2, 3] S_
  bcast_S_S8x704x2048 : S_.BroadcastsInDim S8x704x2048 (![] : Fin 0 → Fin S8x704x2048.rank)
  reducesTo_S8x704x2048_S_d0_1_2 : S8x704x2048.ReducesTo [0, 1, 2] S_

variable [Facts]

def fn_part1 {F : FTy → Type} [FloatOps F] (main_v13 : IVec S_ 1) (main_v16 : IVec S4352x2048 1) : IVec S_ 1 :=
  let main_c_5 : IVec S_ 1 := constantI S_ 1 1#1
  let main_v17 : IVec S_ 1 := (fun x v => Host.reduce IntOp.andi x v reducesTo_S4352x2048_S_d0_1 h_S_) main_v16 main_c_5
  let main_v18 : IVec S_ 1 := andi main_v13 main_v17
  main_v18

def fn {F : FTy → Type} [FloatOps F] (main_arg0 : FVec F S4352x2048 .bf16) (main_arg1 : FVec F S8x2x2048x704 .bf16) (main_arg2 : FVec F S8x704x2048 .bf16) (main_arg3 : FVec F S4352x2048 .bf16) : IVec S_ 1 :=
  let main_v0 : FVec F S4352x2048 .bf16 := Host.absf main_arg0
  let main_cst : FVec F S_ .bf16 := constant S_ .bf16 0x7F80#16
  let main_v1 : FVec F S4352x2048 .bf16 := broadcastInDim S4352x2048 ![] bcast_S_S4352x2048 main_cst
  let main_v2 : IVec S4352x2048 1 := cmpf .olt main_v0 main_v1
  let main_c : IVec S_ 1 := constantI S_ 1 1#1
  let main_v3 : IVec S_ 1 := (fun x v => Host.reduce IntOp.andi x v reducesTo_S4352x2048_S_d0_1 h_S_) main_v2 main_c
  let main_v4 : FVec F S8x2x2048x704 .bf16 := Host.absf main_arg1
  let main_cst_0 : FVec F S_ .bf16 := constant S_ .bf16 0x7F80#16
  let main_v5 : FVec F S8x2x2048x704 .bf16 := broadcastInDim S8x2x2048x704 ![] bcast_S_S8x2x2048x704 main_cst_0
  let main_v6 : IVec S8x2x2048x704 1 := cmpf .olt main_v4 main_v5
  let main_c_1 : IVec S_ 1 := constantI S_ 1 1#1
  let main_v7 : IVec S_ 1 := (fun x v => Host.reduce IntOp.andi x v reducesTo_S8x2x2048x704_S_d0_1_2_3 h_S_) main_v6 main_c_1
  let main_v8 : IVec S_ 1 := andi main_v3 main_v7
  let main_v9 : FVec F S8x704x2048 .bf16 := Host.absf main_arg2
  let main_cst_2 : FVec F S_ .bf16 := constant S_ .bf16 0x7F80#16
  let main_v10 : FVec F S8x704x2048 .bf16 := broadcastInDim S8x704x2048 ![] bcast_S_S8x704x2048 main_cst_2
  let main_v11 : IVec S8x704x2048 1 := cmpf .olt main_v9 main_v10
  let main_c_3 : IVec S_ 1 := constantI S_ 1 1#1
  let main_v12 : IVec S_ 1 := (fun x v => Host.reduce IntOp.andi x v reducesTo_S8x704x2048_S_d0_1_2 h_S_) main_v11 main_c_3
  let main_v13 : IVec S_ 1 := andi main_v8 main_v12
  let main_v14 : FVec F S4352x2048 .bf16 := Host.absf main_arg3
  let main_cst_4 : FVec F S_ .bf16 := constant S_ .bf16 0x7F80#16
  let main_v15 : FVec F S4352x2048 .bf16 := broadcastInDim S4352x2048 ![] bcast_S_S4352x2048 main_cst_4
  let main_v16 : IVec S4352x2048 1 := cmpf .olt main_v14 main_v15
  fn_part1 (F := F) main_v13 main_v16
-- ==== Kernel.lean ====
abbrev S4112x8192 : Shape := ⟨2, ![4112, 8192]⟩
abbrev S4112x1024 : Shape := ⟨2, ![4112, 1024]⟩
abbrev S4112x8x128 : Shape := ⟨3, ![4112, 8, 128]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x4112 : Shape := ⟨2, ![8, 4112]⟩
abbrev S8x4352 : Shape := ⟨2, ![8, 4352]⟩
abbrev S8x4352x1 : Shape := ⟨3, ![8, 4352, 1]⟩
abbrev S8x4352x128 : Shape := ⟨3, ![8, 4352, 128]⟩
abbrev S4352x8192 : Shape := ⟨2, ![4352, 8192]⟩
abbrev S4352x1024 : Shape := ⟨2, ![4352, 1024]⟩
abbrev S256x256 : Shape := ⟨2, ![256, 256]⟩
abbrev S4352x256 : Shape := ⟨2, ![4352, 256]⟩
abbrev S2x256x128 : Shape := ⟨3, ![2, 256, 128]⟩
abbrev S256x128 : Shape := ⟨2, ![256, 128]⟩
abbrev S1x256x128 : Shape := ⟨3, ![1, 256, 128]⟩
abbrev S256x1 : Shape := ⟨2, ![256, 1]⟩
abbrev S256 : Shape := ⟨1, ![256]⟩
abbrev S2048x128 : Shape := ⟨2, ![2048, 128]⟩
abbrev S256x2048 : Shape := ⟨2, ![256, 2048]⟩
abbrev S1024x128 : Shape := ⟨2, ![1024, 128]⟩
abbrev S256x1024 : Shape := ⟨2, ![256, 1024]⟩
abbrev S512x128 : Shape := ⟨2, ![512, 128]⟩
abbrev S256x512 : Shape := ⟨2, ![256, 512]⟩

abbrev nBuf : Space → Nat
  | .hbm => 58
  | .vmem => 18
  | .smem => 0
  | _ => 0

abbrev bufTy : (tb : Table) → Fin (tcTables nBuf tb) → BufTy
  | .hbm, ⟨0, _⟩ => ⟨S4112x8192, .bf16⟩
  | .hbm, ⟨1, _⟩ => ⟨S4112x1024, .bf16⟩
  | .hbm, ⟨2, _⟩ => ⟨S4112x1024, .bf16⟩
  | .hbm, ⟨3, _⟩ => ⟨S4112x1024, .f32⟩
  | .hbm, ⟨4, _⟩ => ⟨S4112x8x128, .f32⟩
  | .hbm, ⟨5, _⟩ => ⟨S4112x1024, .bf16⟩
  | .hbm, ⟨6, _⟩ => ⟨S4112x1024, .f32⟩
  | .hbm, ⟨7, _⟩ => ⟨S4112x8x128, .f32⟩
  | .hbm, ⟨8, _⟩ => ⟨S8x4112x4112, .f32⟩
  | .hbm, ⟨9, _⟩ => ⟨S_, .f32⟩
  | .hbm, ⟨10, _⟩ => ⟨S8x4112x4112, .f32⟩
  | .hbm, ⟨11, _⟩ => ⟨S8x4112x4112, .f32⟩
  | .hbm, ⟨12, _⟩ => ⟨S4112, .i32⟩
  | .hbm, ⟨13, _⟩ => ⟨S1x4112, .i32⟩
  | .hbm, ⟨14, _⟩ => ⟨S4112, .i32⟩
  | .hbm, ⟨15, _⟩ => ⟨S4112x1, .i32⟩
  | .hbm, ⟨16, _⟩ => ⟨S4112x4112, .i32⟩
  | .hbm, ⟨17, _⟩ => ⟨S4112x4112, .i32⟩
  | .hbm, ⟨18, _⟩ => ⟨S4112x4112, .i1⟩
  | .hbm, ⟨19, _⟩ => ⟨S8x4112x4112, .f32⟩
  | .hbm, ⟨20, _⟩ => ⟨S_, .f32⟩
  | .hbm, ⟨21, _⟩ => ⟨S8x4112x4112, .f32⟩
  | .hbm, ⟨22, _⟩ => ⟨S8x4112x4112, .f32⟩
  | .hbm, ⟨23, _⟩ => ⟨S8x4112x4112, .f32⟩
  | .hbm, ⟨24, _⟩ => ⟨S8x4112x4112, .f32⟩
  | .hbm, ⟨25, _⟩ => ⟨S8x4112x4112, .i1⟩
  | .hbm, ⟨26, _⟩ => ⟨S8x4112x4112, .f32⟩
  | .hbm, ⟨27, _⟩ => ⟨S8x4112x4112, .f32⟩
  | .hbm, ⟨28, _⟩ => ⟨S8x4112x4112, .f32⟩
  | .hbm, ⟨29, _⟩ => ⟨S8x4112x4112, .f32⟩
  | .hbm, ⟨30, _⟩ => ⟨S8x4112x4112, .f32⟩
  | .hbm, ⟨31, _⟩ => ⟨S8x4112x4112, .f32⟩
  | .hbm, ⟨32, _⟩ => ⟨S8x4112x4112, .f32⟩
  | .hbm, ⟨33, _⟩ => ⟨S8x4112x4112, .f32⟩
  | .hbm, ⟨34, _⟩ => ⟨S8x4112x4112, .f32⟩
  | .hbm, ⟨35, _⟩ => ⟨S8x4112x4112, .f32⟩
  | .hbm, ⟨36, _⟩ => ⟨S_, .f32⟩
  | .hbm, ⟨37, _⟩ => ⟨S_, .f32⟩
  | .hbm, ⟨38, _⟩ => ⟨S8x4112x4112, .i1⟩
  | .hbm, ⟨39, _⟩ => ⟨S8x4112x4112, .f32⟩
  | .hbm, ⟨40, _⟩ => ⟨S8x4112x4112, .f32⟩
  | .hbm, ⟨41, _⟩ => ⟨S_, .f32⟩
  | .hbm, ⟨42, _⟩ => ⟨S8x4112, .f32⟩
  | .hbm, ⟨43, _⟩ => ⟨S8x4112, .f32⟩
  | .hbm, ⟨44, _⟩ => ⟨S_, .i32⟩
  | .hbm, ⟨45, _⟩ => ⟨S_, .f32⟩
  | .hbm, ⟨46, _⟩ => ⟨S8x4352, .f32⟩
  | .hbm, ⟨47, _⟩ => ⟨S8x4352x1, .f32⟩
  | .hbm, ⟨48, _⟩ => ⟨S8x4352x128, .f32⟩
  | .hbm, ⟨49, _⟩ => ⟨S_, .i32⟩
  | .hbm, ⟨50, _⟩ => ⟨S_, .bf16⟩
  | .hbm, ⟨51, _⟩ => ⟨S4352x8192, .bf16⟩
  | .hbm, ⟨52, _⟩ => ⟨S_, .i32⟩
  | .hbm, ⟨53, _⟩ => ⟨S_, .bf16⟩
  | .hbm, ⟨54, _⟩ => ⟨S4352x1024, .bf16⟩
  | .hbm, ⟨55, _⟩ => ⟨S4352x1024, .bf16⟩
  | .hbm, ⟨56, _⟩ => ⟨S4352x1024, .bf16⟩
  | .hbm, ⟨57, _⟩ => ⟨S4352x1024, .bf16⟩
  | .local _ .vmem, ⟨0, _⟩ => ⟨S256x256, .bf16⟩
  | .local _ .vmem, ⟨1, _⟩ => ⟨S256x256, .bf16⟩
  | .local _ .vmem, ⟨2, _⟩ => ⟨S4352x256, .bf16⟩
  | .local _ .vmem, ⟨3, _⟩ => ⟨S4352x256, .bf16⟩
  | .local _ .vmem, ⟨4, _⟩ => ⟨S4352x256, .bf16⟩
  | .local _ .vmem, ⟨5, _⟩ => ⟨S4352x256, .bf16⟩
  | .local _ .vmem, ⟨6, _⟩ => ⟨S256x256, .bf16⟩
  | .local _ .vmem, ⟨7, _⟩ => ⟨S256x256, .bf16⟩
  | .local _ .vmem, ⟨8, _⟩ => ⟨S2x256x128, .f32⟩
  | .local _ .vmem, ⟨9, _⟩ => ⟨S2x256x128, .f32⟩
  | .local _ .vmem, ⟨10, _⟩ => ⟨S256x256, .bf16⟩
  | .local _ .vmem, ⟨11, _⟩ => ⟨S256x256, .bf16⟩
  | .local _ .vmem, ⟨12, _⟩ => ⟨S4352x256, .bf16⟩
  | .local _ .vmem, ⟨13, _⟩ => ⟨S4352x256, .bf16⟩
  | .local _ .vmem, ⟨14, _⟩ => ⟨S4352x256, .bf16⟩
  | .local _ .vmem, ⟨15, _⟩ => ⟨S4352x256, .bf16⟩
  | .local _ .vmem, ⟨16, _⟩ => ⟨S4352x256, .f32⟩
  | .local _ .vmem, ⟨17, _⟩ => ⟨S4352x256, .f32⟩
  | _, _ => ⟨S4112x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_call3_v0 : Ref sig .tc := ⟨.hbm, 50, rfl⟩
abbrev main_v24 : Ref sig .tc := ⟨.hbm, 51, rfl⟩
abbrev main_c_3 : Ref sig .tc := ⟨.hbm, 52, rfl⟩
abbrev main_call4_v0 : Ref sig .tc := ⟨.hbm, 53, rfl⟩
abbrev main_v25 : Ref sig .tc := ⟨.hbm, 54, rfl⟩
abbrev main_v26_0 : Ref sig .tc := ⟨.hbm, 55, rfl⟩
abbrev main_v26_1 : Ref sig .tc := ⟨.hbm, 56, rfl⟩
abbrev main_v26_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 17], ![false, false]⟩

def k0_mult1 : BitVec 32 :=
  let c0_i32_14 : BitVec 32 := 0#32
  c0_i32_14
def k0_mult2 : BitVec 32 :=
  let c0_i32_17 : BitVec 32 := 0#32
  c0_i32_17
def k0_mult3 : BitVec 32 :=
  let c0_i32_30 : BitVec 32 := 0#32
  c0_i32_30
def k0_mult4 : BitVec 32 :=
  let c0_i32_46 : BitVec 32 := 0#32
  c0_i32_46
def k0_mult5 : BitVec 32 :=
  let c0_i32_59 : BitVec 32 := 0#32
  c0_i32_59
@[reducible] def k0_t1_loop (i : grid0.Coords) : Scf.Loop 32 :=
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let c1_i32_83 : BitVec 32 := 1#32
  ⟨c0_i32_81, v247, c1_i32_83⟩
def k0_mult6 (i : grid0.Coords) (k0_t1 : Fin (k0_t1_loop i).trips) : BitVec 32 :=
  let c1_i32_136 : BitVec 32 := 1#32
  let c8_i32_135 : BitVec 32 := 8#32
  let c0_i32_81 : BitVec 32 := 0#32
  let c1_i32_83 : BitVec 32 := 1#32
  let arg12 : BitVec 32 := Scf.iv c0_i32_81 c1_i32_83 k0_t1
  let v354 : BitVec 32 := Scalar.muli c8_i32_135 arg12
  let v355 : BitVec 32 := Scalar.addi c1_i32_136 v354
  let c256_i32_137 : BitVec 32 := 256#32
  let v356 : BitVec 32 := Scalar.muli v355 c256_i32_137
  v356
def k0_mult7 (i : grid0.Coords) (k0_t1 : Fin (k0_t1_loop i).trips) : BitVec 32 :=
  let c1_i32_136 : BitVec 32 := 1#32
  let c8_i32_135 : BitVec 32 := 8#32
  let c0_i32_81 : BitVec 32 := 0#32
  let c1_i32_83 : BitVec 32 := 1#32
  let arg12 : BitVec 32 := Scf.iv c0_i32_81 c1_i32_83 k0_t1
  let v354 : BitVec 32 := Scalar.muli c8_i32_135 arg12
  let v355 : BitVec 32 := Scalar.addi c1_i32_136 v354
  let c256_i32_138 : BitVec 32 := 256#32
  let v358 : BitVec 32 := Scalar.muli v355 c256_i32_138
  v358
def k0_off1 (i : grid0.Coords) (k0_t1 : Fin (k0_t1_loop i).trips) : Fin 2 → Nat :=
  let c1_i32_136 : BitVec 32 := 1#32
  let c8_i32_135 : BitVec 32 := 8#32
  let c0_i32_81 : BitVec 32 := 0#32
  let c1_i32_83 : BitVec 32 := 1#32
  let arg12 : BitVec 32 := Scf.iv c0_i32_81 c1_i32_83 k0_t1
  let v354 : BitVec 32 := Scalar.muli c8_i32_135 arg12
  let v355 : BitVec 32 := Scalar.addi c1_i32_136 v354
  let c256_i32_138 : BitVec 32 := 256#32
  let v358 : BitVec 32 := Scalar.muli v355 c256_i32_138
  let v359 : BitVec 32 := v358
  let v360 : Index := Scalar.indexCast v359
  let c0_139 : Index := 0#32
  ![v360.toNat, 0]
def k0_mult8 (i : grid0.Coords) (k0_t1 : Fin (k0_t1_loop i).trips) : BitVec 32 :=
  let c1_i32_136 : BitVec 32 := 1#32
  let c8_i32_135 : BitVec 32 := 8#32
  let c0_i32_81 : BitVec 32 := 0#32
  let c1_i32_83 : BitVec 32 := 1#32
  let arg12 : BitVec 32 := Scf.iv c0_i32_81 c1_i32_83 k0_t1
  let v354 : BitVec 32 := Scalar.muli c8_i32_135 arg12
  let v355 : BitVec 32 := Scalar.addi c1_i32_136 v354
  let c256_i32_170 : BitVec 32 := 256#32
  let v529 : BitVec 32 := Scalar.muli v355 c256_i32_170
  v529
def k0_mult9 (i : grid0.Coords) (k0_t1 : Fin (k0_t1_loop i).trips) : BitVec 32 :=
  let c1_i32_136 : BitVec 32 := 1#32
  let c8_i32_135 : BitVec 32 := 8#32
  let c0_i32_81 : BitVec 32 := 0#32
  let c1_i32_83 : BitVec 32 := 1#32
  let arg12 : BitVec 32 := Scf.iv c0_i32_81 c1_i32_83 k0_t1
  let v354 : BitVec 32 := Scalar.muli c8_i32_135 arg12
  let v355 : BitVec 32 := Scalar.addi c1_i32_136 v354
  let c256_i32_206 : BitVec 32 := 256#32
  let v713 : BitVec 32 := Scalar.muli v355 c256_i32_206
  v713
def k0_off2 (i : grid0.Coords) (k0_t1 : Fin (k0_t1_loop i).trips) : Fin 2 → Nat :=
  let c1_i32_136 : BitVec 32 := 1#32
  let c8_i32_135 : BitVec 32 := 8#32
  let c0_i32_81 : BitVec 32 := 0#32
  let c1_i32_83 : BitVec 32 := 1#32
  let arg12 : BitVec 32 := Scf.iv c0_i32_81 c1_i32_83 k0_t1
  let v354 : BitVec 32 := Scalar.muli c8_i32_135 arg12
  let v355 : BitVec 32 := Scalar.addi c1_i32_136 v354
  let c256_i32_206 : BitVec 32 := 256#32
  let v713 : BitVec 32 := Scalar.muli v355 c256_i32_206
  let v714 : BitVec 32 := v713
  let v715 : Index := Scalar.indexCast v714
  let c128_207 : Index := 128#32
  ![v715.toNat, 128]
def k0_mult10 (i : grid0.Coords) (k0_t1 : Fin (k0_t1_loop i).trips) : BitVec 32 :=
  let c1_i32_136 : BitVec 32 := 1#32
  let c8_i32_135 : BitVec 32 := 8#32
  let c0_i32_81 : BitVec 32 := 0#32
  let c1_i32_83 : BitVec 32 := 1#32
  let arg12 : BitVec 32 := Scf.iv c0_i32_81 c1_i32_83 k0_t1
  let v354 : BitVec 32 := Scalar.muli c8_i32_135 arg12
  let v355 : BitVec 32 := Scalar.addi c1_i32_136 v354
  let c256_i32_238 : BitVec 32 := 256#32
  let v884 : BitVec 32 := Scalar.muli v355 c256_i32_238
  v884
@[reducible] def k0_t2_loop (i : grid0.Coords) : Scf.Loop 32 :=
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let v244 : BitVec 32 := Scalar.addi c0_i32_81 v243
  let c1_i32_84 : BitVec 32 := 1#32
  ⟨v247, v244, c1_i32_84⟩
def k0_mult11 (i : grid0.Coords) (k0_t2 : Fin (k0_t2_loop i).trips) : BitVec 32 :=
  let c1_i32_136 : BitVec 32 := 1#32
  let c8_i32_135 : BitVec 32 := 8#32
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let c1_i32_84 : BitVec 32 := 1#32
  let arg12 : BitVec 32 := Scf.iv v247 c1_i32_84 k0_t2
  let v354 : BitVec 32 := Scalar.muli c8_i32_135 arg12
  let v355 : BitVec 32 := Scalar.addi c1_i32_136 v354
  let c256_i32_137 : BitVec 32 := 256#32
  let v356 : BitVec 32 := Scalar.muli v355 c256_i32_137
  v356
def k0_mult12 (i : grid0.Coords) (k0_t2 : Fin (k0_t2_loop i).trips) : BitVec 32 :=
  let c1_i32_136 : BitVec 32 := 1#32
  let c8_i32_135 : BitVec 32 := 8#32
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let c1_i32_84 : BitVec 32 := 1#32
  let arg12 : BitVec 32 := Scf.iv v247 c1_i32_84 k0_t2
  let v354 : BitVec 32 := Scalar.muli c8_i32_135 arg12
  let v355 : BitVec 32 := Scalar.addi c1_i32_136 v354
  let c256_i32_138 : BitVec 32 := 256#32
  let v358 : BitVec 32 := Scalar.muli v355 c256_i32_138
  v358
def k0_off3 (i : grid0.Coords) (k0_t2 : Fin (k0_t2_loop i).trips) : Fin 2 → Nat :=
  let c1_i32_136 : BitVec 32 := 1#32
  let c8_i32_135 : BitVec 32 := 8#32
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let c1_i32_84 : BitVec 32 := 1#32
  let arg12 : BitVec 32 := Scf.iv v247 c1_i32_84 k0_t2
  let v354 : BitVec 32 := Scalar.muli c8_i32_135 arg12
  let v355 : BitVec 32 := Scalar.addi c1_i32_136 v354
  let c256_i32_138 : BitVec 32 := 256#32
  let v358 : BitVec 32 := Scalar.muli v355 c256_i32_138
  let v359 : BitVec 32 := v358
  let v360 : Index := Scalar.indexCast v359
  let c0_139 : Index := 0#32
  ![v360.toNat, 0]
def k0_mult13 (i : grid0.Coords) (k0_t2 : Fin (k0_t2_loop i).trips) : BitVec 32 :=
  let c1_i32_136 : BitVec 32 := 1#32
  let c8_i32_135 : BitVec 32 := 8#32
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let c1_i32_84 : BitVec 32 := 1#32
  let arg12 : BitVec 32 := Scf.iv v247 c1_i32_84 k0_t2
  let v354 : BitVec 32 := Scalar.muli c8_i32_135 arg12
  let v355 : BitVec 32 := Scalar.addi c1_i32_136 v354
  let c256_i32_170 : BitVec 32 := 256#32
  let v529 : BitVec 32 := Scalar.muli v355 c256_i32_170
  v529
def k0_mult14 (i : grid0.Coords) (k0_t2 : Fin (k0_t2_loop i).trips) : BitVec 32 :=
  let c1_i32_136 : BitVec 32 := 1#32
  let c8_i32_135 : BitVec 32 := 8#32
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let c1_i32_84 : BitVec 32 := 1#32
  let arg12 : BitVec 32 := Scf.iv v247 c1_i32_84 k0_t2
  let v354 : BitVec 32 := Scalar.muli c8_i32_135 arg12
  let v355 : BitVec 32 := Scalar.addi c1_i32_136 v354
  let c256_i32_206 : BitVec 32 := 256#32
  let v713 : BitVec 32 := Scalar.muli v355 c256_i32_206
  v713
def k0_off4 (i : grid0.Coords) (k0_t2 : Fin (k0_t2_loop i).trips) : Fin 2 → Nat :=
  let c1_i32_136 : BitVec 32 := 1#32
  let c8_i32_135 : BitVec 32 := 8#32
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let c1_i32_84 : BitVec 32 := 1#32
  let arg12 : BitVec 32 := Scf.iv v247 c1_i32_84 k0_t2
  let v354 : BitVec 32 := Scalar.muli c8_i32_135 arg12
  let v355 : BitVec 32 := Scalar.addi c1_i32_136 v354
  let c256_i32_206 : BitVec 32 := 256#32
  let v713 : BitVec 32 := Scalar.muli v355 c256_i32_206
  let v714 : BitVec 32 := v713
  let v715 : Index := Scalar.indexCast v714
  let c128_207 : Index := 128#32
  ![v715.toNat, 128]
def k0_mult15 (i : grid0.Coords) (k0_t2 : Fin (k0_t2_loop i).trips) : BitVec 32 :=
  let c1_i32_136 : BitVec 32 := 1#32
  let c8_i32_135 : BitVec 32 := 8#32
  let c0_i32_81 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v243 : BitVec 32 := Scalar.subi v242 c0_i32_81
  let c1_i32_82 : BitVec 32 := 1#32
  let v245 : BitVec 32 := Scalar.divsi v243 c1_i32_82
  let v246 : BitVec 32 := Scalar.muli v245 c1_i32_82
  let v247 : BitVec 32 := Scalar.addi c0_i32_81 v246
  let c1_i32_84 : BitVec 32 := 1#32
  let arg12 : BitVec 32 := Scf.iv v247 c1_i32_84 k0_t2
  let v354 : BitVec 32 := Scalar.muli c8_i32_135 arg12
  let v355 : BitVec 32 := Scalar.addi c1_i32_136 v354
  let c256_i32_238 : BitVec 32 := 256#32
  let v884 : BitVec 32 := Scalar.muli v355 c256_i32_238
  v884
@[reducible] def k0_t3_loop (i : grid0.Coords) : Scf.Loop 32 :=
  let c0_i32_94 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c8_i32_87 : BitVec 32 := 8#32
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let c1_i32_96 : BitVec 32 := 1#32
  ⟨c0_i32_94, v275, c1_i32_96⟩
def k0_mult16 (i : grid0.Coords) (k0_t3 : Fin (k0_t3_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c1_i32_96 : BitVec 32 := 1#32
  let arg12 : BitVec 32 := Scf.iv c0_i32_94 c1_i32_96 k0_t3
  let v354 : BitVec 32 := Scalar.muli c4_i32_135 arg12
  let v355 : BitVec 32 := Scalar.addi v251 v354
  let c256_i32_136 : BitVec 32 := 256#32
  let v356 : BitVec 32 := Scalar.muli v355 c256_i32_136
  v356
def k0_mult17 (i : grid0.Coords) (k0_t3 : Fin (k0_t3_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c1_i32_96 : BitVec 32 := 1#32
  let arg12 : BitVec 32 := Scf.iv c0_i32_94 c1_i32_96 k0_t3
  let v354 : BitVec 32 := Scalar.muli c4_i32_135 arg12
  let v355 : BitVec 32 := Scalar.addi v251 v354
  let c256_i32_137 : BitVec 32 := 256#32
  let v358 : BitVec 32 := Scalar.muli v355 c256_i32_137
  v358
def k0_off5 (i : grid0.Coords) (k0_t3 : Fin (k0_t3_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c1_i32_96 : BitVec 32 := 1#32
  let arg12 : BitVec 32 := Scf.iv c0_i32_94 c1_i32_96 k0_t3
  let v354 : BitVec 32 := Scalar.muli c4_i32_135 arg12
  let v355 : BitVec 32 := Scalar.addi v251 v354
  let c256_i32_137 : BitVec 32 := 256#32
  let v358 : BitVec 32 := Scalar.muli v355 c256_i32_137
  let v359 : BitVec 32 := v358
  let v360 : Index := Scalar.indexCast v359
  let c0_138 : Index := 0#32
  ![v360.toNat, 0]
def k0_mult18 (i : grid0.Coords) (k0_t3 : Fin (k0_t3_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c1_i32_96 : BitVec 32 := 1#32
  let arg12 : BitVec 32 := Scf.iv c0_i32_94 c1_i32_96 k0_t3
  let v354 : BitVec 32 := Scalar.muli c4_i32_135 arg12
  let v355 : BitVec 32 := Scalar.addi v251 v354
  let c256_i32_157 : BitVec 32 := 256#32
  let v441 : BitVec 32 := Scalar.muli v355 c256_i32_157
  v441
def k0_mult19 (i : grid0.Coords) (k0_t3 : Fin (k0_t3_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c1_i32_96 : BitVec 32 := 1#32
  let arg12 : BitVec 32 := Scf.iv c0_i32_94 c1_i32_96 k0_t3
  let v354 : BitVec 32 := Scalar.muli c4_i32_135 arg12
  let v355 : BitVec 32 := Scalar.addi v251 v354
  let c256_i32_181 : BitVec 32 := 256#32
  let v537 : BitVec 32 := Scalar.muli v355 c256_i32_181
  v537
def k0_off6 (i : grid0.Coords) (k0_t3 : Fin (k0_t3_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c1_i32_96 : BitVec 32 := 1#32
  let arg12 : BitVec 32 := Scf.iv c0_i32_94 c1_i32_96 k0_t3
  let v354 : BitVec 32 := Scalar.muli c4_i32_135 arg12
  let v355 : BitVec 32 := Scalar.addi v251 v354
  let c256_i32_181 : BitVec 32 := 256#32
  let v537 : BitVec 32 := Scalar.muli v355 c256_i32_181
  let v538 : BitVec 32 := v537
  let v539 : Index := Scalar.indexCast v538
  let c128_182 : Index := 128#32
  ![v539.toNat, 128]
def k0_mult20 (i : grid0.Coords) (k0_t3 : Fin (k0_t3_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c1_i32_96 : BitVec 32 := 1#32
  let arg12 : BitVec 32 := Scf.iv c0_i32_94 c1_i32_96 k0_t3
  let v354 : BitVec 32 := Scalar.muli c4_i32_135 arg12
  let v355 : BitVec 32 := Scalar.addi v251 v354
  let c256_i32_201 : BitVec 32 := 256#32
  let v620 : BitVec 32 := Scalar.muli v355 c256_i32_201
  v620
@[reducible] def k0_t4_loop (i : grid0.Coords) : Scf.Loop 32 :=
  let c0_i32_94 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c8_i32_87 : BitVec 32 := 8#32
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let v272 : BitVec 32 := Scalar.addi c0_i32_94 v271
  let c1_i32_97 : BitVec 32 := 1#32
  ⟨v275, v272, c1_i32_97⟩
def k0_mult21 (i : grid0.Coords) (k0_t4 : Fin (k0_t4_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let c1_i32_97 : BitVec 32 := 1#32
  let arg12 : BitVec 32 := Scf.iv v275 c1_i32_97 k0_t4
  let v354 : BitVec 32 := Scalar.muli c4_i32_135 arg12
  let v355 : BitVec 32 := Scalar.addi v251 v354
  let c256_i32_136 : BitVec 32 := 256#32
  let v356 : BitVec 32 := Scalar.muli v355 c256_i32_136
  v356
def k0_mult22 (i : grid0.Coords) (k0_t4 : Fin (k0_t4_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let c1_i32_97 : BitVec 32 := 1#32
  let arg12 : BitVec 32 := Scf.iv v275 c1_i32_97 k0_t4
  let v354 : BitVec 32 := Scalar.muli c4_i32_135 arg12
  let v355 : BitVec 32 := Scalar.addi v251 v354
  let c256_i32_137 : BitVec 32 := 256#32
  let v358 : BitVec 32 := Scalar.muli v355 c256_i32_137
  v358
def k0_off7 (i : grid0.Coords) (k0_t4 : Fin (k0_t4_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let c1_i32_97 : BitVec 32 := 1#32
  let arg12 : BitVec 32 := Scf.iv v275 c1_i32_97 k0_t4
  let v354 : BitVec 32 := Scalar.muli c4_i32_135 arg12
  let v355 : BitVec 32 := Scalar.addi v251 v354
  let c256_i32_137 : BitVec 32 := 256#32
  let v358 : BitVec 32 := Scalar.muli v355 c256_i32_137
  let v359 : BitVec 32 := v358
  let v360 : Index := Scalar.indexCast v359
  let c0_138 : Index := 0#32
  ![v360.toNat, 0]
def k0_mult23 (i : grid0.Coords) (k0_t4 : Fin (k0_t4_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let c1_i32_97 : BitVec 32 := 1#32
  let arg12 : BitVec 32 := Scf.iv v275 c1_i32_97 k0_t4
  let v354 : BitVec 32 := Scalar.muli c4_i32_135 arg12
  let v355 : BitVec 32 := Scalar.addi v251 v354
  let c256_i32_157 : BitVec 32 := 256#32
  let v441 : BitVec 32 := Scalar.muli v355 c256_i32_157
  v441
def k0_mult24 (i : grid0.Coords) (k0_t4 : Fin (k0_t4_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let c1_i32_97 : BitVec 32 := 1#32
  let arg12 : BitVec 32 := Scf.iv v275 c1_i32_97 k0_t4
  let v354 : BitVec 32 := Scalar.muli c4_i32_135 arg12
  let v355 : BitVec 32 := Scalar.addi v251 v354
  let c256_i32_181 : BitVec 32 := 256#32
  let v537 : BitVec 32 := Scalar.muli v355 c256_i32_181
  v537
def k0_off8 (i : grid0.Coords) (k0_t4 : Fin (k0_t4_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let c1_i32_97 : BitVec 32 := 1#32
  let arg12 : BitVec 32 := Scf.iv v275 c1_i32_97 k0_t4
  let v354 : BitVec 32 := Scalar.muli c4_i32_135 arg12
  let v355 : BitVec 32 := Scalar.addi v251 v354
  let c256_i32_181 : BitVec 32 := 256#32
  let v537 : BitVec 32 := Scalar.muli v355 c256_i32_181
  let v538 : BitVec 32 := v537
  let v539 : Index := Scalar.indexCast v538
  let c128_182 : Index := 128#32
  ![v539.toNat, 128]
def k0_mult25 (i : grid0.Coords) (k0_t4 : Fin (k0_t4_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_135 : BitVec 32 := 4#32
  let c0_i32_94 : BitVec 32 := 0#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v271 : BitVec 32 := Scalar.subi v270 c0_i32_94
  let c1_i32_95 : BitVec 32 := 1#32
  let v273 : BitVec 32 := Scalar.divsi v271 c1_i32_95
  let v274 : BitVec 32 := Scalar.muli v273 c1_i32_95
  let v275 : BitVec 32 := Scalar.addi c0_i32_94 v274
  let c1_i32_97 : BitVec 32 := 1#32
  let arg12 : BitVec 32 := Scf.iv v275 c1_i32_97 k0_t4
  let v354 : BitVec 32 := Scalar.muli c4_i32_135 arg12
  let v355 : BitVec 32 := Scalar.addi v251 v354
  let c256_i32_201 : BitVec 32 := 256#32
  let v620 : BitVec 32 := Scalar.muli v355 c256_i32_201
  v620
@[reducible] def k0_t5_loop (i : grid0.Coords) : Scf.Loop 32 :=
  let c0_i32_106 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c8_i32_87 : BitVec 32 := 8#32
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v252 : BitVec 32 := Scalar.muli c8_i32_87 v242
  let v253 : BitVec 32 := Scalar.subi v32 v252
  let c4_i32_99 : BitVec 32 := 4#32
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let c1_i32_108 : BitVec 32 := 1#32
  ⟨c0_i32_106, v303, c1_i32_108⟩
def k0_mult26 (i : grid0.Coords) (k0_t5 : Fin (k0_t5_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c1_i32_108 : BitVec 32 := 1#32
  let arg12 : BitVec 32 := Scf.iv c0_i32_106 c1_i32_108 k0_t5
  let v354 : BitVec 32 := Scalar.muli c2_i32_135 arg12
  let v355 : BitVec 32 := Scalar.addi v279 v354
  let c256_i32_136 : BitVec 32 := 256#32
  let v356 : BitVec 32 := Scalar.muli v355 c256_i32_136
  v356
def k0_mult27 (i : grid0.Coords) (k0_t5 : Fin (k0_t5_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c1_i32_108 : BitVec 32 := 1#32
  let arg12 : BitVec 32 := Scf.iv c0_i32_106 c1_i32_108 k0_t5
  let v354 : BitVec 32 := Scalar.muli c2_i32_135 arg12
  let v355 : BitVec 32 := Scalar.addi v279 v354
  let c256_i32_137 : BitVec 32 := 256#32
  let v358 : BitVec 32 := Scalar.muli v355 c256_i32_137
  v358
def k0_off9 (i : grid0.Coords) (k0_t5 : Fin (k0_t5_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c1_i32_108 : BitVec 32 := 1#32
  let arg12 : BitVec 32 := Scf.iv c0_i32_106 c1_i32_108 k0_t5
  let v354 : BitVec 32 := Scalar.muli c2_i32_135 arg12
  let v355 : BitVec 32 := Scalar.addi v279 v354
  let c256_i32_137 : BitVec 32 := 256#32
  let v358 : BitVec 32 := Scalar.muli v355 c256_i32_137
  let v359 : BitVec 32 := v358
  let v360 : Index := Scalar.indexCast v359
  let c0_138 : Index := 0#32
  ![v360.toNat, 0]
def k0_mult28 (i : grid0.Coords) (k0_t5 : Fin (k0_t5_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c1_i32_108 : BitVec 32 := 1#32
  let arg12 : BitVec 32 := Scf.iv c0_i32_106 c1_i32_108 k0_t5
  let v354 : BitVec 32 := Scalar.muli c2_i32_135 arg12
  let v355 : BitVec 32 := Scalar.addi v279 v354
  let c256_i32_151 : BitVec 32 := 256#32
  let v409 : BitVec 32 := Scalar.muli v355 c256_i32_151
  v409
def k0_mult29 (i : grid0.Coords) (k0_t5 : Fin (k0_t5_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c1_i32_108 : BitVec 32 := 1#32
  let arg12 : BitVec 32 := Scf.iv c0_i32_106 c1_i32_108 k0_t5
  let v354 : BitVec 32 := Scalar.muli c2_i32_135 arg12
  let v355 : BitVec 32 := Scalar.addi v279 v354
  let c256_i32_169 : BitVec 32 := 256#32
  let v473 : BitVec 32 := Scalar.muli v355 c256_i32_169
  v473
def k0_off10 (i : grid0.Coords) (k0_t5 : Fin (k0_t5_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c1_i32_108 : BitVec 32 := 1#32
  let arg12 : BitVec 32 := Scf.iv c0_i32_106 c1_i32_108 k0_t5
  let v354 : BitVec 32 := Scalar.muli c2_i32_135 arg12
  let v355 : BitVec 32 := Scalar.addi v279 v354
  let c256_i32_169 : BitVec 32 := 256#32
  let v473 : BitVec 32 := Scalar.muli v355 c256_i32_169
  let v474 : BitVec 32 := v473
  let v475 : Index := Scalar.indexCast v474
  let c128_170 : Index := 128#32
  ![v475.toNat, 128]
def k0_mult30 (i : grid0.Coords) (k0_t5 : Fin (k0_t5_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c1_i32_108 : BitVec 32 := 1#32
  let arg12 : BitVec 32 := Scf.iv c0_i32_106 c1_i32_108 k0_t5
  let v354 : BitVec 32 := Scalar.muli c2_i32_135 arg12
  let v355 : BitVec 32 := Scalar.addi v279 v354
  let c256_i32_183 : BitVec 32 := 256#32
  let v524 : BitVec 32 := Scalar.muli v355 c256_i32_183
  v524
@[reducible] def k0_t6_loop (i : grid0.Coords) : Scf.Loop 32 :=
  let c0_i32_106 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c8_i32_87 : BitVec 32 := 8#32
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v252 : BitVec 32 := Scalar.muli c8_i32_87 v242
  let v253 : BitVec 32 := Scalar.subi v32 v252
  let c4_i32_99 : BitVec 32 := 4#32
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let v300 : BitVec 32 := Scalar.addi c0_i32_106 v299
  let c1_i32_109 : BitVec 32 := 1#32
  ⟨v303, v300, c1_i32_109⟩
def k0_mult31 (i : grid0.Coords) (k0_t6 : Fin (k0_t6_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let c1_i32_109 : BitVec 32 := 1#32
  let arg12 : BitVec 32 := Scf.iv v303 c1_i32_109 k0_t6
  let v354 : BitVec 32 := Scalar.muli c2_i32_135 arg12
  let v355 : BitVec 32 := Scalar.addi v279 v354
  let c256_i32_136 : BitVec 32 := 256#32
  let v356 : BitVec 32 := Scalar.muli v355 c256_i32_136
  v356
def k0_mult32 (i : grid0.Coords) (k0_t6 : Fin (k0_t6_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let c1_i32_109 : BitVec 32 := 1#32
  let arg12 : BitVec 32 := Scf.iv v303 c1_i32_109 k0_t6
  let v354 : BitVec 32 := Scalar.muli c2_i32_135 arg12
  let v355 : BitVec 32 := Scalar.addi v279 v354
  let c256_i32_137 : BitVec 32 := 256#32
  let v358 : BitVec 32 := Scalar.muli v355 c256_i32_137
  v358
def k0_off11 (i : grid0.Coords) (k0_t6 : Fin (k0_t6_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let c1_i32_109 : BitVec 32 := 1#32
  let arg12 : BitVec 32 := Scf.iv v303 c1_i32_109 k0_t6
  let v354 : BitVec 32 := Scalar.muli c2_i32_135 arg12
  let v355 : BitVec 32 := Scalar.addi v279 v354
  let c256_i32_137 : BitVec 32 := 256#32
  let v358 : BitVec 32 := Scalar.muli v355 c256_i32_137
  let v359 : BitVec 32 := v358
  let v360 : Index := Scalar.indexCast v359
  let c0_138 : Index := 0#32
  ![v360.toNat, 0]
def k0_mult33 (i : grid0.Coords) (k0_t6 : Fin (k0_t6_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let c1_i32_109 : BitVec 32 := 1#32
  let arg12 : BitVec 32 := Scf.iv v303 c1_i32_109 k0_t6
  let v354 : BitVec 32 := Scalar.muli c2_i32_135 arg12
  let v355 : BitVec 32 := Scalar.addi v279 v354
  let c256_i32_151 : BitVec 32 := 256#32
  let v409 : BitVec 32 := Scalar.muli v355 c256_i32_151
  v409
def k0_mult34 (i : grid0.Coords) (k0_t6 : Fin (k0_t6_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let c1_i32_109 : BitVec 32 := 1#32
  let arg12 : BitVec 32 := Scf.iv v303 c1_i32_109 k0_t6
  let v354 : BitVec 32 := Scalar.muli c2_i32_135 arg12
  let v355 : BitVec 32 := Scalar.addi v279 v354
  let c256_i32_169 : BitVec 32 := 256#32
  let v473 : BitVec 32 := Scalar.muli v355 c256_i32_169
  v473
def k0_off12 (i : grid0.Coords) (k0_t6 : Fin (k0_t6_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let c1_i32_109 : BitVec 32 := 1#32
  let arg12 : BitVec 32 := Scf.iv v303 c1_i32_109 k0_t6
  let v354 : BitVec 32 := Scalar.muli c2_i32_135 arg12
  let v355 : BitVec 32 := Scalar.addi v279 v354
  let c256_i32_169 : BitVec 32 := 256#32
  let v473 : BitVec 32 := Scalar.muli v355 c256_i32_169
  let v474 : BitVec 32 := v473
  let v475 : Index := Scalar.indexCast v474
  let c128_170 : Index := 128#32
  ![v475.toNat, 128]
def k0_mult35 (i : grid0.Coords) (k0_t6 : Fin (k0_t6_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_135 : BitVec 32 := 2#32
  let c0_i32_106 : BitVec 32 := 0#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v299 : BitVec 32 := Scalar.subi v298 c0_i32_106
  let c1_i32_107 : BitVec 32 := 1#32
  let v301 : BitVec 32 := Scalar.divsi v299 c1_i32_107
  let v302 : BitVec 32 := Scalar.muli v301 c1_i32_107
  let v303 : BitVec 32 := Scalar.addi c0_i32_106 v302
  let c1_i32_109 : BitVec 32 := 1#32
  let arg12 : BitVec 32 := Scf.iv v303 c1_i32_109 k0_t6
  let v354 : BitVec 32 := Scalar.muli c2_i32_135 arg12
  let v355 : BitVec 32 := Scalar.addi v279 v354
  let c256_i32_183 : BitVec 32 := 256#32
  let v524 : BitVec 32 := Scalar.muli v355 c256_i32_183
  v524
@[reducible] def k0_t7_loop (i : grid0.Coords) : Scf.Loop 32 :=
  let c0_i32_119 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c8_i32_87 : BitVec 32 := 8#32
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v252 : BitVec 32 := Scalar.muli c8_i32_87 v242
  let v253 : BitVec 32 := Scalar.subi v32 v252
  let c4_i32_99 : BitVec 32 := 4#32
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v280 : BitVec 32 := Scalar.muli c4_i32_99 v270
  let v281 : BitVec 32 := Scalar.subi v253 v280
  let c2_i32_111 : BitVec 32 := 2#32
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let c1_i32_121 : BitVec 32 := 1#32
  ⟨c0_i32_119, v331, c1_i32_121⟩
def k0_mult36 (i : grid0.Coords) (k0_t7 : Fin (k0_t7_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c1_i32_121 : BitVec 32 := 1#32
  let arg12 : BitVec 32 := Scf.iv c0_i32_119 c1_i32_121 k0_t7
  let v354 : BitVec 32 := Scalar.muli c1_i32_135 arg12
  let v355 : BitVec 32 := Scalar.addi v307 v354
  let c256_i32_136 : BitVec 32 := 256#32
  let v356 : BitVec 32 := Scalar.muli v355 c256_i32_136
  v356
def k0_mult37 (i : grid0.Coords) (k0_t7 : Fin (k0_t7_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c1_i32_121 : BitVec 32 := 1#32
  let arg12 : BitVec 32 := Scf.iv c0_i32_119 c1_i32_121 k0_t7
  let v354 : BitVec 32 := Scalar.muli c1_i32_135 arg12
  let v355 : BitVec 32 := Scalar.addi v307 v354
  let c256_i32_137 : BitVec 32 := 256#32
  let v358 : BitVec 32 := Scalar.muli v355 c256_i32_137
  v358
def k0_off13 (i : grid0.Coords) (k0_t7 : Fin (k0_t7_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c1_i32_121 : BitVec 32 := 1#32
  let arg12 : BitVec 32 := Scf.iv c0_i32_119 c1_i32_121 k0_t7
  let v354 : BitVec 32 := Scalar.muli c1_i32_135 arg12
  let v355 : BitVec 32 := Scalar.addi v307 v354
  let c256_i32_137 : BitVec 32 := 256#32
  let v358 : BitVec 32 := Scalar.muli v355 c256_i32_137
  let v359 : BitVec 32 := v358
  let v360 : Index := Scalar.indexCast v359
  let c0_138 : Index := 0#32
  ![v360.toNat, 0]
def k0_mult38 (i : grid0.Coords) (k0_t7 : Fin (k0_t7_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c1_i32_121 : BitVec 32 := 1#32
  let arg12 : BitVec 32 := Scf.iv c0_i32_119 c1_i32_121 k0_t7
  let v354 : BitVec 32 := Scalar.muli c1_i32_135 arg12
  let v355 : BitVec 32 := Scalar.addi v307 v354
  let c256_i32_148 : BitVec 32 := 256#32
  let v394 : BitVec 32 := Scalar.muli v355 c256_i32_148
  v394
def k0_mult39 (i : grid0.Coords) (k0_t7 : Fin (k0_t7_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c1_i32_121 : BitVec 32 := 1#32
  let arg12 : BitVec 32 := Scf.iv c0_i32_119 c1_i32_121 k0_t7
  let v354 : BitVec 32 := Scalar.muli c1_i32_135 arg12
  let v355 : BitVec 32 := Scalar.addi v307 v354
  let c256_i32_163 : BitVec 32 := 256#32
  let v443 : BitVec 32 := Scalar.muli v355 c256_i32_163
  v443
def k0_off14 (i : grid0.Coords) (k0_t7 : Fin (k0_t7_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c1_i32_121 : BitVec 32 := 1#32
  let arg12 : BitVec 32 := Scf.iv c0_i32_119 c1_i32_121 k0_t7
  let v354 : BitVec 32 := Scalar.muli c1_i32_135 arg12
  let v355 : BitVec 32 := Scalar.addi v307 v354
  let c256_i32_163 : BitVec 32 := 256#32
  let v443 : BitVec 32 := Scalar.muli v355 c256_i32_163
  let v444 : BitVec 32 := v443
  let v445 : Index := Scalar.indexCast v444
  let c128_164 : Index := 128#32
  ![v445.toNat, 128]
def k0_mult40 (i : grid0.Coords) (k0_t7 : Fin (k0_t7_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c1_i32_121 : BitVec 32 := 1#32
  let arg12 : BitVec 32 := Scf.iv c0_i32_119 c1_i32_121 k0_t7
  let v354 : BitVec 32 := Scalar.muli c1_i32_135 arg12
  let v355 : BitVec 32 := Scalar.addi v307 v354
  let c256_i32_174 : BitVec 32 := 256#32
  let v479 : BitVec 32 := Scalar.muli v355 c256_i32_174
  v479
@[reducible] def k0_t8_loop (i : grid0.Coords) : Scf.Loop 32 :=
  let c0_i32_119 : BitVec 32 := 0#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c8_i32_87 : BitVec 32 := 8#32
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v252 : BitVec 32 := Scalar.muli c8_i32_87 v242
  let v253 : BitVec 32 := Scalar.subi v32 v252
  let c4_i32_99 : BitVec 32 := 4#32
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v280 : BitVec 32 := Scalar.muli c4_i32_99 v270
  let v281 : BitVec 32 := Scalar.subi v253 v280
  let c2_i32_111 : BitVec 32 := 2#32
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let v328 : BitVec 32 := Scalar.addi c0_i32_119 v327
  let c1_i32_122 : BitVec 32 := 1#32
  ⟨v331, v328, c1_i32_122⟩
def k0_mult41 (i : grid0.Coords) (k0_t8 : Fin (k0_t8_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c2_i32_111 : BitVec 32 := 2#32
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let c1_i32_122 : BitVec 32 := 1#32
  let arg12 : BitVec 32 := Scf.iv v331 c1_i32_122 k0_t8
  let v354 : BitVec 32 := Scalar.muli c1_i32_135 arg12
  let v355 : BitVec 32 := Scalar.addi v307 v354
  let c256_i32_136 : BitVec 32 := 256#32
  let v356 : BitVec 32 := Scalar.muli v355 c256_i32_136
  v356
def k0_mult42 (i : grid0.Coords) (k0_t8 : Fin (k0_t8_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c2_i32_111 : BitVec 32 := 2#32
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let c1_i32_122 : BitVec 32 := 1#32
  let arg12 : BitVec 32 := Scf.iv v331 c1_i32_122 k0_t8
  let v354 : BitVec 32 := Scalar.muli c1_i32_135 arg12
  let v355 : BitVec 32 := Scalar.addi v307 v354
  let c256_i32_137 : BitVec 32 := 256#32
  let v358 : BitVec 32 := Scalar.muli v355 c256_i32_137
  v358
def k0_off15 (i : grid0.Coords) (k0_t8 : Fin (k0_t8_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c2_i32_111 : BitVec 32 := 2#32
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let c1_i32_122 : BitVec 32 := 1#32
  let arg12 : BitVec 32 := Scf.iv v331 c1_i32_122 k0_t8
  let v354 : BitVec 32 := Scalar.muli c1_i32_135 arg12
  let v355 : BitVec 32 := Scalar.addi v307 v354
  let c256_i32_137 : BitVec 32 := 256#32
  let v358 : BitVec 32 := Scalar.muli v355 c256_i32_137
  let v359 : BitVec 32 := v358
  let v360 : Index := Scalar.indexCast v359
  let c0_138 : Index := 0#32
  ![v360.toNat, 0]
def k0_mult43 (i : grid0.Coords) (k0_t8 : Fin (k0_t8_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c2_i32_111 : BitVec 32 := 2#32
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let c1_i32_122 : BitVec 32 := 1#32
  let arg12 : BitVec 32 := Scf.iv v331 c1_i32_122 k0_t8
  let v354 : BitVec 32 := Scalar.muli c1_i32_135 arg12
  let v355 : BitVec 32 := Scalar.addi v307 v354
  let c256_i32_148 : BitVec 32 := 256#32
  let v394 : BitVec 32 := Scalar.muli v355 c256_i32_148
  v394
def k0_mult44 (i : grid0.Coords) (k0_t8 : Fin (k0_t8_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c2_i32_111 : BitVec 32 := 2#32
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let c1_i32_122 : BitVec 32 := 1#32
  let arg12 : BitVec 32 := Scf.iv v331 c1_i32_122 k0_t8
  let v354 : BitVec 32 := Scalar.muli c1_i32_135 arg12
  let v355 : BitVec 32 := Scalar.addi v307 v354
  let c256_i32_163 : BitVec 32 := 256#32
  let v443 : BitVec 32 := Scalar.muli v355 c256_i32_163
  v443
def k0_off16 (i : grid0.Coords) (k0_t8 : Fin (k0_t8_loop i).trips) : Fin 2 → Nat :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c2_i32_111 : BitVec 32 := 2#32
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let c1_i32_122 : BitVec 32 := 1#32
  let arg12 : BitVec 32 := Scf.iv v331 c1_i32_122 k0_t8
  let v354 : BitVec 32 := Scalar.muli c1_i32_135 arg12
  let v355 : BitVec 32 := Scalar.addi v307 v354
  let c256_i32_163 : BitVec 32 := 256#32
  let v443 : BitVec 32 := Scalar.muli v355 c256_i32_163
  let v444 : BitVec 32 := v443
  let v445 : Index := Scalar.indexCast v444
  let c128_164 : Index := 128#32
  ![v445.toNat, 128]
def k0_mult45 (i : grid0.Coords) (k0_t8 : Fin (k0_t8_loop i).trips) : BitVec 32 :=
  let c1_i32_86 : BitVec 32 := 1#32
  let c8_i32_85 : BitVec 32 := 8#32
  let arg1 : BitVec 32 := BitVec.ofNat 32 (i 1).val
  let c1_i32 : BitVec 32 := 1#32
  let v31 : BitVec 32 := Scalar.subi arg1 c1_i32
  let c0_i32_13 : BitVec 32 := 0#32
  let v32 : BitVec 32 := Scalar.maxsi v31 c0_i32_13
  let c0_i32_75 : BitVec 32 := 0#32
  let v227 : BitVec 1 := Scalar.cmpi .sgt v32 c0_i32_75
  let v228 : BitVec 32 := Scalar.extui v227
  let c0_i32_76 : BitVec 32 := 0#32
  let v229 : BitVec 1 := Scalar.cmpi .slt v32 c0_i32_76
  let v230 : BitVec 32 := Scalar.extui v229
  let v231 : BitVec 32 := Scalar.subi v228 v230
  let c8_i32 : BitVec 32 := 8#32
  let c0_i32_77 : BitVec 32 := 0#32
  let v232 : BitVec 1 := Scalar.cmpi .sgt c8_i32 c0_i32_77
  let v233 : BitVec 32 := Scalar.extui v232
  let c0_i32_78 : BitVec 32 := 0#32
  let v234 : BitVec 1 := Scalar.cmpi .slt c8_i32 c0_i32_78
  let v235 : BitVec 32 := Scalar.extui v234
  let v236 : BitVec 32 := Scalar.subi v233 v235
  let v237 : BitVec 1 := Scalar.cmpi .ne v231 v236
  let v238 : BitVec 32 := Scalar.remsi v32 c8_i32
  let c0_i32_79 : BitVec 32 := 0#32
  let v239 : BitVec 1 := Scalar.cmpi .ne v238 c0_i32_79
  let v240 : BitVec 1 := Scalar.andi v237 v239
  let v226 : BitVec 32 := Scalar.divsi v32 c8_i32
  let c1_i32_80 : BitVec 32 := 1#32
  let v241 : BitVec 32 := Scalar.subi v226 c1_i32_80
  let v242 : BitVec 32 := Scalar.select v240 v241 v226
  let v250 : BitVec 32 := Scalar.muli c8_i32_85 v242
  let v251 : BitVec 32 := Scalar.addi c1_i32_86 v250
  let c4_i32_98 : BitVec 32 := 4#32
  let c8_i32_87 : BitVec 32 := 8#32
  let v252 : BitVec 32 := Scalar.muli c8_i32_87 v242
  let v253 : BitVec 32 := Scalar.subi v32 v252
  let c0_i32_88 : BitVec 32 := 0#32
  let v255 : BitVec 1 := Scalar.cmpi .sgt v253 c0_i32_88
  let v256 : BitVec 32 := Scalar.extui v255
  let c0_i32_89 : BitVec 32 := 0#32
  let v257 : BitVec 1 := Scalar.cmpi .slt v253 c0_i32_89
  let v258 : BitVec 32 := Scalar.extui v257
  let v259 : BitVec 32 := Scalar.subi v256 v258
  let c4_i32 : BitVec 32 := 4#32
  let c0_i32_90 : BitVec 32 := 0#32
  let v260 : BitVec 1 := Scalar.cmpi .sgt c4_i32 c0_i32_90
  let v261 : BitVec 32 := Scalar.extui v260
  let c0_i32_91 : BitVec 32 := 0#32
  let v262 : BitVec 1 := Scalar.cmpi .slt c4_i32 c0_i32_91
  let v263 : BitVec 32 := Scalar.extui v262
  let v264 : BitVec 32 := Scalar.subi v261 v263
  let v265 : BitVec 1 := Scalar.cmpi .ne v259 v264
  let v266 : BitVec 32 := Scalar.remsi v253 c4_i32
  let c0_i32_92 : BitVec 32 := 0#32
  let v267 : BitVec 1 := Scalar.cmpi .ne v266 c0_i32_92
  let v268 : BitVec 1 := Scalar.andi v265 v267
  let v254 : BitVec 32 := Scalar.divsi v253 c4_i32
  let c1_i32_93 : BitVec 32 := 1#32
  let v269 : BitVec 32 := Scalar.subi v254 c1_i32_93
  let v270 : BitVec 32 := Scalar.select v268 v269 v254
  let v278 : BitVec 32 := Scalar.muli c4_i32_98 v270
  let v279 : BitVec 32 := Scalar.addi v251 v278
  let c2_i32_110 : BitVec 32 := 2#32
  let c4_i32_99 : BitVec 32 := 4#32
  let v280 : BitVec 32 := Scalar.muli c4_i32_99 v270
  let v281 : BitVec 32 := Scalar.subi v253 v280
  let c0_i32_100 : BitVec 32 := 0#32
  let v283 : BitVec 1 := Scalar.cmpi .sgt v281 c0_i32_100
  let v284 : BitVec 32 := Scalar.extui v283
  let c0_i32_101 : BitVec 32 := 0#32
  let v285 : BitVec 1 := Scalar.cmpi .slt v281 c0_i32_101
  let v286 : BitVec 32 := Scalar.extui v285
  let v287 : BitVec 32 := Scalar.subi v284 v286
  let c2_i32 : BitVec 32 := 2#32
  let c0_i32_102 : BitVec 32 := 0#32
  let v288 : BitVec 1 := Scalar.cmpi .sgt c2_i32 c0_i32_102
  let v289 : BitVec 32 := Scalar.extui v288
  let c0_i32_103 : BitVec 32 := 0#32
  let v290 : BitVec 1 := Scalar.cmpi .slt c2_i32 c0_i32_103
  let v291 : BitVec 32 := Scalar.extui v290
  let v292 : BitVec 32 := Scalar.subi v289 v291
  let v293 : BitVec 1 := Scalar.cmpi .ne v287 v292
  let v294 : BitVec 32 := Scalar.remsi v281 c2_i32
  let c0_i32_104 : BitVec 32 := 0#32
  let v295 : BitVec 1 := Scalar.cmpi .ne v294 c0_i32_104
  let v296 : BitVec 1 := Scalar.andi v293 v295
  let v282 : BitVec 32 := Scalar.divsi v281 c2_i32
  let c1_i32_105 : BitVec 32 := 1#32
  let v297 : BitVec 32 := Scalar.subi v282 c1_i32_105
  let v298 : BitVec 32 := Scalar.select v296 v297 v282
  let v306 : BitVec 32 := Scalar.muli c2_i32_110 v298
  let v307 : BitVec 32 := Scalar.addi v279 v306
  let c1_i32_135 : BitVec 32 := 1#32
  let c0_i32_119 : BitVec 32 := 0#32
  let c2_i32_111 : BitVec 32 := 2#32
  let v308 : BitVec 32 := Scalar.muli c2_i32_111 v298
  let v309 : BitVec 32 := Scalar.subi v281 v308
  let c0_i32_113 : BitVec 32 := 0#32
  let v311 : BitVec 1 := Scalar.cmpi .sgt v309 c0_i32_113
  let v312 : BitVec 32 := Scalar.extui v311
  let c0_i32_114 : BitVec 32 := 0#32
  let v313 : BitVec 1 := Scalar.cmpi .slt v309 c0_i32_114
  let v314 : BitVec 32 := Scalar.extui v313
  let v315 : BitVec 32 := Scalar.subi v312 v314
  let c1_i32_112 : BitVec 32 := 1#32
  let c0_i32_115 : BitVec 32 := 0#32
  let v316 : BitVec 1 := Scalar.cmpi .sgt c1_i32_112 c0_i32_115
  let v317 : BitVec 32 := Scalar.extui v316
  let c0_i32_116 : BitVec 32 := 0#32
  let v318 : BitVec 1 := Scalar.cmpi .slt c1_i32_112 c0_i32_116
  let v319 : BitVec 32 := Scalar.extui v318
  let v320 : BitVec 32 := Scalar.subi v317 v319
  let v321 : BitVec 1 := Scalar.cmpi .ne v315 v320
  let v322 : BitVec 32 := Scalar.remsi v309 c1_i32_112
  let c0_i32_117 : BitVec 32 := 0#32
  let v323 : BitVec 1 := Scalar.cmpi .ne v322 c0_i32_117
  let v324 : BitVec 1 := Scalar.andi v321 v323
  let v310 : BitVec 32 := Scalar.divsi v309 c1_i32_112
  let c1_i32_118 : BitVec 32 := 1#32
  let v325 : BitVec 32 := Scalar.subi v310 c1_i32_118
  let v326 : BitVec 32 := Scalar.select v324 v325 v310
  let v327 : BitVec 32 := Scalar.subi v326 c0_i32_119
  let c1_i32_120 : BitVec 32 := 1#32
  let v329 : BitVec 32 := Scalar.divsi v327 c1_i32_120
  let v330 : BitVec 32 := Scalar.muli v329 c1_i32_120
  let v331 : BitVec 32 := Scalar.addi c0_i32_119 v330
  let c1_i32_122 : BitVec 32 := 1#32
  let arg12 : BitVec 32 := Scf.iv v331 c1_i32_122 k0_t8
  let v354 : BitVec 32 := Scalar.muli c1_i32_135 arg12
  let v355 : BitVec 32 := Scalar.addi v307 v354
  let c256_i32_174 : BitVec 32 := 256#32
  let v479 : BitVec 32 := Scalar.muli v355 c256_i32_174
  v479
@[reducible] def k0_t9_loop (i : grid0.Coords) : Scf.Loop 32 :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let c1_i32_126 : BitVec 32 := 1#32
  ⟨v334, v340, c1_i32_126⟩
def k0_mult46 (i : grid0.Coords) (k0_t9 : Fin (k0_t9_loop i).trips) : BitVec 32 :=
  let arg1 : BitVec 32 := BitVec.ofNat 32 (i 1).val
  let c1_i32_123 : BitVec 32 := 1#32
  let v334 : BitVec 32 := Scalar.maxsi arg1 c1_i32_123
  let c1_i32_126 : BitVec 32 := 1#32
  let arg12 : BitVec 32 := Scf.iv v334 c1_i32_126 k0_t9
  let c256_i32_135 : BitVec 32 := 256#32
  let v354 : BitVec 32 := Scalar.muli arg12 c256_i32_135
  v354
def k0_mult47 (i : grid0.Coords) (k0_t9 : Fin (k0_t9_loop i).trips) : BitVec 32 :=
  let arg1 : BitVec 32 := BitVec.ofNat 32 (i 1).val
  let c1_i32_123 : BitVec 32 := 1#32
  let v334 : BitVec 32 := Scalar.maxsi arg1 c1_i32_123
  let c1_i32_126 : BitVec 32 := 1#32
  let arg12 : BitVec 32 := Scf.iv v334 c1_i32_126 k0_t9
  let c256_i32_140 : BitVec 32 := 256#32
  let v371 : BitVec 32 := Scalar.muli arg12 c256_i32_140
  v371
def k0_off17 (i : grid0.Coords) (k0_t9 : Fin (k0_t9_loop i).trips) : Fin 2 → Nat :=
  let arg1 : BitVec 32 := BitVec.ofNat 32 (i 1).val
  let c1_i32_123 : BitVec 32 := 1#32
  let v334 : BitVec 32 := Scalar.maxsi arg1 c1_i32_123
  let c1_i32_126 : BitVec 32 := 1#32
  let arg12 : BitVec 32 := Scf.iv v334 c1_i32_126 k0_t9
  let c256_i32_140 : BitVec 32 := 256#32
  let v371 : BitVec 32 := Scalar.muli arg12 c256_i32_140
  let v372 : BitVec 32 := v371
  let v373 : Index := Scalar.indexCast v372
  let c0_141 : Index := 0#32
  ![v373.toNat, 0]
def k0_mult48 (i : grid0.Coords) (k0_t9 : Fin (k0_t9_loop i).trips) : BitVec 32 :=
  let arg1 : BitVec 32 := BitVec.ofNat 32 (i 1).val
  let c1_i32_123 : BitVec 32 := 1#32
  let v334 : BitVec 32 := Scalar.maxsi arg1 c1_i32_123
  let c1_i32_126 : BitVec 32 := 1#32
  let arg12 : BitVec 32 := Scf.iv v334 c1_i32_126 k0_t9
  let c256_i32_153 : BitVec 32 := 256#32
  let v411 : BitVec 32 := Scalar.muli arg12 c256_i32_153
  v411
def k0_mult49 (i : grid0.Coords) (k0_t9 : Fin (k0_t9_loop i).trips) : BitVec 32 :=
  let arg1 : BitVec 32 := BitVec.ofNat 32 (i 1).val
  let c1_i32_123 : BitVec 32 := 1#32
  let v334 : BitVec 32 := Scalar.maxsi arg1 c1_i32_123
  let c1_i32_126 : BitVec 32 := 1#32
  let arg12 : BitVec 32 := Scf.iv v334 c1_i32_126 k0_t9
  let c256_i32_169 : BitVec 32 := 256#32
  let v462 : BitVec 32 := Scalar.muli arg12 c256_i32_169
  v462
def k0_off18 (i : grid0.Coords) (k0_t9 : Fin (k0_t9_loop i).trips) : Fin 2 → Nat :=
  let arg1 : BitVec 32 := BitVec.ofNat 32 (i 1).val
  let c1_i32_123 : BitVec 32 := 1#32
  let v334 : BitVec 32 := Scalar.maxsi arg1 c1_i32_123
  let c1_i32_126 : BitVec 32 := 1#32
  let arg12 : BitVec 32 := Scf.iv v334 c1_i32_126 k0_t9
  let c256_i32_169 : BitVec 32 := 256#32
  let v462 : BitVec 32 := Scalar.muli arg12 c256_i32_169
  let v463 : BitVec 32 := v462
  let v464 : Index := Scalar.indexCast v463
  let c128_170 : Index := 128#32
  ![v464.toNat, 128]
def k0_mult50 (i : grid0.Coords) (k0_t9 : Fin (k0_t9_loop i).trips) : BitVec 32 :=
  let arg1 : BitVec 32 := BitVec.ofNat 32 (i 1).val
  let c1_i32_123 : BitVec 32 := 1#32
  let v334 : BitVec 32 := Scalar.maxsi arg1 c1_i32_123
  let c1_i32_126 : BitVec 32 := 1#32
  let arg12 : BitVec 32 := Scf.iv v334 c1_i32_126 k0_t9
  let c256_i32_182 : BitVec 32 := 256#32
  let v502 : BitVec 32 := Scalar.muli arg12 c256_i32_182
  v502
@[reducible] def k0_t10_loop (i : grid0.Coords) : Scf.Loop 32 :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let v337 : BitVec 32 := Scalar.addi v334 v336
  let c1_i32_127 : BitVec 32 := 1#32
  ⟨v340, v337, c1_i32_127⟩
def k0_mult51 (i : grid0.Coords) (k0_t10 : Fin (k0_t10_loop i).trips) : BitVec 32 :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let c1_i32_127 : BitVec 32 := 1#32
  let arg12 : BitVec 32 := Scf.iv v340 c1_i32_127 k0_t10
  let c256_i32_135 : BitVec 32 := 256#32
  let v354 : BitVec 32 := Scalar.muli arg12 c256_i32_135
  v354
def k0_mult52 (i : grid0.Coords) (k0_t10 : Fin (k0_t10_loop i).trips) : BitVec 32 :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let c1_i32_127 : BitVec 32 := 1#32
  let arg12 : BitVec 32 := Scf.iv v340 c1_i32_127 k0_t10
  let c256_i32_140 : BitVec 32 := 256#32
  let v371 : BitVec 32 := Scalar.muli arg12 c256_i32_140
  v371
def k0_off19 (i : grid0.Coords) (k0_t10 : Fin (k0_t10_loop i).trips) : Fin 2 → Nat :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let c1_i32_127 : BitVec 32 := 1#32
  let arg12 : BitVec 32 := Scf.iv v340 c1_i32_127 k0_t10
  let c256_i32_140 : BitVec 32 := 256#32
  let v371 : BitVec 32 := Scalar.muli arg12 c256_i32_140
  let v372 : BitVec 32 := v371
  let v373 : Index := Scalar.indexCast v372
  let c0_141 : Index := 0#32
  ![v373.toNat, 0]
def k0_mult53 (i : grid0.Coords) (k0_t10 : Fin (k0_t10_loop i).trips) : BitVec 32 :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let c1_i32_127 : BitVec 32 := 1#32
  let arg12 : BitVec 32 := Scf.iv v340 c1_i32_127 k0_t10
  let c256_i32_153 : BitVec 32 := 256#32
  let v411 : BitVec 32 := Scalar.muli arg12 c256_i32_153
  v411
def k0_mult54 (i : grid0.Coords) (k0_t10 : Fin (k0_t10_loop i).trips) : BitVec 32 :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let c1_i32_127 : BitVec 32 := 1#32
  let arg12 : BitVec 32 := Scf.iv v340 c1_i32_127 k0_t10
  let c256_i32_169 : BitVec 32 := 256#32
  let v462 : BitVec 32 := Scalar.muli arg12 c256_i32_169
  v462
def k0_off20 (i : grid0.Coords) (k0_t10 : Fin (k0_t10_loop i).trips) : Fin 2 → Nat :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let c1_i32_127 : BitVec 32 := 1#32
  let arg12 : BitVec 32 := Scf.iv v340 c1_i32_127 k0_t10
  let c256_i32_169 : BitVec 32 := 256#32
  let v462 : BitVec 32 := Scalar.muli arg12 c256_i32_169
  let v463 : BitVec 32 := v462
  let v464 : Index := Scalar.indexCast v463
  let c128_170 : Index := 128#32
  ![v464.toNat, 128]
def k0_mult55 (i : grid0.Coords) (k0_t10 : Fin (k0_t10_loop i).trips) : BitVec 32 :=
  let arg1 : BitVec 32 := BitVec.ofNat 32 (i 1).val
  let c1_i32_123 : BitVec 32 := 1#32
  let v334 : BitVec 32 := Scalar.maxsi arg1 c1_i32_123
  let c1_i32_124 : BitVec 32 := 1#32
  let v335 : BitVec 32 := Scalar.addi arg1 c1_i32_124
  let v336 : BitVec 32 := Scalar.subi v335 v334
  let c1_i32_125 : BitVec 32 := 1#32
  let v338 : BitVec 32 := Scalar.divsi v336 c1_i32_125
  let v339 : BitVec 32 := Scalar.muli v338 c1_i32_125
  let v340 : BitVec 32 := Scalar.addi v334 v339
  let c1_i32_127 : BitVec 32 := 1#32
  let arg12 : BitVec 32 := Scf.iv v340 c1_i32_127 k0_t10
  let c256_i32_182 : BitVec 32 := 256#32
  let v502 : BitVec 32 := Scalar.muli arg12 c256_i32_182
  v502
def k0_cond2 (i : grid0.Coords) : BitVec 1 :=
  let arg1 : BitVec 32 := BitVec.ofNat 32 (i 1).val
  let c16_i32 : BitVec 32 := 16#32
  let v351 : BitVec 1 := Scalar.cmpi .eq arg1 c16_i32
  let v352 : BitVec 32 := Scalar.extui v351
  let c0_i32_134 : BitVec 32 := 0#32
  let v353 : BitVec 1 := Scalar.cmpi .ne v352 c0_i32_134
  v353

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4352x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4352x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4112x8192 : Shape := ⟨2, ![4112, 8192]⟩
abbrev S4112x1024 : Shape := ⟨2, ![4112, 1024]⟩
abbrev S4112x8x128 : Shape := ⟨3, ![4112, 8, 128]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x128x4112 : Shape := ⟨3, ![8, 128, 4112]⟩
abbrev S8x4112x128 : Shape := ⟨3, ![8, 4112, 128]⟩
abbrev S4352x1024 : Shape := ⟨2, ![4352, 1024]⟩

abbrev nBuf : Space → Nat
  | .hbm => 139
  | .vmem => 0
  | .smem => 0
  | _ => 0

abbrev hbmTy0_0 (i : Nat) : BufTy := match i % 128 with
  | 0 => ⟨S4112x8192, .bf16⟩
  | 1 => ⟨S4112x1024, .bf16⟩
  | 2 => ⟨S4112x1024, .bf16⟩
  | 3 => ⟨S4112x1024, .f32⟩
  | 4 => ⟨S4112x8x128, .f32⟩
  | 5 => ⟨S4112x1024, .bf16⟩
  | 6 => ⟨S4112x1024, .f32⟩
  | 7 => ⟨S4112x8x128, .f32⟩
  | 8 => ⟨S4112x1024, .bf16⟩
  | 9 => ⟨S4112x1024, .f32⟩
  | 10 => ⟨S4112x8x128, .f32⟩
  | 11 => ⟨S8x4112x4112, .f32⟩
  | 12 => ⟨S_, .f32⟩
  | 13 => ⟨S8x4112x4112, .f32⟩
  | 14 => ⟨S8x4112x4112, .f32⟩
  | 15 => ⟨S4112, .i32⟩
  | 16 => ⟨S1x4112, .i32⟩
  | 17 => ⟨S4112, .i32⟩
  | 18 => ⟨S4112x1, .i32⟩
  | 19 => ⟨S4112x4112, .i32⟩
  | 20 => ⟨S4112x4112, .i32⟩
  | 21 => ⟨S4112x4112, .i1⟩
  | 22 => ⟨S8x4112x4112, .f32⟩
  | 23 => ⟨S_, .f32⟩
  | 24 => ⟨S8x4112x4112, .f32⟩
  | 25 => ⟨S8x4112x4112, .f32⟩
  | 26 => ⟨S8x4112x4112, .f32⟩
  | 27 => ⟨S8x4112x4112, .f32⟩
  | 28 => ⟨S8x4112x4112, .i1⟩
  | 29 => ⟨S8x4112x4112, .f32⟩
  | 30 => ⟨S8x4112x4112, .f32⟩
  | 31 => ⟨S8x4112x4112, .f32⟩
  | 32 => ⟨S8x4112x4112, .f32⟩
  | 33 => ⟨S8x4112x4112, .f32⟩
  | 34 => ⟨S8x4112x4112, .f32⟩
  | 35 => ⟨S8x4112x4112, .f32⟩
  | 36 => ⟨S8x4112x4112, .f32⟩
  | 37 => ⟨S_, .f32⟩
  | 38 => ⟨S8x4112x4112, .f32⟩
  | 39 => ⟨S8x4112x4112, .i1⟩
  | 40 => ⟨S_, .f32⟩
  | 41 => ⟨S8x4112x4112, .f32⟩
  | 42 => ⟨S8x4112x4112, .f32⟩
  | 43 => ⟨S_, .f32⟩
  | 44 => ⟨S8x4112x4112, .f32⟩
  | 45 => ⟨S8x4112x4112, .i1⟩
  | 46 => ⟨S_, .f32⟩
  | 47 => ⟨S8x4112x4112, .f32⟩
  | 48 => ⟨S8x4112x4112, .f32⟩
  | 49 => ⟨S8x4112x4112, .f32⟩
  | 50 => ⟨S8x4112x4112, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x4112x4112, .f32⟩
  | 59 => ⟨S8x4112x4112, .i1⟩
  | 60 => ⟨S_, .f32⟩
  | 61 => ⟨S8x4112x4112, .f32⟩
  | 62 => ⟨S8x4112x4112, .f32⟩
  | 63 => ⟨S8x4112x4112, .f32⟩
  | 64 => ⟨S8x4112x4112, .f32⟩
  | 65 => ⟨S8x4112x4112, .f32⟩
  | 66 => ⟨S_, .f32⟩
  | 67 => ⟨S8x4112x4112, .f32⟩
  | 68 => ⟨S8x4112x4112, .f32⟩
  | 69 => ⟨S8x4112x4112, .f32⟩
  | 70 => ⟨S8x4112x4112, .f32⟩
  | 71 => ⟨S_, .f32⟩
  | 72 => ⟨S_, .f32⟩
  | 73 => ⟨S8x4112x4112, .i1⟩
  | 74 => ⟨S8x4112x4112, .f32⟩
  | 75 => ⟨S8x4112x4112, .f32⟩
  | 76 => ⟨S_, .f32⟩
  | 77 => ⟨S8x4112x4112, .f32⟩
  | 78 => ⟨S_, .f32⟩
  | 79 => ⟨S_, .f32⟩
  | 80 => ⟨S8x4112x4112, .f32⟩
  | 81 => ⟨S8x4112x4112, .f32⟩
  | 82 => ⟨S8x4112x4112, .f32⟩
  | 83 => ⟨S8x4112x4112, .f32⟩
  | 84 => ⟨S_, .f32⟩
  | 85 => ⟨S_, .f32⟩
  | 86 => ⟨S8x4112x4112, .i1⟩
  | 87 => ⟨S8x4112x4112, .f32⟩
  | 88 => ⟨S8x4112x4112, .f32⟩
  | 89 => ⟨S_, .f32⟩
  | 90 => ⟨S8x4112x4112, .f32⟩
  | 91 => ⟨S8x128x4112, .f32⟩
  | 92 => ⟨S4112x8x128, .f32⟩
  | 93 => ⟨S4112x1024, .f32⟩
  | 94 => ⟨S4112x8x128, .f32⟩
  | 95 => ⟨S8x128x4112, .f32⟩
  | 96 => ⟨S8x4112x4112, .f32⟩
  | 97 => ⟨S8x128x4112, .f32⟩
  | 98 => ⟨S4112x8x128, .f32⟩
  | 99 => ⟨S_, .f32⟩
  | 100 => ⟨S8x4112x4112, .f32⟩
  | 101 => ⟨S8x4112x4112, .f32⟩
  | 102 => ⟨S8x4112x4112, .f32⟩
  | 103 => ⟨S8x4112x4112, .f32⟩
  | 104 => ⟨S_, .f32⟩
  | 105 => ⟨S_, .f32⟩
  | 106 => ⟨S8x4112x4112, .f32⟩
  | 107 => ⟨S8x4112x4112, .f32⟩
  | 108 => ⟨S_, .f32⟩
  | 109 => ⟨S8x4112x4112, .f32⟩
  | 110 => ⟨S8x4112x4112, .f32⟩
  | 111 => ⟨S8x4112x4112, .f32⟩
  | 112 => ⟨S8x4112x4112, .f32⟩
  | 113 => ⟨S8x4112x4112, .f32⟩
  | 114 => ⟨S8x4112x4112, .f32⟩
  | 115 => ⟨S8x4112x4112, .f32⟩
  | 116 => ⟨S8x4112x4112, .f32⟩
  | 117 => ⟨S_, .f32⟩
  | 118 => ⟨S8x4112x4112, .f32⟩
  | 119 => ⟨S8x4112x4112, .f32⟩
  | 120 => ⟨S8x4112x128, .f32⟩
  | 121 => ⟨S4112x8x128, .f32⟩
  | 122 => ⟨S8x4112x128, .f32⟩
  | 123 => ⟨S4112x8x128, .f32⟩
  | 124 => ⟨S4112x1024, .f32⟩
  | 125 => ⟨S_, .i32⟩
  | 126 => ⟨S_, .f32⟩
  | 127 => ⟨S4352x1024, .f32⟩
  | _ => ⟨S4112x8192, .bf16⟩

abbrev hbmTy0_1 (i : Nat) : BufTy := match i % 128 with
  | 0 => ⟨S4352x1024, .bf16⟩
  | 1 => ⟨S4112x1024, .f32⟩
  | 2 => ⟨S_, .i32⟩
  | 3 => ⟨S_, .f32⟩
  | 4 => ⟨S4352x1024, .f32⟩
  | 5 => ⟨S4352x1024, .bf16⟩
  | 6 => ⟨S4112x1024, .f32⟩
  | 7 => ⟨S_, .i32⟩
  | 8 => ⟨S_, .f32⟩
  | 9 => ⟨S4352x1024, .f32⟩
  | 10 => ⟨S4352x1024, .bf16⟩
  | _ => ⟨S4112x8192, .bf16⟩

abbrev hbmTy (i : Nat) : BufTy := match i / 128 with
  | 0 => hbmTy0_0 i
  | 1 => hbmTy0_1 i
  | _ => ⟨S4112x8192, .bf16⟩

abbrev bufTy : (tb : Table) → Fin (tcTables nBuf tb) → BufTy
  | .hbm, ⟨i, _⟩ => hbmTy i
  | _, _ => ⟨S4112x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_1 : Ref sig .tc := ⟨.hbm, 84, rfl⟩
abbrev main_call3_v0 : Ref sig .tc := ⟨.hbm, 85, rfl⟩
abbrev main_v26_1 : Ref sig .tc := ⟨.hbm, 86, rfl⟩
abbrev main_call3_v2 : Ref sig .tc := ⟨.hbm, 87, rfl⟩
abbrev main_v26_0 : Ref sig .tc := ⟨.hbm, 88, rfl⟩
abbrev main_call3_cst : Ref sig .tc := ⟨.hbm, 89, rfl⟩
abbrev main_v26_2 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_call4_cst : Ref sig .tc := ⟨.hbm, 99, rfl⟩
abbrev main_call4_v0 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_call5_cst : Ref sig .tc := ⟨.hbm, 104, rfl⟩
abbrev main_call5_v0 : Ref sig .tc := ⟨.hbm, 105, rfl⟩
abbrev main_v38 : Ref sig .tc := ⟨.hbm, 106, rfl⟩
abbrev main_v39 : Ref sig .tc := ⟨.hbm, 107, rfl⟩
abbrev main_call6_cst : Ref sig .tc := ⟨.hbm, 108, rfl⟩
abbrev main_call6_v0 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_call7_v0 : Ref sig .tc := ⟨.hbm, 113, rfl⟩
abbrev main_call7_v1 : Ref sig .tc := ⟨.hbm, 114, rfl⟩
abbrev main_v43 : Ref sig .tc := ⟨.hbm, 115, rfl⟩
abbrev main_v44 : Ref sig .tc := ⟨.hbm, 116, rfl⟩
abbrev main_cst_2 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_c : Ref sig .tc := ⟨.hbm, 125, rfl⟩
abbrev main_call8_v0 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_c_3 : Ref sig .tc := ⟨.hbm, 130, rfl⟩
abbrev main_call9_v0 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_c_4 : Ref sig .tc := ⟨.hbm, 135, rfl⟩
abbrev main_call10_v0 : Ref sig .tc := ⟨.hbm, 136, rfl⟩
abbrev main_v58 : Ref sig .tc := ⟨.hbm, 137, rfl⟩
abbrev main_v59 : Ref sig .tc := ⟨.hbm, 138, rfl⟩

abbrev nD : Nat := 1
abbrev τ : Topo := Topo.v7x

variable {F : FTy → Type} [FloatOps F]
-- ==== Kernel2.lean ====
abbrev S4352x2048 : Shape := ⟨2, ![4352, 2048]⟩
abbrev S8x2x2048x704 : Shape := ⟨4, ![8, 2, 2048, 704]⟩
abbrev S8x704x2048 : Shape := ⟨3, ![8, 704, 2048]⟩
abbrev S8x1x2048x704 : Shape := ⟨4, ![8, 1, 2048, 704]⟩
abbrev S8x2048x704 : Shape := ⟨3, ![8, 2048, 704]⟩
abbrev S8x704x4352 : Shape := ⟨3, ![8, 704, 4352]⟩
abbrev S8x4352x704 : Shape := ⟨3, ![8, 4352, 704]⟩
abbrev S2x8x4352x704 : Shape := ⟨4, ![2, 8, 4352, 704]⟩
abbrev S1088x2048 : Shape := ⟨2, ![1088, 2048]⟩
abbrev S1x704x2048 : Shape := ⟨3, ![1, 704, 2048]⟩
abbrev S1x1088x704 : Shape := ⟨3, ![1, 1088, 704]⟩
abbrev S2x1x1088x704 : Shape := ⟨4, ![2, 1, 1088, 704]⟩
abbrev S704x2048 : Shape := ⟨2, ![704, 2048]⟩
abbrev S1088x704 : Shape := ⟨2, ![1088, 704]⟩
abbrev S2x1088x704 : Shape := ⟨3, ![2, 1088, 704]⟩

abbrev nBuf : Space → Nat
  | .hbm => 18
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S8x2x2048x704, .bf16⟩
  | .hbm, ⟨2, _⟩ => ⟨S8x704x2048, .bf16⟩
  | .hbm, ⟨3, _⟩ => ⟨S4352x2048, .bf16⟩
  | .hbm, ⟨4, _⟩ => ⟨S4352x2048, .f32⟩
  | .hbm, ⟨5, _⟩ => ⟨S8x1x2048x704, .bf16⟩
  | .hbm, ⟨6, _⟩ => ⟨S8x2048x704, .bf16⟩
  | .hbm, ⟨7, _⟩ => ⟨S8x2048x704, .f32⟩
  | .hbm, ⟨8, _⟩ => ⟨S8x1x2048x704, .bf16⟩
  | .hbm, ⟨9, _⟩ => ⟨S8x2048x704, .bf16⟩
  | .hbm, ⟨10, _⟩ => ⟨S8x2048x704, .f32⟩
  | .hbm, ⟨11, _⟩ => ⟨S8x704x4352, .f32⟩
  | .hbm, ⟨12, _⟩ => ⟨S8x4352x704, .f32⟩
  | .hbm, ⟨13, _⟩ => ⟨S8x704x4352, .f32⟩
  | .hbm, ⟨14, _⟩ => ⟨S8x4352x704, .f32⟩
  | .hbm, ⟨15, _⟩ => ⟨S8x4352x704, .bf16⟩
  | .hbm, ⟨16, _⟩ => ⟨S8x4352x704, .bf16⟩
  | .hbm, ⟨17, _⟩ => ⟨S2x8x4352x704, .bf16⟩
  | .local _ .vmem, ⟨0, _⟩ => ⟨S1088x2048, .bf16⟩
  | .local _ .vmem, ⟨1, _⟩ => ⟨S1088x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1088x704, .bf16⟩
  | .local _ .vmem, ⟨5, _⟩ => ⟨S1x1088x704, .bf16⟩
  | .local _ .vmem, ⟨6, _⟩ => ⟨S1x1088x704, .bf16⟩
  | .local _ .vmem, ⟨7, _⟩ => ⟨S1x1088x704, .bf16⟩
  | .local _ .vmem, ⟨8, _⟩ => ⟨S2x1x1088x704, .bf16⟩
  | .local _ .vmem, ⟨9, _⟩ => ⟨S2x1x1088x704, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1088x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S4352x2048 : Shape := ⟨2, ![4352, 2048]⟩
abbrev S8x2x2048x704 : Shape := ⟨4, ![8, 2, 2048, 704]⟩
abbrev S8x704x2048 : Shape := ⟨3, ![8, 704, 2048]⟩
abbrev S8x1x2048x704 : Shape := ⟨4, ![8, 1, 2048, 704]⟩
abbrev S8x2048x704 : Shape := ⟨3, ![8, 2048, 704]⟩
abbrev S8x704x4352 : Shape := ⟨3, ![8, 704, 4352]⟩
abbrev S8x4352x704 : Shape := ⟨3, ![8, 4352, 704]⟩
abbrev S_ : Shape := ⟨0, ![]⟩
abbrev S4352x8x704 : Shape := ⟨3, ![4352, 8, 704]⟩
abbrev S1x8x4352x704 : Shape := ⟨4, ![1, 8, 4352, 704]⟩
abbrev S2x8x4352x704 : Shape := ⟨4, ![2, 8, 4352, 704]⟩

abbrev nBuf : Space → Nat
  | .hbm => 44
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2x2048x704, .bf16⟩
  | .hbm, ⟨2, _⟩ => ⟨S8x704x2048, .bf16⟩
  | .hbm, ⟨3, _⟩ => ⟨S4352x2048, .bf16⟩
  | .hbm, ⟨4, _⟩ => ⟨S4352x2048, .f32⟩
  | .hbm, ⟨5, _⟩ => ⟨S8x1x2048x704, .bf16⟩
  | .hbm, ⟨6, _⟩ => ⟨S8x2048x704, .bf16⟩
  | .hbm, ⟨7, _⟩ => ⟨S8x2048x704, .f32⟩
  | .hbm, ⟨8, _⟩ => ⟨S8x1x2048x704, .bf16⟩
  | .hbm, ⟨9, _⟩ => ⟨S8x2048x704, .bf16⟩
  | .hbm, ⟨10, _⟩ => ⟨S8x2048x704, .f32⟩
  | .hbm, ⟨11, _⟩ => ⟨S8x704x4352, .f32⟩
  | .hbm, ⟨12, _⟩ => ⟨S8x4352x704, .f32⟩
  | .hbm, ⟨13, _⟩ => ⟨S8x704x4352, .f32⟩
  | .hbm, ⟨14, _⟩ => ⟨S8x4352x704, .f32⟩
  | .hbm, ⟨15, _⟩ => ⟨S8x704x2048, .f32⟩
  | .hbm, ⟨16, _⟩ => ⟨S8x4352x704, .f32⟩
  | .hbm, ⟨17, _⟩ => ⟨S8x4352x704, .f32⟩
  | .hbm, ⟨18, _⟩ => ⟨S_, .f32⟩
  | .hbm, ⟨19, _⟩ => ⟨S8x4352x704, .f32⟩
  | .hbm, ⟨20, _⟩ => ⟨S8x4352x704, .f32⟩
  | .hbm, ⟨21, _⟩ => ⟨S_, .f32⟩
  | .hbm, ⟨22, _⟩ => ⟨S8x4352x704, .f32⟩
  | .hbm, ⟨23, _⟩ => ⟨S8x4352x704, .f32⟩
  | .hbm, ⟨24, _⟩ => ⟨S_, .f32⟩
  | .hbm, ⟨25, _⟩ => ⟨S8x4352x704, .f32⟩
  | .hbm, ⟨26, _⟩ => ⟨S8x4352x704, .f32⟩
  | .hbm, ⟨27, _⟩ => ⟨S8x4352x704, .f32⟩
  | .hbm, ⟨28, _⟩ => ⟨S8x4352x704, .f32⟩
  | .hbm, ⟨29, _⟩ => ⟨S8x4352x704, .f32⟩
  | .hbm, ⟨30, _⟩ => ⟨S4352x2048, .f32⟩
  | .hbm, ⟨31, _⟩ => ⟨S4352x2048, .f32⟩
  | .hbm, ⟨32, _⟩ => ⟨S4352x8x704, .f32⟩
  | .hbm, ⟨33, _⟩ => ⟨S8x4352x704, .f32⟩
  | .hbm, ⟨34, _⟩ => ⟨S8x4352x704, .f32⟩
  | .hbm, ⟨35, _⟩ => ⟨S8x4352x704, .f32⟩
  | .hbm, ⟨36, _⟩ => ⟨S8x4352x704, .f32⟩
  | .hbm, ⟨37, _⟩ => ⟨S8x4352x704, .f32⟩
  | .hbm, ⟨38, _⟩ => ⟨S8x4352x704, .f32⟩
  | .hbm, ⟨39, _⟩ => ⟨S8x4352x704, .f32⟩
  | .hbm, ⟨40, _⟩ => ⟨S1x8x4352x704, .f32⟩
  | .hbm, ⟨41, _⟩ => ⟨S1x8x4352x704, .f32⟩
  | .hbm, ⟨42, _⟩ => ⟨S2x8x4352x704, .f32⟩
  | .hbm, ⟨43, _⟩ => ⟨S2x8x4352x704, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v12_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v12_1 : Ref sig .tc := ⟨.hbm, 27, rfl⟩
abbrev main_v12_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Kernel3.lean ====
abbrev S2x8x4352x704 : Shape := ⟨4, ![2, 8, 4352, 704]⟩
abbrev S8x2x2048x704 : Shape := ⟨4, ![8, 2, 2048, 704]⟩
abbrev S4352x2048 : Shape := ⟨2, ![4352, 2048]⟩
abbrev S1x4x1088x704 : Shape := ⟨4, ![1, 4, 1088, 704]⟩
abbrev S4x1x1024x704 : Shape := ⟨4, ![4, 1, 1024, 704]⟩
abbrev S1088x1024 : Shape := ⟨2, ![1088, 1024]⟩
abbrev S1x1x1088x704 : Shape := ⟨4, ![1, 1, 1088, 704]⟩
abbrev S1088x704 : Shape := ⟨2, ![1088, 704]⟩
abbrev S1x1x1024x704 : Shape := ⟨4, ![1, 1, 1024, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S2x8x4352x704, .bf16⟩
  | .hbm, ⟨1, _⟩ => ⟨S8x2x2048x704, .bf16⟩
  | .hbm, ⟨2, _⟩ => ⟨S4352x2048, .f32⟩
  | .local _ .vmem, ⟨0, _⟩ => ⟨S1x4x1088x704, .bf16⟩
  | .local _ .vmem, ⟨1, _⟩ => ⟨S1x4x1088x704, .bf16⟩
  | .local _ .vmem, ⟨2, _⟩ => ⟨S4x1x1024x704, .bf16⟩
  | .local _ .vmem, ⟨3, _⟩ => ⟨S4x1x1024x704, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2x8x4352x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_36 : BitVec 32 := 0#32
  let v33 : BitVec 1 := Scalar.cmpi .ne v32 c0_i32_36
  v33

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg0.toNat, c0_i32_10.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4x1088x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x8x4352x704 : Shape := ⟨4, ![2, 8, 4352, 704]⟩
abbrev S8x2x2048x704 : Shape := ⟨4, ![8, 2, 2048, 704]⟩
abbrev S_ : Shape := ⟨0, ![]⟩
abbrev S4352x2048 : Shape := ⟨2, ![4352, 2048]⟩
abbrev S8x1x2048x704 : Shape := ⟨4, ![8, 1, 2048, 704]⟩
abbrev S8x2048x704 : Shape := ⟨3, ![8, 2048, 704]⟩
abbrev S8x704x4352 : Shape := ⟨3, ![8, 704, 4352]⟩
abbrev S8x4352x704 : Shape := ⟨3, ![8, 4352, 704]⟩
abbrev S1x8x4352x704 : Shape := ⟨4, ![1, 8, 4352, 704]⟩

abbrev nBuf : Space → Nat
  | .hbm => 23
  | .vmem => 0
  | .smem => 0
  | _ => 0

abbrev bufTy : (tb : Table) → Fin (tcTables nBuf tb) → BufTy
  | .hbm, ⟨0, _⟩ => ⟨S2x8x4352x704, .bf16⟩
  | .hbm, ⟨1, _⟩ => ⟨S8x2x2048x704, .bf16⟩
  | .hbm, ⟨2, _⟩ => ⟨S2x8x4352x704, .f32⟩
  | .hbm, ⟨3, _⟩ => ⟨S8x2x2048x704, .f32⟩
  | .hbm, ⟨4, _⟩ => ⟨S_, .f32⟩
  | .hbm, ⟨5, _⟩ => ⟨S4352x2048, .f32⟩
  | .hbm, ⟨6, _⟩ => ⟨S8x1x2048x704, .f32⟩
  | .hbm, ⟨7, _⟩ => ⟨S8x2048x704, .f32⟩
  | .hbm, ⟨8, _⟩ => ⟨S8x1x2048x704, .f32⟩
  | .hbm, ⟨9, _⟩ => ⟨S8x2048x704, .f32⟩
  | .hbm, ⟨10, _⟩ => ⟨S8x704x4352, .f32⟩
  | .hbm, ⟨11, _⟩ => ⟨S8x4352x704, .f32⟩
  | .hbm, ⟨12, _⟩ => ⟨S8x704x4352, .f32⟩
  | .hbm, ⟨13, _⟩ => ⟨S8x4352x704, .f32⟩
  | .hbm, ⟨14, _⟩ => ⟨S1x8x4352x704, .f32⟩
  | .hbm, ⟨15, _⟩ => ⟨S8x4352x704, .f32⟩
  | .hbm, ⟨16, _⟩ => ⟨S1x8x4352x704, .f32⟩
  | .hbm, ⟨17, _⟩ => ⟨S8x4352x704, .f32⟩
  | .hbm, ⟨18, _⟩ => ⟨S8x704x4352, .f32⟩
  | .hbm, ⟨19, _⟩ => ⟨S4352x2048, .f32⟩
  | .hbm, ⟨20, _⟩ => ⟨S8x704x4352, .f32⟩
  | .hbm, ⟨21, _⟩ => ⟨S4352x2048, .f32⟩
  | .hbm, ⟨22, _⟩ => ⟨S4352x2048, .f32⟩
  | _, _ => ⟨S2x8x4352x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel4.lean ====
abbrev S4352x2048 : Shape := ⟨2, ![4352, 2048]⟩
abbrev S2x8x4352x704 : Shape := ⟨4, ![2, 8, 4352, 704]⟩
abbrev S8x2x2048x704 : Shape := ⟨4, ![8, 2, 2048, 704]⟩
abbrev S4352x1024 : Shape := ⟨2, ![4352, 1024]⟩
abbrev S1x1x4352x704 : Shape := ⟨4, ![1, 1, 4352, 704]⟩
abbrev S1x1x1024x704 : Shape := ⟨4, ![1, 1, 1024, 704]⟩
abbrev S4352x704 : Shape := ⟨2, ![4352, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2x8x4352x704, .bf16⟩
  | .hbm, ⟨2, _⟩ => ⟨S8x2x2048x704, .bf16⟩
  | .local _ .vmem, ⟨0, _⟩ => ⟨S4352x1024, .bf16⟩
  | .local _ .vmem, ⟨1, _⟩ => ⟨S4352x1024, .bf16⟩
  | .local _ .vmem, ⟨2, _⟩ => ⟨S1x1x4352x704, .bf16⟩
  | .local _ .vmem, ⟨3, _⟩ => ⟨S1x1x4352x704, .bf16⟩
  | .local _ .vmem, ⟨4, _⟩ => ⟨S1x1x1024x704, .bf16⟩
  | .local _ .vmem, ⟨5, _⟩ => ⟨S1x1x1024x704, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg2.toNat, c0_i32_10.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4352x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x2048 : Shape := ⟨2, ![4352, 2048]⟩
abbrev S2x8x4352x704 : Shape := ⟨4, ![2, 8, 4352, 704]⟩
abbrev S_ : Shape := ⟨0, ![]⟩
abbrev S8x2048x704 : Shape := ⟨3, ![8, 2048, 704]⟩
abbrev S8x704x4352 : Shape := ⟨3, ![8, 704, 4352]⟩
abbrev S8x4352x704 : Shape := ⟨3, ![8, 4352, 704]⟩
abbrev S1x8x4352x704 : Shape := ⟨4, ![1, 8, 4352, 704]⟩
abbrev S8x704x2048 : Shape := ⟨3, ![8, 704, 2048]⟩
abbrev S8x1x2048x704 : Shape := ⟨4, ![8, 1, 2048, 704]⟩
abbrev S8x2x2048x704 : Shape := ⟨4, ![8, 2, 2048, 704]⟩

abbrev nBuf : Space → Nat
  | .hbm => 24
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2x8x4352x704, .bf16⟩
  | .hbm, ⟨2, _⟩ => ⟨S4352x2048, .f32⟩
  | .hbm, ⟨3, _⟩ => ⟨S2x8x4352x704, .f32⟩
  | .hbm, ⟨4, _⟩ => ⟨S_, .f32⟩
  | .hbm, ⟨5, _⟩ => ⟨S8x2048x704, .f32⟩
  | .hbm, ⟨6, _⟩ => ⟨S8x704x4352, .f32⟩
  | .hbm, ⟨7, _⟩ => ⟨S8x4352x704, .f32⟩
  | .hbm, ⟨8, _⟩ => ⟨S8x704x4352, .f32⟩
  | .hbm, ⟨9, _⟩ => ⟨S8x4352x704, .f32⟩
  | .hbm, ⟨10, _⟩ => ⟨S1x8x4352x704, .f32⟩
  | .hbm, ⟨11, _⟩ => ⟨S8x4352x704, .f32⟩
  | .hbm, ⟨12, _⟩ => ⟨S1x8x4352x704, .f32⟩
  | .hbm, ⟨13, _⟩ => ⟨S8x4352x704, .f32⟩
  | .hbm, ⟨14, _⟩ => ⟨S8x704x4352, .f32⟩
  | .hbm, ⟨15, _⟩ => ⟨S8x704x2048, .f32⟩
  | .hbm, ⟨16, _⟩ => ⟨S8x2048x704, .f32⟩
  | .hbm, ⟨17, _⟩ => ⟨S8x704x4352, .f32⟩
  | .hbm, ⟨18, _⟩ => ⟨S8x704x2048, .f32⟩
  | .hbm, ⟨19, _⟩ => ⟨S8x2048x704, .f32⟩
  | .hbm, ⟨20, _⟩ => ⟨S8x1x2048x704, .f32⟩
  | .hbm, ⟨21, _⟩ => ⟨S8x1x2048x704, .f32⟩
  | .hbm, ⟨22, _⟩ => ⟨S8x2x2048x704, .f32⟩
  | .hbm, ⟨23, _⟩ => ⟨S8x2x2048x704, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Kernel5.lean ====
abbrev S4352x2048 : Shape := ⟨2, ![4352, 2048]⟩
abbrev S8x2x2048x704 : Shape := ⟨4, ![8, 2, 2048, 704]⟩
abbrev S8x1x2048x704 : Shape := ⟨4, ![8, 1, 2048, 704]⟩
abbrev S8x2048x704 : Shape := ⟨3, ![8, 2048, 704]⟩
abbrev S8x704x4352 : Shape := ⟨3, ![8, 704, 4352]⟩
abbrev S8x4352x704 : Shape := ⟨3, ![8, 4352, 704]⟩
abbrev S_ : Shape := ⟨0, ![]⟩
abbrev S8x704x2048 : Shape := ⟨3, ![8, 704, 2048]⟩
abbrev S1x4352x704 : Shape := ⟨3, ![1, 4352, 704]⟩
abbrev S4352x1024 : Shape := ⟨2, ![4352, 1024]⟩
abbrev S1x704x1024 : Shape := ⟨3, ![1, 704, 1024]⟩
abbrev S4352x704 : Shape := ⟨2, ![4352, 704]⟩
abbrev S704x1024 : Shape := ⟨2, ![704, 1024]⟩

abbrev nBuf : Space → Nat
  | .hbm => 26
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S8x2x2048x704, .bf16⟩
  | .hbm, ⟨2, _⟩ => ⟨S4352x2048, .bf16⟩
  | .hbm, ⟨3, _⟩ => ⟨S4352x2048, .f32⟩
  | .hbm, ⟨4, _⟩ => ⟨S8x1x2048x704, .bf16⟩
  | .hbm, ⟨5, _⟩ => ⟨S8x2048x704, .bf16⟩
  | .hbm, ⟨6, _⟩ => ⟨S8x2048x704, .f32⟩
  | .hbm, ⟨7, _⟩ => ⟨S8x1x2048x704, .bf16⟩
  | .hbm, ⟨8, _⟩ => ⟨S8x2048x704, .bf16⟩
  | .hbm, ⟨9, _⟩ => ⟨S8x2048x704, .f32⟩
  | .hbm, ⟨10, _⟩ => ⟨S8x704x4352, .f32⟩
  | .hbm, ⟨11, _⟩ => ⟨S8x4352x704, .f32⟩
  | .hbm, ⟨12, _⟩ => ⟨S8x704x4352, .f32⟩
  | .hbm, ⟨13, _⟩ => ⟨S8x4352x704, .f32⟩
  | .hbm, ⟨14, _⟩ => ⟨S8x4352x704, .f32⟩
  | .hbm, ⟨15, _⟩ => ⟨S8x4352x704, .f32⟩
  | .hbm, ⟨16, _⟩ => ⟨S_, .f32⟩
  | .hbm, ⟨17, _⟩ => ⟨S8x4352x704, .f32⟩
  | .hbm, ⟨18, _⟩ => ⟨S8x4352x704, .f32⟩
  | .hbm, ⟨19, _⟩ => ⟨S_, .f32⟩
  | .hbm, ⟨20, _⟩ => ⟨S8x4352x704, .f32⟩
  | .hbm, ⟨21, _⟩ => ⟨S8x4352x704, .f32⟩
  | .hbm, ⟨22, _⟩ => ⟨S8x4352x704, .f32⟩
  | .hbm, ⟨23, _⟩ => ⟨S8x4352x704, .f32⟩
  | .hbm, ⟨24, _⟩ => ⟨S8x4352x704, .bf16⟩
  | .hbm, ⟨25, _⟩ => ⟨S8x704x2048, .bf16⟩
  | .local _ .vmem, ⟨0, _⟩ => ⟨S1x4352x704, .bf16⟩
  | .local _ .vmem, ⟨1, _⟩ => ⟨S1x4352x704, .bf16⟩
  | .local _ .vmem, ⟨2, _⟩ => ⟨S4352x1024, .bf16⟩
  | .local _ .vmem, ⟨3, _⟩ => ⟨S4352x1024, .bf16⟩
  | .local _ .vmem, ⟨4, _⟩ => ⟨S1x704x1024, .bf16⟩
  | .local _ .vmem, ⟨5, _⟩ => ⟨S1x704x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4352x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x2048 : Shape := ⟨2, ![4352, 2048]⟩
abbrev S8x2x2048x704 : Shape := ⟨4, ![8, 2, 2048, 704]⟩
abbrev S8x1x2048x704 : Shape := ⟨4, ![8, 1, 2048, 704]⟩
abbrev S8x2048x704 : Shape := ⟨3, ![8, 2048, 704]⟩
abbrev S8x704x4352 : Shape := ⟨3, ![8, 704, 4352]⟩
abbrev S8x4352x704 : Shape := ⟨3, ![8, 4352, 704]⟩
abbrev S_ : Shape := ⟨0, ![]⟩
abbrev S8x704x2048 : Shape := ⟨3, ![8, 704, 2048]⟩
abbrev S2048x8x704 : Shape := ⟨3, ![2048, 8, 704]⟩

abbrev nBuf : Space → Nat
  | .hbm => 31
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2x2048x704, .bf16⟩
  | .hbm, ⟨2, _⟩ => ⟨S4352x2048, .bf16⟩
  | .hbm, ⟨3, _⟩ => ⟨S4352x2048, .f32⟩
  | .hbm, ⟨4, _⟩ => ⟨S8x1x2048x704, .bf16⟩
  | .hbm, ⟨5, _⟩ => ⟨S8x2048x704, .bf16⟩
  | .hbm, ⟨6, _⟩ => ⟨S8x2048x704, .f32⟩
  | .hbm, ⟨7, _⟩ => ⟨S8x1x2048x704, .bf16⟩
  | .hbm, ⟨8, _⟩ => ⟨S8x2048x704, .bf16⟩
  | .hbm, ⟨9, _⟩ => ⟨S8x2048x704, .f32⟩
  | .hbm, ⟨10, _⟩ => ⟨S8x704x4352, .f32⟩
  | .hbm, ⟨11, _⟩ => ⟨S8x4352x704, .f32⟩
  | .hbm, ⟨12, _⟩ => ⟨S8x704x4352, .f32⟩
  | .hbm, ⟨13, _⟩ => ⟨S8x4352x704, .f32⟩
  | .hbm, ⟨14, _⟩ => ⟨S_, .f32⟩
  | .hbm, ⟨15, _⟩ => ⟨S8x704x2048, .f32⟩
  | .hbm, ⟨16, _⟩ => ⟨S8x4352x704, .f32⟩
  | .hbm, ⟨17, _⟩ => ⟨S8x4352x704, .f32⟩
  | .hbm, ⟨18, _⟩ => ⟨S_, .f32⟩
  | .hbm, ⟨19, _⟩ => ⟨S8x4352x704, .f32⟩
  | .hbm, ⟨20, _⟩ => ⟨S8x4352x704, .f32⟩
  | .hbm, ⟨21, _⟩ => ⟨S_, .f32⟩
  | .hbm, ⟨22, _⟩ => ⟨S8x4352x704, .f32⟩
  | .hbm, ⟨23, _⟩ => ⟨S8x4352x704, .f32⟩
  | .hbm, ⟨24, _⟩ => ⟨S8x4352x704, .f32⟩
  | .hbm, ⟨25, _⟩ => ⟨S8x4352x704, .f32⟩
  | .hbm, ⟨26, _⟩ => ⟨S4352x2048, .f32⟩
  | .hbm, ⟨27, _⟩ => ⟨S4352x2048, .f32⟩
  | .hbm, ⟨28, _⟩ => ⟨S2048x8x704, .f32⟩
  | .hbm, ⟨29, _⟩ => ⟨S8x704x2048, .f32⟩
  | .hbm, ⟨30, _⟩ => ⟨S8x704x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Kernel6.lean ====
abbrev S4352x2048 : Shape := ⟨2, ![4352, 2048]⟩
abbrev S8x2x2048x704 : Shape := ⟨4, ![8, 2, 2048, 704]⟩
abbrev S8x4352x704 : Shape := ⟨3, ![8, 4352, 704]⟩
abbrev S1088x2048 : Shape := ⟨2, ![1088, 2048]⟩
abbrev S1x1x2048x704 : Shape := ⟨4, ![1, 1, 2048, 704]⟩
abbrev S1x1088x704 : Shape := ⟨3, ![1, 1088, 704]⟩
abbrev S2048x704 : Shape := ⟨2, ![2048, 704]⟩
abbrev S1088x704 : Shape := ⟨2, ![1088, 704]⟩

abbrev nBuf : Space → Nat
  | .hbm => 5
  | .vmem => 12
  | .smem => 0
  | _ => 0

abbrev bufTy : (tb : Table) → Fin (tcTables nBuf tb) → BufTy
  | .hbm, ⟨0, _⟩ => ⟨S4352x2048, .bf16⟩
  | .hbm, ⟨1, _⟩ => ⟨S8x2x2048x704, .bf16⟩
  | .hbm, ⟨2, _⟩ => ⟨S8x4352x704, .bf16⟩
  | .hbm, ⟨3, _⟩ => ⟨S8x4352x704, .bf16⟩
  | .hbm, ⟨4, _⟩ => ⟨S8x4352x704, .bf16⟩
  | .local _ .vmem, ⟨0, _⟩ => ⟨S1088x2048, .bf16⟩
  | .local _ .vmem, ⟨1, _⟩ => ⟨S1088x2048, .bf16⟩
  | .local _ .vmem, ⟨2, _⟩ => ⟨S1x1x2048x704, .bf16⟩
  | .local _ .vmem, ⟨3, _⟩ => ⟨S1x1x2048x704, .bf16⟩
  | .local _ .vmem, ⟨4, _⟩ => ⟨S1x1x2048x704, .bf16⟩
  | .local _ .vmem, ⟨5, _⟩ => ⟨S1x1x2048x704, .bf16⟩
  | .local _ .vmem, ⟨6, _⟩ => ⟨S1x1088x704, .bf16⟩
  | .local _ .vmem, ⟨7, _⟩ => ⟨S1x1088x704, .bf16⟩
  | .local _ .vmem, ⟨8, _⟩ => ⟨S1x1088x704, .bf16⟩
  | .local _ .vmem, ⟨9, _⟩ => ⟨S1x1088x704, .bf16⟩
  | .local _ .vmem, ⟨10, _⟩ => ⟨S1x1088x704, .bf16⟩
  | .local _ .vmem, ⟨11, _⟩ => ⟨S1x1088x704, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1088x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S4352x2048 : Shape := ⟨2, ![4352, 2048]⟩
abbrev S8x2x2048x704 : Shape := ⟨4, ![8, 2, 2048, 704]⟩
abbrev S8x1x2048x704 : Shape := ⟨4, ![8, 1, 2048, 704]⟩
abbrev S8x2048x704 : Shape := ⟨3, ![8, 2048, 704]⟩
abbrev S8x704x4352 : Shape := ⟨3, ![8, 704, 4352]⟩
abbrev S8x4352x704 : Shape := ⟨3, ![8, 4352, 704]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2x2048x704, .bf16⟩
  | .hbm, ⟨2, _⟩ => ⟨S4352x2048, .f32⟩
  | .hbm, ⟨3, _⟩ => ⟨S8x1x2048x704, .bf16⟩
  | .hbm, ⟨4, _⟩ => ⟨S8x2048x704, .bf16⟩
  | .hbm, ⟨5, _⟩ => ⟨S8x2048x704, .f32⟩
  | .hbm, ⟨6, _⟩ => ⟨S8x1x2048x704, .bf16⟩
  | .hbm, ⟨7, _⟩ => ⟨S8x2048x704, .bf16⟩
  | .hbm, ⟨8, _⟩ => ⟨S8x2048x704, .f32⟩
  | .hbm, ⟨9, _⟩ => ⟨S8x704x4352, .f32⟩
  | .hbm, ⟨10, _⟩ => ⟨S8x4352x704, .f32⟩
  | .hbm, ⟨11, _⟩ => ⟨S8x704x4352, .f32⟩
  | .hbm, ⟨12, _⟩ => ⟨S8x4352x704, .f32⟩
  | .hbm, ⟨13, _⟩ => ⟨S8x4352x704, .bf16⟩
  | .hbm, ⟨14, _⟩ => ⟨S8x4352x704, .bf16⟩
  | .hbm, ⟨15, _⟩ => ⟨S8x4352x704, .f32⟩
  | .hbm, ⟨16, _⟩ => ⟨S8x4352x704, .f32⟩
  | .hbm, ⟨17, _⟩ => ⟨S_, .f32⟩
  | .hbm, ⟨18, _⟩ => ⟨S8x4352x704, .f32⟩
  | .hbm, ⟨19, _⟩ => ⟨S8x4352x704, .f32⟩
  | .hbm, ⟨20, _⟩ => ⟨S_, .f32⟩
  | .hbm, ⟨21, _⟩ => ⟨S8x4352x704, .f32⟩
  | .hbm, ⟨22, _⟩ => ⟨S8x4352x704, .f32⟩
  | .hbm, ⟨23, _⟩ => ⟨S8x4352x704, .f32⟩
  | .hbm, ⟨24, _⟩ => ⟨S8x4352x704, .f32⟩
  | .hbm, ⟨25, _⟩ => ⟨S8x4352x704, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel7.lean ====
abbrev S4352x2048 : Shape := ⟨2, ![4352, 2048]⟩
abbrev S8x4352x704 : Shape := ⟨3, ![8, 4352, 704]⟩
abbrev S8x704x2048 : Shape := ⟨3, ![8, 704, 2048]⟩
abbrev S4x1088x704 : Shape := ⟨3, ![4, 1088, 704]⟩
abbrev S4x704x1024 : Shape := ⟨3, ![4, 704, 1024]⟩
abbrev S1088x1024 : Shape := ⟨2, ![1088, 1024]⟩
abbrev S1x1088x704 : Shape := ⟨3, ![1, 1088, 704]⟩
abbrev S1088x704 : Shape := ⟨2, ![1088, 704]⟩
abbrev S1x704x1024 : Shape := ⟨3, ![1, 704, 1024]⟩
abbrev S704x1024 : Shape := ⟨2, ![704, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S8x4352x704, .bf16⟩
  | .hbm, ⟨2, _⟩ => ⟨S8x704x2048, .bf16⟩
  | .hbm, ⟨3, _⟩ => ⟨S4352x2048, .f32⟩
  | .local _ .vmem, ⟨0, _⟩ => ⟨S4x1088x704, .bf16⟩
  | .local _ .vmem, ⟨1, _⟩ => ⟨S4x1088x704, .bf16⟩
  | .local _ .vmem, ⟨2, _⟩ => ⟨S4x704x1024, .bf16⟩
  | .local _ .vmem, ⟨3, _⟩ => ⟨S4x704x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v31 : BitVec 1 := Scalar.cmpi .eq arg2 c1_i32
  let v32 : BitVec 32 := Scalar.extui v31
  let c0_i32_28 : BitVec 32 := 0#32
  let v33 : BitVec 1 := Scalar.cmpi .ne v32 c0_i32_28
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1088x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4352x2048 : Shape := ⟨2, ![4352, 2048]⟩
abbrev S8x4352x704 : Shape := ⟨3, ![8, 4352, 704]⟩
abbrev S8x704x2048 : Shape := ⟨3, ![8, 704, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S8x4352x704, .bf16⟩
  | .hbm, ⟨2, _⟩ => ⟨S8x704x2048, .bf16⟩
  | .hbm, ⟨3, _⟩ => ⟨S8x4352x704, .f32⟩
  | .hbm, ⟨4, _⟩ => ⟨S8x704x2048, .f32⟩
  | .hbm, ⟨5, _⟩ => ⟨S4352x2048, .f32⟩
  | .hbm, ⟨6, _⟩ => ⟨S_, .f32⟩
  | .hbm, ⟨7, _⟩ => ⟨S4352x2048, .f32⟩
  | .hbm, ⟨8, _⟩ => ⟨S4352x2048, .f32⟩
  | .hbm, ⟨9, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S4352x2048 : Shape := ⟨2, ![4352, 2048]⟩
abbrev S2048x2176 : Shape := ⟨2, ![2048, 2176]⟩
abbrev S4352x2176 : Shape := ⟨2, ![4352, 2176]⟩
abbrev S544x2048 : Shape := ⟨2, ![544, 2048]⟩
abbrev S544x2176 : Shape := ⟨2, ![544, 2176]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x2176, .bf16⟩
  | .hbm, ⟨2, _⟩ => ⟨S4352x2176, .f32⟩
  | .local _ .vmem, ⟨0, _⟩ => ⟨S544x2048, .bf16⟩
  | .local _ .vmem, ⟨1, _⟩ => ⟨S544x2048, .bf16⟩
  | .local _ .vmem, ⟨2, _⟩ => ⟨S2048x2176, .bf16⟩
  | .local _ .vmem, ⟨3, _⟩ => ⟨S544x2176, .f32⟩
  | .local _ .vmem, ⟨4, _⟩ => ⟨S544x2176, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S544x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x2048 : Shape := ⟨2, ![4352, 2048]⟩
abbrev S2048x2176 : Shape := ⟨2, ![2048, 2176]⟩
abbrev S4352x2176 : Shape := ⟨2, ![4352, 2176]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2176, .bf16⟩
  | .hbm, ⟨2, _⟩ => ⟨S4352x2048, .f32⟩
  | .hbm, ⟨3, _⟩ => ⟨S2048x2176, .f32⟩
  | .hbm, ⟨4, _⟩ => ⟨S4352x2176, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4352x2048 : Shape := ⟨2, ![4352, 2048]⟩
abbrev S2048x8192 : Shape := ⟨2, ![2048, 8192]⟩
abbrev S4352x8192 : Shape := ⟨2, ![4352, 8192]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S4352x8192, .bf16⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .bf16⟩
  | .local _ .vmem, ⟨5, _⟩ => ⟨S1088x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x2048 : Shape := ⟨2, ![4352, 2048]⟩
abbrev S2048x8192 : Shape := ⟨2, ![2048, 8192]⟩
abbrev S4352x8192 : Shape := ⟨2, ![4352, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x8192, .bf16⟩
  | .hbm, ⟨2, _⟩ => ⟨S4352x2048, .f32⟩
  | .hbm, ⟨3, _⟩ => ⟨S2048x8192, .f32⟩
  | .hbm, ⟨4, _⟩ => ⟨S4352x8192, .f32⟩
  | .hbm, ⟨5, _⟩ => ⟨S4352x8192, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S2048x2176 : Shape := ⟨2, ![2048, 2176]⟩
abbrev S4352x2176 : Shape := ⟨2, ![4352, 2176]⟩
abbrev S4352x2048 : Shape := ⟨2, ![4352, 2048]⟩
abbrev S1088x2176 : Shape := ⟨2, ![1088, 2176]⟩
abbrev S1024x2176 : Shape := ⟨2, ![1024, 2176]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2176, .bf16⟩
  | .hbm, ⟨1, _⟩ => ⟨S4352x2176, .bf16⟩
  | .hbm, ⟨2, _⟩ => ⟨S4352x2048, .f32⟩
  | .local _ .vmem, ⟨0, _⟩ => ⟨S1088x2176, .bf16⟩
  | .local _ .vmem, ⟨1, _⟩ => ⟨S1088x2176, .bf16⟩
  | .local _ .vmem, ⟨2, _⟩ => ⟨S1024x2176, .bf16⟩
  | .local _ .vmem, ⟨3, _⟩ => ⟨S1024x2176, .bf16⟩
  | .local _ .vmem, ⟨4, _⟩ => ⟨S1088x1024, .f32⟩
  | .local _ .vmem, ⟨5, _⟩ => ⟨S1088x1024, .f32⟩
  | _, _ => ⟨S2048x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2176 : Shape := ⟨2, ![2048, 2176]⟩
abbrev S4352x2176 : Shape := ⟨2, ![4352, 2176]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2176, .bf16⟩
  | .hbm, ⟨1, _⟩ => ⟨S4352x2176, .bf16⟩
  | .hbm, ⟨2, _⟩ => ⟨S_, .f32⟩
  | .hbm, ⟨3, _⟩ => ⟨S4352x2048, .f32⟩
  | .hbm, ⟨4, _⟩ => ⟨S2048x2176, .f32⟩
  | .hbm, ⟨5, _⟩ => ⟨S4352x2176, .f32⟩
  | .hbm, ⟨6, _⟩ => ⟨S4352x2176, .f32⟩
  | .hbm, ⟨7, _⟩ => ⟨S4352x2048, .f32⟩
  | _, _ => ⟨S2048x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4352x2048 : Shape := ⟨2, ![4352, 2048]⟩
abbrev S4352x2176 : Shape := ⟨2, ![4352, 2176]⟩
abbrev S2048x2176 : Shape := ⟨2, ![2048, 2176]⟩
abbrev S544x1024 : Shape := ⟨2, ![544, 1024]⟩
abbrev S544x2176 : Shape := ⟨2, ![544, 2176]⟩
abbrev S1024x2176 : Shape := ⟨2, ![1024, 2176]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2176, .bf16⟩
  | .hbm, ⟨2, _⟩ => ⟨S2048x2176, .bf16⟩
  | .local _ .vmem, ⟨0, _⟩ => ⟨S544x1024, .bf16⟩
  | .local _ .vmem, ⟨1, _⟩ => ⟨S544x1024, .bf16⟩
  | .local _ .vmem, ⟨2, _⟩ => ⟨S544x2176, .bf16⟩
  | .local _ .vmem, ⟨3, _⟩ => ⟨S544x2176, .bf16⟩
  | .local _ .vmem, ⟨4, _⟩ => ⟨S1024x2176, .bf16⟩
  | .local _ .vmem, ⟨5, _⟩ => ⟨S1024x2176, .bf16⟩
  | .local _ .vmem, ⟨6, _⟩ => ⟨S1024x2176, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x2048 : Shape := ⟨2, ![4352, 2048]⟩
abbrev S4352x2176 : Shape := ⟨2, ![4352, 2176]⟩
abbrev S_ : Shape := ⟨0, ![]⟩
abbrev S2048x2176 : Shape := ⟨2, ![2048, 2176]⟩
abbrev S2176x2048 : Shape := ⟨2, ![2176, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2176, .bf16⟩
  | .hbm, ⟨2, _⟩ => ⟨S_, .f32⟩
  | .hbm, ⟨3, _⟩ => ⟨S2048x2176, .f32⟩
  | .hbm, ⟨4, _⟩ => ⟨S4352x2048, .f32⟩
  | .hbm, ⟨5, _⟩ => ⟨S4352x2176, .f32⟩
  | .hbm, ⟨6, _⟩ => ⟨S4352x2176, .f32⟩
  | .hbm, ⟨7, _⟩ => ⟨S2176x2048, .f32⟩
  | .hbm, ⟨8, _⟩ => ⟨S2048x2176, .f32⟩
  | .hbm, ⟨9, _⟩ => ⟨S2048x2176, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x8192 : Shape := ⟨2, ![2048, 8192]⟩
abbrev S4352x8192 : Shape := ⟨2, ![4352, 8192]⟩
abbrev S4352x2048 : Shape := ⟨2, ![4352, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S4352x8192, .bf16⟩
  | .hbm, ⟨2, _⟩ => ⟨S4352x2048, .f32⟩
  | .hbm, ⟨3, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x8192 : Shape := ⟨2, ![2048, 8192]⟩
abbrev S4352x8192 : Shape := ⟨2, ![4352, 8192]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4352x8192, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x8192, .f32⟩
  | .hbm, ⟨6, _⟩ => ⟨S4352x8192, .f32⟩
  | .hbm, ⟨7, _⟩ => ⟨S4352x8192, .f32⟩
  | .hbm, ⟨8, _⟩ => ⟨S4352x2048, .f32⟩
  | .hbm, ⟨9, _⟩ => ⟨S4352x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S4352x2048 : Shape := ⟨2, ![4352, 2048]⟩
abbrev S4352x8192 : Shape := ⟨2, ![4352, 8192]⟩
abbrev S2048x8192 : Shape := ⟨2, ![2048, 8192]⟩
abbrev S4352x1024 : Shape := ⟨2, ![4352, 1024]⟩
abbrev S4352x512 : Shape := ⟨2, ![4352, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x8192, .bf16⟩
  | .hbm, ⟨2, _⟩ => ⟨S2048x8192, .bf16⟩
  | .local _ .vmem, ⟨0, _⟩ => ⟨S4352x1024, .bf16⟩
  | .local _ .vmem, ⟨1, _⟩ => ⟨S4352x1024, .bf16⟩
  | .local _ .vmem, ⟨2, _⟩ => ⟨S4352x512, .bf16⟩
  | .local _ .vmem, ⟨3, _⟩ => ⟨S4352x512, .bf16⟩
  | .local _ .vmem, ⟨4, _⟩ => ⟨S1024x512, .bf16⟩
  | .local _ .vmem, ⟨5, _⟩ => ⟨S1024x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4352x2048 : Shape := ⟨2, ![4352, 2048]⟩
abbrev S4352x8192 : Shape := ⟨2, ![4352, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x8192, .bf16⟩
  | .hbm, ⟨2, _⟩ => ⟨S_, .f32⟩
  | .hbm, ⟨3, _⟩ => ⟨S2048x8192, .f32⟩
  | .hbm, ⟨4, _⟩ => ⟨S4352x2048, .f32⟩
  | .hbm, ⟨5, _⟩ => ⟨S4352x8192, .f32⟩
  | .hbm, ⟨6, _⟩ => ⟨S4352x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4352x2048 : Shape := ⟨2, ![4352, 2048]⟩
abbrev S2048x2048 : Shape := ⟨2, ![2048, 2048]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4352x2048 : Shape := ⟨2, ![4352, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S4352x2048, .f32⟩
  | .hbm, ⟨6, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S2048x2048 : Shape := ⟨2, ![2048, 2048]⟩
abbrev S4352x2048 : Shape := ⟨2, ![4352, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4352x2048, .bf16⟩
  | .hbm, ⟨2, _⟩ => ⟨S4352x2048, .bf16⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .bf16⟩
  | .local _ .vmem, ⟨5, _⟩ => ⟨S1088x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S4352x2048 : Shape := ⟨2, ![4352, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4352x2048, .bf16⟩
  | .hbm, ⟨2, _⟩ => ⟨S_, .f32⟩
  | .hbm, ⟨3, _⟩ => ⟨S4352x2048, .f32⟩
  | .hbm, ⟨4, _⟩ => ⟨S2048x2048, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S4352x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4352x2048 : Shape := ⟨2, ![4352, 2048]⟩
abbrev S2048x2048 : Shape := ⟨2, ![2048, 2048]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S_, .f32⟩
  | .hbm, ⟨3, _⟩ => ⟨S2048x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4352x1024 : Shape := ⟨2, ![4352, 1024]⟩
abbrev S8x1024x256 : Shape := ⟨3, ![8, 1024, 256]⟩
abbrev S4352x2048 : Shape := ⟨2, ![4352, 2048]⟩
abbrev S1088x1024 : Shape := ⟨2, ![1088, 1024]⟩
abbrev S1x1024x256 : Shape := ⟨3, ![1, 1024, 256]⟩
abbrev S1088x256 : Shape := ⟨2, ![1088, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S8x1024x256, .bf16⟩
  | .hbm, ⟨2, _⟩ => ⟨S4352x2048, .bf16⟩
  | .local _ .vmem, ⟨0, _⟩ => ⟨S1088x1024, .bf16⟩
  | .local _ .vmem, ⟨1, _⟩ => ⟨S1088x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1088x256, .bf16⟩
  | .local _ .vmem, ⟨5, _⟩ => ⟨S1088x256, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1088x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4352x1024 : Shape := ⟨2, ![4352, 1024]⟩
abbrev S8x1024x256 : Shape := ⟨3, ![8, 1024, 256]⟩
abbrev S4352x8x256 : Shape := ⟨3, ![4352, 8, 256]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S8x1024x256, .bf16⟩
  | .hbm, ⟨2, _⟩ => ⟨S4352x1024, .f32⟩
  | .hbm, ⟨3, _⟩ => ⟨S8x1024x256, .f32⟩
  | .hbm, ⟨4, _⟩ => ⟨S4352x8x256, .f32⟩
  | .hbm, ⟨5, _⟩ => ⟨S4352x2048, .f32⟩
  | .hbm, ⟨6, _⟩ => ⟨S4352x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S8x1024x256 : Shape := ⟨3, ![8, 1024, 256]⟩
abbrev S4352x2048 : Shape := ⟨2, ![4352, 2048]⟩
abbrev S4352x1024 : Shape := ⟨2, ![4352, 1024]⟩
abbrev S1088x256 : Shape := ⟨2, ![1088, 256]⟩
abbrev S1x512x256 : Shape := ⟨3, ![1, 512, 256]⟩
abbrev S1088x512 : Shape := ⟨2, ![1088, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8x1024x256, .bf16⟩
  | .hbm, ⟨1, _⟩ => ⟨S4352x2048, .bf16⟩
  | .hbm, ⟨2, _⟩ => ⟨S4352x1024, .bf16⟩
  | .local _ .vmem, ⟨0, _⟩ => ⟨S1088x256, .bf16⟩
  | .local _ .vmem, ⟨1, _⟩ => ⟨S1088x256, .bf16⟩
  | .local _ .vmem, ⟨2, _⟩ => ⟨S1x512x256, .bf16⟩
  | .local _ .vmem, ⟨3, _⟩ => ⟨S1x512x256, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8x1024x256 : Shape := ⟨3, ![8, 1024, 256]⟩
abbrev S4352x2048 : Shape := ⟨2, ![4352, 2048]⟩
abbrev S_ : Shape := ⟨0, ![]⟩
abbrev S4352x1024 : Shape := ⟨2, ![4352, 1024]⟩
abbrev S4352x8x256 : Shape := ⟨3, ![4352, 8, 256]⟩

abbrev nBuf : Space → Nat
  | .hbm => 11
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S4352x2048, .bf16⟩
  | .hbm, ⟨2, _⟩ => ⟨S_, .f32⟩
  | .hbm, ⟨3, _⟩ => ⟨S4352x1024, .f32⟩
  | .hbm, ⟨4, _⟩ => ⟨S8x1024x256, .f32⟩
  | .hbm, ⟨5, _⟩ => ⟨S4352x8x256, .f32⟩
  | .hbm, ⟨6, _⟩ => ⟨S4352x2048, .f32⟩
  | .hbm, ⟨7, _⟩ => ⟨S4352x2048, .f32⟩
  | .hbm, ⟨8, _⟩ => ⟨S4352x8x256, .f32⟩
  | .hbm, ⟨9, _⟩ => ⟨S4352x1024, .f32⟩
  | .hbm, ⟨10, _⟩ => ⟨S4352x1024, .bf16⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S4352x1024 : Shape := ⟨2, ![4352, 1024]⟩
abbrev S4352x2048 : Shape := ⟨2, ![4352, 2048]⟩
abbrev S8x1024x256 : Shape := ⟨3, ![8, 1024, 256]⟩
abbrev S4352x512 : Shape := ⟨2, ![4352, 512]⟩
abbrev S4352x256 : Shape := ⟨2, ![4352, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S8x1024x256, .bf16⟩
  | .local _ .vmem, ⟨0, _⟩ => ⟨S4352x512, .bf16⟩
  | .local _ .vmem, ⟨1, _⟩ => ⟨S4352x512, .bf16⟩
  | .local _ .vmem, ⟨2, _⟩ => ⟨S4352x256, .bf16⟩
  | .local _ .vmem, ⟨3, _⟩ => ⟨S4352x256, .bf16⟩
  | .local _ .vmem, ⟨4, _⟩ => ⟨S1x512x256, .bf16⟩
  | .local _ .vmem, ⟨5, _⟩ => ⟨S1x512x256, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4352x1024 : Shape := ⟨2, ![4352, 1024]⟩
abbrev S4352x2048 : Shape := ⟨2, ![4352, 2048]⟩
abbrev S_ : Shape := ⟨0, ![]⟩
abbrev S8x1024x256 : Shape := ⟨3, ![8, 1024, 256]⟩
abbrev S4352x8x256 : Shape := ⟨3, ![4352, 8, 256]⟩
abbrev S8x256x1024 : Shape := ⟨3, ![8, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S_, .f32⟩
  | .hbm, ⟨3, _⟩ => ⟨S8x1024x256, .f32⟩
  | .hbm, ⟨4, _⟩ => ⟨S4352x1024, .f32⟩
  | .hbm, ⟨5, _⟩ => ⟨S4352x8x256, .f32⟩
  | .hbm, ⟨6, _⟩ => ⟨S4352x2048, .f32⟩
  | .hbm, ⟨7, _⟩ => ⟨S4352x2048, .f32⟩
  | .hbm, ⟨8, _⟩ => ⟨S4352x8x256, .f32⟩
  | .hbm, ⟨9, _⟩ => ⟨S8x256x1024, .f32⟩
  | .hbm, ⟨10, _⟩ => ⟨S8x1024x256, .f32⟩
  | .hbm, ⟨11, _⟩ => ⟨S8x1024x256, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel20.lean ====
abbrev S8x2x2048x704 : Shape := ⟨4, ![8, 2, 2048, 704]⟩
abbrev S2048x704 : Shape := ⟨2, ![2048, 704]⟩
abbrev S8x1x128x704 : Shape := ⟨4, ![8, 1, 128, 704]⟩
abbrev S128x704 : Shape := ⟨2, ![128, 704]⟩
abbrev S1x1x128x704 : Shape := ⟨4, ![1, 1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x1x128x704, .bf16⟩
  | .local _ .vmem, ⟨1, _⟩ => ⟨S8x1x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x2x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x2x2048x704 : Shape := ⟨4, ![8, 2, 2048, 704]⟩
abbrev S2048x704 : Shape := ⟨2, ![2048, 704]⟩
abbrev S8x1x2048x704 : Shape := ⟨4, ![8, 1, 2048, 704]⟩
abbrev S8x2048x704 : Shape := ⟨3, ![8, 2048, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x2x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x1x2048x704, .bf16⟩
  | .hbm, ⟨5, _⟩ => ⟨S8x2048x704, .bf16⟩
  | .hbm, ⟨6, _⟩ => ⟨S8x2048x704, .f32⟩
  | .hbm, ⟨7, _⟩ => ⟨S_, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S_, .f32⟩
  | .hbm, ⟨21, _⟩ => ⟨S2048x704, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S2048x704, .f32⟩
  | .hbm, ⟨31, _⟩ => ⟨S_, .f32⟩
  | .hbm, ⟨32, _⟩ => ⟨S2048x704, .f32⟩
  | .hbm, ⟨33, _⟩ => ⟨S2048x704, .f32⟩
  | .hbm, ⟨34, _⟩ => ⟨S2048x704, .f32⟩
  | .hbm, ⟨35, _⟩ => ⟨S_, .f32⟩
  | .hbm, ⟨36, _⟩ => ⟨S2048x704, .f32⟩
  | .hbm, ⟨37, _⟩ => ⟨S2048x704, .f32⟩
  | .hbm, ⟨38, _⟩ => ⟨S2048x704, .f32⟩
  | .hbm, ⟨39, _⟩ => ⟨S_, .f32⟩
  | .hbm, ⟨40, _⟩ => ⟨S2048x704, .f32⟩
  | .hbm, ⟨41, _⟩ => ⟨S2048x704, .f32⟩
  | _, _ => ⟨S8x2x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel21.lean ====
abbrev S8x2x2048x704 : Shape := ⟨4, ![8, 2, 2048, 704]⟩
abbrev S2048x704 : Shape := ⟨2, ![2048, 704]⟩
abbrev S8x1x128x704 : Shape := ⟨4, ![8, 1, 128, 704]⟩
abbrev S128x704 : Shape := ⟨2, ![128, 704]⟩
abbrev S1x1x128x704 : Shape := ⟨4, ![1, 1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x1x128x704, .bf16⟩
  | .local _ .vmem, ⟨1, _⟩ => ⟨S8x1x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x2x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x2x2048x704 : Shape := ⟨4, ![8, 2, 2048, 704]⟩
abbrev S2048x704 : Shape := ⟨2, ![2048, 704]⟩
abbrev S8x1x2048x704 : Shape := ⟨4, ![8, 1, 2048, 704]⟩
abbrev S8x2048x704 : Shape := ⟨3, ![8, 2048, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x2x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x1x2048x704, .bf16⟩
  | .hbm, ⟨5, _⟩ => ⟨S8x2048x704, .bf16⟩
  | .hbm, ⟨6, _⟩ => ⟨S8x2048x704, .f32⟩
  | .hbm, ⟨7, _⟩ => ⟨S_, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S_, .f32⟩
  | .hbm, ⟨21, _⟩ => ⟨S2048x704, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S2048x704, .f32⟩
  | .hbm, ⟨31, _⟩ => ⟨S_, .f32⟩
  | .hbm, ⟨32, _⟩ => ⟨S2048x704, .f32⟩
  | .hbm, ⟨33, _⟩ => ⟨S2048x704, .f32⟩
  | .hbm, ⟨34, _⟩ => ⟨S2048x704, .f32⟩
  | .hbm, ⟨35, _⟩ => ⟨S_, .f32⟩
  | .hbm, ⟨36, _⟩ => ⟨S2048x704, .f32⟩
  | .hbm, ⟨37, _⟩ => ⟨S2048x704, .f32⟩
  | .hbm, ⟨38, _⟩ => ⟨S2048x704, .f32⟩
  | .hbm, ⟨39, _⟩ => ⟨S_, .f32⟩
  | .hbm, ⟨40, _⟩ => ⟨S2048x704, .f32⟩
  | .hbm, ⟨41, _⟩ => ⟨S2048x704, .f32⟩
  | _, _ => ⟨S8x2x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel22.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x2048x1281 : Shape := ⟨3, ![8, 2048, 1281]⟩
abbrev S2048x1281 : Shape := ⟨2, ![2048, 1281]⟩
abbrev S8x64x1281 : Shape := ⟨3, ![8, 64, 1281]⟩
abbrev S64x1281 : Shape := ⟨2, ![64, 1281]⟩
abbrev S1x64x1281 : Shape := ⟨3, ![1, 64, 1281]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1281, .bf16⟩
  | .hbm, ⟨1, _⟩ => ⟨S2048x1281, .f32⟩
  | .hbm, ⟨2, _⟩ => ⟨S2048x1281, .f32⟩
  | .hbm, ⟨3, _⟩ => ⟨S2048x1281, .f32⟩
  | .hbm, ⟨4, _⟩ => ⟨S2048x1281, .f32⟩
  | .hbm, ⟨5, _⟩ => ⟨S2048x1281, .f32⟩
  | .hbm, ⟨6, _⟩ => ⟨S2048x1281, .f32⟩
  | .hbm, ⟨7, _⟩ => ⟨S2048x1281, .f32⟩
  | .local _ .vmem, ⟨0, _⟩ => ⟨S8x64x1281, .bf16⟩
  | .local _ .vmem, ⟨1, _⟩ => ⟨S8x64x1281, .bf16⟩
  | .local _ .vmem, ⟨2, _⟩ => ⟨S64x1281, .f32⟩
  | .local _ .vmem, ⟨3, _⟩ => ⟨S64x1281, .f32⟩
  | .local _ .vmem, ⟨4, _⟩ => ⟨S64x1281, .f32⟩
  | .local _ .vmem, ⟨5, _⟩ => ⟨S64x1281, .f32⟩
  | .local _ .vmem, ⟨6, _⟩ => ⟨S64x1281, .f32⟩
  | .local _ .vmem, ⟨7, _⟩ => ⟨S64x1281, .f32⟩
  | .local _ .vmem, ⟨8, _⟩ => ⟨S64x1281, .f32⟩
  | .local _ .vmem, ⟨9, _⟩ => ⟨S64x1281, .f32⟩
  | .local _ .vmem, ⟨10, _⟩ => ⟨S64x1281, .f32⟩
  | .local _ .vmem, ⟨11, _⟩ => ⟨S64x1281, .f32⟩
  | .local _ .vmem, ⟨12, _⟩ => ⟨S64x1281, .f32⟩
  | .local _ .vmem, ⟨13, _⟩ => ⟨S64x1281, .f32⟩
  | .local _ .vmem, ⟨14, _⟩ => ⟨S64x1281, .f32⟩
  | .local _ .vmem, ⟨15, _⟩ => ⟨S64x1281, .f32⟩
  | _, _ => ⟨S8x2048x1281, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1281 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1281 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1281 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1281 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1281 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1281 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1281 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1281 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x2048x1281 : Shape := ⟨3, ![8, 2048, 1281]⟩
abbrev S2048x1281 : Shape := ⟨2, ![2048, 1281]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1281, .bf16⟩
  | .hbm, ⟨1, _⟩ => ⟨S2048x1281, .f32⟩
  | .hbm, ⟨2, _⟩ => ⟨S2048x1281, .f32⟩
  | .hbm, ⟨3, _⟩ => ⟨S2048x1281, .f32⟩
  | .hbm, ⟨4, _⟩ => ⟨S8x2048x1281, .f32⟩
  | .hbm, ⟨5, _⟩ => ⟨S_, .f32⟩
  | .hbm, ⟨6, _⟩ => ⟨S2048x1281, .f32⟩
  | .hbm, ⟨7, _⟩ => ⟨S_, .f32⟩
  | .hbm, ⟨8, _⟩ => ⟨S2048x1281, .f32⟩
  | .hbm, ⟨9, _⟩ => ⟨S2048x1281, .f32⟩
  | .hbm, ⟨10, _⟩ => ⟨S_, .f32⟩
  | .hbm, ⟨11, _⟩ => ⟨S2048x1281, .f32⟩
  | .hbm, ⟨12, _⟩ => ⟨S2048x1281, .f32⟩
  | .hbm, ⟨13, _⟩ => ⟨S2048x1281, .f32⟩
  | .hbm, ⟨14, _⟩ => ⟨S_, .f32⟩
  | .hbm, ⟨15, _⟩ => ⟨S2048x1281, .f32⟩
  | .hbm, ⟨16, _⟩ => ⟨S2048x1281, .f32⟩
  | .hbm, ⟨17, _⟩ => ⟨S2048x1281, .f32⟩
  | .hbm, ⟨18, _⟩ => ⟨S_, .f32⟩
  | .hbm, ⟨19, _⟩ => ⟨S2048x1281, .f32⟩
  | .hbm, ⟨20, _⟩ => ⟨S2048x1281, .f32⟩
  | .hbm, ⟨21, _⟩ => ⟨S2048x1281, .f32⟩
  | .hbm, ⟨22, _⟩ => ⟨S_, .f32⟩
  | .hbm, ⟨23, _⟩ => ⟨S2048x1281, .f32⟩
  | .hbm, ⟨24, _⟩ => ⟨S2048x1281, .f32⟩
  | .hbm, ⟨25, _⟩ => ⟨S_, .f32⟩
  | .hbm, ⟨26, _⟩ => ⟨S2048x1281, .f32⟩
  | .hbm, ⟨27, _⟩ => ⟨S2048x1281, .f32⟩
  | .hbm, ⟨28, _⟩ => ⟨S2048x1281, .f32⟩
  | .hbm, ⟨29, _⟩ => ⟨S_, .f32⟩
  | .hbm, ⟨30, _⟩ => ⟨S2048x1281, .f32⟩
  | .hbm, ⟨31, _⟩ => ⟨S2048x1281, .f32⟩
  | .hbm, ⟨32, _⟩ => ⟨S2048x1281, .f32⟩
  | .hbm, ⟨33, _⟩ => ⟨S_, .f32⟩
  | .hbm, ⟨34, _⟩ => ⟨S2048x1281, .f32⟩
  | .hbm, ⟨35, _⟩ => ⟨S2048x1281, .f32⟩
  | .hbm, ⟨36, _⟩ => ⟨S2048x1281, .f32⟩
  | .hbm, ⟨37, _⟩ => ⟨S_, .f32⟩
  | .hbm, ⟨38, _⟩ => ⟨S2048x1281, .f32⟩
  | .hbm, ⟨39, _⟩ => ⟨S2048x1281, .f32⟩
  | _, _ => ⟨S8x2048x1281, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x1024x256 : Shape := ⟨3, ![8, 1024, 256]⟩
abbrev S1024x256 : Shape := ⟨2, ![1024, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x512x256, .bf16⟩
  | .local _ .vmem, ⟨1, _⟩ => ⟨S8x512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference26Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference27Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference28Ideal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference29Ideal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S4352x2048 : Shape := ⟨2, ![4352, 2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S4352x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference30Ideal.lean ====
abbrev S4352x2048 : Shape := ⟨2, ![4352, 2048]⟩
abbrev S1x2048 : Shape := ⟨2, ![1, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S4352x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel31.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩

abbrev nBuf : Space → Nat
  | .hbm => 18
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x1, .f32⟩
  | .hbm, ⟨13, _⟩ => ⟨S4352x2048, .f32⟩
  | .hbm, ⟨14, _⟩ => ⟨S4352x2048, .f32⟩
  | .hbm, ⟨15, _⟩ => ⟨S4352x2048, .f32⟩
  | .hbm, ⟨16, _⟩ => ⟨S4352x2048, .f32⟩
  | .hbm, ⟨17, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel32.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S4352x2048, .f32⟩
  | .hbm, ⟨4, _⟩ => ⟨S4352x2048, .f32⟩
  | .hbm, ⟨5, _⟩ => ⟨S4352x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference32Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩
abbrev S2048 : Shape := ⟨1, ![2048]⟩

abbrev nBuf : Space → Nat
  | .hbm => 51
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S4352x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S_, .f32⟩
  | .hbm, ⟨31, _⟩ => ⟨S4352, .f32⟩
  | .hbm, ⟨32, _⟩ => ⟨S4352x1, .f32⟩
  | .hbm, ⟨33, _⟩ => ⟨S4352x2048, .f32⟩
  | .hbm, ⟨34, _⟩ => ⟨S4352x2048, .f32⟩
  | .hbm, ⟨35, _⟩ => ⟨S4352x1, .f32⟩
  | .hbm, ⟨36, _⟩ => ⟨S_, .f32⟩
  | .hbm, ⟨37, _⟩ => ⟨S4352x1, .f32⟩
  | .hbm, ⟨38, _⟩ => ⟨S4352x1, .f32⟩
  | .hbm, ⟨39, _⟩ => ⟨S_, .f32⟩
  | .hbm, ⟨40, _⟩ => ⟨S4352, .f32⟩
  | .hbm, ⟨41, _⟩ => ⟨S4352x2048, .f32⟩
  | .hbm, ⟨42, _⟩ => ⟨S4352x2048, .f32⟩
  | .hbm, ⟨43, _⟩ => ⟨S4352x2048, .f32⟩
  | .hbm, ⟨44, _⟩ => ⟨S4352x2048, .f32⟩
  | .hbm, ⟨45, _⟩ => ⟨S4352x2048, .f32⟩
  | .hbm, ⟨46, _⟩ => ⟨S4352x2048, .f32⟩
  | .hbm, ⟨47, _⟩ => ⟨S_, .f32⟩
  | .hbm, ⟨48, _⟩ => ⟨S4352x2048, .f32⟩
  | .hbm, ⟨49, _⟩ => ⟨S4352x2048, .f32⟩
  | .hbm, ⟨50, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel33.lean ====
abbrev S4352x2048 : Shape := ⟨2, ![4352, 2048]⟩
abbrev S4352x8192 : Shape := ⟨2, ![4352, 8192]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x8192, .bf16⟩
  | .hbm, ⟨3, _⟩ => ⟨S4352x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference33Ideal.lean ====
abbrev S4352x2048 : Shape := ⟨2, ![4352, 2048]⟩
abbrev S4352x8192 : Shape := ⟨2, ![4352, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x8192, .bf16⟩
  | .hbm, ⟨3, _⟩ => ⟨S4352x2048, .bf16⟩
  | .hbm, ⟨4, _⟩ => ⟨S4352x2048, .bf16⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S4352x2048, .f32⟩
  | .hbm, ⟨9, _⟩ => ⟨S4352x2048, .f32⟩
  | .hbm, ⟨10, _⟩ => ⟨S4352x2048, .f32⟩
  | .hbm, ⟨11, _⟩ => ⟨S_, .f32⟩
  | .hbm, ⟨12, _⟩ => ⟨S4352x2048, .f32⟩
  | .hbm, ⟨13, _⟩ => ⟨S4352x2048, .f32⟩
  | .hbm, ⟨14, _⟩ => ⟨S_, .f32⟩
  | .hbm, ⟨15, _⟩ => ⟨S4352x2048, .f32⟩
  | .hbm, ⟨16, _⟩ => ⟨S4352x2048, .f32⟩
  | .hbm, ⟨17, _⟩ => ⟨S4352x2048, .f32⟩
  | .hbm, ⟨18, _⟩ => ⟨S4352x2048, .f32⟩
  | .hbm, ⟨19, _⟩ => ⟨S4352x2048, .f32⟩
  | .hbm, ⟨20, _⟩ => ⟨S_, .f32⟩
  | .hbm, ⟨21, _⟩ => ⟨S4352x2048, .f32⟩
  | .hbm, ⟨22, _⟩ => ⟨S4352x2048, .f32⟩
  | .hbm, ⟨23, _⟩ => ⟨S_, .f32⟩
  | .hbm, ⟨24, _⟩ => ⟨S4352x2048, .f32⟩
  | .hbm, ⟨25, _⟩ => ⟨S4352x2048, .f32⟩
  | .hbm, ⟨26, _⟩ => ⟨S4352x2048, .f32⟩
  | .hbm, ⟨27, _⟩ => ⟨S4352x2048, .f32⟩
  | .hbm, ⟨28, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel34.lean ====
abbrev S4352x2048 : Shape := ⟨2, ![4352, 2048]⟩
abbrev S4352x8192 : Shape := ⟨2, ![4352, 8192]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x8192, .bf16⟩
  | .hbm, ⟨3, _⟩ => ⟨S4352x2048, .bf16⟩
  | .hbm, ⟨4, _⟩ => ⟨S4352x2048, .bf16⟩
  | .hbm, ⟨5, _⟩ => ⟨S4352x2048, .bf16⟩
  | .hbm, ⟨6, _⟩ => ⟨S4352x2048, .bf16⟩
  | .hbm, ⟨7, _⟩ => ⟨S4352x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference34Ideal.lean ====
abbrev S4352x2048 : Shape := ⟨2, ![4352, 2048]⟩
abbrev S4352x8192 : Shape := ⟨2, ![4352, 8192]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x8192, .bf16⟩
  | .hbm, ⟨3, _⟩ => ⟨S4352x2048, .bf16⟩
  | .hbm, ⟨4, _⟩ => ⟨S4352x2048, .bf16⟩
  | .hbm, ⟨5, _⟩ => ⟨S4352x2048, .bf16⟩
  | .hbm, ⟨6, _⟩ => ⟨S4352x2048, .f32⟩
  | .hbm, ⟨7, _⟩ => ⟨S4352x2048, .f32⟩
  | .hbm, ⟨8, _⟩ => ⟨S4352x2048, .f32⟩
  | .hbm, ⟨9, _⟩ => ⟨S4352x2048, .f32⟩
  | .hbm, ⟨10, _⟩ => ⟨S4352x2048, .f32⟩
  | .hbm, ⟨11, _⟩ => ⟨S4352x2048, .f32⟩
  | .hbm, ⟨12, _⟩ => ⟨S_, .f32⟩
  | .hbm, ⟨13, _⟩ => ⟨S4352x2048, .f32⟩
  | .hbm, ⟨14, _⟩ => ⟨S4352x2048, .f32⟩
  | .hbm, ⟨15, _⟩ => ⟨S_, .f32⟩
  | .hbm, ⟨16, _⟩ => ⟨S4352x2048, .f32⟩
  | .hbm, ⟨17, _⟩ => ⟨S4352x2048, .f32⟩
  | .hbm, ⟨18, _⟩ => ⟨S_, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S4352x2048, .f32⟩
  | .hbm, ⟨25, _⟩ => ⟨S_, .f32⟩
  | .hbm, ⟨26, _⟩ => ⟨S4352x2048, .f32⟩
  | .hbm, ⟨27, _⟩ => ⟨S4352x2048, .f32⟩
  | .hbm, ⟨28, _⟩ => ⟨S_, .f32⟩
  | .hbm, ⟨29, _⟩ => ⟨S4352x2048, .f32⟩
  | .hbm, ⟨30, _⟩ => ⟨S4352x2048, .f32⟩
  | .hbm, ⟨31, _⟩ => ⟨S_, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S4352x2048, .f32⟩
  | .hbm, ⟨36, _⟩ => ⟨S4352x2048, .f32⟩
  | .hbm, ⟨37, _⟩ => ⟨S4352x2048, .bf16⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S4352x2048, .f32⟩
  | .hbm, ⟨42, _⟩ => ⟨S4352x2048, .f32⟩
  | .hbm, ⟨43, _⟩ => ⟨S4352x2048, .f32⟩
  | .hbm, ⟨44, _⟩ => ⟨S4352x2048, .f32⟩
  | .hbm, ⟨45, _⟩ => ⟨S4352x2048, .bf16⟩
  | .hbm, ⟨46, _⟩ => ⟨S4352x2048, .bf16⟩
  | .hbm, ⟨47, _⟩ => ⟨S4352x2048, .bf16⟩
  | .hbm, ⟨48, _⟩ => ⟨S4352x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel35.lean ====
abbrev S4352x2048 : Shape := ⟨2, ![4352, 2048]⟩
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S4096x2048, .f32⟩
  | .hbm, ⟨2, _⟩ => ⟨S4352x2048, .f32⟩
  | .hbm, ⟨3, _⟩ => ⟨S4352x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference35Ideal.lean ====
abbrev S4352x2048 : Shape := ⟨2, ![4352, 2048]⟩
abbrev S4096x2048 : Shape := ⟨2, ![4096, 2048]⟩
abbrev S_ : Shape := ⟨0, ![]⟩
abbrev S4096 : Shape := ⟨1, ![4096]⟩
abbrev S2048 : Shape := ⟨1, ![2048]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4352x2048, .f32⟩
  | .hbm, ⟨28, _⟩ => ⟨S_, .f32⟩
  | .hbm, ⟨29, _⟩ => ⟨S4352x2048, .f32⟩
  | .hbm, ⟨30, _⟩ => ⟨S4352x2048, .f32⟩
  | .hbm, ⟨31, _⟩ => ⟨S4352x2048, .bf16⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel36.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S4352x2048, .f32⟩
  | .hbm, ⟨4, _⟩ => ⟨S256x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S256x2048, .f32⟩
  | .local _ .vmem, ⟨5, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference36Ideal.lean ====
abbrev S4352x2048 : Shape := ⟨2, ![4352, 2048]⟩
abbrev S1x2048 : Shape := ⟨2, ![1, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S4352x2048, .f32⟩
  | .hbm, ⟨4, _⟩ => ⟨S256x2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S256x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel37.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S4352x2048, .f32⟩
  | .hbm, ⟨4, _⟩ => ⟨S4352x2048, .f32⟩
  | .hbm, ⟨5, _⟩ => ⟨S4352x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference37Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S1x2048, .f32⟩
  | .hbm, ⟨3, _⟩ => ⟨S4352x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S_, .f32⟩
  | .hbm, ⟨31, _⟩ => ⟨S4352, .f32⟩
  | .hbm, ⟨32, _⟩ => ⟨S4352x1, .f32⟩
  | .hbm, ⟨33, _⟩ => ⟨S4352x2048, .f32⟩
  | .hbm, ⟨34, _⟩ => ⟨S4352x2048, .f32⟩
  | .hbm, ⟨35, _⟩ => ⟨S4352x1, .f32⟩
  | .hbm, ⟨36, _⟩ => ⟨S_, .f32⟩
  | .hbm, ⟨37, _⟩ => ⟨S4352x1, .f32⟩
  | .hbm, ⟨38, _⟩ => ⟨S4352x1, .f32⟩
  | .hbm, ⟨39, _⟩ => ⟨S_, .f32⟩
  | .hbm, ⟨40, _⟩ => ⟨S4352, .f32⟩
  | .hbm, ⟨41, _⟩ => ⟨S4352x2048, .f32⟩
  | .hbm, ⟨42, _⟩ => ⟨S4352x2048, .f32⟩
  | .hbm, ⟨43, _⟩ => ⟨S4352x2048, .f32⟩
  | .hbm, ⟨44, _⟩ => ⟨S4352x2048, .f32⟩
  | .hbm, ⟨45, _⟩ => ⟨S4352x2048, .f32⟩
  | .hbm, ⟨46, _⟩ => ⟨S4352x2048, .f32⟩
  | .hbm, ⟨47, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel38.lean ====
abbrev S4352x128 : Shape := ⟨2, ![4352, 128]⟩
abbrev S256x128 : Shape := ⟨2, ![256, 128]⟩
abbrev S1x128 : Shape := ⟨2, ![1, 128]⟩
abbrev S256x256 : Shape := ⟨2, ![256, 256]⟩

abbrev nBuf : Space → Nat
  | .hbm => 2
  | .vmem => 5
  | .smem => 0
  | _ => 0

abbrev bufTy : (tb : Table) → Fin (tcTables nBuf tb) → BufTy
  | .hbm, ⟨0, _⟩ => ⟨S4352x128, .f32⟩
  | .hbm, ⟨1, _⟩ => ⟨S4352x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference38Ideal.lean ====
abbrev S4352x128 : Shape := ⟨2, ![4352, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S_, .f32⟩
  | .hbm, ⟨2, _⟩ => ⟨S_, .f32⟩
  | .hbm, ⟨3, _⟩ => ⟨S4352x128, .f32⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel39.lean ====
abbrev S4352x128 : Shape := ⟨2, ![4352, 128]⟩
abbrev S256x128 : Shape := ⟨2, ![256, 128]⟩
abbrev S1x128 : Shape := ⟨2, ![1, 128]⟩
abbrev S256x256 : Shape := ⟨2, ![256, 256]⟩

abbrev nBuf : Space → Nat
  | .hbm => 2
  | .vmem => 5
  | .smem => 0
  | _ => 0

abbrev bufTy : (tb : Table) → Fin (tcTables nBuf tb) → BufTy
  | .hbm, ⟨0, _⟩ => ⟨S4352x128, .f32⟩
  | .hbm, ⟨1, _⟩ => ⟨S4352x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference39Ideal.lean ====
abbrev S4352x128 : Shape := ⟨2, ![4352, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S_, .f32⟩
  | .hbm, ⟨2, _⟩ => ⟨S4352x128, .f32⟩
  | .hbm, ⟨3, _⟩ => ⟨S_, .f32⟩
  | .hbm, ⟨4, _⟩ => ⟨S_, .f32⟩
  | .hbm, ⟨5, _⟩ => ⟨S4352x128, .f32⟩
  | .hbm, ⟨6, _⟩ => ⟨S_, .f32⟩
  | .hbm, ⟨7, _⟩ => ⟨S_, .f32⟩
  | .hbm, ⟨8, _⟩ => ⟨S4352x128, .f32⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_call1_cst : Ref sig .tc := ⟨.hbm, 6, rfl⟩
abbrev main_call1_v0 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Kernel40.lean ====
abbrev S4352x2176 : Shape := ⟨2, ![4352, 2176]⟩
abbrev S1x1024 : Shape := ⟨2, ![1, 1024]⟩
abbrev S1x128 : Shape := ⟨2, ![1, 128]⟩
abbrev S4352x1024 : Shape := ⟨2, ![4352, 1024]⟩
abbrev S4352x128 : Shape := ⟨2, ![4352, 128]⟩
abbrev S256x2176 : Shape := ⟨2, ![256, 2176]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S4352x2176, .f32⟩
  | .hbm, ⟨1, _⟩ => ⟨S1x1024, .f32⟩
  | .hbm, ⟨2, _⟩ => ⟨S1x1024, .f32⟩
  | .hbm, ⟨3, _⟩ => ⟨S1x128, .f32⟩
  | .hbm, ⟨4, _⟩ => ⟨S4352x1024, .bf16⟩
  | .hbm, ⟨5, _⟩ => ⟨S4352x1024, .bf16⟩
  | .hbm, ⟨6, _⟩ => ⟨S4352x128, .f32⟩
  | .local _ .vmem, ⟨0, _⟩ => ⟨S256x2176, .f32⟩
  | .local _ .vmem, ⟨1, _⟩ => ⟨S256x2176, .f32⟩
  | .local _ .vmem, ⟨2, _⟩ => ⟨S1x1024, .f32⟩
  | .local _ .vmem, ⟨3, _⟩ => ⟨S1x1024, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x128, .f32⟩
  | .local _ .vmem, ⟨10, _⟩ => ⟨S256x128, .f32⟩
  | _, _ => ⟨S4352x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference40Ideal.lean ====
abbrev S4352x2176 : Shape := ⟨2, ![4352, 2176]⟩
abbrev S1x1024 : Shape := ⟨2, ![1, 1024]⟩
abbrev S1x128 : Shape := ⟨2, ![1, 128]⟩
abbrev S4352 : Shape := ⟨1, ![4352]⟩
abbrev S4352x1 : Shape := ⟨2, ![4352, 1]⟩
abbrev S128 : Shape := ⟨1, ![128]⟩
abbrev S4352x128 : Shape := ⟨2, ![4352, 128]⟩
abbrev S_ : Shape := ⟨0, ![]⟩
abbrev S4352x1024 : Shape := ⟨2, ![4352, 1024]⟩
abbrev S4352x8x128 : Shape := ⟨3, ![4352, 8, 128]⟩
abbrev S8x128 : Shape := ⟨2, ![8, 128]⟩
abbrev S4352x8 : Shape := ⟨2, ![4352, 8]⟩
abbrev S4352x8x1 : Shape := ⟨3, ![4352, 8, 1]⟩
abbrev S1x8x128 : Shape := ⟨3, ![1, 8, 128]⟩

abbrev nBuf : Space → Nat
  | .hbm => 82
  | .vmem => 0
  | .smem => 0
  | _ => 0

abbrev bufTy : (tb : Table) → Fin (tcTables nBuf tb) → BufTy
  | .hbm, ⟨0, _⟩ => ⟨S4352x2176, .f32⟩
  | .hbm, ⟨1, _⟩ => ⟨S1x1024, .f32⟩
  | .hbm, ⟨2, _⟩ => ⟨S1x1024, .f32⟩
  | .hbm, ⟨3, _⟩ => ⟨S1x128, .f32⟩
  | .hbm, ⟨4, _⟩ => ⟨S4352, .i32⟩
  | .hbm, ⟨5, _⟩ => ⟨S4352x1, .i32⟩
  | .hbm, ⟨6, _⟩ => ⟨S128, .i32⟩
  | .hbm, ⟨7, _⟩ => ⟨S1x128, .i32⟩
  | .hbm, ⟨8, _⟩ => ⟨S4352x128, .f32⟩
  | .hbm, ⟨9, _⟩ => ⟨S4352x128, .f32⟩
  | .hbm, ⟨10, _⟩ => ⟨S4352x128, .f32⟩
  | .hbm, ⟨11, _⟩ => ⟨S4352x128, .f32⟩
  | .hbm, ⟨12, _⟩ => ⟨S_, .f32⟩
  | .hbm, ⟨13, _⟩ => ⟨S4352x128, .f32⟩
  | .hbm, ⟨14, _⟩ => ⟨S4352x128, .f32⟩
  | .hbm, ⟨15, _⟩ => ⟨S4352x128, .f32⟩
  | .hbm, ⟨16, _⟩ => ⟨S4352x128, .f32⟩
  | .hbm, ⟨17, _⟩ => ⟨S4352x128, .i1⟩
  | .hbm, ⟨18, _⟩ => ⟨S4352x128, .f32⟩
  | .hbm, ⟨19, _⟩ => ⟨S4352x128, .f32⟩
  | .hbm, ⟨20, _⟩ => ⟨S4352x128, .f32⟩
  | .hbm, ⟨21, _⟩ => ⟨S4352x128, .f32⟩
  | .hbm, ⟨22, _⟩ => ⟨S4352x128, .f32⟩
  | .hbm, ⟨23, _⟩ => ⟨S4352x128, .f32⟩
  | .hbm, ⟨24, _⟩ => ⟨S4352x128, .f32⟩
  | .hbm, ⟨25, _⟩ => ⟨S4352x128, .f32⟩
  | .hbm, ⟨26, _⟩ => ⟨S4352x128, .f32⟩
  | .hbm, ⟨27, _⟩ => ⟨S4352x1024, .f32⟩
  | .hbm, ⟨28, _⟩ => ⟨S4352x8x128, .f32⟩
  | .hbm, ⟨29, _⟩ => ⟨S8x128, .f32⟩
  | .hbm, ⟨30, _⟩ => ⟨S4352x8x128, .f32⟩
  | .hbm, ⟨31, _⟩ => ⟨S_, .f32⟩
  | .hbm, ⟨32, _⟩ => ⟨S4352x8, .f32⟩
  | .hbm, ⟨33, _⟩ => ⟨S4352x8x1, .f32⟩
  | .hbm, ⟨34, _⟩ => ⟨S_, .f32⟩
  | .hbm, ⟨35, _⟩ => ⟨S4352x8x1, .f32⟩
  | .hbm, ⟨36, _⟩ => ⟨S4352x8x1, .f32⟩
  | .hbm, ⟨37, _⟩ => ⟨S_, .f32⟩
  | .hbm, ⟨38, _⟩ => ⟨S4352x8x1, .f32⟩
  | .hbm, ⟨39, _⟩ => ⟨S4352x8x1, .f32⟩
  | .hbm, ⟨40, _⟩ => ⟨S4352x8x1, .f32⟩
  | .hbm, ⟨41, _⟩ => ⟨S4352x8x128, .f32⟩
  | .hbm, ⟨42, _⟩ => ⟨S4352x8x128, .f32⟩
  | .hbm, ⟨43, _⟩ => ⟨S1x8x128, .f32⟩
  | .hbm, ⟨44, _⟩ => ⟨S4352x8x128, .f32⟩
  | .hbm, ⟨45, _⟩ => ⟨S4352x8x128, .f32⟩
  | .hbm, ⟨46, _⟩ => ⟨S4352x1024, .f32⟩
  | .hbm, ⟨47, _⟩ => ⟨S4352x1024, .bf16⟩
  | .hbm, ⟨48, _⟩ => ⟨S4352x1024, .f32⟩
  | .hbm, ⟨49, _⟩ => ⟨S4352x8x128, .f32⟩
  | .hbm, ⟨50, _⟩ => ⟨S8x128, .f32⟩
  | .hbm, ⟨51, _⟩ => ⟨S4352x8x128, .f32⟩
  | .hbm, ⟨52, _⟩ => ⟨S_, .f32⟩
  | .hbm, ⟨53, _⟩ => ⟨S4352x8, .f32⟩
  | .hbm, ⟨54, _⟩ => ⟨S4352x8x1, .f32⟩
  | .hbm, ⟨55, _⟩ => ⟨S_, .f32⟩
  | .hbm, ⟨56, _⟩ => ⟨S4352x8x1, .f32⟩
  | .hbm, ⟨57, _⟩ => ⟨S4352x8x1, .f32⟩
  | .hbm, ⟨58, _⟩ => ⟨S_, .f32⟩
  | .hbm, ⟨59, _⟩ => ⟨S4352x8x1, .f32⟩
  | .hbm, ⟨60, _⟩ => ⟨S4352x8x1, .f32⟩
  | .hbm, ⟨61, _⟩ => ⟨S4352x8x1, .f32⟩
  | .hbm, ⟨62, _⟩ => ⟨S4352x8x128, .f32⟩
  | .hbm, ⟨63, _⟩ => ⟨S4352x8x128, .f32⟩
  | .hbm, ⟨64, _⟩ => ⟨S1x8x128, .f32⟩
  | .hbm, ⟨65, _⟩ => ⟨S4352x8x128, .f32⟩
  | .hbm, ⟨66, _⟩ => ⟨S4352x8x128, .f32⟩
  | .hbm, ⟨67, _⟩ => ⟨S4352x1024, .f32⟩
  | .hbm, ⟨68, _⟩ => ⟨S4352x1024, .bf16⟩
  | .hbm, ⟨69, _⟩ => ⟨S_, .i32⟩
  | .hbm, ⟨70, _⟩ => ⟨S4352x1, .i32⟩
  | .hbm, ⟨71, _⟩ => ⟨S4352x1, .i1⟩
  | .hbm, ⟨72, _⟩ => ⟨S_, .i32⟩
  | .hbm, ⟨73, _⟩ => ⟨S1x128, .i32⟩
  | .hbm, ⟨74, _⟩ => ⟨S1x128, .i1⟩
  | .hbm, ⟨75, _⟩ => ⟨S4352x128, .i1⟩
  | .hbm, ⟨76, _⟩ => ⟨S4352x128, .i1⟩
  | .hbm, ⟨77, _⟩ => ⟨S4352x128, .i1⟩
  | .hbm, ⟨78, _⟩ => ⟨S_, .f32⟩
  | .hbm, ⟨79, _⟩ => ⟨S_, .f32⟩
  | .hbm, ⟨80, _⟩ => ⟨S4352x128, .f32⟩
  | .hbm, ⟨81, _⟩ => ⟨S4352x128, .f32⟩
  | _, _ => ⟨S4352x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c : Ref sig .tc := ⟨.hbm, 69, rfl⟩
abbrev main_v44 : Ref sig .tc := ⟨.hbm, 70, rfl⟩
abbrev main_v45 : Ref sig .tc := ⟨.hbm, 71, rfl⟩
abbrev main_c_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_call1_v0 : Ref sig .tc := ⟨.hbm, 79, rfl⟩
abbrev main_call1_v1 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== Kernel41.lean ====
abbrev S4352x2176 : Shape := ⟨2, ![4352, 2176]⟩
abbrev S4352x1024 : Shape := ⟨2, ![4352, 1024]⟩
abbrev S4352x128 : Shape := ⟨2, ![4352, 128]⟩
abbrev S1x1024 : Shape := ⟨2, ![1, 1024]⟩
abbrev S1x128 : Shape := ⟨2, ![1, 128]⟩
abbrev S256x2176 : Shape := ⟨2, ![256, 2176]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 11
  | .vmem => 16
  | .smem => 0
  | _ => 0

abbrev bufTy : (tb : Table) → Fin (tcTables nBuf tb) → BufTy
  | .hbm, ⟨0, _⟩ => ⟨S4352x2176, .f32⟩
  | .hbm, ⟨1, _⟩ => ⟨S4352x1024, .f32⟩
  | .hbm, ⟨2, _⟩ => ⟨S4352x1024, .f32⟩
  | .hbm, ⟨3, _⟩ => ⟨S4352x128, .f32⟩
  | .hbm, ⟨4, _⟩ => ⟨S1x1024, .f32⟩
  | .hbm, ⟨5, _⟩ => ⟨S1x1024, .f32⟩
  | .hbm, ⟨6, _⟩ => ⟨S1x128, .f32⟩
  | .hbm, ⟨7, _⟩ => ⟨S4352x2176, .bf16⟩
  | .hbm, ⟨8, _⟩ => ⟨S1x1024, .f32⟩
  | .hbm, ⟨9, _⟩ => ⟨S1x1024, .f32⟩
  | .hbm, ⟨10, _⟩ => ⟨S1x128, .f32⟩
  | .local _ .vmem, ⟨0, _⟩ => ⟨S256x2176, .f32⟩
  | .local _ .vmem, ⟨1, _⟩ => ⟨S256x2176, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S256x2176, .bf16⟩
  | .local _ .vmem, ⟨12, _⟩ => ⟨S256x2176, .bf16⟩
  | .local _ .vmem, ⟨13, _⟩ => ⟨S1x1024, .f32⟩
  | .local _ .vmem, ⟨14, _⟩ => ⟨S1x1024, .f32⟩
  | .local _ .vmem, ⟨15, _⟩ => ⟨S1x128, .f32⟩
  | _, _ => ⟨S4352x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2176 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference41Ideal.lean ====
abbrev S4352x2176 : Shape := ⟨2, ![4352, 2176]⟩
abbrev S4352x1024 : Shape := ⟨2, ![4352, 1024]⟩
abbrev S4352x128 : Shape := ⟨2, ![4352, 128]⟩
abbrev S1x1024 : Shape := ⟨2, ![1, 1024]⟩
abbrev S1x128 : Shape := ⟨2, ![1, 128]⟩
abbrev S4352x8x128 : Shape := ⟨3, ![4352, 8, 128]⟩
abbrev S8x128 : Shape := ⟨2, ![8, 128]⟩
abbrev S_ : Shape := ⟨0, ![]⟩
abbrev S4352x8 : Shape := ⟨2, ![4352, 8]⟩
abbrev S4352x8x1 : Shape := ⟨3, ![4352, 8, 1]⟩
abbrev S1x8x128 : Shape := ⟨3, ![1, 8, 128]⟩
abbrev S4352 : Shape := ⟨1, ![4352]⟩
abbrev S4352x1 : Shape := ⟨2, ![4352, 1]⟩
abbrev S128 : Shape := ⟨1, ![128]⟩

abbrev nBuf : Space → Nat
  | .hbm => 192
  | .vmem => 0
  | .smem => 0
  | _ => 0

abbrev hbmTy0_0 (i : Nat) : BufTy := match i % 128 with
  | 0 => ⟨S4352x2176, .f32⟩
  | 1 => ⟨S4352x1024, .f32⟩
  | 2 => ⟨S4352x1024, .f32⟩
  | 3 => ⟨S4352x128, .f32⟩
  | 4 => ⟨S1x1024, .f32⟩
  | 5 => ⟨S1x1024, .f32⟩
  | 6 => ⟨S1x128, .f32⟩
  | 7 => ⟨S4352x1024, .f32⟩
  | 8 => ⟨S4352x8x128, .f32⟩
  | 9 => ⟨S8x128, .f32⟩
  | 10 => ⟨S4352x8x128, .f32⟩
  | 11 => ⟨S_, .f32⟩
  | 12 => ⟨S4352x8, .f32⟩
  | 13 => ⟨S4352x8x1, .f32⟩
  | 14 => ⟨S_, .f32⟩
  | 15 => ⟨S4352x8x1, .f32⟩
  | 16 => ⟨S4352x8x1, .f32⟩
  | 17 => ⟨S_, .f32⟩
  | 18 => ⟨S4352x8x1, .f32⟩
  | 19 => ⟨S4352x8x1, .f32⟩
  | 20 => ⟨S4352x8x1, .f32⟩
  | 21 => ⟨S4352x8x1, .f32⟩
  | 22 => ⟨S_, .f32⟩
  | 23 => ⟨S4352x8x1, .f32⟩
  | 24 => ⟨S4352x8x1, .f32⟩
  | 25 => ⟨S4352x8x128, .f32⟩
  | 26 => ⟨S4352x8x128, .f32⟩
  | 27 => ⟨S1x8x128, .f32⟩
  | 28 => ⟨S4352x8x128, .f32⟩
  | 29 => ⟨S4352x8x128, .f32⟩
  | 30 => ⟨S4352x1024, .f32⟩
  | 31 => ⟨S4352x8x128, .f32⟩
  | 32 => ⟨S4352x8x128, .f32⟩
  | 33 => ⟨S_, .f32⟩
  | 34 => ⟨S8x128, .f32⟩
  | 35 => ⟨S1x8x128, .f32⟩
  | 36 => ⟨S4352x8x128, .f32⟩
  | 37 => ⟨S4352x8x128, .f32⟩
  | 38 => ⟨S_, .f32⟩
  | 39 => ⟨S8x128, .f32⟩
  | 40 => ⟨S4352x8x128, .f32⟩
  | 41 => ⟨S_, .f32⟩
  | 42 => ⟨S4352x8, .f32⟩
  | 43 => ⟨S4352x8x1, .f32⟩
  | 44 => ⟨S4352x8x128, .f32⟩
  | 45 => ⟨S4352x8x128, .f32⟩
  | 46 => ⟨S4352x8x1, .f32⟩
  | 47 => ⟨S_, .f32⟩
  | 48 => ⟨S4352x8x1, .f32⟩
  | 49 => ⟨S4352x8x1, .f32⟩
  | 50 => ⟨S_, .f32⟩
  | 51 => ⟨S4352x8, .f32⟩
  | 52 => ⟨S4352x8x128, .f32⟩
  | 53 => ⟨S4352x8x128, .f32⟩
  | 54 => ⟨S4352x8x128, .f32⟩
  | 55 => ⟨S4352x8x128, .f32⟩
  | 56 => ⟨S4352x8x128, .f32⟩
  | 57 => ⟨S1x1024, .f32⟩
  | 58 => ⟨S4352x1024, .f32⟩
  | 59 => ⟨S4352x1024, .f32⟩
  | 60 => ⟨S4352x8x128, .f32⟩
  | 61 => ⟨S8x128, .f32⟩
  | 62 => ⟨S4352x8x128, .f32⟩
  | 63 => ⟨S_, .f32⟩
  | 64 => ⟨S4352x8, .f32⟩
  | 65 => ⟨S4352x8x1, .f32⟩
  | 66 => ⟨S_, .f32⟩
  | 67 => ⟨S4352x8x1, .f32⟩
  | 68 => ⟨S4352x8x1, .f32⟩
  | 69 => ⟨S_, .f32⟩
  | 70 => ⟨S4352x8x1, .f32⟩
  | 71 => ⟨S4352x8x1, .f32⟩
  | 72 => ⟨S4352x8x1, .f32⟩
  | 73 => ⟨S4352x8x1, .f32⟩
  | 74 => ⟨S_, .f32⟩
  | 75 => ⟨S4352x8x1, .f32⟩
  | 76 => ⟨S4352x8x1, .f32⟩
  | 77 => ⟨S4352x8x128, .f32⟩
  | 78 => ⟨S4352x8x128, .f32⟩
  | 79 => ⟨S1x8x128, .f32⟩
  | 80 => ⟨S4352x8x128, .f32⟩
  | 81 => ⟨S4352x8x128, .f32⟩
  | 82 => ⟨S4352x1024, .f32⟩
  | 83 => ⟨S4352x8x128, .f32⟩
  | 84 => ⟨S4352x8x128, .f32⟩
  | 85 => ⟨S_, .f32⟩
  | 86 => ⟨S8x128, .f32⟩
  | 87 => ⟨S1x8x128, .f32⟩
  | 88 => ⟨S4352x8x128, .f32⟩
  | 89 => ⟨S4352x8x128, .f32⟩
  | 90 => ⟨S_, .f32⟩
  | 91 => ⟨S8x128, .f32⟩
  | 92 => ⟨S4352x8x128, .f32⟩
  | 93 => ⟨S_, .f32⟩
  | 94 => ⟨S4352x8, .f32⟩
  | 95 => ⟨S4352x8x1, .f32⟩
  | 96 => ⟨S4352x8x128, .f32⟩
  | 97 => ⟨S4352x8x128, .f32⟩
  | 98 => ⟨S4352x8x1, .f32⟩
  | 99 => ⟨S_, .f32⟩
  | 100 => ⟨S4352x8x1, .f32⟩
  | 101 => ⟨S4352x8x1, .f32⟩
  | 102 => ⟨S_, .f32⟩
  | 103 => ⟨S4352x8, .f32⟩
  | 104 => ⟨S4352x8x128, .f32⟩
  | 105 => ⟨S4352x8x128, .f32⟩
  | 106 => ⟨S4352x8x128, .f32⟩
  | 107 => ⟨S4352x8x128, .f32⟩
  | 108 => ⟨S4352x8x128, .f32⟩
  | 109 => ⟨S1x1024, .f32⟩
  | 110 => ⟨S4352x1024, .f32⟩
  | 111 => ⟨S4352x128, .f32⟩
  | 112 => ⟨S4352, .i32⟩
  | 113 => ⟨S4352x1, .i32⟩
  | 114 => ⟨S128, .i32⟩
  | 115 => ⟨S1x128, .i32⟩
  | 116 => ⟨S_, .i32⟩
  | 117 => ⟨S4352x1, .i32⟩
  | 118 => ⟨S4352x1, .i1⟩
  | 119 => ⟨S_, .i32⟩
  | 120 => ⟨S1x128, .i32⟩
  | 121 => ⟨S1x128, .i1⟩
  | 122 => ⟨S4352x128, .i1⟩
  | 123 => ⟨S4352x128, .i1⟩
  | 124 => ⟨S4352x128, .i1⟩
  | 125 => ⟨S4352x128, .f32⟩
  | 126 => ⟨S4352x128, .f32⟩
  | 127 => ⟨S4352x128, .f32⟩
  | _ => ⟨S4352x2176, .f32⟩

abbrev hbmTy0_1 (i : Nat) : BufTy := match i % 128 with
  | 0 => ⟨S_, .f32⟩
  | 1 => ⟨S4352x128, .f32⟩
  | 2 => ⟨S4352x128, .f32⟩
  | 3 => ⟨S4352x128, .f32⟩
  | 4 => ⟨S4352x128, .f32⟩
  | 5 => ⟨S4352x128, .i1⟩
  | 6 => ⟨S4352x128, .f32⟩
  | 7 => ⟨S4352x128, .f32⟩
  | 8 => ⟨S4352x128, .f32⟩
  | 9 => ⟨S4352x128, .f32⟩
  | 10 => ⟨S4352x128, .f32⟩
  | 11 => ⟨S4352x128, .f32⟩
  | 12 => ⟨S4352x128, .f32⟩
  | 13 => ⟨S4352x128, .f32⟩
  | 14 => ⟨S_, .f32⟩
  | 15 => ⟨S4352x128, .f32⟩
  | 16 => ⟨S4352x128, .i1⟩
  | 17 => ⟨S_, .f32⟩
  | 18 => ⟨S4352x128, .f32⟩
  | 19 => ⟨S4352x128, .f32⟩
  | 20 => ⟨S_, .f32⟩
  | 21 => ⟨S4352x128, .f32⟩
  | 22 => ⟨S4352x128, .i1⟩
  | 23 => ⟨S_, .f32⟩
  | 24 => ⟨S4352x128, .f32⟩
  | 25 => ⟨S4352x128, .f32⟩
  | 26 => ⟨S4352x128, .f32⟩
  | 27 => ⟨S4352x128, .f32⟩
  | 28 => ⟨S_, .f32⟩
  | 29 => ⟨S_, .f32⟩
  | 30 => ⟨S_, .i1⟩
  | 31 => ⟨S_, .f32⟩
  | 32 => ⟨S_, .f32⟩
  | 33 => ⟨S_, .f32⟩
  | 34 => ⟨S_, .f32⟩
  | 35 => ⟨S4352x128, .f32⟩
  | 36 => ⟨S4352x128, .i1⟩
  | 37 => ⟨S_, .f32⟩
  | 38 => ⟨S4352x128, .f32⟩
  | 39 => ⟨S4352x128, .f32⟩
  | 40 => ⟨S4352x128, .f32⟩
  | 41 => ⟨S4352x128, .f32⟩
  | 42 => ⟨S4352x128, .f32⟩
  | 43 => ⟨S_, .f32⟩
  | 44 => ⟨S4352x128, .f32⟩
  | 45 => ⟨S4352x128, .f32⟩
  | 46 => ⟨S4352x128, .f32⟩
  | 47 => ⟨S_, .f32⟩
  | 48 => ⟨S_, .f32⟩
  | 49 => ⟨S4352x128, .f32⟩
  | 50 => ⟨S4352x128, .f32⟩
  | 51 => ⟨S_, .f32⟩
  | 52 => ⟨S4352x128, .f32⟩
  | 53 => ⟨S_, .f32⟩
  | 54 => ⟨S4352x128, .f32⟩
  | 55 => ⟨S4352x128, .f32⟩
  | 56 => ⟨S4352x128, .f32⟩
  | 57 => ⟨S4352x128, .f32⟩
  | 58 => ⟨S4352x128, .f32⟩
  | 59 => ⟨S_, .f32⟩
  | 60 => ⟨S128, .f32⟩
  | 61 => ⟨S1x128, .f32⟩
  | 62 => ⟨S4352x2176, .f32⟩
  | 63 => ⟨S4352x2176, .bf16⟩
  | _ => ⟨S4352x2176, .f32⟩

abbrev hbmTy (i : Nat) : BufTy := match i / 128 with
  | 0 => hbmTy0_0 i
  | 1 => hbmTy0_1 i
  | _ => ⟨S4352x2176, .f32⟩

abbrev bufTy : (tb : Table) → Fin (tcTables nBuf tb) → BufTy
  | .hbm, ⟨i, _⟩ => hbmTy i
  | _, _ => ⟨S4352x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c : Ref sig .tc := ⟨.hbm, 116, rfl⟩
abbrev main_v91 : Ref sig .tc := ⟨.hbm, 117, rfl⟩
abbrev main_v92 : Ref sig .tc := ⟨.hbm, 118, rfl⟩
abbrev main_c_17 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_call0_v0 : Ref sig .tc := ⟨.hbm, 127, rfl⟩
abbrev main_call0_call0_cst : Ref sig .tc := ⟨.hbm, 128, rfl⟩
abbrev main_call0_call0_v0 : Ref sig .tc := ⟨.hbm, 129, rfl⟩
abbrev main_call0_call0_v1 : Ref sig .tc := ⟨.hbm, 130, rfl⟩
abbrev main_call0_call0_v2 : Ref sig .tc := ⟨.hbm, 131, rfl⟩
abbrev main_call0_call0_v3 : Ref sig .tc := ⟨.hbm, 132, rfl⟩
abbrev main_call0_call0_v4 : Ref sig .tc := ⟨.hbm, 133, rfl⟩
abbrev main_call0_call0_v5 : Ref sig .tc := ⟨.hbm, 134, rfl⟩
abbrev main_call0_call0_v6 : Ref sig .tc := ⟨.hbm, 135, rfl⟩
abbrev main_call0_call0_v7 : Ref sig .tc := ⟨.hbm, 136, rfl⟩
abbrev main_call0_call0_v8 : Ref sig .tc := ⟨.hbm, 137, rfl⟩
abbrev main_call0_call0_v9 : Ref sig .tc := ⟨.hbm, 138, rfl⟩
abbrev main_call0_call0_v10 : Ref sig .tc := ⟨.hbm, 139, rfl⟩
abbrev main_call0_call0_v11 : Ref sig .tc := ⟨.hbm, 140, rfl⟩
abbrev main_call0_v1_0 : Ref sig .tc := ⟨.hbm, 141, rfl⟩
abbrev main_call0_call0_cst_0 : Ref sig .tc := ⟨.hbm, 142, rfl⟩
abbrev main_call0_call0_v13 : Ref sig .tc := ⟨.hbm, 143, rfl⟩
abbrev main_call0_call0_v14 : Ref sig .tc := ⟨.hbm, 144, rfl⟩
abbrev main_call0_call0_cst_1 : Ref sig .tc := ⟨.hbm, 145, rfl⟩
abbrev main_call0_call0_v15 : Ref sig .tc := ⟨.hbm, 146, rfl⟩
abbrev main_call0_call0_v16 : Ref sig .tc := ⟨.hbm, 147, rfl⟩
abbrev main_call0_call0_cst_2 : Ref sig .tc := ⟨.hbm, 148, rfl⟩
abbrev main_call0_call0_v17 : Ref sig .tc := ⟨.hbm, 149, rfl⟩
abbrev main_call0_call0_v18 : Ref sig .tc := ⟨.hbm, 150, rfl⟩
abbrev main_call0_call0_cst_3 : Ref sig .tc := ⟨.hbm, 151, rfl⟩
abbrev main_call0_call0_v19 : Ref sig .tc := ⟨.hbm, 152, rfl⟩
abbrev main_call0_call0_v20 : Ref sig .tc := ⟨.hbm, 153, rfl⟩
abbrev main_call0_call0_v21 : Ref sig .tc := ⟨.hbm, 154, rfl⟩
abbrev main_v100_1 : Ref sig .tc := ⟨.hbm, 155, rfl⟩
abbrev main_call0_call0_cst_4 : Ref sig .tc := ⟨.hbm, 156, rfl⟩
abbrev main_call0_call0_cst_5 : Ref sig .tc := ⟨.hbm, 157, rfl⟩
abbrev main_call0_call0_v23 : Ref sig .tc := ⟨.hbm, 158, rfl⟩
abbrev main_call0_call0_cst_6 : Ref sig .tc := ⟨.hbm, 159, rfl⟩
abbrev main_call0_call0_cst_7 : Ref sig .tc := ⟨.hbm, 160, rfl⟩
abbrev main_call0_call0_v24 : Ref sig .tc := ⟨.hbm, 161, rfl⟩
abbrev main_call0_call0_cst_8 : Ref sig .tc := ⟨.hbm, 162, rfl⟩
abbrev main_call0_call0_v25 : Ref sig .tc := ⟨.hbm, 163, rfl⟩
abbrev main_call0_call0_v26 : Ref sig .tc := ⟨.hbm, 164, rfl⟩
abbrev main_call0_call0_cst_9 : Ref sig .tc := ⟨.hbm, 165, rfl⟩
abbrev main_call0_call0_v27 : Ref sig .tc := ⟨.hbm, 166, rfl⟩
abbrev main_call0_call0_v28 : Ref sig .tc := ⟨.hbm, 167, rfl⟩
abbrev main_call0_call0_v29 : Ref sig .tc := ⟨.hbm, 168, rfl⟩
abbrev main_call0_call0_v30 : Ref sig .tc := ⟨.hbm, 169, rfl⟩
abbrev main_call0_call0_v31 : Ref sig .tc := ⟨.hbm, 170, rfl⟩
abbrev main_call0_call0_cst_10 : Ref sig .tc := ⟨.hbm, 171, rfl⟩
abbrev main_call0_call0_v32 : Ref sig .tc := ⟨.hbm, 172, rfl⟩
abbrev main_v100_2 : Ref sig .tc := ⟨.hbm, 173, rfl⟩
abbrev main_v100_0 : Ref sig .tc := ⟨.hbm, 174, rfl⟩
abbrev main_cst_18 : Ref sig .tc := ⟨.hbm, 175, rfl⟩
abbrev main_call1_v0 : Ref sig .tc := ⟨.hbm, 176, rfl⟩
abbrev main_call1_v1 : Ref sig .tc := ⟨.hbm, 177, rfl⟩
abbrev main_v101_0 : Ref sig .tc := ⟨.hbm, 178, rfl⟩
abbrev main_call1_cst : Ref sig .tc := ⟨.hbm, 179, rfl⟩
abbrev main_v101_1 : Ref sig .tc := ⟨.hbm, 180, rfl⟩
abbrev main_call2_cst : Ref sig .tc := ⟨.hbm, 181, rfl⟩
abbrev main_call2_v0 : Ref sig .tc := ⟨.hbm, 182, rfl⟩
abbrev main_v102 : Ref sig .tc := ⟨.hbm, 183, rfl⟩
abbrev main_call3_v0 : Ref sig .tc := ⟨.hbm, 184, rfl⟩
abbrev main_call3_v1 : Ref sig .tc := ⟨.hbm, 185, rfl⟩
abbrev main_v103 : Ref sig .tc := ⟨.hbm, 186, rfl⟩
abbrev main_cst_19 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩

abbrev nD : Nat := 1
abbrev τ : Topo := Topo.v7x

variable {F : FTy → Type} [FloatOps F]
-- ==== Proof.Spec.lean ====
module

public import proofs.«01_k».proof.Proof.Gen.KernelIdeal.Frame
public import proofs.«01_k».proof.Proof.Gen.KernelIdeal.Loops

/-! What one head does with one group of key tiles, as a pure function of the loaded blocks.

The kernel walks the key tiles of a query tile in groups of 1, 2, 4 or 8 tiles. The functions below
say, for any group width, what a group adds to the two accumulators and to the three values carried
along the row. They hold for any float values. -/

@[expose] public section

noncomputable section

namespace Cert.Proof.Sb

open Cert.KernelIdeal Cert.KernelIdeal.Gen
open Idealize.ShloMosaic Idealize.ShloMosaic.TcCoe Idealize.ShloMosaic.Tactic

variable {F : FTy → Type} [FloatOps F]

/-- The shapes of one group: `R` holds the group's key rows, `C` the scores against them. -/
structure Dims (R C : Shape) where
  cast : R.ShapeCasts R
  qk : DotDims S256x128 R C
  tn : DotDims C S256x128 R
  nn : DotDims C R S256x128
  bc : S256x1.Broadcasts C

def dims1 : Dims S256x128 S256x256 :=
  ⟨shapeCasts_S256x128_S256x128, dot_S256x128_S256x128_S256x256_1_1_0_0_n_n, dot_S256x256_S256x128_S256x128_0_0_1_1_n_n,
    dot_S256x256_S256x128_S256x128_1_0_0_1_n_n, broadcasts_S256x1_S256x256⟩
def dims2 : Dims S512x128 S256x512 :=
  ⟨shapeCasts_S512x128_S512x128, dot_S256x128_S512x128_S256x512_1_1_0_0_n_n, dot_S256x512_S256x128_S512x128_0_0_1_1_n_n,
    dot_S256x512_S512x128_S256x128_1_0_0_1_n_n, broadcasts_S256x1_S256x512⟩
def dims4 : Dims S1024x128 S256x1024 :=
  ⟨shapeCasts_S1024x128_S1024x128, dot_S256x128_S1024x128_S256x1024_1_1_0_0_n_n, dot_S256x1024_S256x128_S1024x128_0_0_1_1_n_n,
    dot_S256x1024_S1024x128_S256x128_1_0_0_1_n_n, broadcasts_S256x1_S256x1024⟩
def dims8 : Dims S2048x128 S256x2048 :=
  ⟨shapeCasts_S2048x128_S2048x128, dot_S256x128_S2048x128_S256x2048_1_1_0_0_n_n, dot_S256x2048_S256x128_S2048x128_0_0_1_1_n_n,
    dot_S256x2048_S2048x128_S256x128_1_0_0_1_n_n, broadcasts_S256x1_S256x2048⟩

/-! ## Running sums along the columns of a group -/

/-- One block against the triangular matrix, through its leading half and its remainder. -/
def inner (tri : FVec F S256x256 .bf16) (x : FVec F S256x256 .f32) : FVec F S256x256 .f32 :=
  addf (matmul dot_S256x256_S256x256_S256x256_1_0_0_1_n_n none (truncf .bf16 x bitsLt_bf16_f32) tri (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) tri (constant S256x256 .f32 0x00000000#32))

/-- The row sums of one block. -/
def rowSum (x : FVec F S256x256 .f32) : FVec F S256x1 .f32 :=
  shapeCast S256x1 (multiReduction .add [1] S256 x 0x00000000#32 reduces_S256x256_S256 (.inl rfl) rfl) shapeCasts_S256_S256x1

/-- Block `b` inside itself, and the row sums of the blocks in `others` added to it. -/
def sums {n : ℕ} (tri : FVec F S256x256 .bf16) (B : Fin n → FVec F S256x256 .f32) (b : Fin n) (others : List (Fin n)) : FVec F S256x256 .f32 :=
  others.foldl (fun a j => addf a (broadcastTo S256x256 (rowSum (B j)) broadcasts_S256x1_S256x256)) (inner tri (B b))

/-- The row sums of all blocks. -/
def totals {n : ℕ} (B : Fin n → FVec F S256x256 .f32) (b : Fin n) (others : List (Fin n)) : FVec F S256x1 .f32 :=
  others.foldl (fun a j => addf a (rowSum (B j))) (rowSum (B b))

def blocks2 (x : FVec F S256x512 .f32) : Fin 2 → FVec F S256x256 .f32
  | 0 => extractStridedSlice S256x256 ![0, 0] x slices_S256x512_o0_0_S256x256
  | 1 => extractStridedSlice S256x256 ![0, 256] x slices_S256x512_o0_256_S256x256
def blocks4 (x : FVec F S256x1024 .f32) : Fin 4 → FVec F S256x256 .f32
  | 0 => extractStridedSlice S256x256 ![0, 0] x slices_S256x1024_o0_0_S256x256
  | 1 => extractStridedSlice S256x256 ![0, 256] x slices_S256x1024_o0_256_S256x256
  | 2 => extractStridedSlice S256x256 ![0, 512] x slices_S256x1024_o0_512_S256x256
  | 3 => extractStridedSlice S256x256 ![0, 768] x slices_S256x1024_o0_768_S256x256
def blocks8 (x : FVec F S256x2048 .f32) : Fin 8 → FVec F S256x256 .f32
  | 0 => extractStridedSlice S256x256 ![0, 0] x slices_S256x2048_o0_0_S256x256
  | 1 => extractStridedSlice S256x256 ![0, 256] x slices_S256x2048_o0_256_S256x256
  | 2 => extractStridedSlice S256x256 ![0, 512] x slices_S256x2048_o0_512_S256x256
  | 3 => extractStridedSlice S256x256 ![0, 768] x slices_S256x2048_o0_768_S256x256
  | 4 => extractStridedSlice S256x256 ![0, 1024] x slices_S256x2048_o0_1024_S256x256
  | 5 => extractStridedSlice S256x256 ![0, 1280] x slices_S256x2048_o0_1280_S256x256
  | 6 => extractStridedSlice S256x256 ![0, 1536] x slices_S256x2048_o0_1536_S256x256
  | 7 => extractStridedSlice S256x256 ![0, 1792] x slices_S256x2048_o0_1792_S256x256

/-- How a group of `C`-shaped values is summed along its columns: what lies after each column, what
lies before it, and everything. -/
structure Run (F : FTy → Type) [FloatOps F] (C : Shape) where
  after : FVec F C .f32 → FVec F C .f32
  before : FVec F C .f32 → FVec F C .f32
  all : FVec F C .f32 → FVec F S256x1 .f32

variable (later earlier : FVec F S256x256 .bf16)

def run1 : Run F S256x256 := ⟨inner later, inner earlier, rowSum⟩
def run2 : Run F S256x512 where
  after x := concatenate S256x512 1 [⟨S256x256, sums later (blocks2 x) 0 [1]⟩, ⟨S256x256, sums later (blocks2 x) 1 []⟩]
    concatenates_S256x256_S256x256_S256x512_d1
  before x := concatenate S256x512 1 [⟨S256x256, sums earlier (blocks2 x) 0 []⟩, ⟨S256x256, sums earlier (blocks2 x) 1 [0]⟩]
    concatenates_S256x256_S256x256_S256x512_d1
  all x := totals (blocks2 x) 0 [1]
def run4 : Run F S256x1024 where
  after x := concatenate S256x1024 1 [⟨S256x256, sums later (blocks4 x) 0 [1, 2, 3]⟩, ⟨S256x256, sums later (blocks4 x) 1 [2, 3]⟩,
      ⟨S256x256, sums later (blocks4 x) 2 [3]⟩, ⟨S256x256, sums later (blocks4 x) 3 []⟩]
    concatenates_S256x256_S256x256_S256x256_S256x256_S256x1024_d1
  before x := concatenate S256x1024 1 [⟨S256x256, sums earlier (blocks4 x) 0 []⟩, ⟨S256x256, sums earlier (blocks4 x) 1 [0]⟩,
      ⟨S256x256, sums earlier (blocks4 x) 2 [0, 1]⟩, ⟨S256x256, sums earlier (blocks4 x) 3 [0, 1, 2]⟩]
    concatenates_S256x256_S256x256_S256x256_S256x256_S256x1024_d1
  all x := totals (blocks4 x) 0 [1, 2, 3]
def run8 : Run F S256x2048 where
  after x := concatenate S256x2048 1 [⟨S256x256, sums later (blocks8 x) 0 [1, 2, 3, 4, 5, 6, 7]⟩, ⟨S256x256, sums later (blocks8 x) 1 [2, 3, 4, 5, 6, 7]⟩,
      ⟨S256x256, sums later (blocks8 x) 2 [3, 4, 5, 6, 7]⟩, ⟨S256x256, sums later (blocks8 x) 3 [4, 5, 6, 7]⟩,
      ⟨S256x256, sums later (blocks8 x) 4 [5, 6, 7]⟩, ⟨S256x256, sums later (blocks8 x) 5 [6, 7]⟩,
      ⟨S256x256, sums later (blocks8 x) 6 [7]⟩, ⟨S256x256, sums later (blocks8 x) 7 []⟩]
    concatenates_S256x256_S256x256_S256x256_S256x256_S256x256_S256x256_S256x256_S256x256_S256x2048_d1
  before x := concatenate S256x2048 1 [⟨S256x256, sums earlier (blocks8 x) 0 []⟩, ⟨S256x256, sums earlier (blocks8 x) 1 [0]⟩,
      ⟨S256x256, sums earlier (blocks8 x) 2 [0, 1]⟩, ⟨S256x256, sums earlier (blocks8 x) 3 [0, 1, 2]⟩,
      ⟨S256x256, sums earlier (blocks8 x) 4 [0, 1, 2, 3]⟩, ⟨S256x256, sums earlier (blocks8 x) 5 [0, 1, 2, 3, 4]⟩,
      ⟨S256x256, sums earlier (blocks8 x) 6 [0, 1, 2, 3, 4, 5]⟩, ⟨S256x256, sums earlier (blocks8 x) 7 [0, 1, 2, 3, 4, 5, 6]⟩]
    concatenates_S256x256_S256x256_S256x256_S256x256_S256x256_S256x256_S256x256_S256x256_S256x2048_d1
  all x := totals (blocks8 x) 0 [1, 2, 3, 4, 5, 6, 7]

/-! ## One group -/

/-- What a head keeps for a query tile: its queries, the gradient of its output, its row totals. -/
structure Head (F : FTy → Type) [FloatOps F] where
  q : FVec F S256x128 .bf16
  dout : FVec F S256x128 .bf16
  total : FVec F S256x1 .f32

/-- What a head carries along the key tiles: the gradient of its queries and the two sums so far. -/
abbrev Carry (F : FTy → Type) [FloatOps F] := FVec F S256x128 .f32 × FVec F S256x1 .f32 × FVec F S256x1 .f32

section
variable {R C : Shape} (D : Dims R C)

def zero (s : Shape) : FVec F s .f32 := broadcast s (Scalar.ofBits .f32 0x00000000#32)
def one (s : Shape) : FVec F s .f32 := broadcast s (Scalar.ofBits .f32 0x3F800000#32)

def score (q : FVec F S256x128 .bf16) (k : FVec F R .bf16) : FVec F C .f32 :=
  mulf (matmul D.qk none q (shapeCast R k D.cast) (constant C .f32 0x00000000#32)) (broadcast C (Scalar.ofBits .f32 0x3DB504F3#32))
def small (z : FVec F C .f32) : FVec F C .f32 := exp (subf (zero C) (absf z))
def recip (z : FVec F C .f32) : FVec F C .f32 := divf (one C) (addf (one C) (small z))
def softplus (z : FVec F C .f32) : FVec F C .f32 := addf (maximumf z (zero C)) (log (addf (one C) (small z)))
def sigmoid (z : FVec F C .f32) : FVec F C .f32 := select (cmpf .oge z (zero C)) (recip z) (mulf (small z) (recip z))

variable (run : Run F C) (mask : FVec F C .f32 → FVec F C .f32) (h : Head F) (k v : FVec F R .bf16) (a : Carry F)

def weight : FVec F C .f32 :=
  mask (exp (subf (subf (subf (score D h.q k) (softplus (score D h.q k))) (run.after (mask (softplus (score D h.q k)))))
    (broadcastTo C (subf (subf h.total a.2.1) (run.all (mask (softplus (score D h.q k))))) D.bc)))
def dweight : FVec F C .f32 :=
  mulf (weight D run mask h k a) (matmul D.qk none h.dout (shapeCast R v D.cast) (constant C .f32 0x00000000#32))
def dscore : FVec F C .f32 :=
  mask (subf (mulf (dweight D run mask h k v a) (subf (one C) (sigmoid (score D h.q k))))
    (mulf (sigmoid (score D h.q k)) (addf (run.before (dweight D run mask h k v a)) (broadcastTo C a.2.2 D.bc))))

/-- The key accumulator's block after the group. -/
def stepDk (old : FVec F R .f32) : FVec F R .f32 :=
  shapeCast R (addf old (matmul D.tn none (truncf .bf16 (dscore D run mask h k v a) bitsLt_bf16_f32) h.q (constant R .f32 0x00000000#32))) D.cast
/-- The value accumulator's block after the group. -/
def stepDv (old : FVec F R .f32) : FVec F R .f32 :=
  shapeCast R (addf old (matmul D.tn none (truncf .bf16 (weight D run mask h k a) bitsLt_bf16_f32) h.dout (constant R .f32 0x00000000#32))) D.cast
/-- What the head carries after the group. -/
def stepCarry : Carry F :=
  (addf a.1 (matmul D.nn none (truncf .bf16 (dscore D run mask h k v a) bitsLt_bf16_f32) (shapeCast R k D.cast) (constant S256x128 .f32 0x00000000#32)),
    addf a.2.1 (run.all (mask (softplus (score D h.q k)))), addf a.2.2 (run.all (dweight D run mask h k v a)))

end

end Cert.Proof.Sb

end
-- ==== Proof.Trips.lean ====
module

public import proofs.«01_k».proof.Proof.Spec

/-! One trip of each loop over the key tiles.

A trip loads the group's key and value rows of both heads, adds to the two accumulators at those rows,
and passes on what each head carries: exactly what `stepDk`, `stepDv` and `stepCarry` say. -/

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

/-! ## Where the trips go -/

/-- Tiles already done when the groups of 4, of 2 and of 1 begin. -/
def base4 (i : ℕ) : ℕ := 1 + 8 * ((i - 1) / 8)
def base2 (i : ℕ) : ℕ := base4 i + 4 * ((i - base4 i) / 4)
def base1 (i : ℕ) : ℕ := base2 i + 2 * ((i - base2 i) / 2)

theorem trips1 : ∀ i : grid0.Coords, (k0_t1_loop i).trips = ((i 1).val - 1) / 8 := by decide +kernel
theorem trips2 : ∀ i : grid0.Coords, (k0_t2_loop i).trips = 0 := by decide +kernel
theorem k0_off1_eq : ∀ (i : grid0.Coords) (k : Fin (k0_t1_loop i).trips), k0_off1 i k = ![256 * (1 + 8 * k.val), 0] := by decide +kernel
instance (i : grid0.Coords) (k : Fin (k0_t1_loop i).trips) : ClosedOff (k0_off1 i k) := ⟨_, k0_off1_eq i k⟩
theorem k0_off2_eq : ∀ (i : grid0.Coords) (k : Fin (k0_t1_loop i).trips), k0_off2 i k = ![256 * (1 + 8 * k.val), 128] := by decide +kernel
instance (i : grid0.Coords) (k : Fin (k0_t1_loop i).trips) : ClosedOff (k0_off2 i k) := ⟨_, k0_off2_eq i k⟩
theorem trips3 : ∀ i : grid0.Coords, (k0_t3_loop i).trips = ((i 1).val - base4 (i 1).val) / 4 := by decide +kernel
theorem trips4 : ∀ i : grid0.Coords, (k0_t4_loop i).trips = 0 := by decide +kernel
theorem k0_off5_eq : ∀ (i : grid0.Coords) (k : Fin (k0_t3_loop i).trips), k0_off5 i k = ![256 * (base4 (i 1).val + 4 * k.val), 0] := by decide +kernel
instance (i : grid0.Coords) (k : Fin (k0_t3_loop i).trips) : ClosedOff (k0_off5 i k) := ⟨_, k0_off5_eq i k⟩
theorem k0_off6_eq : ∀ (i : grid0.Coords) (k : Fin (k0_t3_loop i).trips), k0_off6 i k = ![256 * (base4 (i 1).val + 4 * k.val), 128] := by decide +kernel
instance (i : grid0.Coords) (k : Fin (k0_t3_loop i).trips) : ClosedOff (k0_off6 i k) := ⟨_, k0_off6_eq i k⟩
theorem trips5 : ∀ i : grid0.Coords, (k0_t5_loop i).trips = ((i 1).val - base2 (i 1).val) / 2 := by decide +kernel
theorem trips6 : ∀ i : grid0.Coords, (k0_t6_loop i).trips = 0 := by decide +kernel
theorem k0_off9_eq : ∀ (i : grid0.Coords) (k : Fin (k0_t5_loop i).trips), k0_off9 i k = ![256 * (base2 (i 1).val + 2 * k.val), 0] := by decide +kernel
instance (i : grid0.Coords) (k : Fin (k0_t5_loop i).trips) : ClosedOff (k0_off9 i k) := ⟨_, k0_off9_eq i k⟩
theorem k0_off10_eq : ∀ (i : grid0.Coords) (k : Fin (k0_t5_loop i).trips), k0_off10 i k = ![256 * (base2 (i 1).val + 2 * k.val), 128] := by decide +kernel
instance (i : grid0.Coords) (k : Fin (k0_t5_loop i).trips) : ClosedOff (k0_off10 i k) := ⟨_, k0_off10_eq i k⟩
theorem trips7 : ∀ i : grid0.Coords, (k0_t7_loop i).trips = (i 1).val - base1 (i 1).val := by decide +kernel
theorem trips8 : ∀ i : grid0.Coords, (k0_t8_loop i).trips = 0 := by decide +kernel
theorem k0_off13_eq : ∀ (i : grid0.Coords) (k : Fin (k0_t7_loop i).trips), k0_off13 i k = ![256 * (base1 (i 1).val + k.val), 0] := by decide +kernel
instance (i : grid0.Coords) (k : Fin (k0_t7_loop i).trips) : ClosedOff (k0_off13 i k) := ⟨_, k0_off13_eq i k⟩
theorem k0_off14_eq : ∀ (i : grid0.Coords) (k : Fin (k0_t7_loop i).trips), k0_off14 i k = ![256 * (base1 (i 1).val + k.val), 128] := by decide +kernel
instance (i : grid0.Coords) (k : Fin (k0_t7_loop i).trips) : ClosedOff (k0_off14 i k) := ⟨_, k0_off14_eq i k⟩
theorem trips9 : ∀ i : grid0.Coords, (k0_t9_loop i).trips = if (i 1).val = 0 then 0 else 1 := by decide +kernel
theorem trips10 : ∀ i : grid0.Coords, (k0_t10_loop i).trips = 0 := by decide +kernel
theorem k0_off17_eq : ∀ (i : grid0.Coords) (k : Fin (k0_t9_loop i).trips), k0_off17 i k = ![256 * (i 1).val, 0] := by decide +kernel
instance (i : grid0.Coords) (k : Fin (k0_t9_loop i).trips) : ClosedOff (k0_off17 i k) := ⟨_, k0_off17_eq i k⟩
theorem k0_off18_eq : ∀ (i : grid0.Coords) (k : Fin (k0_t9_loop i).trips), k0_off18 i k = ![256 * (i 1).val, 128] := by decide +kernel
instance (i : grid0.Coords) (k : Fin (k0_t9_loop i).trips) : ClosedOff (k0_off18 i k) := ⟨_, k0_off18_eq i k⟩

/-! ## The buffers a trip touches -/

/-- What both heads carry. -/
abbrev Acc (F : FTy → Type) [FloatOps F] :=
  FVec F S256x128 .f32 × FVec F S256x1 .f32 × FVec F S256x1 .f32 × FVec F S256x128 .f32 × FVec F S256x1 .f32 × FVec F S256x1 .f32

def pack (a b : Carry F) : Acc F := (a.1, a.2.1, a.2.2, b.1, b.2.1, b.2.2)

abbrev Bufs (c : Dev nD) {a3 a4 : Memref sig .tc .vmem S4352x256 .bf16} {a10 a11 : Memref sig .tc .vmem S4352x256 .f32}
    (f3 : Buf (Elt F) (a3.view.loc (c : Thread nD τ))) (f4 : Buf (Elt F) (a4.view.loc (c : Thread nD τ)))
    (f10 : Buf (Elt F) (a10.view.loc (c : Thread nD τ))) (f11 : Buf (Elt F) (a11.view.loc (c : Thread nD τ))) : sProp 𝕄 :=
  iprop((a3.view.loc (c : Thread nD τ) ↦{fullShare} f3) ∗ (a4.view.loc (c : Thread nD τ) ↦{fullShare} f4)
    ∗ (a10.view.loc (c : Thread nD τ) ↦{fullShare} f10) ∗ (a11.view.loc (c : Thread nD τ) ↦{fullShare} f11))

/-- A group's key rows in one head's columns. -/
abbrev rows (off sz : Fin 2 → ℕ) (h : ∀ a, off a + sz a ≤ S4352x256.size a) : Rect S4352x256 := Rect.unit (s := S4352x256) off sz h

/-- Which entries of a masked tile take part, from the numbers of the query tile's and the key tile's first rows. -/
def maskOk (row col : BitVec 32) : IVec S256x256 1 :=
  andi (cmpi .slt (addi (broadcast S256x256 col) (iota .tc S256x256 32 [1] iota_S256x256_d1_w32)) (addi (broadcast S256x256 row) (iota .tc S256x256 32 [0] iota_S256x256_d0_w32)))
    (ori (cmpi .sge (addi (broadcast S256x256 col) (iota .tc S256x256 32 [1] iota_S256x256_d1_w32)) (broadcast S256x256 240#32))
      (cmpi .slt (addi (broadcast S256x256 row) (iota .tc S256x256 32 [0] iota_S256x256_d0_w32)) (broadcast S256x256 240#32)))

def masked (ok : IVec S256x256 1) (x : FVec F S256x256 .f32) : FVec F S256x256 .f32 := select ok x (zero S256x256)

section
variable {sz : Fin 2 → ℕ} {C : Shape} (D : Dims ⟨2, sz⟩ C) (run : Run F C) (mask : FVec F C .f32 → FVec F C .f32) (hA hB : Head F) (a b : Carry F)
  {oA oB : Fin 2 → ℕ} (pA : ∀ x, oA x + sz x ≤ S4352x256.size x) (pB : ∀ x, oB x + sz x ≤ S4352x256.size x)
  (arg3 arg4 : Memref sig .tc .vmem S4352x256 .bf16) (arg10 : Memref sig .tc .vmem S4352x256 .f32)
  (f3 : arg3.view.ty.Contents (Elt F)) (f4 : arg4.view.ty.Contents (Elt F)) (f : arg10.view.ty.Contents (Elt F))

/-- Both heads' carries after a group. -/
def groupCarry : Acc F :=
  pack (stepCarry D run mask hA (arg3.view.readAt (Elt F) (rows oA sz pA).toLoadRect f3) (arg4.view.readAt (Elt F) (rows oA sz pA).toLoadRect f4) a)
    (stepCarry D run mask hB (arg3.view.readAt (Elt F) (rows oB sz pB).toLoadRect f3) (arg4.view.readAt (Elt F) (rows oB sz pB).toLoadRect f4) b)
/-- The key accumulator after a group. -/
def groupDk : arg10.view.ty.Contents (Elt F) :=
  arg10.view.writes (Elt F) f [⟨rows oB sz pB, stepDk D run mask hB (arg3.view.readAt (Elt F) (rows oB sz pB).toLoadRect f3) (arg4.view.readAt (Elt F) (rows oB sz pB).toLoadRect f4) b (arg10.view.readAt (Elt F) (rows oB sz pB).toLoadRect f)⟩,
    ⟨rows oA sz pA, stepDk D run mask hA (arg3.view.readAt (Elt F) (rows oA sz pA).toLoadRect f3) (arg4.view.readAt (Elt F) (rows oA sz pA).toLoadRect f4) a (arg10.view.readAt (Elt F) (rows oA sz pA).toLoadRect f)⟩]
/-- The value accumulator after a group. -/
def groupDv : arg10.view.ty.Contents (Elt F) :=
  arg10.view.writes (Elt F) f [⟨rows oB sz pB, stepDv D run mask hB (arg3.view.readAt (Elt F) (rows oB sz pB).toLoadRect f3) b (arg10.view.readAt (Elt F) (rows oB sz pB).toLoadRect f)⟩,
    ⟨rows oA sz pA, stepDv D run mask hA (arg3.view.readAt (Elt F) (rows oA sz pA).toLoadRect f3) a (arg10.view.readAt (Elt F) (rows oA sz pA).toLoadRect f)⟩]
end

/-! ## The trips -/

section
variable (c : Dev nD) (i : grid0.Coords) (arg2 : Memref sig .tc .vmem S256x256 .bf16) (harg2 : arg2.IsWhole) (arg3 : Memref sig .tc .vmem S4352x256 .bf16) (harg3 : arg3.IsWhole) (arg4 : Memref sig .tc .vmem S4352x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4352x256 .bf16) (harg8 : arg8.IsWhole) (arg9 : Memref sig .tc .vmem S4352x256 .bf16) (harg9 : arg9.IsWhole) (arg10 : Memref sig .tc .vmem S4352x256 .f32) (harg10 : arg10.IsWhole) (arg11 : Memref sig .tc .vmem S4352x256 .f32) (harg11 : arg11.IsWhole)
  (hA hB : Head F) (v22 v28 : FVec F S256x256 .bf16) (a b : Carry F)
  (f3 : Buf (Elt F) (arg3.view.loc (c : Thread nD τ))) (f4 : Buf (Elt F) (arg4.view.loc (c : Thread nD τ)))
  (f10 : Buf (Elt F) (arg10.view.loc (c : Thread nD τ))) (f11 : Buf (Elt F) (arg11.view.loc (c : Thread nD τ)))

set_option maxHeartbeats 4000000 in
theorem trip1 (v29 : FVec F S256x1 .f32) (v30 : FVec F S256x128 .f32) (v32 : BitVec 32) (v33 : BitVec 32) (v134 : FVec F S256x128 .f32) (v135 : FVec F S256x1 .f32) (v136 : FVec F S256x1 .f32) (v140 : FVec F S256x128 .bf16) (v159 : FVec F S256x1 .f32) (v175 : FVec F S256x256 .f32) (v183 : FVec F S256x1 .f32) (v204 : FVec F S256x256 .bf16) (k : Fin (k0_t1_loop i).trips) :
    (Bufs c f3 f4 f10 f11 : sProp 𝕄) ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 hA.q hB.q hA.dout hB.dout hA.total hB.total v22 v28 v29 v30 v32 v33 v134 v135 v136 v140 v159 v175 v183 v204 k
        (a.1, a.2.1, a.2.2, b.1, b.2.1, b.2.2))
      (fun r => iprop(⌜r = groupCarry dims8 (run8 v22 v28) (fun x => x) hA hB a b (k0_off1_inb i k) (k0_off2_inb i k) arg3 arg4 f3 f4⌝
        ∗ Bufs c f3 f4 (groupDk dims8 (run8 v22 v28) (fun x => x) hA hB a b (k0_off1_inb i k) (k0_off2_inb i k) arg3 arg4 arg10 f3 f4 f10)
          (groupDv dims8 (run8 v22 v28) (fun x => x) hA hB a b (k0_off1_inb i k) (k0_off2_inb i k) arg3 arg11 f3 f11))) := by
  unfold k0_t1_body
  iintro ⟨H3, H4, H10, H11⟩
  sl_exec
  sl_step
  isplitr
  · ipureintro; rfl
  isplitl [H3]; · iexact H3
  isplitl [H4]; · iexact H4
  isplitl [H10]; · iexact H10
  iexact H11

set_option maxHeartbeats 4000000 in
theorem trip3 (v249_0 : FVec F S256x128 .f32) (v249_1 : FVec F S256x1 .f32) (v249_2 : FVec F S256x1 .f32) (v249_3 : FVec F S256x128 .f32) (v249_4 : FVec F S256x1 .f32) (v249_5 : FVec F S256x1 .f32) (v251 : BitVec 32) (v253 : BitVec 32) (c4_i32 : BitVec 32) (v254 : BitVec 32) (k : Fin (k0_t3_loop i).trips) :
    (Bufs c f3 f4 f10 f11 : sProp 𝕄) ⊢ wp frame (wpE (defs₀ (F := F)) Variants.none (c : Thread nD τ) none) Set.univ
      (k0_t3_body (F := F) i arg2 harg2 arg3 harg3 arg4 harg4 arg5 harg5 arg6 harg6 arg7 harg7 arg8 harg8 arg9 harg9 arg10 harg10 arg11 harg11 hA.q hB.q hA.dout hB.dout hA.total hB.total v22 v28 v249_0 v249_1 v249_2 v249_3 v249_4 v249_5 v251 v253 c4_i32 v254 k
        (a.1, a.2.1, a.2.2, b.1, b.2.1, b.2.2))
      (fun r => iprop(⌜r = groupCarry dims4 (run4 v22 v28) (fun x => x) hA hB a b (k0_off5_inb i k) (k0_off6_inb i k) arg3 arg4 f3 f4⌝
        ∗ Bufs c f3 f4 (groupDk dims4 (run4 v22 v28) (fun x => x) hA hB a b (k0_off5_inb i k) (k0_off6_inb i k) arg3 arg4 arg10 f3 f4 f10)
          (groupDv dims4 (run4 v22 v28) (fun x => x) hA hB a b (k0_off5_inb i k) (k0_off6_inb i k) arg3 arg11 f3 f11))) := by
  unfold k0_t3_body
  iintro ⟨H3, H4, H10, H11⟩
  sl_exec
  sl_step
  isplitr
  · ipureintro; rfl
  isplitl [H3]; · iexact H3
  isplitl [H4]; · iexact H4
  isplitl [H10]; · iexact H10
  iexact H11

set_option maxHeartbeats 4000000 in
theorem trip5 (arg1 : BitVec 32) (v277_0 : FVec F S256x128 .f32) (v277_1 : FVec F S256x1 .f32) (v277_2 : FVec F S256x1 .f32) (v277_3 : FVec F S256x128 .f32) (v277_4 : FVec F S256x1 .f32) (v277_5 : FVec F S256x1 .f32) (v279 : BitVec 32) (v281 : BitVec 32) (v282 : BitVec 32) (v296 : BitVec 1) (k : Fin (k0_t5_loop i).trips) :
    (Bufs c f3 f4 f10 f11 : sProp 𝕄) ⊢ wp frame (wpE (defs₀ (F := F)) Variants.none (c : Thread nD τ) none) Set.univ
      (k0_t5_body (F := F) i arg2 harg2 arg3 harg3 arg4 harg4 arg5 harg5 arg6 harg6 arg7 harg7 arg8 harg8 arg9 harg9 arg10 harg10 arg11 harg11 arg1 hA.q hB.q hA.dout hB.dout hA.total hB.total v22 v28 v277_0 v277_1 v277_2 v277_3 v277_4 v277_5 v279 v281 v282 v296 k
        (a.1, a.2.1, a.2.2, b.1, b.2.1, b.2.2))
      (fun r => iprop(⌜r = groupCarry dims2 (run2 v22 v28) (fun x => x) hA hB a b (k0_off9_inb i k) (k0_off10_inb i k) arg3 arg4 f3 f4⌝
        ∗ Bufs c f3 f4 (groupDk dims2 (run2 v22 v28) (fun x => x) hA hB a b (k0_off9_inb i k) (k0_off10_inb i k) arg3 arg4 arg10 f3 f4 f10)
          (groupDv dims2 (run2 v22 v28) (fun x => x) hA hB a b (k0_off9_inb i k) (k0_off10_inb i k) arg3 arg11 f3 f11))) := by
  unfold k0_t5_body
  iintro ⟨H3, H4, H10, H11⟩
  sl_exec
  sl_step
  isplitr
  · ipureintro; rfl
  isplitl [H3]; · iexact H3
  isplitl [H4]; · iexact H4
  isplitl [H10]; · iexact H10
  iexact H11

set_option maxHeartbeats 4000000 in
theorem trip7 (arg1 : BitVec 32) (v277_0 : FVec F S256x128 .f32) (v277_1 : FVec F S256x1 .f32) (v277_2 : FVec F S256x1 .f32) (v277_3 : FVec F S256x128 .f32) (v277_4 : FVec F S256x1 .f32) (v277_5 : FVec F S256x1 .f32) (v279 : BitVec 32) (v281 : BitVec 32) (v282 : BitVec 32) (v296 : BitVec 1) (v307 : BitVec 32) (k : Fin (k0_t7_loop i).trips) :
    (Bufs c f3 f4 f10 f11 : sProp 𝕄) ⊢ wp frame (wpE (defs₀ (F := F)) Variants.none (c : Thread nD τ) none) Set.univ
      (k0_t7_body (F := F) i arg2 harg2 arg3 harg3 arg4 harg4 arg5 harg5 arg6 harg6 arg7 harg7 arg8 harg8 arg9 harg9 arg10 harg10 arg11 harg11 arg1 hA.q hB.q hA.dout hB.dout hA.total hB.total v22 v28 v277_0 v277_1 v277_2 v277_3 v277_4 v277_5 v279 v281 v282 v296 v307 k
        (a.1, a.2.1, a.2.2, b.1, b.2.1, b.2.2))
      (fun r => iprop(⌜r = groupCarry dims1 (run1 v22 v28) (fun x => x) hA hB a b (k0_off13_inb i k) (k0_off14_inb i k) arg3 arg4 f3 f4⌝
        ∗ Bufs c f3 f4 (groupDk dims1 (run1 v22 v28) (fun x => x) hA hB a b (k0_off13_inb i k) (k0_off14_inb i k) arg3 arg4 arg10 f3 f4 f10)
          (groupDv dims1 (run1 v22 v28) (fun x => x) hA hB a b (k0_off13_inb i k) (k0_off14_inb i k) arg3 arg11 f3 f11))) := by
  unfold k0_t7_body
  iintro ⟨H3, H4, H10, H11⟩
  sl_exec
  sl_step
  isplitr
  · ipureintro; rfl
  isplitl [H3]; · iexact H3
  isplitl [H4]; · iexact H4
  isplitl [H10]; · iexact H10
  iexact H11

set_option maxHeartbeats 4000000 in
theorem trip9 (arg1 : BitVec 32) (v334 : BitVec 32) (k : Fin (k0_t9_loop i).trips) :
    (Bufs c f3 f4 f10 f11 : sProp 𝕄) ⊢ wp frame (wpE (defs₀ (F := F)) Variants.none (c : Thread nD τ) none) Set.univ
      (k0_t9_body (F := F) i arg2 harg2 arg3 harg3 arg4 harg4 arg5 harg5 arg6 harg6 arg7 harg7 arg8 harg8 arg9 harg9 arg10 harg10 arg11 harg11 arg1 hA.q hB.q hA.dout hB.dout hA.total hB.total v22 v28 v334 k
        (a.1, a.2.1, a.2.2, b.1, b.2.1, b.2.2))
      (fun r => iprop(⌜r = groupCarry dims1 (run1 v22 v28) (masked (maskOk (Scalar.muli arg1 256#32) (Scalar.muli (Scf.iv v334 1#32 k) 256#32))) hA hB a b (k0_off17_inb i k) (k0_off18_inb i k) arg3 arg4 f3 f4⌝
        ∗ Bufs c f3 f4 (groupDk dims1 (run1 v22 v28) (masked (maskOk (Scalar.muli arg1 256#32) (Scalar.muli (Scf.iv v334 1#32 k) 256#32))) hA hB a b (k0_off17_inb i k) (k0_off18_inb i k) arg3 arg4 arg10 f3 f4 f10)
          (groupDv dims1 (run1 v22 v28) (masked (maskOk (Scalar.muli arg1 256#32) (Scalar.muli (Scf.iv v334 1#32 k) 256#32))) hA hB a b (k0_off17_inb i k) (k0_off18_inb i k) arg3 arg11 f3 f11))) := by
  unfold k0_t9_body
  iintro ⟨H3, H4, H10, H11⟩
  sl_exec
  sl_step
  isplitr
  · ipureintro; rfl
  isplitl [H3]; · iexact H3
  isplitl [H4]; · iexact H4
  isplitl [H10]; · iexact H10
  iexact H11

end

end Cert.Proof.Sb

end
-- ==== Proof.LoopInv.lean ====
module

public import proofs.«01_k».proof.Proof.Trips

/-! The loops over the key tiles, each by its invariant.

Before trip `k` both heads carry, and the two accumulators hold, what `k` groups leave. The loops that
take the remainder of a group width make no trip. -/

@[expose] public section

set_option warn.classDefReducibility false
set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

/-- What both heads carry and what the two accumulators hold. -/
abbrev St (c : Dev nD) (arg10 arg11 : Memref sig .tc .vmem S4352x256 .f32) (F : FTy → Type) [FloatOps F] :=
  Acc F × Buf (Elt F) (arg10.view.loc (c : Thread nD τ)) × Buf (Elt F) (arg11.view.loc (c : Thread nD τ))

def accA (x : Acc F) : Carry F := (x.1, x.2.1, x.2.2.1)
def accB (x : Acc F) : Carry F := x.2.2.2

theorem acc_eq (x : Acc F) : ((accA x).1, (accA x).2.1, (accA x).2.2, (accB x).1, (accB x).2.1, (accB x).2.2) = x := rfl

section
variable (c : Dev nD) {arg3 arg4 : Memref sig .tc .vmem S4352x256 .bf16} {arg10 arg11 : Memref sig .tc .vmem S4352x256 .f32}

/-- `k` trips from `s`. -/
def trips {n : ℕ} (next : Fin n → St c arg10 arg11 F → St c arg10 arg11 F) (s : St c arg10 arg11 F) : ℕ → St c arg10 arg11 F
  | 0 => s
  | k + 1 => if h : k < n then next ⟨k, h⟩ (trips next s k) else trips next s k

theorem trips_succ {n : ℕ} (next : Fin n → St c arg10 arg11 F → St c arg10 arg11 F) (s : St c arg10 arg11 F) (k : Fin n) :
    trips c next s (k.val + 1) = next k (trips c next s k.val) := dif_pos k.isLt

/-- Both heads' step over one group. -/
def next {sz : Fin 2 → ℕ} {C : Shape} (D : Dims ⟨2, sz⟩ C) (run : Run F C) (mask : FVec F C .f32 → FVec F C .f32) (hA hB : Head F)
    {oA oB : Fin 2 → ℕ} (pA : ∀ x, oA x + sz x ≤ S4352x256.size x) (pB : ∀ x, oB x + sz x ≤ S4352x256.size x)
    (f3 : Buf (Elt F) (arg3.view.loc (c : Thread nD τ))) (f4 : Buf (Elt F) (arg4.view.loc (c : Thread nD τ))) (s : St c arg10 arg11 F) : St c arg10 arg11 F :=
  (groupCarry D run mask hA hB (accA s.1) (accB s.1) pA pB arg3 arg4 f3 f4,
    groupDk D run mask hA hB (accA s.1) (accB s.1) pA pB arg3 arg4 arg10 f3 f4 s.2.1,
    groupDv D run mask hA hB (accA s.1) (accB s.1) pA pB arg3 arg11 f3 s.2.2)

/-- The resources before a trip. -/
abbrev Holds (f3 : Buf (Elt F) (arg3.view.loc (c : Thread nD τ))) (f4 : Buf (Elt F) (arg4.view.loc (c : Thread nD τ))) (s : St c arg10 arg11 F) (acc : Acc F) : sProp 𝕄 :=
  iprop(⌜acc = s.1⌝ ∗ Bufs c f3 f4 s.2.1 s.2.2)

theorem holds_step (f3 : Buf (Elt F) (arg3.view.loc (c : Thread nD τ))) (f4 : Buf (Elt F) (arg4.view.loc (c : Thread nD τ))) (s : St c arg10 arg11 F) (acc : Acc F)
    {P : Acc F → sProp 𝕄} (h : (Bufs c f3 f4 s.2.1 s.2.2 : sProp 𝕄) ⊢ P s.1) : (Holds c f3 f4 s acc : sProp 𝕄) ⊢ P acc := by
  iintro ⟨%e, H⟩
  subst e
  iapply h
  iexact H

/-- The resources before a trip, the state by its parts. -/
abbrev Held (f3 : Buf (Elt F) (arg3.view.loc (c : Thread nD τ))) (f4 : Buf (Elt F) (arg4.view.loc (c : Thread nD τ))) (s : St c arg10 arg11 F) (acc : Acc F) : sProp 𝕄 :=
  iprop(∃ g10 g11, Bufs c f3 f4 g10 g11 ∗ ⌜(acc, g10, g11) = s⌝)

theorem holds_held (f3 : Buf (Elt F) (arg3.view.loc (c : Thread nD τ))) (f4 : Buf (Elt F) (arg4.view.loc (c : Thread nD τ))) (s : St c arg10 arg11 F) (acc : Acc F) :
    (Holds c f3 f4 s acc : sProp 𝕄) ⊢ Held c f3 f4 s acc := by
  iintro ⟨%e, H⟩
  iexists s.2.1, s.2.2
  isplitl [H]
  · iexact H
  · ipureintro; subst e; rfl

theorem held_holds (f3 : Buf (Elt F) (arg3.view.loc (c : Thread nD τ))) (f4 : Buf (Elt F) (arg4.view.loc (c : Thread nD τ))) (s : St c arg10 arg11 F) (acc : Acc F) :
    (Held c f3 f4 s acc : sProp 𝕄) ⊢ Holds c f3 f4 s acc := by
  iintro ⟨%g10, %g11, H, %e⟩
  subst e
  isplitr
  · ipureintro; rfl
  · iexact H
end

section
variable (c : Dev nD) (i : grid0.Coords) (arg2 : Memref sig .tc .vmem S256x256 .bf16) (harg2 : arg2.IsWhole) (arg3 : Memref sig .tc .vmem S4352x256 .bf16) (harg3 : arg3.IsWhole) (arg4 : Memref sig .tc .vmem S4352x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4352x256 .bf16) (harg8 : arg8.IsWhole) (arg9 : Memref sig .tc .vmem S4352x256 .bf16) (harg9 : arg9.IsWhole) (arg10 : Memref sig .tc .vmem S4352x256 .f32) (harg10 : arg10.IsWhole) (arg11 : Memref sig .tc .vmem S4352x256 .f32) (harg11 : arg11.IsWhole)
  (f3 : Buf (Elt F) (arg3.view.loc (c : Thread nD τ))) (f4 : Buf (Elt F) (arg4.view.loc (c : Thread nD τ)))
  (f10 : Buf (Elt F) (arg10.view.loc (c : Thread nD τ))) (f11 : Buf (Elt F) (arg11.view.loc (c : Thread nD τ)))

def next1 {c : Dev nD} (i : grid0.Coords) {arg3 arg4 : Memref sig .tc .vmem S4352x256 .bf16} {arg10 arg11 : Memref sig .tc .vmem S4352x256 .f32}
    (hA hB : Head F) (v22 v28 : FVec F S256x256 .bf16) (f3 : Buf (Elt F) (arg3.view.loc (c : Thread nD τ))) (f4 : Buf (Elt F) (arg4.view.loc (c : Thread nD τ)))
    (k : Fin (k0_t1_loop i).trips) : St c arg10 arg11 F → St c arg10 arg11 F :=
  next c dims8 (run8 v22 v28) (fun x => x) hA hB (k0_off1_inb i k) (k0_off2_inb i k) f3 f4

@[sl_loop] def loopInv1 (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v29 : FVec F S256x1 .f32) (v30 : FVec F S256x128 .f32) (v32 : BitVec 32) (v33 : BitVec 32) (v134 : FVec F S256x128 .f32) (v135 : FVec F S256x1 .f32) (v136 : FVec F S256x1 .f32) (v140 : FVec F S256x128 .bf16) (v159 : FVec F S256x1 .f32) (v175 : FVec F S256x256 .f32) (v183 : FVec F S256x1 .f32) (v204 : FVec F S256x256 .bf16) (init : Acc F) :
    LoopInvTy_k0_t1 Unit ℕ (UR sig nD τ) ℕ Variants.none c none Set.univ i arg2 harg2 arg3 harg3 arg4 harg4 arg5 harg5 arg6 harg6 arg7 harg7 arg8 harg8 arg9 harg9 arg10 harg10 arg11 harg11 v4 v6 v8 v10 v13 v16 v22 v28 v29 v30 v32 v33 v134 v135 v136 v140 v159 v175 v183 v204 init where
  inv k acc := Held c f3 f4 (trips c (next1 i ⟨v4, v8, v13⟩ ⟨v6, v10, v16⟩ v22 v28 f3 f4) (init, f10, f11) k) acc
  step k acc := by
    rw [trips_succ]
    generalize trips c (next1 i ⟨v4, v8, v13⟩ ⟨v6, v10, v16⟩ v22 v28 f3 f4) (init, f10, f11) k.val = s
    refine (held_holds c f3 f4 s acc).trans (.trans ?_ (Sem.wp_mono _ _ _ fun r => holds_held c f3 f4 _ r))
    refine holds_step c f3 f4 s acc (P := fun acc => wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 v4 v6 v8 v10 v13 v16 v22 v28 v29 v30 v32 v33 v134 v135 v136 v140 v159 v175 v183 v204 k acc) (fun r => Holds c f3 f4 (next1 i ⟨v4, v8, v13⟩ ⟨v6, v10, v16⟩ v22 v28 f3 f4 k s) r)) ?_
    unfold next1 next
    have H := trip1 c i arg2 harg2 arg3 harg3 arg4 harg4 arg5 harg5 arg6 harg6 arg7 harg7 arg8 harg8 arg9 harg9 arg10 harg10 arg11 harg11 ⟨v4, v8, v13⟩ ⟨v6, v10, v16⟩ v22 v28 (accA s.1) (accB s.1) f3 f4 s.2.1 s.2.2 v29 v30 v32 v33 v134 v135 v136 v140 v159 v175 v183 v204 k
    rw [acc_eq] at H
    dsimp only [Holds] at H ⊢
    refine H.trans ?_
    exact .rfl

@[sl_loop] def loopInv2 (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v29 : FVec F S256x1 .f32) (v30 : FVec F S256x128 .f32) (v32 : BitVec 32) (v33 : BitVec 32) (v134 : FVec F S256x128 .f32) (v135 : FVec F S256x1 .f32) (v136 : FVec F S256x1 .f32) (v140 : FVec F S256x128 .bf16) (v159 : FVec F S256x1 .f32) (v175 : FVec F S256x256 .f32) (v183 : FVec F S256x1 .f32) (v204 : FVec F S256x256 .bf16) (v247 : BitVec 32) (init : Acc F) :
    LoopInvTy_k0_t2 Unit ℕ (UR sig nD τ) ℕ Variants.none c none Set.univ i arg2 harg2 arg3 harg3 arg4 harg4 arg5 harg5 arg6 harg6 arg7 harg7 arg8 harg8 arg9 harg9 arg10 harg10 arg11 harg11 v4 v6 v8 v10 v13 v16 v22 v28 v29 v30 v32 v33 v134 v135 v136 v140 v159 v175 v183 v204 v247 init where
  inv k acc := iprop(⌜acc = init⌝)
  step k acc := (Fin.cast (trips2 i) k).elim0

def next3 {c : Dev nD} (i : grid0.Coords) {arg3 arg4 : Memref sig .tc .vmem S4352x256 .bf16} {arg10 arg11 : Memref sig .tc .vmem S4352x256 .f32}
    (hA hB : Head F) (v22 v28 : FVec F S256x256 .bf16) (f3 : Buf (Elt F) (arg3.view.loc (c : Thread nD τ))) (f4 : Buf (Elt F) (arg4.view.loc (c : Thread nD τ)))
    (k : Fin (k0_t3_loop i).trips) : St c arg10 arg11 F → St c arg10 arg11 F :=
  next c dims4 (run4 v22 v28) (fun x => x) hA hB (k0_off5_inb i k) (k0_off6_inb i k) f3 f4

@[sl_loop] def loopInv3 (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v249_0 : FVec F S256x128 .f32) (v249_1 : FVec F S256x1 .f32) (v249_2 : FVec F S256x1 .f32) (v249_3 : FVec F S256x128 .f32) (v249_4 : FVec F S256x1 .f32) (v249_5 : FVec F S256x1 .f32) (v251 : BitVec 32) (v253 : BitVec 32) (c4_i32 : BitVec 32) (v254 : BitVec 32) (init : Acc F) :
    LoopInvTy_k0_t3 Unit ℕ (UR sig nD τ) ℕ Variants.none c none Set.univ i arg2 harg2 arg3 harg3 arg4 harg4 arg5 harg5 arg6 harg6 arg7 harg7 arg8 harg8 arg9 harg9 arg10 harg10 arg11 harg11 v4 v6 v8 v10 v13 v16 v22 v28 v249_0 v249_1 v249_2 v249_3 v249_4 v249_5 v251 v253 c4_i32 v254 init where
  inv k acc := Held c f3 f4 (trips c (next3 i ⟨v4, v8, v13⟩ ⟨v6, v10, v16⟩ v22 v28 f3 f4) (init, f10, f11) k) acc
  step k acc := by
    rw [trips_succ]
    generalize trips c (next3 i ⟨v4, v8, v13⟩ ⟨v6, v10, v16⟩ v22 v28 f3 f4) (init, f10, f11) k.val = s
    refine (held_holds c f3 f4 s acc).trans (.trans ?_ (Sem.wp_mono _ _ _ fun r => holds_held c f3 f4 _ r))
    refine holds_step c f3 f4 s acc (P := fun acc => wp frame (wpE (defs₀ (F := F)) Variants.none (c : Thread nD τ) none) Set.univ
      (k0_t3_body (F := F) i arg2 harg2 arg3 harg3 arg4 harg4 arg5 harg5 arg6 harg6 arg7 harg7 arg8 harg8 arg9 harg9 arg10 harg10 arg11 harg11 v4 v6 v8 v10 v13 v16 v22 v28 v249_0 v249_1 v249_2 v249_3 v249_4 v249_5 v251 v253 c4_i32 v254 k acc) (fun r => Holds c f3 f4 (next3 i ⟨v4, v8, v13⟩ ⟨v6, v10, v16⟩ v22 v28 f3 f4 k s) r)) ?_
    unfold next3 next
    have H := trip3 c i arg2 harg2 arg3 harg3 arg4 harg4 arg5 harg5 arg6 harg6 arg7 harg7 arg8 harg8 arg9 harg9 arg10 harg10 arg11 harg11 ⟨v4, v8, v13⟩ ⟨v6, v10, v16⟩ v22 v28 (accA s.1) (accB s.1) f3 f4 s.2.1 s.2.2 v249_0 v249_1 v249_2 v249_3 v249_4 v249_5 v251 v253 c4_i32 v254 k
    rw [acc_eq] at H
    dsimp only [Holds] at H ⊢
    refine H.trans ?_
    exact .rfl

@[sl_loop] def loopInv4 (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v249_0 : FVec F S256x128 .f32) (v249_1 : FVec F S256x1 .f32) (v249_2 : FVec F S256x1 .f32) (v249_3 : FVec F S256x128 .f32) (v249_4 : FVec F S256x1 .f32) (v249_5 : FVec F S256x1 .f32) (v251 : BitVec 32) (v253 : BitVec 32) (c4_i32 : BitVec 32) (v254 : BitVec 32) (v275 : BitVec 32) (init : Acc F) :
    LoopInvTy_k0_t4 Unit ℕ (UR sig nD τ) ℕ Variants.none c none Set.univ i arg2 harg2 arg3 harg3 arg4 harg4 arg5 harg5 arg6 harg6 arg7 harg7 arg8 harg8 arg9 harg9 arg10 harg10 arg11 harg11 v4 v6 v8 v10 v13 v16 v22 v28 v249_0 v249_1 v249_2 v249_3 v249_4 v249_5 v251 v253 c4_i32 v254 v275 init where
  inv k acc := iprop(⌜acc = init⌝)
  step k acc := (Fin.cast (trips4 i) k).elim0

def next5 {c : Dev nD} (i : grid0.Coords) {arg3 arg4 : Memref sig .tc .vmem S4352x256 .bf16} {arg10 arg11 : Memref sig .tc .vmem S4352x256 .f32}
    (hA hB : Head F) (v22 v28 : FVec F S256x256 .bf16) (f3 : Buf (Elt F) (arg3.view.loc (c : Thread nD τ))) (f4 : Buf (Elt F) (arg4.view.loc (c : Thread nD τ)))
    (k : Fin (k0_t5_loop i).trips) : St c arg10 arg11 F → St c arg10 arg11 F :=
  next c dims2 (run2 v22 v28) (fun x => x) hA hB (k0_off9_inb i k) (k0_off10_inb i k) f3 f4

@[sl_loop] def loopInv5 (arg1 : BitVec 32) (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v277_0 : FVec F S256x128 .f32) (v277_1 : FVec F S256x1 .f32) (v277_2 : FVec F S256x1 .f32) (v277_3 : FVec F S256x128 .f32) (v277_4 : FVec F S256x1 .f32) (v277_5 : FVec F S256x1 .f32) (v279 : BitVec 32) (v281 : BitVec 32) (v282 : BitVec 32) (v296 : BitVec 1) (init : Acc F) :
    LoopInvTy_k0_t5 Unit ℕ (UR sig nD τ) ℕ Variants.none c none Set.univ i arg2 harg2 arg3 harg3 arg4 harg4 arg5 harg5 arg6 harg6 arg7 harg7 arg8 harg8 arg9 harg9 arg10 harg10 arg11 harg11 arg1 v4 v6 v8 v10 v13 v16 v22 v28 v277_0 v277_1 v277_2 v277_3 v277_4 v277_5 v279 v281 v282 v296 init where
  inv k acc := Held c f3 f4 (trips c (next5 i ⟨v4, v8, v13⟩ ⟨v6, v10, v16⟩ v22 v28 f3 f4) (init, f10, f11) k) acc
  step k acc := by
    rw [trips_succ]
    generalize trips c (next5 i ⟨v4, v8, v13⟩ ⟨v6, v10, v16⟩ v22 v28 f3 f4) (init, f10, f11) k.val = s
    refine (held_holds c f3 f4 s acc).trans (.trans ?_ (Sem.wp_mono _ _ _ fun r => holds_held c f3 f4 _ r))
    refine holds_step c f3 f4 s acc (P := fun acc => wp frame (wpE (defs₀ (F := F)) Variants.none (c : Thread nD τ) none) Set.univ
      (k0_t5_body (F := F) i arg2 harg2 arg3 harg3 arg4 harg4 arg5 harg5 arg6 harg6 arg7 harg7 arg8 harg8 arg9 harg9 arg10 harg10 arg11 harg11 arg1 v4 v6 v8 v10 v13 v16 v22 v28 v277_0 v277_1 v277_2 v277_3 v277_4 v277_5 v279 v281 v282 v296 k acc) (fun r => Holds c f3 f4 (next5 i ⟨v4, v8, v13⟩ ⟨v6, v10, v16⟩ v22 v28 f3 f4 k s) r)) ?_
    unfold next5 next
    have H := trip5 c i arg2 harg2 arg3 harg3 arg4 harg4 arg5 harg5 arg6 harg6 arg7 harg7 arg8 harg8 arg9 harg9 arg10 harg10 arg11 harg11 ⟨v4, v8, v13⟩ ⟨v6, v10, v16⟩ v22 v28 (accA s.1) (accB s.1) f3 f4 s.2.1 s.2.2 arg1 v277_0 v277_1 v277_2 v277_3 v277_4 v277_5 v279 v281 v282 v296 k
    rw [acc_eq] at H
    dsimp only [Holds] at H ⊢
    refine H.trans ?_
    exact .rfl

@[sl_loop] def loopInv6 (arg1 : BitVec 32) (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v277_0 : FVec F S256x128 .f32) (v277_1 : FVec F S256x1 .f32) (v277_2 : FVec F S256x1 .f32) (v277_3 : FVec F S256x128 .f32) (v277_4 : FVec F S256x1 .f32) (v277_5 : FVec F S256x1 .f32) (v279 : BitVec 32) (v281 : BitVec 32) (v282 : BitVec 32) (v296 : BitVec 1) (v303 : BitVec 32) (init : Acc F) :
    LoopInvTy_k0_t6 Unit ℕ (UR sig nD τ) ℕ Variants.none c none Set.univ i arg2 harg2 arg3 harg3 arg4 harg4 arg5 harg5 arg6 harg6 arg7 harg7 arg8 harg8 arg9 harg9 arg10 harg10 arg11 harg11 arg1 v4 v6 v8 v10 v13 v16 v22 v28 v277_0 v277_1 v277_2 v277_3 v277_4 v277_5 v279 v281 v282 v296 v303 init where
  inv k acc := iprop(⌜acc = init⌝)
  step k acc := (Fin.cast (trips6 i) k).elim0

def next7 {c : Dev nD} (i : grid0.Coords) {arg3 arg4 : Memref sig .tc .vmem S4352x256 .bf16} {arg10 arg11 : Memref sig .tc .vmem S4352x256 .f32}
    (hA hB : Head F) (v22 v28 : FVec F S256x256 .bf16) (f3 : Buf (Elt F) (arg3.view.loc (c : Thread nD τ))) (f4 : Buf (Elt F) (arg4.view.loc (c : Thread nD τ)))
    (k : Fin (k0_t7_loop i).trips) : St c arg10 arg11 F → St c arg10 arg11 F :=
  next c dims1 (run1 v22 v28) (fun x => x) hA hB (k0_off13_inb i k) (k0_off14_inb i k) f3 f4

@[sl_loop] def loopInv7 (arg1 : BitVec 32) (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v277_0 : FVec F S256x128 .f32) (v277_1 : FVec F S256x1 .f32) (v277_2 : FVec F S256x1 .f32) (v277_3 : FVec F S256x128 .f32) (v277_4 : FVec F S256x1 .f32) (v277_5 : FVec F S256x1 .f32) (v279 : BitVec 32) (v281 : BitVec 32) (v282 : BitVec 32) (v296 : BitVec 1) (v307 : BitVec 32) (init : Acc F) :
    LoopInvTy_k0_t7 Unit ℕ (UR sig nD τ) ℕ Variants.none c none Set.univ i arg2 harg2 arg3 harg3 arg4 harg4 arg5 harg5 arg6 harg6 arg7 harg7 arg8 harg8 arg9 harg9 arg10 harg10 arg11 harg11 arg1 v4 v6 v8 v10 v13 v16 v22 v28 v277_0 v277_1 v277_2 v277_3 v277_4 v277_5 v279 v281 v282 v296 v307 init where
  inv k acc := Held c f3 f4 (trips c (next7 i ⟨v4, v8, v13⟩ ⟨v6, v10, v16⟩ v22 v28 f3 f4) (init, f10, f11) k) acc
  step k acc := by
    rw [trips_succ]
    generalize trips c (next7 i ⟨v4, v8, v13⟩ ⟨v6, v10, v16⟩ v22 v28 f3 f4) (init, f10, f11) k.val = s
    refine (held_holds c f3 f4 s acc).trans (.trans ?_ (Sem.wp_mono _ _ _ fun r => holds_held c f3 f4 _ r))
    refine holds_step c f3 f4 s acc (P := fun acc => wp frame (wpE (defs₀ (F := F)) Variants.none (c : Thread nD τ) none) Set.univ
      (k0_t7_body (F := F) i arg2 harg2 arg3 harg3 arg4 harg4 arg5 harg5 arg6 harg6 arg7 harg7 arg8 harg8 arg9 harg9 arg10 harg10 arg11 harg11 arg1 v4 v6 v8 v10 v13 v16 v22 v28 v277_0 v277_1 v277_2 v277_3 v277_4 v277_5 v279 v281 v282 v296 v307 k acc) (fun r => Holds c f3 f4 (next7 i ⟨v4, v8, v13⟩ ⟨v6, v10, v16⟩ v22 v28 f3 f4 k s) r)) ?_
    unfold next7 next
    have H := trip7 c i arg2 harg2 arg3 harg3 arg4 harg4 arg5 harg5 arg6 harg6 arg7 harg7 arg8 harg8 arg9 harg9 arg10 harg10 arg11 harg11 ⟨v4, v8, v13⟩ ⟨v6, v10, v16⟩ v22 v28 (accA s.1) (accB s.1) f3 f4 s.2.1 s.2.2 arg1 v277_0 v277_1 v277_2 v277_3 v277_4 v277_5 v279 v281 v282 v296 v307 k
    rw [acc_eq] at H
    dsimp only [Holds] at H ⊢
    refine H.trans ?_
    exact .rfl

@[sl_loop] def loopInv8 (arg1 : BitVec 32) (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v277_0 : FVec F S256x128 .f32) (v277_1 : FVec F S256x1 .f32) (v277_2 : FVec F S256x1 .f32) (v277_3 : FVec F S256x128 .f32) (v277_4 : FVec F S256x1 .f32) (v277_5 : FVec F S256x1 .f32) (v279 : BitVec 32) (v281 : BitVec 32) (v282 : BitVec 32) (v296 : BitVec 1) (v307 : BitVec 32) (v331 : BitVec 32) (init : Acc F) :
    LoopInvTy_k0_t8 Unit ℕ (UR sig nD τ) ℕ Variants.none c none Set.univ i arg2 harg2 arg3 harg3 arg4 harg4 arg5 harg5 arg6 harg6 arg7 harg7 arg8 harg8 arg9 harg9 arg10 harg10 arg11 harg11 arg1 v4 v6 v8 v10 v13 v16 v22 v28 v277_0 v277_1 v277_2 v277_3 v277_4 v277_5 v279 v281 v282 v296 v307 v331 init where
  inv k acc := iprop(⌜acc = init⌝)
  step k acc := (Fin.cast (trips8 i) k).elim0

def next9 {c : Dev nD} (i : grid0.Coords) {arg3 arg4 : Memref sig .tc .vmem S4352x256 .bf16} {arg10 arg11 : Memref sig .tc .vmem S4352x256 .f32}
    (hA hB : Head F) (v22 v28 : FVec F S256x256 .bf16) (arg1 v334 : BitVec 32) (f3 : Buf (Elt F) (arg3.view.loc (c : Thread nD τ))) (f4 : Buf (Elt F) (arg4.view.loc (c : Thread nD τ)))
    (k : Fin (k0_t9_loop i).trips) : St c arg10 arg11 F → St c arg10 arg11 F :=
  next c dims1 (run1 v22 v28) (masked (maskOk (Scalar.muli arg1 256#32) (Scalar.muli (Scf.iv v334 1#32 k) 256#32))) hA hB (k0_off17_inb i k) (k0_off18_inb i k) f3 f4

@[sl_loop] def loopInv9 (arg1 : BitVec 32) (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v334 : BitVec 32) (init : Acc F) :
    LoopInvTy_k0_t9 Unit ℕ (UR sig nD τ) ℕ Variants.none c none Set.univ i arg2 harg2 arg3 harg3 arg4 harg4 arg5 harg5 arg6 harg6 arg7 harg7 arg8 harg8 arg9 harg9 arg10 harg10 arg11 harg11 arg1 v4 v6 v8 v10 v13 v16 v22 v28 v334 init where
  inv k acc := Held c f3 f4 (trips c (next9 i ⟨v4, v8, v13⟩ ⟨v6, v10, v16⟩ v22 v28 arg1 v334 f3 f4) (init, f10, f11) k) acc
  step k acc := by
    rw [trips_succ]
    generalize trips c (next9 i ⟨v4, v8, v13⟩ ⟨v6, v10, v16⟩ v22 v28 arg1 v334 f3 f4) (init, f10, f11) k.val = s
    refine (held_holds c f3 f4 s acc).trans (.trans ?_ (Sem.wp_mono _ _ _ fun r => holds_held c f3 f4 _ r))
    refine holds_step c f3 f4 s acc (P := fun acc => wp frame (wpE (defs₀ (F := F)) Variants.none (c : Thread nD τ) none) Set.univ
      (k0_t9_body (F := F) i arg2 harg2 arg3 harg3 arg4 harg4 arg5 harg5 arg6 harg6 arg7 harg7 arg8 harg8 arg9 harg9 arg10 harg10 arg11 harg11 arg1 v4 v6 v8 v10 v13 v16 v22 v28 v334 k acc) (fun r => Holds c f3 f4 (next9 i ⟨v4, v8, v13⟩ ⟨v6, v10, v16⟩ v22 v28 arg1 v334 f3 f4 k s) r)) ?_
    unfold next9 next
    have H := trip9 c i arg2 harg2 arg3 harg3 arg4 harg4 arg5 harg5 arg6 harg6 arg7 harg7 arg8 harg8 arg9 harg9 arg10 harg10 arg11 harg11 ⟨v4, v8, v13⟩ ⟨v6, v10, v16⟩ v22 v28 (accA s.1) (accB s.1) f3 f4 s.2.1 s.2.2 arg1 v334 k
    rw [acc_eq] at H
    dsimp only [Holds] at H ⊢
    refine H.trans ?_
    exact .rfl

@[sl_loop] def loopInv10 (arg1 : BitVec 32) (v4 : FVec F S256x128 .bf16) (v6 : FVec F S256x128 .bf16) (v8 : FVec F S256x128 .bf16) (v10 : FVec F S256x128 .bf16) (v13 : FVec F S256x1 .f32) (v16 : FVec F S256x1 .f32) (v22 : FVec F S256x256 .bf16) (v28 : FVec F S256x256 .bf16) (v340 : BitVec 32) (init : Acc F) :
    LoopInvTy_k0_t10 Unit ℕ (UR sig nD τ) ℕ Variants.none c none Set.univ i arg2 harg2 arg3 harg3 arg4 harg4 arg5 harg5 arg6 harg6 arg7 harg7 arg8 harg8 arg9 harg9 arg10 harg10 arg11 harg11 arg1 v4 v6 v8 v10 v13 v16 v22 v28 v340 init where
  inv k acc := iprop(⌜acc = init⌝)
  step k acc := (Fin.cast (trips10 i) k).elim0

end

end Cert.Proof.Sb

end
-- ==== Proof.Body.lean ====
module

public import proofs.«01_k».proof.Proof.LoopInv

/-! The whole kernel body at one grid point, as a pure function of what its buffers hold.

The first query tile of a pair of heads clears the accumulators. Each query tile then walks its key tiles and
writes the gradient of its queries, and the last one writes the two accumulators. -/

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S256x256 .bf16) (arg3 arg4 : Memref sig .tc .vmem S4352x256 .bf16)
  (arg5 : Memref sig .tc .vmem S256x256 .bf16) (arg6 : Memref sig .tc .vmem S2x256x128 .f32) (arg7 : Memref sig .tc .vmem S256x256 .bf16)
  (arg8 arg9 : Memref sig .tc .vmem S4352x256 .bf16) (arg10 arg11 : Memref sig .tc .vmem S4352x256 .f32)
  (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))
  (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ)))

/-- What the first head of the pair keeps for the query tile. -/
def headA : Head F where
  q := k0_pay643 (arg2.view.readAt (Elt F) (Rect.unit (s := S256x256) ![0, 0] S256x128.size inb_S256x256_S256x128_0_0).toLoadRect f2)
  dout := k0_pay645 (arg5.view.readAt (Elt F) (Rect.unit (s := S256x256) ![0, 0] S256x128.size inb_S256x256_S256x128_0_0).toLoadRect f5)
  total := k0_pay647 (arg6.view.readAt (Elt F) (Rect.unit (s := S2x256x128) ![0, 0, 0] S1x256x128.size inb_S2x256x128_S1x256x128_0_0_0).toLoadRect f6)
/-- What the second head of the pair keeps for the query tile. -/
def headB : Head F where
  q := k0_pay644 (arg2.view.readAt (Elt F) (Rect.unit (s := S256x256) ![0, 128] S256x128.size inb_S256x256_S256x128_0_128).toLoadRect f2)
  dout := k0_pay646 (arg5.view.readAt (Elt F) (Rect.unit (s := S256x256) ![0, 128] S256x128.size inb_S256x256_S256x128_0_128).toLoadRect f5)
  total := k0_pay648 (arg6.view.readAt (Elt F) (Rect.unit (s := S2x256x128) ![1, 0, 0] S1x256x128.size inb_S2x256x128_S1x256x128_1_0_0).toLoadRect f6)

/-- The number of the query tile, as the kernel computes with it. -/
def word : BitVec 32 := BitVec.ofNat 32 (i 1).val

/-- The carries at the start of a query tile. -/
def acc0 : Acc F := (k0_pay652, k0_pay651, k0_pay651, k0_pay652, k0_pay651, k0_pay651)

/-- One when the query tile is the first of its pair of heads. -/
def first : BitVec 1 := Scalar.cmpi .ne (Scalar.extui (Scalar.cmpi .eq (BitVec.ofNat 32 (i 1).val) 0#32) : BitVec 32) 0#32

/-- An accumulator as the walk finds it: cleared at the first query tile. -/
def cleared (arg10 : Memref sig .tc .vmem S4352x256 .f32) (f : arg10.view.ty.Contents (Elt F)) : arg10.view.ty.Contents (Elt F) :=
  if first i = 1#1 then arg10.view.writes (Elt F) arg10.view.junk [⟨Rect.unit (s := S4352x256) ![0, 0] S4352x256.size inb_S4352x256_S4352x256_0_0, k0_pay641⟩] else f

/-- The walk over the key tiles, group by group. -/
def walk0 (hA hB : Head F) : St c arg10 arg11 F :=
  next c dims1 (run1 k0_pay649 k0_pay650) (masked (maskOk (Scalar.muli (word i) 256#32) 0#32)) hA hB
    inb_S4352x256_S256x128_0_0 inb_S4352x256_S256x128_0_128 f3 f4 (acc0, cleared i arg10 f10, cleared i arg11 f11)
def walk1 (hA hB : Head F) : St c arg10 arg11 F :=
  trips c (next1 i hA hB k0_pay649 k0_pay650 f3 f4) (walk0 c i arg3 arg4 arg10 arg11 f3 f4 f10 f11 hA hB) (k0_t1_loop i).trips
def walk3 (hA hB : Head F) : St c arg10 arg11 F :=
  trips c (next3 i hA hB k0_pay649 k0_pay650 f3 f4) (walk1 c i arg3 arg4 arg10 arg11 f3 f4 f10 f11 hA hB) (k0_t3_loop i).trips
def walk5 (hA hB : Head F) : St c arg10 arg11 F :=
  trips c (next5 i hA hB k0_pay649 k0_pay650 f3 f4) (walk3 c i arg3 arg4 arg10 arg11 f3 f4 f10 f11 hA hB) (k0_t5_loop i).trips
def walk7 (hA hB : Head F) : St c arg10 arg11 F :=
  trips c (next7 i hA hB k0_pay649 k0_pay650 f3 f4) (walk5 c i arg3 arg4 arg10 arg11 f3 f4 f10 f11 hA hB) (k0_t7_loop i).trips
def walk9 (hA hB : Head F) : St c arg10 arg11 F :=
  trips c (next9 i hA hB k0_pay649 k0_pay650 (word i) (Scalar.maxsi (word i) 1#32) f3 f4) (walk7 c i arg3 arg4 arg10 arg11 f3 f4 f10 f11 hA hB) (k0_t9_loop i).trips

/-- The walk's end. -/
def walk : St c arg10 arg11 F :=
  walk9 c i arg3 arg4 arg10 arg11 f3 f4 f10 f11 (headA c arg2 arg5 arg6 f2 f5 f6) (headB c arg2 arg5 arg6 f2 f5 f6)

/-- The gradient of the query tile. -/
def outDq (acc : Acc F) : Buf (Elt F) (arg7.view.loc (c : Thread nD τ)) :=
  arg7.view.writes (Elt F) f7 [⟨Rect.unit (s := S256x256) ![0, 128] S256x128.size inb_S256x256_S256x128_0_128, k0_pay12 acc.2.2.2.1⟩,
    ⟨Rect.unit (s := S256x256) ![0, 0] S256x128.size inb_S256x256_S256x128_0_0, k0_pay11 acc.1⟩]
/-- The key accumulator written out at the last query tile. -/
def outDk (g10 : Buf (Elt F) (arg10.view.loc (c : Thread nD τ))) : Buf (Elt F) (arg8.view.loc (c : Thread nD τ)) :=
  if k0_cond2 i = 1#1 then arg8.view.writes (Elt F) f8 [⟨Rect.unit (s := S4352x256) ![0, 0] S4352x256.size inb_S4352x256_S4352x256_0_0,
    k0_pay13 (arg10.view.readAt (Elt F) (Rect.unit (s := S4352x256) ![0, 0] S4352x256.size inb_S4352x256_S4352x256_0_0).toLoadRect g10)⟩] else f8
/-- The value accumulator written out at the last query tile. -/
def outDv (g11 : Buf (Elt F) (arg11.view.loc (c : Thread nD τ))) : Buf (Elt F) (arg9.view.loc (c : Thread nD τ)) :=
  if k0_cond2 i = 1#1 then arg9.view.writes (Elt F) f9 [⟨Rect.unit (s := S4352x256) ![0, 0] S4352x256.size inb_S4352x256_S4352x256_0_0,
    k0_pay14 (arg11.view.readAt (Elt F) (Rect.unit (s := S4352x256) ![0, 0] S4352x256.size inb_S4352x256_S4352x256_0_0).toLoadRect g11)⟩] else f9

/-- The ten buffers of the body. -/
abbrev All : sProp 𝕄 :=
  iprop((arg2.view.loc (c : Thread nD τ) ↦{fullShare} f2) ∗ (arg3.view.loc (c : Thread nD τ) ↦{fullShare} f3) ∗ (arg4.view.loc (c : Thread nD τ) ↦{fullShare} f4)
    ∗ (arg5.view.loc (c : Thread nD τ) ↦{fullShare} f5) ∗ (arg6.view.loc (c : Thread nD τ) ↦{fullShare} f6) ∗ (arg7.view.loc (c : Thread nD τ) ↦{fullShare} f7)
    ∗ (arg8.view.loc (c : Thread nD τ) ↦{fullShare} f8) ∗ (arg9.view.loc (c : Thread nD τ) ↦{fullShare} f9) ∗ (arg10.view.loc (c : Thread nD τ) ↦{fullShare} f10)
    ∗ (arg11.view.loc (c : Thread nD τ) ↦{fullShare} f11))
end

section
variable {sz : Fin 2 → ℕ} {C : Shape} (D : Dims ⟨2, sz⟩ C) (run : Run F C) (mask : FVec F C .f32 → FVec F C .f32) (hA hB : Head F) (a b : Carry F)
  {oA oB : Fin 2 → ℕ} (pA : ∀ x, oA x + sz x ≤ S4352x256.size x) (pB : ∀ x, oB x + sz x ≤ S4352x256.size x)
  (arg3 arg4 : Memref sig .tc .vmem S4352x256 .bf16) (arg10 : Memref sig .tc .vmem S4352x256 .f32)
  (f3 : arg3.view.ty.Contents (Elt F)) (f4 : arg4.view.ty.Contents (Elt F)) (f : arg10.view.ty.Contents (Elt F))

/-- The second head's columns read the same before and after the first head's are written. -/
theorem readAt_after (h : oA 1 + sz 1 ≤ oB 1) (w : (rows oA sz pA).shape.Idx → Elt F .f32) :
    arg10.view.readAt (Elt F) (rows oB sz pB).toLoadRect (arg10.view.writes (Elt F) f [⟨rows oA sz pA, w⟩])
      = arg10.view.readAt (Elt F) (rows oB sz pB).toLoadRect f := by
  refine View.readAt_writes_of_forall_not_mem _ _ _ _ fun j p hp hm => ?_
  obtain rfl := List.mem_singleton.mp hp
  exact Finset.disjoint_left.mp (Rect.unit_disjoint (s := S4352x256) (inb := pA) (1 : Fin 2) (Or.inl h)) hm ((rows oB sz pB).toLoadRect.idx_mem j)

theorem groupDk_seq (h : oA 1 + sz 1 ≤ oB 1) (L : List (View.Piece (Elt F) S4352x256 .f32)) :
    groupDk D run mask hA hB a b pA pB arg3 arg4 arg10 f3 f4 (arg10.view.writes (Elt F) f L) =
      arg10.view.writes (Elt F) f (⟨rows oB sz pB, stepDk D run mask hB (arg3.view.readAt (Elt F) (rows oB sz pB).toLoadRect f3) (arg4.view.readAt (Elt F) (rows oB sz pB).toLoadRect f4) b (arg10.view.readAt (Elt F) (rows oB sz pB).toLoadRect (arg10.view.writes (Elt F) f (⟨rows oA sz pA, stepDk D run mask hA (arg3.view.readAt (Elt F) (rows oA sz pA).toLoadRect f3) (arg4.view.readAt (Elt F) (rows oA sz pA).toLoadRect f4) a (arg10.view.readAt (Elt F) (rows oA sz pA).toLoadRect (arg10.view.writes (Elt F) f L))⟩ :: L)))⟩ :: ⟨rows oA sz pA, stepDk D run mask hA (arg3.view.readAt (Elt F) (rows oA sz pA).toLoadRect f3) (arg4.view.readAt (Elt F) (rows oA sz pA).toLoadRect f4) a (arg10.view.readAt (Elt F) (rows oA sz pA).toLoadRect (arg10.view.writes (Elt F) f L))⟩ :: L) := by
  have e := readAt_after pA pB arg10 (arg10.view.writes (Elt F) f L) h (stepDk D run mask hA (arg3.view.readAt (Elt F) (rows oA sz pA).toLoadRect f3) (arg4.view.readAt (Elt F) (rows oA sz pA).toLoadRect f4) a (arg10.view.readAt (Elt F) (rows oA sz pA).toLoadRect (arg10.view.writes (Elt F) f L)))
  rw [← View.writes_append] at e
  unfold groupDk
  rw [← View.writes_append, ← e]
  rfl

theorem groupDv_seq (h : oA 1 + sz 1 ≤ oB 1) (L : List (View.Piece (Elt F) S4352x256 .f32)) :
    groupDv D run mask hA hB a b pA pB arg3 arg10 f3 (arg10.view.writes (Elt F) f L) =
      arg10.view.writes (Elt F) f (⟨rows oB sz pB, stepDv D run mask hB (arg3.view.readAt (Elt F) (rows oB sz pB).toLoadRect f3) b (arg10.view.readAt (Elt F) (rows oB sz pB).toLoadRect (arg10.view.writes (Elt F) f (⟨rows oA sz pA, stepDv D run mask hA (arg3.view.readAt (Elt F) (rows oA sz pA).toLoadRect f3) a (arg10.view.readAt (Elt F) (rows oA sz pA).toLoadRect (arg10.view.writes (Elt F) f L))⟩ :: L)))⟩ :: ⟨rows oA sz pA, stepDv D run mask hA (arg3.view.readAt (Elt F) (rows oA sz pA).toLoadRect f3) a (arg10.view.readAt (Elt F) (rows oA sz pA).toLoadRect (arg10.view.writes (Elt F) f L))⟩ :: L) := by
  have e := readAt_after pA pB arg10 (arg10.view.writes (Elt F) f L) h (stepDv D run mask hA (arg3.view.readAt (Elt F) (rows oA sz pA).toLoadRect f3) a (arg10.view.readAt (Elt F) (rows oA sz pA).toLoadRect (arg10.view.writes (Elt F) f L)))
  rw [← View.writes_append] at e
  unfold groupDv
  rw [← View.writes_append, ← e]
  rfl
end

section
variable (c : Dev nD) (i : grid0.Coords) (arg2 : Memref sig .tc .vmem S256x256 .bf16) (harg2 : arg2.IsWhole) (arg3 : Memref sig .tc .vmem S4352x256 .bf16) (harg3 : arg3.IsWhole) (arg4 : Memref sig .tc .vmem S4352x256 .bf16) (harg4 : arg4.IsWhole) (arg5 : Memref sig .tc .vmem S256x256 .bf16) (harg5 : arg5.IsWhole) (arg6 : Memref sig .tc .vmem S2x256x128 .f32) (harg6 : arg6.IsWhole) (arg7 : Memref sig .tc .vmem S256x256 .bf16) (harg7 : arg7.IsWhole) (arg8 : Memref sig .tc .vmem S4352x256 .bf16) (harg8 : arg8.IsWhole) (arg9 : Memref sig .tc .vmem S4352x256 .bf16) (harg9 : arg9.IsWhole) (arg10 : Memref sig .tc .vmem S4352x256 .f32) (harg10 : arg10.IsWhole) (arg11 : Memref sig .tc .vmem S4352x256 .f32) (harg11 : arg11.IsWhole)
  (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))
  (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ)))

set_option maxHeartbeats 4000000 in
theorem body_run :
    (All c arg2 arg3 arg4 arg5 arg6 arg7 arg8 arg9 arg10 arg11 f2 f3 f4 f5 f6 f7 f8 f9 f10 f11 : sProp 𝕄) ⊢
      wp frame (wpE (defs₀ (F := F)) Variants.none (c : Thread nD τ) none) Set.univ (cc0_sb_bwd_skel (F := F) i arg2 harg2 arg3 harg3 arg4 harg4 arg5 harg5 arg6 harg6 arg7 harg7 arg8 harg8 arg9 harg9 arg10 harg10 arg11 harg11)
        (fun _ => All c arg2 arg3 arg4 arg5 arg6 arg7 arg8 arg9 arg10 arg11 f2 f3 f4 f5 f6
          (outDq c arg7 f7 (walk c i arg2 arg3 arg4 arg5 arg6 arg10 arg11 f2 f3 f4 f5 f6 f10 f11).1)
          (outDk c i arg8 arg10 f8 (walk c i arg2 arg3 arg4 arg5 arg6 arg10 arg11 f2 f3 f4 f5 f6 f10 f11).2.1)
          (outDv c i arg9 arg11 f9 (walk c i arg2 arg3 arg4 arg5 arg6 arg10 arg11 f2 f3 f4 f5 f6 f10 f11).2.2)
          (walk c i arg2 arg3 arg4 arg5 arg6 arg10 arg11 f2 f3 f4 f5 f6 f10 f11).2.1
          (walk c i arg2 arg3 arg4 arg5 arg6 arg10 arg11 f2 f3 f4 f5 f6 f10 f11).2.2) := by
  by_cases h1 : first i = 1#1 <;> by_cases h2 : k0_cond2 i = 1#1
  all_goals
    unfold cc0_sb_bwd_skel
    unfold outDk outDv
    first | rw [if_pos h2, if_pos h2] | rw [if_neg h2, if_neg h2]
    iintro ⟨H2, H3, H4, H5, H6, H7, H8, H9, H10, H11⟩
    sl_exec
    sl_step
    rename_i a1 a3 a5 a7 a9
    have e1 : walk1 c i arg3 arg4 arg10 arg11 f3 f4 f10 f11 (headA c arg2 arg5 arg6 f2 f5 f6) (headB c arg2 arg5 arg6 f2 f5 f6) = (a1, g10L0, g11L1) := by
      unfold walk1 walk0 cleared
      first
        | rw [if_pos h1, if_pos h1]
          refine Eq.trans (congrArg (fun s => trips c _ s _) ?_) hL4.symm
          refine Prod.ext (Eq.refl (_, _, _, _, _, _)) (Prod.ext ?_ ?_)
          · dsimp only [next]; rw [groupDk_seq (h := by decide)]; exact .refl (View.writes _ _ _ (_ :: _ :: _))
          · dsimp only [next]; rw [groupDv_seq (h := by decide)]; exact .refl (View.writes _ _ _ (_ :: _ :: _))
        | rw [if_neg h1, if_neg h1]
          exact hL4.symm
    have e3 : walk3 c i arg3 arg4 arg10 arg11 f3 f4 f10 f11 (headA c arg2 arg5 arg6 f2 f5 f6) (headB c arg2 arg5 arg6 f2 f5 f6) = (a3, g10L2, g11L3) := by unfold walk3; rw [e1]; exact hL10.symm
    have e5 : walk5 c i arg3 arg4 arg10 arg11 f3 f4 f10 f11 (headA c arg2 arg5 arg6 f2 f5 f6) (headB c arg2 arg5 arg6 f2 f5 f6) = (a5, g10L4, g11L5) := by unfold walk5; rw [e3]; exact hL16.symm
    have e7 : walk7 c i arg3 arg4 arg10 arg11 f3 f4 f10 f11 (headA c arg2 arg5 arg6 f2 f5 f6) (headB c arg2 arg5 arg6 f2 f5 f6) = (a7, g10L6, g11L7) := by unfold walk7; rw [e5]; exact hL22.symm
    have e9 : walk c i arg2 arg3 arg4 arg5 arg6 arg10 arg11 f2 f3 f4 f5 f6 f10 f11 = (a9, g10L8, g11L9) := by unfold walk walk9; rw [e7]; exact hL28.symm
    rw [e9]
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
end

end Cert.Proof.Sb

end
-- ==== Proof.Run.lean ====
/-
  The kernel's run on one device: the body's run of `Body.lean` carried through the pipeline and the launch. What the run says of the
  results is a parameter (`Track`): a statement about the two accumulators between grid points and about each block written back.
  With nothing stated this is the frame; with the mathematics stated it is the value claim's run.
-/
module

public import proofs.«01_k».proof.Proof.Body
public import proofs.«01_k».proof.Proof.Gen.KernelIdeal.Frame
public import proofs.«01_k».proof.Proof.Gen.KernelIdeal.Skeleton
public import Idealize.ShloMosaic.Lib.Pipeline.Frame
public import Idealize.ShloMosaic.Lib.Pipeline.FrameBody
public import Idealize.ShloMosaic.Lib.Tactic

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulators' buffers, whole. -/
abbrev dkM : Memref sig .tc .vmem S4352x256 .f32 := Memref.whole cc0_scratch0
abbrev dvM : Memref sig .tc .vmem S4352x256 .f32 := Memref.whole cc0_scratch1

section
variable (c : Dev nD) (t : Fin cfg0.N)
  (f2 : Buf (Elt F) ((st0_0 t).view.loc (c : Thread nD τ))) (f3 : Buf (Elt F) ((st0_1 t).view.loc (c : Thread nD τ)))
  (f4 : Buf (Elt F) ((st0_2 t).view.loc (c : Thread nD τ))) (f5 : Buf (Elt F) ((st0_3 t).view.loc (c : Thread nD τ)))
  (f6 : Buf (Elt F) ((st0_4 t).view.loc (c : Thread nD τ))) (f10 : Buf (Elt F) (dkM.view.loc (c : Thread nD τ)))
  (f11 : Buf (Elt F) (dvM.view.loc (c : Thread nD τ)))

/-- The walk at a grid point, on the buffers the pipeline passes. -/
def walkAt : St c dkM dvM F :=
  walk c (grid0.coords t) (st0_0 t) (st0_1 t) (st0_2 t) (st0_3 t) (st0_4 t) dkM dvM f2 f3 f4 f5 f6 f10 f11

end

/-- What a run is to say: of the accumulators before each grid point, and of each block of the three results written back. -/
structure Track where
  inv : Dev nD → ℕ → dkM.view.ty.Contents (Elt F) → dvM.view.ty.Contents (Elt F) → Prop
  dq : Dev nD → Fin cfg0.N → (S256x256.Idx → Elt F .bf16) → Prop
  dk : Dev nD → Fin cfg0.N → (S4352x256.Idx → Elt F .bf16) → Prop
  dv : Dev nD → Fin cfg0.N → (S4352x256.Idx → Elt F .bf16) → Prop

/-- A `Track` that every grid point keeps. -/
structure Track.Kept (T : Track (F := F)) : Prop where
  start : ∀ c f10 f11, T.inv c 0 f10 f11
  point : ∀ (c : Dev nD) (t : Fin cfg0.N) (f2 : Buf (Elt F) ((st0_0 t).view.loc (c : Thread nD τ)))
    (f3 : Buf (Elt F) ((st0_1 t).view.loc (c : Thread nD τ))) (f4 : Buf (Elt F) ((st0_2 t).view.loc (c : Thread nD τ)))
    (f5 : Buf (Elt F) ((st0_3 t).view.loc (c : Thread nD τ))) (f6 : Buf (Elt F) ((st0_4 t).view.loc (c : Thread nD τ)))
    (f7 : Buf (Elt F) ((st0_5 t).view.loc (c : Thread nD τ))) (f8 : Buf (Elt F) ((st0_6 t).view.loc (c : Thread nD τ)))
    (f9 : Buf (Elt F) ((st0_7 t).view.loc (c : Thread nD τ))) f10 f11,
    (st0_0 t).view.read (Elt F) f2 = iblk m c 0 t → (st0_1 t).view.read (Elt F) f3 = iblk m c 1 t →
    (st0_2 t).view.read (Elt F) f4 = iblk m c 2 t → (st0_3 t).view.read (Elt F) f5 = iblk m c 3 t →
    (st0_4 t).view.read (Elt F) f6 = iblk m c 4 t → T.inv c t.val f10 f11 →
    T.dq c t ((st0_5 t).view.read (Elt F) (outDq c (st0_5 t) f7 (walkAt c t f2 f3 f4 f5 f6 f10 f11).1))
      ∧ (t.val % 17 = 16 → T.dk c t ((st0_6 t).view.read (Elt F) (outDk c (grid0.coords t) (st0_6 t) dkM f8 (walkAt c t f2 f3 f4 f5 f6 f10 f11).2.1)))
      ∧ (t.val % 17 = 16 → T.dv c t ((st0_7 t).view.read (Elt F) (outDv c (grid0.coords t) (st0_7 t) dvM f9 (walkAt c t f2 f3 f4 f5 f6 f10 f11).2.2)))
      ∧ T.inv c (t.val + 1) (walkAt c t f2 f3 f4 f5 f6 f10 f11).2.1 (walkAt c t f2 f3 f4 f5 f6 f10 f11).2.2

variable {m} (T : Track (F := F))

/-- What the body leaves in each window's buffer: an input as found, a result as tracked where it is written back. -/
def leavesAt (c : Dev nD) : (w : Fin cfg0.W) → Fin cfg0.N → ((cfg0.win w).block.Idx → Elt F (cfg0.win w).elt) → ((cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun t _ X => T.dq c t X
  | 6 => fun t _ X => t.val % 17 = 16 → T.dk c t X
  | 7 => fun t _ X => t.val % 17 = 16 → T.dv c t X
  | ⟨_ + 8, h⟩ => absurd h (Nat.not_lt.2 (Nat.le_add_left _ _))

/-- The accumulators between grid points. -/
def PhiT (c : Dev nD) (n : ℕ) : sProp 𝕄 :=
  iprop((∃ f10 f11, ⌜T.inv c n f10 f11⌝ ∗ (dkM.view.loc (c : Thread nD τ) ↦{fullShare} f10) ∗ (dvM.view.loc (c : Thread nD τ) ↦{fullShare} f11))
    ∗ ∃ r, prngReg c r)

variable (m) in
/-- The proof data of the pipeline on core `c`. -/
def rdat (c : Dev nD) : RDat τ (Elt F) Unit ℕ (UR sig nD τ) ℕ cfg0 c where
  A w := V m c (Pipeline.arrRef spec0 w)
  after := leavesAt T c
  Φ t := PhiT T c t.val
  q w := Pipeline.shareOf spec0 w
  owed _ := 0

/-- A whole memref is owned as its buffer at some contents it reads. -/
theorem owns_of_whole {c : Dev nD} {sp : Space} {S : Shape} {e : EltTy} {M : Memref sig .tc sp S e} (hM : M.IsWhole) (X : S.Idx → Elt F e) :
    (owns (c : Thread nD τ) M fullShare X : sProp 𝕄) = iprop(∃ f, ⌜M.view.read (Elt F) f = X⌝ ∗ (M.view.loc (c : Thread nD τ) ↦{fullShare} f)) := by
  unfold owns; rw [hM.set_eq_univ]

theorem defs₀_row (t : Fin cfg0.N) : defs₀ (F := F) .tc cfg0.body (cfg0.bodyArgs t (cfg0.slots t)) = bodyAt0 t := by
  unfold defs₀; rw [Defs.onTc_tc]

/-- An input window's buffer holds the window's block wherever the body is handed it. -/
theorem finds_in (c : Dev nD) (t : Fin cfg0.N) (Y) :
    ((rdat m T c).Finds 0 t Y → Y = iblk m c 0 t) := by
  intro h
  obtain ⟨d, rfl⟩ := RDat.finds_in_eq_fetched (rdat m T c) 0 rfl (fun _ _ _ => rfl) (fun _ _ _ h => h) t Y h
  rfl

theorem finds_in1 (c : Dev nD) (t : Fin cfg0.N) (Y) (h : (rdat m T c).Finds 1 t Y) : Y = iblk m c 1 t := by
  obtain ⟨d, rfl⟩ := RDat.finds_in_eq_fetched (rdat m T c) 1 rfl (fun _ _ _ => rfl) (fun _ _ _ h => h) t Y h
  rfl
theorem finds_in2 (c : Dev nD) (t : Fin cfg0.N) (Y) (h : (rdat m T c).Finds 2 t Y) : Y = iblk m c 2 t := by
  obtain ⟨d, rfl⟩ := RDat.finds_in_eq_fetched (rdat m T c) 2 rfl (fun _ _ _ => rfl) (fun _ _ _ h => h) t Y h
  rfl
theorem finds_in3 (c : Dev nD) (t : Fin cfg0.N) (Y) (h : (rdat m T c).Finds 3 t Y) : Y = iblk m c 3 t := by
  obtain ⟨d, rfl⟩ := RDat.finds_in_eq_fetched (rdat m T c) 3 rfl (fun _ _ _ => rfl) (fun _ _ _ h => h) t Y h
  rfl
theorem finds_in4 (c : Dev nD) (t : Fin cfg0.N) (Y) (h : (rdat m T c).Finds 4 t Y) : Y = iblk m c 4 t := by
  obtain ⟨d, rfl⟩ := RDat.finds_in_eq_fetched (rdat m T c) 4 rfl (fun _ _ _ => rfl) (fun _ _ _ h => h) t Y h
  rfl

/-- What the body is handed at a point, window by window. -/
def bodyPre (c : Dev nD) (t : Fin cfg0.N) (Y : (w : Fin cfg0.W) → (cfg0.win w).block.Idx → Elt F (cfg0.win w).elt) : sProp 𝕄 :=
  iprop(PhiT T c t.val ∗ (rdat m T c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5)
    ∗ owns (c : Thread nD τ) (st0_6 t) fullShare (Y 6) ∗ owns (c : Thread nD τ) (st0_7 t) fullShare (Y 7))
/-- What it hands back. -/
def bodyPost (c : Dev nD) (t : Fin cfg0.N) (Y : (w : Fin cfg0.W) → (cfg0.win w).block.Idx → Elt F (cfg0.win w).elt) : sProp 𝕄 :=
  iprop(PhiT T c (t.val + 1) ∗ (rdat m T c).owesAt () t.castSucc
    ∗ (∃ X, ⌜X = Y 0⌝ ∗ owns (c : Thread nD τ) (st0_0 t) fullShare X) ∗ (∃ X, ⌜X = Y 1⌝ ∗ owns (c : Thread nD τ) (st0_1 t) fullShare X)
    ∗ (∃ X, ⌜X = Y 2⌝ ∗ owns (c : Thread nD τ) (st0_2 t) fullShare X) ∗ (∃ X, ⌜X = Y 3⌝ ∗ owns (c : Thread nD τ) (st0_3 t) fullShare X)
    ∗ (∃ X, ⌜X = Y 4⌝ ∗ owns (c : Thread nD τ) (st0_4 t) fullShare X) ∗ (∃ X, ⌜T.dq c t X⌝ ∗ owns (c : Thread nD τ) (st0_5 t) fullShare X)
    ∗ (∃ X, ⌜t.val % 17 = 16 → T.dk c t X⌝ ∗ owns (c : Thread nD τ) (st0_6 t) fullShare X)
    ∗ (∃ X, ⌜t.val % 17 = 16 → T.dv c t X⌝ ∗ owns (c : Thread nD τ) (st0_7 t) fullShare X))

set_option maxHeartbeats 2000000 in
theorem sound_body (hT : T.Kept m) (c : Dev nD) (t : Fin cfg0.N) (Y : (w : Fin cfg0.W) → (cfg0.win w).block.Idx → Elt F (cfg0.win w).elt)
    (hY : ∀ w, (rdat m T c).Finds w t (Y w)) :
    bodyPre (m := m) T c t Y ⊢ wp frame (wpE (defs₀ (F := F)) Variants.none c none) Set.univ (bodyAt0 t) (fun _ => bodyPost (m := m) T c t Y) := by
  unfold bodyPre bodyPost bodyAt0 PhiT
  have e0 := fun X => owns_of_whole (F := F) (c := c) (M := st0_0 t) (hstage0_0 ((cfg0.slots t 0).cast nbuf0_0)) X
  have e1 := fun X => owns_of_whole (F := F) (c := c) (M := st0_1 t) (hstage0_1 ((cfg0.slots t 1).cast nbuf0_1)) X
  have e2 := fun X => owns_of_whole (F := F) (c := c) (M := st0_2 t) (hstage0_2 ((cfg0.slots t 2).cast nbuf0_2)) X
  have e3 := fun X => owns_of_whole (F := F) (c := c) (M := st0_3 t) (hstage0_3 ((cfg0.slots t 3).cast nbuf0_3)) X
  have e4 := fun X => owns_of_whole (F := F) (c := c) (M := st0_4 t) (hstage0_4 ((cfg0.slots t 4).cast nbuf0_4)) X
  have e5 := fun X => owns_of_whole (F := F) (c := c) (M := st0_5 t) (hstage0_5 ((cfg0.slots t 5).cast nbuf0_5)) X
  have e6 := fun X => owns_of_whole (F := F) (c := c) (M := st0_6 t) (hstage0_6 ((cfg0.slots t 6).cast nbuf0_6)) X
  have e7 := fun X => owns_of_whole (F := F) (c := c) (M := st0_7 t) (hstage0_7 ((cfg0.slots t 7).cast nbuf0_7)) X
  simp only [e0, e1, e2, e3, e4, e5, e6, e7]
  rw [cc0_sb_bwd_eq_skeleton]
  iintro ⟨⟨⟨%f10, %f11, %hI, H10, H11⟩, Hg⟩, HO, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  obtain ⟨p5, p6, p7, pI⟩ := hT.point c t f2 f3 f4 f5 f6 f7 f8 f9 f10 f11 (h2.trans (finds_in T c t _ (hY 0))) (h3.trans (finds_in1 T c t _ (hY 1)))
    (h4.trans (finds_in2 T c t _ (hY 2))) (h5.trans (finds_in3 T c t _ (hY 3))) (h6.trans (finds_in4 T c t _ (hY 4))) hI
  iapply (wp_wand_r frame (wpE (defs₀ (F := F)) Variants.none c none) Set.univ)
  isplitl [H2 H3 H4 H5 H6 H7 H8 H9 H10 H11]
  · iapply (body_run c (grid0.coords t) (st0_0 t) _ (st0_1 t) _ (st0_2 t) _ (st0_3 t) _ (st0_4 t) _ (st0_5 t) _ (st0_6 t) _ (st0_7 t) _ dkM _ dvM _ f2 f3 f4 f5 f6 f7 f8 f9 f10 f11)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %_ ⟨H2, H3, H4, H5, H6, H7, H8, H9, H10, H11⟩
  isplitl [H10 H11 Hg]
  · isplitl [H10 H11]
    · iexists _, _
      isplitr; swap
      · isplitl [H10]; · iexact H10
        iexact H11
      ipureintro; exact pI
    iexact Hg
  isplitl [HO]; · iexact HO
  isplitl [H2]
  · iexists _; isplitr; swap
    · iexists _; isplitr; swap; · iexact H2
      ipureintro; exact h2
    ipureintro; rfl
  isplitl [H3]
  · iexists _; isplitr; swap
    · iexists _; isplitr; swap; · iexact H3
      ipureintro; exact h3
    ipureintro; rfl
  isplitl [H4]
  · iexists _; isplitr; swap
    · iexists _; isplitr; swap; · iexact H4
      ipureintro; exact h4
    ipureintro; rfl
  isplitl [H5]
  · iexists _; isplitr; swap
    · iexists _; isplitr; swap; · iexact H5
      ipureintro; exact h5
    ipureintro; rfl
  isplitl [H6]
  · iexists _; isplitr; swap
    · iexists _; isplitr; swap; · iexact H6
      ipureintro; exact h6
    ipureintro; rfl
  isplitl [H7]
  · iexists _; isplitr; swap
    · iexists _; isplitr; swap; · iexact H7
      ipureintro; rfl
    ipureintro; exact p5
  isplitl [H8]
  · iexists _; isplitr; swap
    · iexists _; isplitr; swap; · iexact H8
      ipureintro; rfl
    ipureintro; exact p6
  iexists _; isplitr; swap
  · iexists _; isplitr; swap; · iexact H9
    ipureintro; rfl
  ipureintro; exact p7

theorem body_obligation (hT : T.Kept m) (c : Dev nD) : (rdat m T c).BodyObligation (defs₀ (F := F)) Variants.none () Set.univ := fun t Y hY => by
  rw [bigSep_W0, bigSep_W0, defs₀_row]
  exact triple_restated (sound_body T hT c t Y hY) rfl .rfl fun _ => .rfl

set_option backward.isDefEq.respectTransparency.types false in
/-- Every execution ends, the results tracked and every counter at zero. -/
theorem run_main (hT : T.Kept m) :
    θ_run defs (onTc (τ := τ) (main (F := F))) (s₀ m ρ)
      (fun r => RDat.FramePost (cfgs 0) (rdat m T) (V m) r ∧ r.2.sem = fun _ => 0) :=
  Pipeline.RDat.θ_run_frame_track_shared (Q' := _) cfgs (0 : Fin 1) launch₀0 defs₀ Variants.none (rdat m T) m ρ main
    (hbody := body_obligation T hT) (hq := fun _ _ _ => rfl) (howed := fun _ _ => rfl) (V := V m) (hmain := hmain m Variants.none)
    (hA := fun _ _ => rfl)
    (hin := fun c => by
      show _ ⊢ PhiT T c 0
      unfold Pipeline.ΦA PhiT
      rw [scopedRest0_eq]
      iintro ⟨⟨⟨%f10, H10⟩, ⟨%f11, H11⟩⟩, Hg⟩
      isplitl [H10 H11]
      · iexists f10, f11
        isplitr; · ipureintro; exact hT.start c f10 f11
        isplitl [H10]; · iexact H10
        iexact H11
      iexact Hg)
    (hout := fun c => by
      show PhiT T c _ ⊢ _
      unfold Pipeline.ΦA PhiT
      rw [scopedRest0_eq]
      iintro ⟨⟨%f10, %f11, -, H10, H11⟩, Hg⟩
      isplitl [H10 H11]
      · isplitl [H10]; · iexists f10; iexact H10
        iexists f11; iexact H11
      iexact Hg)

/-- The arguments end as launched. -/
theorem args_end {r : PUnit × MemSt nD τ sig (Elt F)} (h : RDat.FramePost (cfgs 0) (rdat m T) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

/-- Nothing tracked. -/
def noTrack : Track (F := F) := ⟨fun _ _ _ _ => True, fun _ _ _ => True, fun _ _ _ => True, fun _ _ _ => True⟩
theorem noTrack_kept : (noTrack (F := F)).Kept m := ⟨fun _ _ _ => trivial, fun _ _ _ _ _ _ _ _ _ _ _ _ _ _ _ _ _ _ => ⟨trivial, fun _ => trivial, fun _ => trivial, trivial⟩⟩

/-- The frame at any arithmetic. -/
theorem frame_run :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨args_end noTrack h.1, h.2⟩) (run_main ρ noTrack noTrack_kept)

end Cert.Proof.Sb

end
-- ==== Proof.GateUpDx.lean ====
module

public import proofs.«01_k».proof.Defs
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.Regions
public import Idealize.ShloMosaic.Adequacy
public import Idealize.ShloMosaic.Init

@[expose] public section

set_option maxRecDepth 16384

noncomputable section

namespace Cert.Proof.GateUpDx

open Cert.Kernel3Ideal Cert.Kernel3Ideal.Gen
open Idealize.ShloMosaic Idealize.ShloMosaic.TcCoe Idealize.SL.Sem

variable (m : (ℓ : Loc nD τ sig) → Buf (Elt Ideal) ℓ)

/-- One hidden block's share of the gradient: gate or up `p`, device `j`, summed over that device's hidden columns. -/
def part (dab : FVec Ideal S2x8x4352x704 .bf16) (w : FVec Ideal S8x2x2048x704 .bf16) (l : Fin 4352) (d : Fin 2048) (p : Fin 2) (j : Fin 8) : EReal :=
  ∑ f : Fin 704, (dab (ix4 p j l f) : EReal) * (w (ix4 j p d f) : EReal)

/-- The gradient of the normalised input: the gate's blocks and the up's blocks, summed over the devices. -/
def grad (dab : FVec Ideal S2x8x4352x704 .bf16) (w : FVec Ideal S8x2x2048x704 .bf16) : FVec Ideal S4352x2048 .f32 :=
  fun i => ∑ p : Fin 2, ∑ j : Fin 8, part dab w (i 0) (i 1) p j

/-- The block each window is at, at every grid point. -/
theorem idx : ∀ t : Fin cfg0.N, win0_0.index t = ![t.val % 4 / 2, t.val % 2, t.val / 8, 0] ∧ win0_1.index t = ![t.val % 2, t.val % 4 / 2, t.val / 4 % 2, 0]
    ∧ win0_2.index t = ![t.val / 8, t.val / 4 % 2] :=
  (by decide +kernel : ∀ t : Fin grid0.N, win0_0.index t = ![t.val % 4 / 2, t.val % 2, t.val / 8, 0] ∧ win0_1.index t = ![t.val % 2, t.val % 4 / 2, t.val / 4 % 2, 0]
    ∧ win0_2.index t = ![t.val / 8, t.val / 4 % 2])

theorem hzero (j) : k0_pay2 (F := Ideal) j = 0 := by pointwise [k0_pay2]

/-- The product of slice `s` of the two blocks in hand, at one place of the running block. -/
def slice (x0 : FVec Ideal S1x4x1088x704 .bf16) (x1 : FVec Ideal S4x1x1024x704 .bf16) (s : Fin 4) (y : S1088x1024.Idx) : EReal :=
  ∑ f : Fin 704, (x0 (ix4 0 s (y 0) f) : EReal) * (x1 (ix4 s 0 (y 1) f) : EReal)

/-- What one grid point adds to the running block: four hidden blocks' products. -/
theorem added (acc : Vec Ideal S1088x1024 .f32) (x0 : Vec Ideal S1x4x1088x704 .bf16) (x1 : Vec Ideal S4x1x1024x704 .bf16) (y) :
    k0_pay1 acc (k0_pay3
        (View.ld x0 (Rect.unit ![0, 0, 0, 0] ![1, 1, 1088, 704] inb_S1x4x1088x704_S1x1x1088x704_0_0_0_0))
        (View.ld x1 (Rect.unit ![0, 0, 0, 0] ![1, 1, 1024, 704] inb_S4x1x1024x704_S1x1x1024x704_0_0_0_0))
        (View.ld x0 (Rect.unit ![0, 1, 0, 0] ![1, 1, 1088, 704] inb_S1x4x1088x704_S1x1x1088x704_0_1_0_0))
        (View.ld x1 (Rect.unit ![1, 0, 0, 0] ![1, 1, 1024, 704] inb_S4x1x1024x704_S1x1x1024x704_1_0_0_0))
        (View.ld x0 (Rect.unit ![0, 2, 0, 0] ![1, 1, 1088, 704] inb_S1x4x1088x704_S1x1x1088x704_0_2_0_0))
        (View.ld x1 (Rect.unit ![2, 0, 0, 0] ![1, 1, 1024, 704] inb_S4x1x1024x704_S1x1x1024x704_2_0_0_0)))
      (View.ld x0 (Rect.unit ![0, 3, 0, 0] ![1, 1, 1088, 704] inb_S1x4x1088x704_S1x1x1088x704_0_3_0_0))
      (View.ld x1 (Rect.unit ![3, 0, 0, 0] ![1, 1, 1024, 704] inb_S4x1x1024x704_S1x1x1024x704_3_0_0_0)) y
    = (acc y : EReal) + (((slice x0 x1 0 y + slice x0 x1 1 y) + slice x0 x1 2 y) + slice x0 x1 3 y) := by
  pointwise [k0_pay1, k0_pay3, slice]

/-- One of those products, read at the block's place in the arrays. -/
theorem placed (c : Dev nD) (t : Fin cfg0.N) (y : S1088x1024.Idx) (s : Fin 4) (l : Fin 4352) (d : Fin 2048) (p : Fin 2) (j : Fin 8)
    (hl : (l : ℕ) = t.val / 8 * 1088 + y 0) (hd : (d : ℕ) = t.val / 4 % 2 * 1024 + y 1) (hp : (p : ℕ) = t.val % 4 / 2) (hj : (j : ℕ) = t.val % 2 * 4 + s) :
    slice (iblk m c 0 t) (iblk m c 1 t) s y = part (m ((c : Thread nD τ).loc main_arg0)) (m ((c : Thread nD τ).loc main_arg1)) l d p j := by
  unfold part slice
  blk_point [iblk, V, idx t]

/-- The four products of a point, at the arrays. -/
def quad (dab : FVec Ideal S2x8x4352x704 .bf16) (w : FVec Ideal S8x2x2048x704 .bf16) (l : Fin 4352) (d : Fin 2048) (p : Fin 2) (q : Fin 2) : EReal :=
  ((part dab w l d p ⟨q * 4 + 0, by omega⟩ + part dab w l d p ⟨q * 4 + 1, by omega⟩) + part dab w l d p ⟨q * 4 + 2, by omega⟩) + part dab w l d p ⟨q * 4 + 3, by omega⟩

section Points

variable (c : Dev nD) (t : Fin cfg0.N) (y : S1088x1024.Idx) (l : Fin 4352) (d : Fin 2048) (p q : Fin 2)
  (hl : (l : ℕ) = t.val / 8 * 1088 + y 0) (hd : (d : ℕ) = t.val / 4 % 2 * 1024 + y 1) (hp : (p : ℕ) = t.val % 4 / 2) (hq : (q : ℕ) = t.val % 2)

include hl hd hp hq

theorem sum_quad : ((slice (iblk m c 0 t) (iblk m c 1 t) 0 y + slice (iblk m c 0 t) (iblk m c 1 t) 1 y) + slice (iblk m c 0 t) (iblk m c 1 t) 2 y)
      + slice (iblk m c 0 t) (iblk m c 1 t) 3 y
    = quad (m ((c : Thread nD τ).loc main_arg0)) (m ((c : Thread nD τ).loc main_arg1)) l d p q := by
  unfold quad
  rw [placed m c t y 0 l d p ⟨q * 4 + 0, by omega⟩ hl hd hp (by simp [hq]), placed m c t y 1 l d p ⟨q * 4 + 1, by omega⟩ hl hd hp (by simp [hq]),
    placed m c t y 2 l d p ⟨q * 4 + 2, by omega⟩ hl hd hp (by simp [hq]), placed m c t y 3 l d p ⟨q * 4 + 3, by omega⟩ hl hd hp (by simp [hq])]

theorem first (h : t.val % 4 = 0) : ((outsAt0 m c t.val t.isLt).2 y : EReal)
    = quad (m ((c : Thread nD τ).loc main_arg0)) (m ((c : Thread nD τ).loc main_arg1)) l d p q := by
  rw [outsAt0_A m c t h (by omega)]
  frame_out
  rw [added, hzero, sum_quad m c t y l d p q hl hd hp hq]
  exact zero_add _

theorem next (h0 : ¬t.val % 4 = 0) (h1 : ¬t.val % 4 = 3) : ((outsAt0 m c t.val t.isLt).2 y : EReal)
    = ((outsAt0 m c (t.val - 1) (Nat.lt_of_le_of_lt (Nat.sub_le _ _) t.isLt)).2 y : EReal)
      + quad (m ((c : Thread nD τ).loc main_arg0)) (m ((c : Thread nD τ).loc main_arg1)) l d p q := by
  rw [outsAt0_B m c t h0 h1]
  frame_out
  rw [added, sum_quad m c t y l d p q hl hd hp hq]
  exact congrArg (fun z : EReal => z + _) (congrFun ((Memref.isWhole_whole cc0_scratch0).read_unread _) y)

theorem last (h1 : t.val % 4 = 3) : ((outsAt0 m c t.val t.isLt).1 y : EReal)
    = ((outsAt0 m c (t.val - 1) (Nat.lt_of_le_of_lt (Nat.sub_le _ _) t.isLt)).2 y : EReal)
      + quad (m ((c : Thread nD τ).loc main_arg0)) (m ((c : Thread nD τ).loc main_arg1)) l d p q := by
  rw [outsAt0_C m c t (by omega) h1]
  frame_out
  rw [added, sum_quad m c t y l d p q hl hd hp hq]
  exact congrArg (fun z : EReal => z + _) (congrFun ((Memref.isWhole_whole cc0_scratch0).read_unread _) y)

end Points

/-- The block written back is the gradient at its place. -/
theorem point (c : Dev nD) (t : Fin cfg0.N) (h : t.val % 4 = 3) (y : S1088x1024.Idx) (l : Fin 4352) (d : Fin 2048)
    (hl : (l : ℕ) = t.val / 8 * 1088 + y 0) (hd : (d : ℕ) = t.val / 4 % 2 * 1024 + y 1) : ((outsAt0 m c t.val t.isLt).1 y : EReal)
    = ∑ p : Fin 2, ∑ j : Fin 8, part (m ((c : Thread nD τ).loc main_arg0)) (m ((c : Thread nD τ).loc main_arg1)) l d p j := by
  have lt := t.isLt
  rw [last m c t y l d 1 1 hl hd (by rw [h]; rfl) (by simp only [Fin.val_one]; omega) h,
    next m c ⟨t.val - 1, by omega⟩ y l d 1 0 (by simp only; omega) (by simp only; omega) (by simp only [Fin.val_one]; omega) (by simp only [Fin.val_zero]; omega) (by simp only; omega) (by simp only; omega),
    next m c ⟨t.val - 1 - 1, by omega⟩ y l d 0 1 (by simp only; omega) (by simp only; omega) (by simp only [Fin.val_zero]; omega) (by simp only [Fin.val_one]; omega) (by simp only; omega) (by simp only; omega),
    first m c ⟨t.val - 1 - 1 - 1, by omega⟩ y l d 0 0 (by simp only; omega) (by simp only; omega) (by simp only [Fin.val_zero]; omega) (by simp only [Fin.val_zero]; omega) (by simp only; omega)]
  simp only [Fin.sum_univ_succ, Fin.sum_univ_zero, quad]
  simp [add_assoc]

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2]
  refine point m c t ((flush0_2 t).mp hf) y _ _ ?_ ?_ <;> blk_simp [idx t] <;> omega

/-- The reference's result is the same gradient. -/
theorem reference (dab : FVec Ideal S2x8x4352x704 .bf16) (w : FVec Ideal S8x2x2048x704 .bf16) :
    Cert.Reference3Ideal.Read.val_main_v19 (F := Ideal) dab w = grad dab w := by
  funext i
  idx_vars i
  pointwise [Cert.Reference3Ideal.Read.val_main_v19, Cert.Reference3Ideal.Read.val_main_v18,
    Cert.Reference3Ideal.Read.val_main_v17, Cert.Reference3Ideal.Read.val_main_v16, Cert.Reference3Ideal.Read.val_main_v15,
    Cert.Reference3Ideal.Read.val_main_v14, Cert.Reference3Ideal.Read.val_main_v13, Cert.Reference3Ideal.Read.val_main_v12,
    Cert.Reference3Ideal.Read.val_main_v11, Cert.Reference3Ideal.Read.val_main_v6, Cert.Reference3Ideal.Read.val_main_v5,
    Cert.Reference3Ideal.Read.val_main_v4, Cert.Reference3Ideal.Read.val_main_v3, Cert.Reference3Ideal.Read.val_main_v1,
    Cert.Reference3Ideal.Read.val_main_v0, grad, part]
  rw [Fin.sum_univ_two]
  exact add_comm _ _

/-- From memories agreeing on the arguments, the call and its reference end with the same gradient. -/
theorem algebraic : Cert.algebraic_Kernel3Ideal_Reference3Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel3Ideal.Value.run_blocks m g),
    (θ_run _ _ _).mono (fun r hr c => ⟨?_, (hr c).2⟩) (Cert.Reference3Ideal.Value.run m' g')⟩
  rw [(hr c).1, (h c).1, (h c).2]
  exact reference _ _

/-- The machine's program and its idealization are one text: the body tables agree. -/
theorem defs_same : Cert.Kernel3.defs (F := Bits) = defs (F := Bits) := by chain_rfl

/-- So do the two `@main`s. -/
theorem main_same : Cert.Kernel3.main (F := Bits) = main (F := Bits) := by chain_rfl

theorem frame_kernel : Cert.quiescent_Kernel3 := by
  intro m ρ _
  rw [defs_same, main_same]
  exact Gen.frame (F := Bits) m ρ

theorem frame_ideal : Cert.quiescent_Kernel3Ideal := fun m ρ _ => Gen.frame (F := Ideal) m ρ

theorem frame_reference : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

end Cert.Proof.GateUpDx

end
-- ==== Proof.GateUpDw.lean ====
module

public import proofs.«01_k».proof.Defs
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.Regions
public import Idealize.ShloMosaic.Adequacy
public import Idealize.ShloMosaic.Init

@[expose] public section

set_option maxRecDepth 16384

noncomputable section

namespace Cert.Proof.GateUpDw

open Cert.Kernel4Ideal Cert.Kernel4Ideal.Gen
open Idealize.ShloMosaic Idealize.ShloMosaic.TcCoe Idealize.SL.Sem

variable (m : (ℓ : Loc nD τ sig) → Buf (Elt Ideal) ℓ)

/-- The gradient of the weights: device j, gate or up, input column d, hidden column f. -/
def grad (n : FVec Ideal S4352x2048 .bf16) (dab : FVec Ideal S2x8x4352x704 .bf16) : FVec Ideal S8x2x2048x704 .bf16 :=
  fun i => ∑ l : Fin 4352, (n (ix2 l (i 2)) : EReal) * (dab (ix4 (i 1) (i 0) l (i 3)) : EReal)

/-- The block each window is at, at every grid point. -/
theorem idx : ∀ t : Fin cfg0.N, win0_0.index t = ![0, t.val / 16] ∧ win0_1.index t = ![t.val % 16 / 8, t.val % 8, 0, 0]
    ∧ win0_2.index t = ![t.val % 8, t.val % 16 / 8, t.val / 16, 0] :=
  (by decide +kernel : ∀ t : Fin grid0.N, win0_0.index t = ![0, t.val / 16] ∧ win0_1.index t = ![t.val % 16 / 8, t.val % 8, 0, 0]
    ∧ win0_2.index t = ![t.val % 8, t.val % 16 / 8, t.val / 16, 0])

/-- What a point stores is the gradient at the place of its block. -/
theorem point (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, idx t]

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference's result is the same gradient. -/
theorem reference (n : FVec Ideal S4352x2048 .bf16) (dab : FVec Ideal S2x8x4352x704 .bf16) :
    Cert.Reference4Ideal.Read.val_main_v20 (F := Ideal) n dab = grad n dab := by
  funext i
  idx_vars i
  pointwise [Cert.Reference4Ideal.Read.val_main_v20, Cert.Reference4Ideal.Read.val_main_v19, Cert.Reference4Ideal.Read.val_main_v18,
    Cert.Reference4Ideal.Read.val_main_v17, Cert.Reference4Ideal.Read.val_main_v16, Cert.Reference4Ideal.Read.val_main_v15,
    Cert.Reference4Ideal.Read.val_main_v14, Cert.Reference4Ideal.Read.val_main_v13, Cert.Reference4Ideal.Read.val_main_v12,
    Cert.Reference4Ideal.Read.val_main_v11, Cert.Reference4Ideal.Read.val_main_v10, Cert.Reference4Ideal.Read.val_main_v9,
    Cert.Reference4Ideal.Read.val_main_v8, Cert.Reference4Ideal.Read.val_main_v7, Cert.Reference4Ideal.Read.val_main_v1,
    Cert.Reference4Ideal.Read.val_main_v0, grad]
  fin_vals i1 with h
  · obtain rfl : i1 = 0 := Fin.ext h
    exact Finset.sum_congr rfl fun _ _ => mul_comm _ _
  · obtain rfl : i1 = 1 := Fin.ext h
    exact Finset.sum_congr rfl fun _ _ => mul_comm _ _

/-- From memories agreeing on the arguments, the call and its reference end with the same gradient. -/
theorem algebraic : Cert.algebraic_Kernel4Ideal_Reference4Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel4Ideal.Value.run_blocks m g),
    (θ_run _ _ _).mono (fun r hr c => ⟨?_, (hr c).2⟩) (Cert.Reference4Ideal.Value.run m' g')⟩
  rw [(hr c).1, (h c).1, (h c).2]
  exact reference _ _

/-- The machine's program and its idealization are one text: the body tables agree. -/
theorem defs_same : Cert.Kernel4.defs (F := Bits) = defs (F := Bits) := by chain_rfl

/-- So do the two `@main`s. -/
theorem main_same : Cert.Kernel4.main (F := Bits) = main (F := Bits) := by chain_rfl

theorem frame_kernel : Cert.quiescent_Kernel4 := by
  intro m ρ _
  rw [defs_same, main_same]
  exact Gen.frame (F := Bits) m ρ

theorem frame_ideal : Cert.quiescent_Kernel4Ideal := fun m ρ _ => Gen.frame (F := Ideal) m ρ

theorem frame_reference : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

end Cert.Proof.GateUpDw

end
-- ==== Proof.DownDw.lean ====
module

public import proofs.«01_k».proof.Defs
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.Regions
public import Idealize.ShloMosaic.Adequacy
public import Idealize.ShloMosaic.Init

@[expose] public section

set_option maxRecDepth 16384

noncomputable section

namespace Cert.Proof.DownDw

open Cert.Kernel5Ideal Cert.Kernel5Ideal.Gen
open Idealize.ShloMosaic Idealize.ShloMosaic.TcCoe Idealize.SL.Sem

variable (m : (ℓ : Loc nD τ sig) → Buf (Elt Ideal) ℓ)

/-- The gradient of the weights: device j, hidden row f, output column d. `s` is the saved hidden product. -/
def grad (s : FVec Ideal S8x4352x704 .bf16) (dh : FVec Ideal S4352x2048 .bf16) : FVec Ideal S8x704x2048 .bf16 :=
  fun i => ∑ l : Fin 4352, (s (ix3 (i 0) l (i 1)) : EReal) * (dh (ix2 l (i 2)) : EReal)

/-- The block each window is at, at every grid point. -/
theorem idx : ∀ t : Fin cfg0.N, win0_0.index t = ![t.val / 2, 0, 0] ∧ win0_1.index t = ![0, t.val % 2]
    ∧ win0_2.index t = ![t.val / 2, 0, t.val % 2] :=
  (by decide +kernel : ∀ t : Fin grid0.N, win0_0.index t = ![t.val / 2, 0, 0] ∧ win0_1.index t = ![0, t.val % 2]
    ∧ win0_2.index t = ![t.val / 2, 0, t.val % 2])

/-- A grid point's product, over any two blocks. -/
theorem product (x0 : FVec Ideal S1x4352x704 .bf16) (x1 : FVec Ideal S4352x1024 .bf16) (y : S1x704x1024.Idx) :
    k0_pay1 x0 x1 y = ∑ l : Fin 4352, (x0 (ix3 0 l (y 1)) : EReal) * (x1 (ix2 l (y 2)) : EReal) := by
  pointwise [k0_pay1]

/-- What a point stores is the gradient at the place of its block. -/
theorem point (c : Dev nD) (t : Fin cfg0.N) (y) : k0_pay1 (iblk m c 0 t) (iblk m c 1 t) y
    = grad (V m c main_v13) (m ((c : Thread nD τ).loc main_arg2)) (((cfg0.win 2).blk t).view.emb y) := by
  rw [product]
  generalize hs : V m c main_v13 = s
  have h0 (l f) : (iblk m c 0 t : FVec Ideal S1x4352x704 .bf16) (ix3 0 l f) = s (ix3 ⟨t.val / 2, by have := t.isLt; have h : cfg0.N = 16 := rfl; omega⟩ l f) := by
    rw [← hs]
    unfold iblk
    blk_ext [idx t]
  have h1 (l d) : (iblk m c 1 t : FVec Ideal S4352x1024 .bf16) (ix2 l d) = m ((c : Thread nD τ).loc main_arg2) (ix2 l ⟨t.val % 2 * 1024 + d.val, by omega⟩) := by
    unfold iblk
    blk_ext [idx t, V_main_arg2]
  exact Finset.sum_congr rfl fun l _ => congrArg₂ (fun a b : EReal => a * b)
    ((h0 l (y 1)).trans (by blk_ext [idx t])) ((h1 l (y 2)).trans (by blk_ext [idx t]))

/-- The result array after the run. -/
theorem final (c : Dev nD) : (dats m 0 c).arrAt 2 (cfgs 0).N
    = grad (V m c main_v13) (m ((c : Thread nD τ).loc main_arg2)) := by
  refine (dats m 0 c).arrAt_eq_of_covers 2 _ (by decide +kernel) fun t _ y => ?_
  blk_simp
  rw [after0_2]; frame_out
  exact point m c t y

/-- The saved hidden product that the host computes before the call is the reference's. -/
theorem saved (c : Dev nD) : V m c main_v13
    = Cert.Reference5Ideal.Read.val_main_v13 (F := Ideal) (m ((c : Thread nD τ).loc main_arg0)) (m ((c : Thread nD τ).loc main_arg1)) := by
  entry_read
  rfl

/-- The reference's result is the same gradient. -/
theorem reference (n : FVec Ideal S4352x2048 .bf16) (w : FVec Ideal S8x2x2048x704 .bf16) (dh : FVec Ideal S4352x2048 .bf16) :
    Cert.Reference5Ideal.Read.val_main_v18 (F := Ideal) n w dh = grad (Cert.Reference5Ideal.Read.val_main_v13 (F := Ideal) n w) dh := by
  funext i
  idx_vars i
  pointwise [Cert.Reference5Ideal.Read.val_main_v18, Cert.Reference5Ideal.Read.val_main_v17, Cert.Reference5Ideal.Read.val_main_v16,
    Cert.Reference5Ideal.Read.val_main_v15, grad]
  exact Finset.sum_congr rfl fun _ _ => mul_comm _ _

/-- From memories agreeing on the arguments, the call and its reference end with the same gradient. -/
theorem algebraic : Cert.algebraic_Kernel5Ideal_Reference5Ideal := by
  intro m g m' g' _ h
  refine ⟨fun c => grad (V m c main_v13) (m ((c : Thread nD τ).loc main_arg2)),
    (θ_run _ _ _).mono (fun r hr c => ⟨(hr c).1.trans (final m c), (hr c).2⟩) (Cert.Kernel5Ideal.Value.run_blocks m g),
    (θ_run _ _ _).mono (fun r hr c => ⟨?_, (hr c).2⟩) (Cert.Reference5Ideal.Value.run m' g')⟩
  rw [(hr c).1, (h c).1, (h c).2.1, (h c).2.2]
  exact (reference _ _ _).trans (congrArg (fun s => grad s _) (saved m c).symm)

/-- The machine's program and its idealization are one text: the body tables agree. -/
theorem defs_same : Cert.Kernel5.defs (F := Bits) = defs (F := Bits) := by chain_rfl

/-- So do the two `@main`s. -/
theorem main_same : Cert.Kernel5.main (F := Bits) = main (F := Bits) := by chain_rfl

theorem frame_kernel : Cert.quiescent_Kernel5 := by
  intro m ρ _
  rw [defs_same, main_same]
  exact Gen.frame (F := Bits) m ρ

theorem frame_ideal : Cert.quiescent_Kernel5Ideal := fun m ρ _ => Gen.frame (F := Ideal) m ρ

theorem frame_reference : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

end Cert.Proof.DownDw

end
-- ==== Proof.Sigmoid.lean ====
module

public import Idealize.ShloMosaic.Lib.IdealHost

/-! # The logistic function in its two spellings: half a hyperbolic tangent of half the argument, plus a half; and one over
one plus an exponential. -/

@[expose] public section

noncomputable section

namespace Cert.Proof.Sigmoid

open Idealize.ShloMosaic

/-- The constant a half. -/
theorem half : Ideal.ofBits .f32 0x3F000000#32 = ((1 / 2 : ℝ) : EReal) := by
  simp [Ideal.ofBits, Ideal.ieee, -EReal.coe_mul]; norm_num

theorem real_eq (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have p := Real.exp_pos (1 / 2 * r)
  have q := Real.exp_pos (-(1 / 2 * r))
  have o : Real.exp (1 / 2 * r) * Real.exp (-(1 / 2 * r)) = 1 := by rw [← Real.exp_add]; simp
  rw [Real.tanh_eq_sinh_div_cosh, Real.sinh_eq, Real.cosh_eq, e]
  generalize Real.exp (1 / 2 * r) = a at *
  generalize Real.exp (-(1 / 2 * r)) = b at *
  have : a + b ≠ 0 := by positivity
  have : 1 + b * b ≠ 0 := by positivity
  field_simp
  nlinarith

/-- The two spellings agree, also at the infinities. -/
theorem spelling (x : EReal) : Ideal.ofBits .f32 0x3F000000#32 * Ideal.tanh (Ideal.ofBits .f32 0x3F000000#32 * x) + Ideal.ofBits .f32 0x3F000000#32
    = Ideal.logistic x := by
  rw [half]
  induction x with
  | bot =>
    rw [EReal.coe_mul_bot_of_pos (by norm_num), Ideal.tanh_bot, Ideal.logistic_bot, show (-1 : EReal) = ((-1 : ℝ) : EReal) by norm_num,
      ← EReal.coe_mul, ← EReal.coe_add]
    norm_num
  | top =>
    rw [EReal.coe_mul_top_of_pos (by norm_num), Ideal.tanh_top, Ideal.logistic_top, show (1 : EReal) = ((1 : ℝ) : EReal) by norm_num,
      ← EReal.coe_mul, ← EReal.coe_add]
    norm_num
  | coe r =>
    rw [← EReal.coe_mul, Ideal.tanh_coe, Ideal.logistic_coe, ← EReal.coe_mul, ← EReal.coe_add, real_eq]

end Cert.Proof.Sigmoid

end
-- ==== Proof.Finite.lean ====
module

public import Idealize.ShloMosaic.Lib.IdealHost
public import Idealize.ShloMosaic.Lib.ReduceAll
public import Idealize.ShloMosaic.Lib.Pointwise.Select

/-! # Finite extended reals: what a comparison with infinity says, and finite sums. -/

@[expose] public section

noncomputable section

namespace Cert.Proof.Finite

open Idealize.ShloMosaic

/-- An extended real that is a real number. -/
def IsReal (x : EReal) : Prop := ∃ r : ℝ, x = r

theorem inf_bf16 : Ideal.ofBits .bf16 0x7F80#16 = ⊤ := by simp [Ideal.ofBits, Ideal.ieee]

/-- A value whose magnitude compares below infinity is a real number. -/
theorem of_lt (x : EReal) (h : Ideal.cmp .olt (max x (-x)) (Ideal.ofBits .bf16 0x7F80#16) = 1#1) : IsReal x := by
  have h := (Ideal.cmp_olt_eq_one _ _).1 h
  rw [inf_bf16, max_lt_iff] at h
  induction x with
  | bot => simp at h
  | top => simp at h
  | coe r => exact ⟨r, rfl⟩

theorem mul {x y : EReal} : IsReal x → IsReal y → IsReal (x * y)
  | ⟨r, hr⟩, ⟨s, hs⟩ => ⟨r * s, by rw [hr, hs, EReal.coe_mul]⟩

theorem add {x y : EReal} : IsReal x → IsReal y → IsReal (x + y)
  | ⟨r, hr⟩, ⟨s, hs⟩ => ⟨r + s, by rw [hr, hs, EReal.coe_add]⟩

theorem sum {n : ℕ} (f : Fin n → EReal) (h : ∀ i, IsReal (f i)) : IsReal (∑ i, f i) :=
  Finset.sum_induction f IsReal (fun _ _ => add) ⟨0, rfl⟩ fun i _ => h i

/-- The gate's derivative in its two spellings. -/
theorem gate (g a b : EReal) (hg : IsReal g) (ha : IsReal a) (hb : IsReal b) :
    g * b * Ideal.logistic a + a * (g * b) * (Ideal.logistic a * (1 - Ideal.logistic a))
      = g * b * (Ideal.logistic a * (1 + a * (1 - Ideal.logistic a))) := by
  obtain ⟨g, rfl⟩ := hg
  obtain ⟨a, rfl⟩ := ha
  obtain ⟨b, rfl⟩ := hb
  rw [Ideal.logistic_coe]
  generalize (1 + Real.exp (-a))⁻¹ = s
  norm_cast
  ring

end Cert.Proof.Finite

end
-- ==== Proof.DownDx.lean ====
module

public import proofs.«01_k».proof.Defs
public import proofs.«01_k».proof.Proof.Sigmoid
public import proofs.«01_k».proof.Proof.Finite
public import proofs.«01_k».proof.Proof.Gen.Pre_finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.Regions
public import Idealize.ShloMosaic.Adequacy
public import Idealize.ShloMosaic.Init
/-! # The gradient through the gated product: of the gate (plane 0) and of the up (plane 1), for finite arguments. -/

@[expose] public section

set_option maxRecDepth 16384

noncomputable section

namespace Cert.Proof.DownDx

open Cert.Kernel2Ideal Cert.Kernel2Ideal.Gen
open Idealize.ShloMosaic Idealize.ShloMosaic.TcCoe Idealize.SL.Sem

variable (m : (ℓ : Loc nD τ sig) → Buf (Elt Ideal) ℓ)

/-- The gradient of the hidden product: the output's gradient times the down weights, transposed. -/
def back (w : FVec Ideal S8x704x2048 .bf16) (dh : FVec Ideal S4352x2048 .bf16) : FVec Ideal S8x4352x704 .f32 :=
  fun i => ∑ d : Fin 2048, (dh (ix2 (i 1) d) : EReal) * (w (ix3 (i 0) (i 2) d) : EReal)

/-- What one element stores, from the hidden product's gradient `g`, the gate `a` and the up `b`. -/
def both (p : Fin 2) (g a b : EReal) : EReal :=
  if p.val < 1 then g * b * (Ideal.logistic a * (1 + a * (1 - Ideal.logistic a))) else g * (a * Ideal.logistic a)

theorem both_congr {p p' : Fin 2} {g g' a a' b b' : EReal} (hp : p = p') (hg : g = g') (ha : a = a') (hb : b = b') :
    both p g a b = both p' g' a' b' := by
  rw [hp, hg, ha, hb]

/-- The two gradients. -/
def grad (a b : FVec Ideal S8x4352x704 .bf16) (w : FVec Ideal S8x704x2048 .bf16) (dh : FVec Ideal S4352x2048 .bf16) :
    FVec Ideal S2x8x4352x704 .bf16 :=
  fun i => both (i 0) (back w dh (ix3 (i 1) (i 2) (i 3))) (a (ix3 (i 1) (i 2) (i 3))) (b (ix3 (i 1) (i 2) (i 3)))

theorem idx : ∀ t : Fin cfg0.N, win0_0.index t = ![t.val / 8, 0] ∧ win0_1.index t = ![t.val % 8, 0, 0] ∧ win0_2.index t = ![t.val % 8, t.val / 8, 0]
    ∧ win0_3.index t = ![t.val % 8, t.val / 8, 0] ∧ win0_4.index t = ![0, t.val % 8, t.val / 8, 0] :=
  (by decide +kernel : ∀ t : Fin grid0.N, win0_0.index t = ![t.val / 8, 0] ∧ win0_1.index t = ![t.val % 8, 0, 0] ∧ win0_2.index t = ![t.val % 8, t.val / 8, 0]
    ∧ win0_3.index t = ![t.val % 8, t.val / 8, 0] ∧ win0_4.index t = ![0, t.val % 8, t.val / 8, 0])

/-- A grid point's product, over any two blocks. -/
def slice (x0 : FVec Ideal S1088x2048 .bf16) (x1 : FVec Ideal S1x704x2048 .bf16) (r : Fin 1088) (f : Fin 704) : EReal :=
  ∑ d : Fin 2048, (x0 (ix2 r d) : EReal) * (x1 (ix3 0 f d) : EReal)

theorem value (x0 : Vec Ideal S1088x2048 .bf16) (x1 : Vec Ideal S1x704x2048 .bf16) (x2 x3 : Vec Ideal S1x1088x704 .bf16) (y) :
    k0_pay1 x0 x1 x2 x3 y = both (y 0) (slice x0 x1 (y 2) (y 3)) (x2 (ix3 0 (y 2) (y 3))) (x3 (ix3 0 (y 2) (y 3))) := by
  unfold both
  rw [← Sigmoid.spelling]
  pointwise [k0_pay1, slice]
  split <;> rfl

/-- What a point stores is the two gradients at the place of its block. -/
theorem point (c : Dev nD) (t : Fin cfg0.N) (y : S2x1x1088x704.Idx) (i : S2x8x4352x704.Idx) (i0 : (i 0 : ℕ) = y 0) (i1 : (i 1 : ℕ) = t.val % 8)
    (i2 : (i 2 : ℕ) = t.val / 8 * 1088 + y 2) (i3 : (i 3 : ℕ) = y 3) : k0_pay1 (iblk m c 0 t) (iblk m c 1 t) (iblk m c 2 t) (iblk m c 3 t) y
    = grad (V m c main_v11) (V m c main_v12) (m ((c : Thread nD τ).loc main_arg2)) (m ((c : Thread nD τ).loc main_arg3)) i := by
  rw [value]
  generalize ha : V m c main_v11 = a
  generalize hb : V m c main_v12 = b
  have lt : t.val < 32 := t.isLt
  have h0 (r d) : (iblk m c 0 t : FVec Ideal S1088x2048 .bf16) (ix2 r d) = m ((c : Thread nD τ).loc main_arg3) (ix2 ⟨t.val / 8 * 1088 + r.val, by omega⟩ d) := by
    unfold iblk
    blk_ext [idx t, V_main_arg3]
  have h1 (f d) : (iblk m c 1 t : FVec Ideal S1x704x2048 .bf16) (ix3 0 f d) = m ((c : Thread nD τ).loc main_arg2) (ix3 ⟨t.val % 8, by omega⟩ f d) := by
    unfold iblk
    blk_ext [idx t, V_main_arg2]
  have h2 (r f) : (iblk m c 2 t : FVec Ideal S1x1088x704 .bf16) (ix3 0 r f) = a (ix3 ⟨t.val % 8, by omega⟩ ⟨t.val / 8 * 1088 + r.val, by omega⟩ f) := by
    rw [← ha]
    unfold iblk
    blk_ext [idx t]
  have h3 (r f) : (iblk m c 3 t : FVec Ideal S1x1088x704 .bf16) (ix3 0 r f) = b (ix3 ⟨t.val % 8, by omega⟩ ⟨t.val / 8 * 1088 + r.val, by omega⟩ f) := by
    rw [← hb]
    unfold iblk
    blk_ext [idx t]
  have e1 : (⟨t.val % 8, by omega⟩ : Fin 8) = i 1 := Fin.ext i1.symm
  have e2 : (⟨t.val / 8 * 1088 + (y 2).val, by have : (y 2).val < 1088 := (y 2).isLt; omega⟩ : Fin 4352) = i 2 := Fin.ext i2.symm
  have e3 : (y 3 : Fin 704) = i 3 := Fin.ext i3.symm
  rw [e1] at h1 h2 h3
  refine both_congr (Fin.ext i0.symm) (Finset.sum_congr rfl fun d _ => congrArg₂ (fun a b : EReal => a * b) ((h0 (y 2) d).trans ?_) ((h1 (y 3) d).trans ?_))
    ((h2 (y 2) (y 3)).trans ?_) ((h3 (y 2) (y 3)).trans ?_)
  · rw [e2]; rfl
  · rw [e3]; rfl
  · rw [e2, e3]
  · rw [e2, e3]

/-- The result array after the run. -/
theorem final (c : Dev nD) : (dats m 0 c).arrAt 4 (cfgs 0).N
    = grad (V m c main_v11) (V m c main_v12) (m ((c : Thread nD τ).loc main_arg2)) (m ((c : Thread nD τ).loc main_arg3)) := by
  refine (dats m 0 c).arrAt_eq_of_covers 4 _ (by decide +kernel) fun t _ y => ?_
  blk_simp
  rw [after0_4]; frame_out
  refine point m c t y _ ?_ ?_ ?_ ?_ <;> blk_simp [idx t] <;> omega

/-- The rows times the gate's weights (`p = 0`) or the up's (`p = 1`): the saved values. -/
def pre (n : FVec Ideal S4352x2048 .bf16) (w : FVec Ideal S8x2x2048x704 .bf16) (p : Fin 2) : FVec Ideal S8x4352x704 .bf16 :=
  fun i => ∑ k : Fin 2048, (n (ix2 (i 1) k) : EReal) * (w (ix4 (i 0) p k (i 2)) : EReal)

theorem reference_gate (n : FVec Ideal S4352x2048 .bf16) (w : FVec Ideal S8x2x2048x704 .bf16) :
    Cert.Reference2Ideal.Read.val_main_v8 (F := Ideal) n w = pre n w 0 := by
  funext i
  idx_vars i
  pointwise [Cert.Reference2Ideal.Read.val_main_v8, Cert.Reference2Ideal.Read.val_main_v7,
    Cert.Reference2Ideal.Read.val_main_v3, Cert.Reference2Ideal.Read.val_main_v2, Cert.Reference2Ideal.Read.val_main_v1,
    Cert.Reference2Ideal.Read.val_main_v0, pre]
  exact Finset.sum_congr rfl fun _ _ => mul_comm _ _

theorem reference_up (n : FVec Ideal S4352x2048 .bf16) (w : FVec Ideal S8x2x2048x704 .bf16) :
    Cert.Reference2Ideal.Read.val_main_v10 (F := Ideal) n w = pre n w 1 := by
  funext i
  idx_vars i
  pointwise [Cert.Reference2Ideal.Read.val_main_v10, Cert.Reference2Ideal.Read.val_main_v9,
    Cert.Reference2Ideal.Read.val_main_v6, Cert.Reference2Ideal.Read.val_main_v5, Cert.Reference2Ideal.Read.val_main_v4,
    Cert.Reference2Ideal.Read.val_main_v0, pre]
  exact Finset.sum_congr rfl fun _ _ => mul_comm _ _

/-- The gate that the host computes before the call. -/
theorem saved_gate (c : Dev nD) : V m c main_v11 = pre (m ((c : Thread nD τ).loc main_arg0)) (m ((c : Thread nD τ).loc main_arg1)) 0 := by
  rw [← reference_gate]
  entry_read
  rfl

/-- The up that the host computes before the call. -/
theorem saved_up (c : Dev nD) : V m c main_v12 = pre (m ((c : Thread nD τ).loc main_arg0)) (m ((c : Thread nD τ).loc main_arg1)) 1 := by
  rw [← reference_up]
  entry_read
  rfl

/-- The precondition, element by element. -/
theorem finite (n : FVec Ideal S4352x2048 .bf16) (wg : FVec Ideal S8x2x2048x704 .bf16) (w : FVec Ideal S8x704x2048 .bf16) (dh : FVec Ideal S4352x2048 .bf16)
    (h : Cert.Pre_finite.fn (F := Ideal) n wg w dh = fun _ => 1#1) :
    (∀ i, Finite.IsReal (n i)) ∧ (∀ i, Finite.IsReal (wg i)) ∧ (∀ i, Finite.IsReal (w i)) ∧ ∀ i, Finite.IsReal (dh i) := by
  have h := congrFun h (fun a => a.elim0)
  simp only [Cert.Pre_finite.fn, Cert.Pre_finite.fn_part1] at h
  obtain ⟨h, h4⟩ := IntOp.andi_eq_one.1 h
  obtain ⟨h, h3⟩ := IntOp.andi_eq_one.1 h
  obtain ⟨h1, h2⟩ := IntOp.andi_eq_one.1 h
  exact ⟨fun i => Finite.of_lt _ (Host.reduce_andi_eq_one _ _ _ _ _ h1 i (funext fun a => a.elim0)),
    fun i => Finite.of_lt _ (Host.reduce_andi_eq_one _ _ _ _ _ h2 i (funext fun a => a.elim0)),
    fun i => Finite.of_lt _ (Host.reduce_andi_eq_one _ _ _ _ _ h3 i (funext fun a => a.elim0)),
    fun i => Finite.of_lt _ (Host.reduce_andi_eq_one _ _ _ _ _ h4 i (funext fun a => a.elim0))⟩

/-- The reference's gradient of the hidden product. -/
theorem reference_back (w : FVec Ideal S8x704x2048 .bf16) (dh : FVec Ideal S4352x2048 .bf16) :
    Cert.Reference2Ideal.Read.val_main_v17 (F := Ideal) w dh = back w dh := by
  funext i
  idx_vars i
  pointwise [Cert.Reference2Ideal.Read.val_main_v17, Cert.Reference2Ideal.Read.val_main_v16, Cert.Reference2Ideal.Read.val_main_v15,
    Cert.Reference2Ideal.Read.val_main_v11, back]

/-- The reference's result is the same pair of gradients. -/
theorem reference (n : FVec Ideal S4352x2048 .bf16) (wg : FVec Ideal S8x2x2048x704 .bf16) (w : FVec Ideal S8x704x2048 .bf16) (dh : FVec Ideal S4352x2048 .bf16)
    (h : Cert.Pre_finite.fn (F := Ideal) n wg w dh = fun _ => 1#1) :
    Cert.Reference2Ideal.Read.val_main_v24 (F := Ideal) n wg w dh = grad (pre n wg 0) (pre n wg 1) w dh := by
  obtain ⟨hn, hg, hw, hd⟩ := finite n wg w dh h
  have a : ∀ i, Cert.Reference2Ideal.Read.val_main_v8 (F := Ideal) n wg i = pre n wg 0 i := fun i => congrFun (reference_gate n wg) i
  have b : ∀ i, Cert.Reference2Ideal.Read.val_main_v10 (F := Ideal) n wg i = pre n wg 1 i := fun i => congrFun (reference_up n wg) i
  have g : ∀ i, Cert.Reference2Ideal.Read.val_main_v17 (F := Ideal) w dh i = back w dh i := fun i => congrFun (reference_back w dh) i
  have rp (p i) : Finite.IsReal (pre n wg p i) := Finite.sum _ fun k => Finite.mul (hn _) (hg _)
  have rb (i) : Finite.IsReal (back w dh i) := Finite.sum _ fun k => Finite.mul (hd _) (hw _)
  funext i
  unfold grad both
  rw [← Finite.gate _ _ _ (rb _) (rp 0 _) (rp 1 _)]
  idx_vars i
  pointwise [Cert.Reference2Ideal.Read.val_main_v24, Cert.Reference2Ideal.Read.val_main_v23, Cert.Reference2Ideal.Read.val_main_v22,
    Cert.Reference2Ideal.Read.val_main_v21, Cert.Reference2Ideal.Read.val_main_v20, Cert.Reference2Ideal.Read.val_main_call1_v2,
    Cert.Reference2Ideal.Read.val_main_call1_v1, Cert.Reference2Ideal.Read.val_main_call1_v0, Cert.Reference2Ideal.Read.val_main_v19,
    Cert.Reference2Ideal.Read.val_main_v18, Cert.Reference2Ideal.Read.val_main_v12_0, Cert.Reference2Ideal.Read.val_main_v12_1,
    Cert.Reference2Ideal.Read.val_main_call0_v7, Cert.Reference2Ideal.Read.val_main_call0_v6, Cert.Reference2Ideal.Read.val_main_call0_cst_1,
    Cert.Reference2Ideal.Read.val_main_v12_2, Cert.Reference2Ideal.Read.val_main_call0_v4, Cert.Reference2Ideal.Read.val_main_call0_cst_0,
    Cert.Reference2Ideal.Read.val_main_call0_v3, Cert.Reference2Ideal.Read.val_main_call0_v2, Cert.Reference2Ideal.Read.val_main_call0_cst,
    Cert.Reference2Ideal.Read.val_main_call0_v1, Cert.Reference2Ideal.Read.val_main_call0_v0, Ideal.logistic]
  rw [a, b, g]
  split
  · rfl
  · exact mul_comm _ _

/-- From memories agreeing on finite arguments, the call and its reference end with the same gradients. -/
theorem algebraic : Cert.algebraic_Kernel2Ideal_Reference2Ideal_pre_finite := by
  intro m g m' g' p h
  refine ⟨fun c => grad (V m c main_v11) (V m c main_v12) (m ((c : Thread nD τ).loc main_arg2)) (m ((c : Thread nD τ).loc main_arg3)),
    (θ_run _ _ _).mono (fun r hr c => ⟨(hr c).1.trans (final m c), (hr c).2⟩) (Cert.Kernel2Ideal.Value.run_blocks m g),
    (θ_run _ _ _).mono (fun r hr c => ⟨?_, (hr c).2⟩) (Cert.Reference2Ideal.Value.run m' g')⟩
  rw [(hr c).1, Cert.Reference2Ideal.Read.val_main_v24_eq, (h c).1, (h c).2.1, (h c).2.2.1, (h c).2.2.2]
  exact (reference _ _ _ _ (p c)).trans (congrArg₂ (fun a b => grad a b _ _) (saved_gate m c) (saved_up m c)).symm

/-- The machine's program and its idealization are one text: the body tables agree. -/
theorem defs_same : Cert.Kernel2.defs (F := Bits) = defs (F := Bits) := by chain_rfl

/-- So do the two `@main`s. -/
theorem main_same : Cert.Kernel2.main (F := Bits) = main (F := Bits) := by chain_rfl

theorem frame_kernel : Cert.quiescent_Kernel2 := by
  intro m ρ _
  rw [defs_same, main_same]
  exact Gen.frame (F := Bits) m ρ

theorem frame_ideal : Cert.quiescent_Kernel2Ideal := fun m ρ _ => Gen.frame (F := Ideal) m ρ

theorem frame_ideal_finite : Cert.quiescent_Kernel2Ideal_pre_finite := fun m ρ _ => Gen.frame (F := Ideal) m ρ

theorem frame_reference : Cert.quiescent_Reference2Ideal := fun m ρ _ =>
  (θ_run _ _ _).mono (fun r h => ⟨fun c => (h c).2, sem_eq_zero_of_no_sems (by decide) r.2⟩)
    (Cert.Reference2Ideal.Value.run (F := Ideal) m ρ)

theorem frame_reference_finite : Cert.quiescent_Reference2Ideal_pre_finite := fun m ρ _ => frame_reference m ρ trivial

end Cert.Proof.DownDx

end
-- ==== Proof.Up.lean ====
module

public import proofs.«01_k».proof.Defs
public import proofs.«01_k».proof.Proof.Sigmoid
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.Regions
public import Idealize.ShloMosaic.Adequacy
public import Idealize.ShloMosaic.Init
/-! # The first products of a feed-forward layer: gate, up, and the gated product. Every output block is written once. -/

@[expose] public section

set_option maxRecDepth 16384

noncomputable section

namespace Cert.Proof.Up

open Cert.Kernel6Ideal Cert.Kernel6Ideal.Gen
open Idealize.ShloMosaic Idealize.ShloMosaic.TcCoe Idealize.SL.Sem

variable (m : (ℓ : Loc nD τ sig) → Buf (Elt Ideal) ℓ)

/-- The rows times the gate's weights (`p = 0`) or the up's (`p = 1`). -/
def pre (n : FVec Ideal S4352x2048 .bf16) (w : FVec Ideal S8x2x2048x704 .bf16) (p : Fin 2) : FVec Ideal S8x4352x704 .bf16 :=
  fun i => ∑ k : Fin 2048, (n (ix2 (i 1) k) : EReal) * (w (ix4 (i 0) p k (i 2)) : EReal)

/-- The gate, through the logistic function, times the up. -/
def gated (n : FVec Ideal S4352x2048 .bf16) (w : FVec Ideal S8x2x2048x704 .bf16) : FVec Ideal S8x4352x704 .bf16 :=
  fun i => ((pre n w 0 i : EReal) * Ideal.logistic (pre n w 0 i)) * (pre n w 1 i : EReal)

theorem idx : ∀ t : Fin cfg0.N, win0_0.index t = ![t.val / 8, 0] ∧ win0_1.index t = ![t.val % 8, 0, 0, 0] ∧ win0_2.index t = ![t.val % 8, 1, 0, 0]
    ∧ win0_3.index t = ![t.val % 8, t.val / 8, 0] ∧ win0_4.index t = ![t.val % 8, t.val / 8, 0] ∧ win0_5.index t = ![t.val % 8, t.val / 8, 0] :=
  (by decide +kernel : ∀ t : Fin grid0.N, win0_0.index t = ![t.val / 8, 0] ∧ win0_1.index t = ![t.val % 8, 0, 0, 0] ∧ win0_2.index t = ![t.val % 8, 1, 0, 0]
    ∧ win0_3.index t = ![t.val % 8, t.val / 8, 0] ∧ win0_4.index t = ![t.val % 8, t.val / 8, 0] ∧ win0_5.index t = ![t.val % 8, t.val / 8, 0])

/-- The product of two blocks in hand. -/
def slice (x0 : FVec Ideal S1088x2048 .bf16) (x1 : FVec Ideal S1x1x2048x704 .bf16) (y : S1x1088x704.Idx) : EReal :=
  ∑ k : Fin 2048, (x0 (ix2 (y 1) k) : EReal) * (x1 (ix4 0 0 k (y 2)) : EReal)

theorem gate_value (x0 : Vec Ideal S1088x2048 .bf16) (x1 : Vec Ideal S1x1x2048x704 .bf16) (y) : k0_pay3 x0 x1 y = slice x0 x1 y := by
  pointwise [k0_pay3, k0_pay1, slice]

theorem up_value (x0 : Vec Ideal S1088x2048 .bf16) (x1 : Vec Ideal S1x1x2048x704 .bf16) (y) : k0_pay4 x0 x1 y = slice x0 x1 y := by
  pointwise [k0_pay4, k0_pay2, slice]

theorem gated_value (x0 : Vec Ideal S1088x2048 .bf16) (x1 x2 : Vec Ideal S1x1x2048x704 .bf16) (y) :
    k0_pay5 x0 x1 x0 x2 y = (slice x0 x1 y * Ideal.logistic (slice x0 x1 y)) * slice x0 x2 y := by
  rw [← Sigmoid.spelling]
  pointwise [k0_pay5, k0_pay2, k0_pay1, slice]

section Points

variable (c : Dev nD) (t : Fin cfg0.N) (y : S1x1088x704.Idx) (i : S8x4352x704.Idx)
  (h0 : (i 0 : ℕ) = t.val % 8) (h1 : (i 1 : ℕ) = t.val / 8 * 1088 + y 1) (h2 : (i 2 : ℕ) = y 2)

include h0 h1 h2

theorem placed_gate : slice (iblk m c 0 t) (iblk m c 1 t) y = pre (m ((c : Thread nD τ).loc main_arg0)) (m ((c : Thread nD τ).loc main_arg1)) 0 i := by
  unfold pre slice
  blk_point [iblk, V, idx t]

theorem placed_up : slice (iblk m c 0 t) (iblk m c 2 t) y = pre (m ((c : Thread nD τ).loc main_arg0)) (m ((c : Thread nD τ).loc main_arg1)) 1 i := by
  unfold pre slice
  blk_point [iblk, V, idx t]

end Points

theorem final_gate (c : Dev nD) : (dats m 0 c).arrAt 3 (cfgs 0).N
    = pre (m ((c : Thread nD τ).loc main_arg0)) (m ((c : Thread nD τ).loc main_arg1)) 0 := by
  refine (dats m 0 c).arrAt_eq_of_covers 3 _ (by decide +kernel) fun t _ y => ?_
  blk_simp
  rw [after0_3]
  frame_out
  rw [gate_value]
  refine placed_gate m c t y _ ?_ ?_ ?_ <;> blk_simp [idx t] <;> omega

theorem final_up (c : Dev nD) : (dats m 0 c).arrAt 4 (cfgs 0).N
    = pre (m ((c : Thread nD τ).loc main_arg0)) (m ((c : Thread nD τ).loc main_arg1)) 1 := by
  refine (dats m 0 c).arrAt_eq_of_covers 4 _ (by decide +kernel) fun t _ y => ?_
  blk_simp
  rw [after0_4]
  frame_out
  rw [up_value]
  refine placed_up m c t y _ ?_ ?_ ?_ <;> blk_simp [idx t] <;> omega

theorem final_gated (c : Dev nD) : (dats m 0 c).arrAt 5 (cfgs 0).N
    = gated (m ((c : Thread nD τ).loc main_arg0)) (m ((c : Thread nD τ).loc main_arg1)) := by
  refine (dats m 0 c).arrAt_eq_of_covers 5 _ (by decide +kernel) fun t _ y => ?_
  blk_simp
  rw [after0_5]
  frame_out
  rw [gated_value, placed_gate m c t y (((cfg0.win 5).blk t).view.emb y) ?_ ?_ ?_, placed_up m c t y (((cfg0.win 5).blk t).view.emb y) ?_ ?_ ?_]
  · rfl
  all_goals blk_simp [idx t] <;> omega

theorem reference_gate (n : FVec Ideal S4352x2048 .bf16) (w : FVec Ideal S8x2x2048x704 .bf16) :
    Cert.Reference6Ideal.Read.val_main_v11 (F := Ideal) n w = pre n w 0 := by
  funext i
  idx_vars i
  pointwise [Cert.Reference6Ideal.Read.val_main_v11, Cert.Reference6Ideal.Read.val_main_v8, Cert.Reference6Ideal.Read.val_main_v7,
    Cert.Reference6Ideal.Read.val_main_v3, Cert.Reference6Ideal.Read.val_main_v2, Cert.Reference6Ideal.Read.val_main_v1,
    Cert.Reference6Ideal.Read.val_main_v0, pre]
  exact Finset.sum_congr rfl fun _ _ => mul_comm _ _

theorem reference_up (n : FVec Ideal S4352x2048 .bf16) (w : FVec Ideal S8x2x2048x704 .bf16) :
    Cert.Reference6Ideal.Read.val_main_v12 (F := Ideal) n w = pre n w 1 := by
  funext i
  idx_vars i
  pointwise [Cert.Reference6Ideal.Read.val_main_v12, Cert.Reference6Ideal.Read.val_main_v10, Cert.Reference6Ideal.Read.val_main_v9,
    Cert.Reference6Ideal.Read.val_main_v6, Cert.Reference6Ideal.Read.val_main_v5, Cert.Reference6Ideal.Read.val_main_v4,
    Cert.Reference6Ideal.Read.val_main_v0, pre]
  exact Finset.sum_congr rfl fun _ _ => mul_comm _ _

theorem reference_gated (n : FVec Ideal S4352x2048 .bf16) (w : FVec Ideal S8x2x2048x704 .bf16) :
    Cert.Reference6Ideal.Read.val_main_v15 (F := Ideal) n w = gated n w := by
  have a : ∀ i, Cert.Reference6Ideal.Read.val_main_v8 (F := Ideal) n w i = pre n w 0 i := fun i => congrFun (reference_gate n w) i
  have b : ∀ i, Cert.Reference6Ideal.Read.val_main_v10 (F := Ideal) n w i = pre n w 1 i := fun i => congrFun (reference_up n w) i
  funext i
  pointwise [Cert.Reference6Ideal.Read.val_main_v15, Cert.Reference6Ideal.Read.val_main_v14, Cert.Reference6Ideal.Read.val_main_v13,
    Cert.Reference6Ideal.Read.val_main_call0_v5, Cert.Reference6Ideal.Read.val_main_call0_v4, Cert.Reference6Ideal.Read.val_main_call0_cst_0,
    Cert.Reference6Ideal.Read.val_main_call0_v3, Cert.Reference6Ideal.Read.val_main_call0_v2, Cert.Reference6Ideal.Read.val_main_call0_cst,
    Cert.Reference6Ideal.Read.val_main_call0_v1, Cert.Reference6Ideal.Read.val_main_call0_v0, gated, Ideal.logistic]
  rw [a, b]

/-- From memories agreeing on the arguments, the call and its reference end with the same three results. -/
theorem algebraic : Cert.algebraic_Kernel6Ideal_Reference6Ideal := by
  intro m g m' g' _ h
  refine ⟨fun c => pre (m ((c : Thread nD τ).loc main_arg0)) (m ((c : Thread nD τ).loc main_arg1)) 0,
    fun c => pre (m ((c : Thread nD τ).loc main_arg0)) (m ((c : Thread nD τ).loc main_arg1)) 1,
    fun c => gated (m ((c : Thread nD τ).loc main_arg0)) (m ((c : Thread nD τ).loc main_arg1)),
    (θ_run _ _ _).mono (fun r hr c => ⟨(hr c).1.trans (final_gate m c), (hr c).2.1.trans (final_up m c), (hr c).2.2.1.trans (final_gated m c), (hr c).2.2.2⟩)
      (Cert.Kernel6Ideal.Value.run_blocks m g),
    (θ_run _ _ _).mono (fun r hr c => ⟨?_, ?_, ?_, (hr c).2.2.2⟩) (Cert.Reference6Ideal.Value.run m' g')⟩
  · rw [(hr c).1, (h c).1, (h c).2]
    exact reference_gate _ _
  · rw [(hr c).2.1, (h c).1, (h c).2]
    exact reference_up _ _
  · rw [(hr c).2.2.1, (h c).1, (h c).2]
    exact reference_gated _ _

theorem frame_kernel : Cert.quiescent_Kernel6 := by
  intro m ρ _
  rw [show Cert.Kernel6.defs (F := Bits) = defs (F := Bits) by chain_rfl, show Cert.Kernel6.main (F := Bits) = main (F := Bits) by chain_rfl]
  exact Gen.frame (F := Bits) m ρ

theorem frame_ideal : Cert.quiescent_Kernel6Ideal := fun m ρ _ => Gen.frame (F := Ideal) m ρ

theorem frame_reference : Cert.quiescent_Reference6Ideal := fun m ρ _ =>
  (θ_run _ _ _).mono (fun r h => ⟨fun c => (h c).2.2.2, sem_eq_zero_of_no_sems (by decide) r.2⟩)
    (Cert.Reference6Ideal.Value.run (F := Ideal) m ρ)

end Cert.Proof.Up

end
-- ==== Proof.Down.lean ====
module

public import proofs.«01_k».proof.Defs
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.Regions
public import Idealize.ShloMosaic.Adequacy
public import Idealize.ShloMosaic.Init
/-! # The second product of a feed-forward layer and the residual: each output block is visited at two grid points, each
adding the products of four hidden blocks; the second halves the sum and adds the layer's input. -/

@[expose] public section

set_option maxRecDepth 16384

noncomputable section

namespace Cert.Proof.Down

open Cert.Kernel7Ideal Cert.Kernel7Ideal.Gen
open Idealize.ShloMosaic Idealize.ShloMosaic.TcCoe Idealize.SL.Sem

variable (m : (ℓ : Loc nD τ sig) → Buf (Elt Ideal) ℓ)

/-- The product over hidden block `j`. -/
def part (s : FVec Ideal S8x4352x704 .bf16) (w : FVec Ideal S8x704x2048 .bf16) (l : Fin 4352) (d : Fin 2048) (j : Fin 8) : EReal :=
  ∑ f : Fin 704, (s (ix3 j l f) : EReal) * (w (ix3 j f d) : EReal)

/-- The layer's output: its input and half the product over all the hidden blocks. -/
def value (h : FVec Ideal S4352x2048 .f32) (s : FVec Ideal S8x4352x704 .bf16) (w : FVec Ideal S8x704x2048 .bf16) : FVec Ideal S4352x2048 .f32 :=
  fun i => (h i : EReal) + Ideal.ofBits .f32 0x3F000000#32 * ∑ j : Fin 8, part s w (i 0) (i 1) j

theorem idx : ∀ t : Fin cfg0.N, win0_0.index t = ![t.val % 2, t.val / 4, 0] ∧ win0_1.index t = ![t.val % 2, 0, t.val / 2 % 2]
    ∧ win0_2.index t = ![t.val / 4, t.val / 2 % 2] ∧ win0_3.index t = ![t.val / 4, t.val / 2 % 2] :=
  (by decide +kernel : ∀ t : Fin grid0.N, win0_0.index t = ![t.val % 2, t.val / 4, 0] ∧ win0_1.index t = ![t.val % 2, 0, t.val / 2 % 2]
    ∧ win0_2.index t = ![t.val / 4, t.val / 2 % 2] ∧ win0_3.index t = ![t.val / 4, t.val / 2 % 2])

theorem hzero (j) : k0_pay3 (F := Ideal) j = 0 := by pointwise [k0_pay3]

/-- The product of slice `q` of the two blocks in hand, at one place of the running block. -/
def slice (x0 : FVec Ideal S4x1088x704 .bf16) (x1 : FVec Ideal S4x704x1024 .bf16) (q : Fin 4) (y : S1088x1024.Idx) : EReal :=
  ∑ f : Fin 704, (x0 (ix3 q (y 0) f) : EReal) * (x1 (ix3 q f (y 1)) : EReal)

/-- What one grid point adds to the running block: four hidden blocks' products. -/
theorem added (acc : Vec Ideal S1088x1024 .f32) (x0 : Vec Ideal S4x1088x704 .bf16) (x1 : Vec Ideal S4x704x1024 .bf16) (y) :
    k0_pay1 acc (k0_pay4
        (View.ld x0 (Rect.unit ![0, 0, 0] ![1, 1088, 704] inb_S4x1088x704_S1x1088x704_0_0_0))
        (View.ld x1 (Rect.unit ![0, 0, 0] ![1, 704, 1024] inb_S4x704x1024_S1x704x1024_0_0_0))
        (View.ld x0 (Rect.unit ![1, 0, 0] ![1, 1088, 704] inb_S4x1088x704_S1x1088x704_1_0_0))
        (View.ld x1 (Rect.unit ![1, 0, 0] ![1, 704, 1024] inb_S4x704x1024_S1x704x1024_1_0_0))
        (View.ld x0 (Rect.unit ![2, 0, 0] ![1, 1088, 704] inb_S4x1088x704_S1x1088x704_2_0_0))
        (View.ld x1 (Rect.unit ![2, 0, 0] ![1, 704, 1024] inb_S4x704x1024_S1x704x1024_2_0_0)))
      (k0_pay5 (View.ld x0 (Rect.unit ![3, 0, 0] ![1, 1088, 704] inb_S4x1088x704_S1x1088x704_3_0_0)))
      (k0_pay6 (View.ld x1 (Rect.unit ![3, 0, 0] ![1, 704, 1024] inb_S4x704x1024_S1x704x1024_3_0_0))) y
    = (acc y : EReal) + (((slice x0 x1 0 y + slice x0 x1 1 y) + slice x0 x1 2 y) + slice x0 x1 3 y) := by
  pointwise [k0_pay1, k0_pay4, k0_pay5, k0_pay6, slice]

theorem joined (acc h : Vec Ideal S1088x1024 .f32) (y) :
    k0_pay2 acc h y = (h y : EReal) + Ideal.ofBits .f32 0x3F000000#32 * (acc y : EReal) := by pointwise [k0_pay2]

/-- The layer's input at a place and half of `z`. -/
def withInput (h : FVec Ideal S4352x2048 .f32) (l : Fin 4352) (d : Fin 2048) (z : EReal) : EReal :=
  (h (ix2 l d) : EReal) + Ideal.ofBits .f32 0x3F000000#32 * z

/-- One of those products, read at the block's place in the arrays. -/
theorem placed (c : Dev nD) (t : Fin cfg0.N) (y : S1088x1024.Idx) (q : Fin 4) (l : Fin 4352) (d : Fin 2048) (j : Fin 8)
    (hl : (l : ℕ) = t.val / 4 * 1088 + y 0) (hd : (d : ℕ) = t.val / 2 % 2 * 1024 + y 1) (hj : (j : ℕ) = t.val % 2 * 4 + q) :
    slice (iblk m c 0 t) (iblk m c 1 t) q y = part (m ((c : Thread nD τ).loc main_arg1)) (m ((c : Thread nD τ).loc main_arg2)) l d j := by
  unfold part slice
  blk_point [iblk, V, idx t]

/-- The four products of a point, at the arrays. -/
def quad (s : FVec Ideal S8x4352x704 .bf16) (w : FVec Ideal S8x704x2048 .bf16) (l : Fin 4352) (d : Fin 2048) (q : Fin 2) : EReal :=
  ((part s w l d ⟨q * 4 + 0, by omega⟩ + part s w l d ⟨q * 4 + 1, by omega⟩) + part s w l d ⟨q * 4 + 2, by omega⟩) + part s w l d ⟨q * 4 + 3, by omega⟩

section Points

variable (c : Dev nD) (t : Fin cfg0.N) (y : S1088x1024.Idx) (l : Fin 4352) (d : Fin 2048) (q : Fin 2)
  (hl : (l : ℕ) = t.val / 4 * 1088 + y 0) (hd : (d : ℕ) = t.val / 2 % 2 * 1024 + y 1) (hq : (q : ℕ) = t.val % 2)

include hl hd

theorem other : (iblk m c 2 t y : EReal) = m ((c : Thread nD τ).loc main_arg0) (ix2 l d) := by
  blk_point [iblk, V, idx t]

include hq

theorem sum_quad : ((slice (iblk m c 0 t) (iblk m c 1 t) 0 y + slice (iblk m c 0 t) (iblk m c 1 t) 1 y) + slice (iblk m c 0 t) (iblk m c 1 t) 2 y)
      + slice (iblk m c 0 t) (iblk m c 1 t) 3 y
    = quad (m ((c : Thread nD τ).loc main_arg1)) (m ((c : Thread nD τ).loc main_arg2)) l d q := by
  unfold quad
  rw [placed m c t y 0 l d ⟨q * 4 + 0, by omega⟩ hl hd (by simp [hq]), placed m c t y 1 l d ⟨q * 4 + 1, by omega⟩ hl hd (by simp [hq]),
    placed m c t y 2 l d ⟨q * 4 + 2, by omega⟩ hl hd (by simp [hq]), placed m c t y 3 l d ⟨q * 4 + 3, by omega⟩ hl hd (by simp [hq])]

theorem first (h : t.val % 2 = 0) : ((outsAt0 m c t.val t.isLt).2 y : EReal)
    = quad (m ((c : Thread nD τ).loc main_arg1)) (m ((c : Thread nD τ).loc main_arg2)) l d q := by
  rw [outsAt0_A m c t h (by omega)]
  frame_out
  rw [added, hzero, sum_quad m c t y l d q hl hd hq]
  exact zero_add _

theorem last (h1 : t.val % 2 = 1) : ((outsAt0 m c t.val t.isLt).1 y : EReal)
    = withInput (m ((c : Thread nD τ).loc main_arg0)) l d
      (((outsAt0 m c (t.val - 1) (Nat.lt_of_le_of_lt (Nat.sub_le _ _) t.isLt)).2 y : EReal)
        + quad (m ((c : Thread nD τ).loc main_arg1)) (m ((c : Thread nD τ).loc main_arg2)) l d q) := by
  rw [outsAt0_B m c t (by omega) h1]
  frame_out
  rw [joined, added, sum_quad m c t y l d q hl hd hq, other m c t y l d hl hd]
  exact congrArg (fun z : EReal => withInput _ l d (z + _)) (congrFun ((Memref.isWhole_whole cc0_scratch0).read_unread _) y)

end Points

/-- The block written back is the layer's output at its place. -/
theorem point (c : Dev nD) (t : Fin cfg0.N) (h : t.val % 2 = 1) (y : S1088x1024.Idx) (l : Fin 4352) (d : Fin 2048)
    (hl : (l : ℕ) = t.val / 4 * 1088 + y 0) (hd : (d : ℕ) = t.val / 2 % 2 * 1024 + y 1) : ((outsAt0 m c t.val t.isLt).1 y : EReal)
    = value (m ((c : Thread nD τ).loc main_arg0)) (m ((c : Thread nD τ).loc main_arg1)) (m ((c : Thread nD τ).loc main_arg2)) (ix2 l d) := by
  have lt := t.isLt
  rw [last m c t y l d 1 hl hd (by simp only [Fin.val_one]; omega) h,
    first m c ⟨t.val - 1, by omega⟩ y l d 0 (by simp only; omega) (by simp only; omega) (by simp only [Fin.val_zero]; omega) (by simp only; omega)]
  refine congrArg (fun z : EReal => withInput _ l d z) ?_
  simp only [Fin.sum_univ_succ, Fin.sum_univ_zero, quad]
  simp [add_assoc]

theorem final (c : Dev nD) : (dats m 0 c).arrAt 3 (cfgs 0).N
    = value (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (point m c t ((flush0_3 t).mp hf) y (((cfg0.win 3).blk t).view.emb y 0) (((cfg0.win 3).blk t).view.emb y 1) ?_ ?_).trans
    (congrArg _ (eq_ix2 _).symm) <;> blk_simp [idx t] <;> omega

theorem reference (h : FVec Ideal S4352x2048 .f32) (s : FVec Ideal S8x4352x704 .bf16) (w : FVec Ideal S8x704x2048 .bf16) :
    Cert.Reference7Ideal.Read.val_main_v5 (F := Ideal) h s w = value h s w := by
  funext i
  pointwise [Cert.Reference7Ideal.Read.val_main_v5, Cert.Reference7Ideal.Read.val_main_v4, Cert.Reference7Ideal.Read.val_main_v3,
    Cert.Reference7Ideal.Read.val_main_cst, Cert.Reference7Ideal.Read.val_main_v2, Cert.Reference7Ideal.Read.val_main_v1,
    Cert.Reference7Ideal.Read.val_main_v0, value, part]
  rw [Finset.sum_comm]

/-- From memories agreeing on the arguments, the call and its reference end with the same output. -/
theorem algebraic : Cert.algebraic_Kernel7Ideal_Reference7Ideal := by
  intro m g m' g' _ h
  refine ⟨fun c => value (m ((c : Thread nD τ).loc main_arg0)) (m ((c : Thread nD τ).loc main_arg1)) (m ((c : Thread nD τ).loc main_arg2)),
    (θ_run _ _ _).mono (fun r hr c => ⟨(hr c).1.trans (final m c), (hr c).2⟩) (Cert.Kernel7Ideal.Value.run_blocks m g),
    (θ_run _ _ _).mono (fun r hr c => ⟨?_, (hr c).2⟩) (Cert.Reference7Ideal.Value.run m' g')⟩
  rw [(hr c).1, (h c).1, (h c).2.1, (h c).2.2]
  exact reference _ _ _

theorem frame_kernel : Cert.quiescent_Kernel7 := by
  intro m ρ _
  rw [show Cert.Kernel7.defs (F := Bits) = defs (F := Bits) by chain_rfl, show Cert.Kernel7.main (F := Bits) = main (F := Bits) by chain_rfl]
  exact Gen.frame (F := Bits) m ρ

theorem frame_ideal : Cert.quiescent_Kernel7Ideal := fun m ρ _ => Gen.frame (F := Ideal) m ρ

theorem frame_reference : Cert.quiescent_Reference7Ideal := fun m ρ _ =>
  (θ_run _ _ _).mono (fun r h => ⟨fun c => (h c).2, sem_eq_zero_of_no_sems (by decide) r.2⟩)
    (Cert.Reference7Ideal.Value.run (F := Ideal) m ρ)

end Cert.Proof.Down

end
-- ==== Proof.Proj.lean ====
module

public import proofs.«01_k».proof.Defs
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.Regions
public import Idealize.ShloMosaic.Adequacy
public import Idealize.ShloMosaic.Init

/-! # The two products of the input projection: each grid point multiplies its rows by its columns. -/

@[expose] public section

set_option maxRecDepth 16384

noncomputable section

/-! ## The columns kept in f32: every point has all the columns. -/

namespace Cert.Proof.ProjA

open Cert.Kernel8Ideal Cert.Kernel8Ideal.Gen
open Idealize.ShloMosaic Idealize.ShloMosaic.TcCoe Idealize.SL.Sem

variable (m : (ℓ : Loc nD τ sig) → Buf (Elt Ideal) ℓ)

/-- The product of the normalised rows and the weights. -/
def proj (n : FVec Ideal S4352x2048 .bf16) (w : FVec Ideal S2048x2176 .bf16) : FVec Ideal S4352x2176 .f32 :=
  fun i => ∑ k : Fin 2048, (n (ix2 (i 0) k) : EReal) * (w (ix2 k (i 1)) : EReal)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- What a point stores is the product at the place of its block. -/
theorem point (c : Dev nD) (t : Fin cfg0.N) (y) : k0_pay1 (iblk m c 0 t) (iblk m c 1 t) y
    = proj (m ((c : Thread nD τ).loc main_arg0)) (m ((c : Thread nD τ).loc main_arg1)) (((cfg0.win 2).blk t).view.emb y) := by
  pointwise [k0_pay1, proj]
  blk_point [iblk, V, idx t]

theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem reference (n : FVec Ideal S4352x2048 .bf16) (w : FVec Ideal S2048x2176 .bf16) :
    Cert.Reference8Ideal.Read.val_main_v2 (F := Ideal) n w = proj n w := by
  funext i
  pointwise [Cert.Reference8Ideal.Read.val_main_v2, Cert.Reference8Ideal.Read.val_main_v1, Cert.Reference8Ideal.Read.val_main_v0, proj]

/-- From memories agreeing on the arguments, the call and its reference end with the same product. -/
theorem algebraic : Cert.algebraic_Kernel8Ideal_Reference8Ideal := by
  intro m g m' g' _ h
  refine ⟨fun c => proj (m ((c : Thread nD τ).loc main_arg0)) (m ((c : Thread nD τ).loc main_arg1)),
    (θ_run _ _ _).mono (fun r hr c => ⟨(hr c).1.trans (final m c), (hr c).2⟩) (Cert.Kernel8Ideal.Value.run_blocks m g),
    (θ_run _ _ _).mono (fun r hr c => ⟨?_, (hr c).2⟩) (Cert.Reference8Ideal.Value.run m' g')⟩
  rw [(hr c).1, (h c).1, (h c).2]
  exact reference _ _

/-- The machine's program and its idealization are one text. -/
theorem frame_kernel : Cert.quiescent_Kernel8 := by
  intro m ρ _
  rw [show Cert.Kernel8.defs (F := Bits) = defs (F := Bits) by chain_rfl, show Cert.Kernel8.main (F := Bits) = main (F := Bits) by chain_rfl]
  exact Gen.frame (F := Bits) m ρ

theorem frame_ideal : Cert.quiescent_Kernel8Ideal := fun m ρ _ => Gen.frame (F := Ideal) m ρ

theorem frame_reference : Cert.quiescent_Reference8Ideal := fun m ρ _ =>
  (θ_run _ _ _).mono (fun r h => ⟨fun c => (h c).2, sem_eq_zero_of_no_sems (by decide) r.2⟩)
    (Cert.Reference8Ideal.Value.run (F := Ideal) m ρ)

end Cert.Proof.ProjA

/-! ## The columns rounded to bf16: sixteen column blocks. -/

namespace Cert.Proof.ProjB

open Cert.Kernel9Ideal Cert.Kernel9Ideal.Gen
open Idealize.ShloMosaic Idealize.ShloMosaic.TcCoe Idealize.SL.Sem

variable (m : (ℓ : Loc nD τ sig) → Buf (Elt Ideal) ℓ)

/-- The product of the normalised rows and the weights. -/
def proj (n : FVec Ideal S4352x2048 .bf16) (w : FVec Ideal S2048x8192 .bf16) : FVec Ideal S4352x8192 .bf16 :=
  fun i => ∑ k : Fin 2048, (n (ix2 (i 0) k) : EReal) * (w (ix2 k (i 1)) : EReal)

theorem idx : ∀ t : Fin cfg0.N, win0_0.index t = ![t.val / 16, 0] ∧ win0_1.index t = ![0, t.val % 16]
    ∧ win0_2.index t = ![t.val / 16, t.val % 16] :=
  (by decide +kernel : ∀ t : Fin grid0.N, win0_0.index t = ![t.val / 16, 0] ∧ win0_1.index t = ![0, t.val % 16]
    ∧ win0_2.index t = ![t.val / 16, t.val % 16])

/-- What a point stores is the product at the place of its block. -/
theorem point (c : Dev nD) (t : Fin cfg0.N) (y) : k0_pay1 (iblk m c 0 t) (iblk m c 1 t) y
    = proj (m ((c : Thread nD τ).loc main_arg0)) (m ((c : Thread nD τ).loc main_arg1)) (((cfg0.win 2).blk t).view.emb y) := by
  pointwise [k0_pay1, proj]
  blk_point [iblk, V, idx t]

theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem reference (n : FVec Ideal S4352x2048 .bf16) (w : FVec Ideal S2048x8192 .bf16) :
    Cert.Reference9Ideal.Read.val_main_v3 (F := Ideal) n w = proj n w := by
  funext i
  pointwise [Cert.Reference9Ideal.Read.val_main_v3, Cert.Reference9Ideal.Read.val_main_v2, Cert.Reference9Ideal.Read.val_main_v1,
    Cert.Reference9Ideal.Read.val_main_v0, proj]

/-- From memories agreeing on the arguments, the call and its reference end with the same product. -/
theorem algebraic : Cert.algebraic_Kernel9Ideal_Reference9Ideal := by
  intro m g m' g' _ h
  refine ⟨fun c => proj (m ((c : Thread nD τ).loc main_arg0)) (m ((c : Thread nD τ).loc main_arg1)),
    (θ_run _ _ _).mono (fun r hr c => ⟨(hr c).1.trans (final m c), (hr c).2⟩) (Cert.Kernel9Ideal.Value.run_blocks m g),
    (θ_run _ _ _).mono (fun r hr c => ⟨?_, (hr c).2⟩) (Cert.Reference9Ideal.Value.run m' g')⟩
  rw [(hr c).1, (h c).1, (h c).2]
  exact reference _ _

theorem frame_kernel : Cert.quiescent_Kernel9 := by
  intro m ρ _
  rw [show Cert.Kernel9.defs (F := Bits) = defs (F := Bits) by chain_rfl, show Cert.Kernel9.main (F := Bits) = main (F := Bits) by chain_rfl]
  exact Gen.frame (F := Bits) m ρ

theorem frame_ideal : Cert.quiescent_Kernel9Ideal := fun m ρ _ => Gen.frame (F := Ideal) m ρ

theorem frame_reference : Cert.quiescent_Reference9Ideal := fun m ρ _ =>
  (θ_run _ _ _).mono (fun r h => ⟨fun c => (h c).2, sem_eq_zero_of_no_sems (by decide) r.2⟩)
    (Cert.Reference9Ideal.Value.run (F := Ideal) m ρ)

end Cert.Proof.ProjB

end
-- ==== Proof.ProjGrad.lean ====
module

public import proofs.«01_k».proof.Defs
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.Regions
public import Idealize.ShloMosaic.Adequacy
public import Idealize.ShloMosaic.Init

/-! # Gradients of the input projection's products: the one the rows' gradient over the first columns, the other the
weights' gradient over the remaining columns. -/

@[expose] public section

set_option maxRecDepth 16384

noncomputable section

/-! ## The rows' gradient. -/

namespace Cert.Proof.ProjADx

open Cert.Kernel10Ideal Cert.Kernel10Ideal.Gen
open Idealize.ShloMosaic Idealize.ShloMosaic.TcCoe Idealize.SL.Sem

variable (m : (ℓ : Loc nD τ sig) → Buf (Elt Ideal) ℓ)

/-- The incoming gradient times the weights, transposed. -/
def grad (w : FVec Ideal S2048x2176 .bf16) (dy : FVec Ideal S4352x2176 .bf16) : FVec Ideal S4352x2048 .f32 :=
  fun i => ∑ k : Fin 2176, (dy (ix2 (i 0) k) : EReal) * (w (ix2 (i 1) k) : EReal)

theorem idx : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

/-- What a point stores is the gradient at the place of its block. -/
theorem point (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, idx t]

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem reference (w : FVec Ideal S2048x2176 .bf16) (dy : FVec Ideal S4352x2176 .bf16) :
    Cert.Reference10Ideal.Read.val_main_v4 (F := Ideal) w dy = grad w dy := by
  funext i
  pointwise [Cert.Reference10Ideal.Read.val_main_v4, Cert.Reference10Ideal.Read.val_main_v3, Cert.Reference10Ideal.Read.val_main_v1, grad]

/-- From memories agreeing on the arguments, the call and its reference end with the same gradient. -/
theorem algebraic : Cert.algebraic_Kernel10Ideal_Reference10Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel10Ideal.Value.run_blocks m g),
    (θ_run _ _ _).mono (fun r hr c => ⟨?_, (hr c).2⟩) (Cert.Reference10Ideal.Value.run m' g')⟩
  rw [(hr c).1, (h c).1, (h c).2]
  exact reference _ _

theorem frame_kernel : Cert.quiescent_Kernel10 := by
  intro m ρ _
  rw [show Cert.Kernel10.defs (F := Bits) = defs (F := Bits) by chain_rfl, show Cert.Kernel10.main (F := Bits) = main (F := Bits) by chain_rfl]
  exact Gen.frame (F := Bits) m ρ

theorem frame_ideal : Cert.quiescent_Kernel10Ideal := fun m ρ _ => Gen.frame (F := Ideal) m ρ

theorem frame_reference : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

end Cert.Proof.ProjADx

/-! ## The weights' gradient. -/

namespace Cert.Proof.ProjBDw

open Cert.Kernel13Ideal Cert.Kernel13Ideal.Gen
open Idealize.ShloMosaic Idealize.ShloMosaic.TcCoe Idealize.SL.Sem

variable (m : (ℓ : Loc nD τ sig) → Buf (Elt Ideal) ℓ)

/-- The rows, transposed, times the incoming gradient. -/
def grad (n : FVec Ideal S4352x2048 .bf16) (dy : FVec Ideal S4352x8192 .bf16) : FVec Ideal S2048x8192 .bf16 :=
  fun i => ∑ l : Fin 4352, (n (ix2 l (i 0)) : EReal) * (dy (ix2 l (i 1)) : EReal)

theorem idx : ∀ t : Fin cfg0.N, win0_0.index t = ![0, t.val / 16] ∧ win0_1.index t = ![0, t.val % 16]
    ∧ win0_2.index t = ![t.val / 16, t.val % 16] :=
  (by decide +kernel : ∀ t : Fin grid0.N, win0_0.index t = ![0, t.val / 16] ∧ win0_1.index t = ![0, t.val % 16]
    ∧ win0_2.index t = ![t.val / 16, t.val % 16])

/-- What a point stores is the gradient at the place of its block. -/
theorem point (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, idx t]

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem reference (n : FVec Ideal S4352x2048 .bf16) (dy : FVec Ideal S4352x8192 .bf16) :
    Cert.Reference13Ideal.Read.val_main_v6 (F := Ideal) n dy = grad n dy := by
  funext i
  pointwise [Cert.Reference13Ideal.Read.val_main_v6, Cert.Reference13Ideal.Read.val_main_v5, Cert.Reference13Ideal.Read.val_main_v4,
    Cert.Reference13Ideal.Read.val_main_v3, Cert.Reference13Ideal.Read.val_main_v1, grad]
  exact Finset.sum_congr rfl fun _ _ => mul_comm _ _

/-- From memories agreeing on the arguments, the call and its reference end with the same gradient. -/
theorem algebraic : Cert.algebraic_Kernel13Ideal_Reference13Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel13Ideal.Value.run_blocks m g),
    (θ_run _ _ _).mono (fun r hr c => ⟨?_, (hr c).2⟩) (Cert.Reference13Ideal.Value.run m' g')⟩
  rw [(hr c).1, (h c).1, (h c).2]
  exact reference _ _

theorem frame_kernel : Cert.quiescent_Kernel13 := by
  intro m ρ _
  rw [show Cert.Kernel13.defs (F := Bits) = defs (F := Bits) by chain_rfl, show Cert.Kernel13.main (F := Bits) = main (F := Bits) by chain_rfl]
  exact Gen.frame (F := Bits) m ρ

theorem frame_ideal : Cert.quiescent_Kernel13Ideal := fun m ρ _ => Gen.frame (F := Ideal) m ρ

theorem frame_reference : Cert.quiescent_Reference13Ideal := fun m ρ _ =>
  (θ_run _ _ _).mono (fun r h => ⟨fun c => (h c).2, sem_eq_zero_of_no_sems (by decide) r.2⟩)
    (Cert.Reference13Ideal.Value.run (F := Ideal) m ρ)

end Cert.Proof.ProjBDw

end
-- ==== Proof.ProjADw.lean ====
module

public import proofs.«01_k».proof.Defs
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.Regions
public import Idealize.ShloMosaic.Adequacy
public import Idealize.ShloMosaic.Init

/-! # The weights' gradient of the input projection's first columns: each output block is visited at eight grid points, each
adding the product of 544 rows. -/

@[expose] public section

set_option maxRecDepth 16384

noncomputable section

namespace Cert.Proof.ProjADw

open Cert.Kernel11Ideal Cert.Kernel11Ideal.Gen
open Idealize.ShloMosaic Idealize.ShloMosaic.TcCoe Idealize.SL.Sem

variable (m : (ℓ : Loc nD τ sig) → Buf (Elt Ideal) ℓ)

/-- The rows, transposed, times the incoming gradient. -/
def grad (n : FVec Ideal S4352x2048 .bf16) (dy : FVec Ideal S4352x2176 .bf16) : FVec Ideal S2048x2176 .bf16 :=
  fun i => ∑ l : Fin 4352, (n (ix2 l (i 0)) : EReal) * (dy (ix2 l (i 1)) : EReal)

/-- The share of the rows of step `s`. -/
def part (n : FVec Ideal S4352x2048 .bf16) (dy : FVec Ideal S4352x2176 .bf16) (d : Fin 2048) (e : Fin 2176) (s : Fin 8) : EReal :=
  ∑ k : Fin 544, (n (ix2 ⟨s * 544 + k, by omega⟩ d) : EReal) * (dy (ix2 ⟨s * 544 + k, by omega⟩ e) : EReal)

theorem idx : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

theorem hzero (j) : k0_pay1 (F := Ideal) j = 0 := by pointwise [k0_pay1]

/-- The product of the two blocks in hand, at one place of the running block. -/
def slice (x0 : FVec Ideal S544x1024 .bf16) (x1 : FVec Ideal S544x2176 .bf16) (y : S1024x2176.Idx) : EReal :=
  ∑ k : Fin 544, (x0 (ix2 k (y 0)) : EReal) * (x1 (ix2 k (y 1)) : EReal)

theorem added (acc : Vec Ideal S1024x2176 .f32) (x0 : Vec Ideal S544x1024 .bf16) (x1 : Vec Ideal S544x2176 .bf16) (y) :
    k0_pay2 acc x0 x1 y = (acc y : EReal) + slice x0 x1 y := by
  pointwise [k0_pay2, slice]

theorem rounded (acc : Vec Ideal S1024x2176 .f32) (y) : k0_pay3 acc y = acc y := by pointwise [k0_pay3]

section Points

variable (c : Dev nD) (t : Fin cfg0.N) (y : S1024x2176.Idx) (d : Fin 2048) (e : Fin 2176) (s : Fin 8)
  (hd : (d : ℕ) = t.val / 8 * 1024 + y 0) (he : (e : ℕ) = y 1) (hs : (s : ℕ) = t.val % 8)

include hd he hs

theorem placed : slice (iblk m c 0 t) (iblk m c 1 t) y
    = part (m ((c : Thread nD τ).loc main_arg0)) (m ((c : Thread nD τ).loc main_arg1)) d e s := by
  unfold part slice
  blk_point [iblk, V, idx t]

theorem first (h : t.val % 8 = 0) : ((outsAt0 m c t.val t.isLt).2 y : EReal)
    = part (m ((c : Thread nD τ).loc main_arg0)) (m ((c : Thread nD τ).loc main_arg1)) d e s := by
  rw [outsAt0_A m c t h (by omega)]
  frame_out
  rw [added, hzero, placed m c t y d e s hd he hs]
  exact zero_add _

theorem next (h0 : ¬t.val % 8 = 0) (h1 : ¬t.val % 8 = 7) : ((outsAt0 m c t.val t.isLt).2 y : EReal)
    = ((outsAt0 m c (t.val - 1) (Nat.lt_of_le_of_lt (Nat.sub_le _ _) t.isLt)).2 y : EReal)
      + part (m ((c : Thread nD τ).loc main_arg0)) (m ((c : Thread nD τ).loc main_arg1)) d e s := by
  rw [outsAt0_B m c t h0 h1]
  frame_out
  rw [added, placed m c t y d e s hd he hs]
  exact congrArg (fun z : EReal => z + _) (congrFun ((Memref.isWhole_whole cc0_scratch0).read_unread _) y)

theorem last (h1 : t.val % 8 = 7) : ((outsAt0 m c t.val t.isLt).1 y : EReal)
    = ((outsAt0 m c (t.val - 1) (Nat.lt_of_le_of_lt (Nat.sub_le _ _) t.isLt)).2 y : EReal)
      + part (m ((c : Thread nD τ).loc main_arg0)) (m ((c : Thread nD τ).loc main_arg1)) d e s := by
  rw [outsAt0_C m c t (by omega) h1]
  frame_out
  rw [rounded, added, placed m c t y d e s hd he hs]
  exact congrArg (fun z : EReal => z + _) (congrFun ((Memref.isWhole_whole cc0_scratch0).read_unread _) y)

end Points

/-- The running block holds the shares of the steps so far. -/
theorem running (c : Dev nD) (y : S1024x2176.Idx) (d : Fin 2048) (e : Fin 2176) (he : (e : ℕ) = y 1) (r : ℕ) (hr : r < 7) : ∀ t : Fin cfg0.N,
    t.val % 8 = r → (d : ℕ) = t.val / 8 * 1024 + y 0 → ((outsAt0 m c t.val t.isLt).2 y : EReal)
    = ∑ s : Fin (r + 1), part (m ((c : Thread nD τ).loc main_arg0)) (m ((c : Thread nD τ).loc main_arg1)) d e ⟨s, by omega⟩ := by
  induction r with
  | zero =>
    intro t h hd
    rw [first m c t y d e 0 hd he (by rw [h]; rfl) h, Fin.sum_univ_one]
    rfl
  | succ r ih =>
    intro t h hd
    have lt := t.isLt
    rw [next m c t y d e ⟨r + 1, by omega⟩ hd he (by rw [h]) (by omega) (by omega),
      ih (by omega) ⟨t.val - 1, by omega⟩ (by simp only; omega) (by simp only; omega), Fin.sum_univ_castSucc (n := r + 1)]
    rfl

/-- The block written back is the gradient at its place. -/
theorem point (c : Dev nD) (t : Fin cfg0.N) (h : t.val % 8 = 7) (y : S1024x2176.Idx) (d : Fin 2048) (e : Fin 2176)
    (hd : (d : ℕ) = t.val / 8 * 1024 + y 0) (he : (e : ℕ) = y 1) : ((outsAt0 m c t.val t.isLt).1 y : EReal)
    = grad (m ((c : Thread nD τ).loc main_arg0)) (m ((c : Thread nD τ).loc main_arg1)) (ix2 d e) := by
  have lt := t.isLt
  rw [last m c t y d e 7 hd he (by rw [h]; rfl) h,
    running m c y d e he 6 (by omega) ⟨t.val - 1, by omega⟩ (by simp only; omega) (by simp only; omega)]
  refine (Fin.sum_univ_castSucc (n := 7) fun s => part (m ((c : Thread nD τ).loc main_arg0)) (m ((c : Thread nD τ).loc main_arg1)) d e s).symm.trans ?_
  unfold part grad
  exact Fin.sum_mul_add_congr fun s k hl => rfl

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2]
  refine (point m c t ((flush0_2 t).mp hf) y (((cfg0.win 2).blk t).view.emb y 0) (((cfg0.win 2).blk t).view.emb y 1) ?_ ?_).trans
    (congrArg _ (eq_ix2 _).symm) <;> blk_simp [idx t] <;> omega

theorem reference (n : FVec Ideal S4352x2048 .bf16) (dy : FVec Ideal S4352x2176 .bf16) :
    Cert.Reference11Ideal.Read.val_main_v6 (F := Ideal) n dy = grad n dy := by
  funext i
  pointwise [Cert.Reference11Ideal.Read.val_main_v6, Cert.Reference11Ideal.Read.val_main_v5, Cert.Reference11Ideal.Read.val_main_v4,
    Cert.Reference11Ideal.Read.val_main_v3, Cert.Reference11Ideal.Read.val_main_v1, grad]
  exact Finset.sum_congr rfl fun _ _ => mul_comm _ _

/-- From memories agreeing on the arguments, the call and its reference end with the same gradient. -/
theorem algebraic : Cert.algebraic_Kernel11Ideal_Reference11Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel11Ideal.Value.run_blocks m g),
    (θ_run _ _ _).mono (fun r hr c => ⟨?_, (hr c).2⟩) (Cert.Reference11Ideal.Value.run m' g')⟩
  rw [(hr c).1, (h c).1, (h c).2]
  exact reference _ _

theorem frame_kernel : Cert.quiescent_Kernel11 := by
  intro m ρ _
  rw [show Cert.Kernel11.defs (F := Bits) = defs (F := Bits) by chain_rfl, show Cert.Kernel11.main (F := Bits) = main (F := Bits) by chain_rfl]
  exact Gen.frame (F := Bits) m ρ

theorem frame_ideal : Cert.quiescent_Kernel11Ideal := fun m ρ _ => Gen.frame (F := Ideal) m ρ

theorem frame_reference : Cert.quiescent_Reference11Ideal := fun m ρ _ =>
  (θ_run _ _ _).mono (fun r h => ⟨fun c => (h c).2, sem_eq_zero_of_no_sems (by decide) r.2⟩)
    (Cert.Reference11Ideal.Value.run (F := Ideal) m ρ)

end Cert.Proof.ProjADw

end
-- ==== Proof.ProjBDx.lean ====
module

public import proofs.«01_k».proof.Defs
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.Regions
public import Idealize.ShloMosaic.Adequacy
public import Idealize.ShloMosaic.Init
/-! # The rows' gradient of the input projection's wide columns: each output block is visited at four grid points, each
adding the product over 2048 columns; the last one adds the gradient coming from the other columns. -/

@[expose] public section

set_option maxRecDepth 16384

noncomputable section

namespace Cert.Proof.ProjBDx

open Cert.Kernel12Ideal Cert.Kernel12Ideal.Gen
open Idealize.ShloMosaic Idealize.ShloMosaic.TcCoe Idealize.SL.Sem

variable (m : (ℓ : Loc nD τ sig) → Buf (Elt Ideal) ℓ)

/-- The incoming gradient times the weights, transposed, and the gradient from the other columns. -/
def grad (w : FVec Ideal S2048x8192 .bf16) (dy : FVec Ideal S4352x8192 .bf16) (dn : FVec Ideal S4352x2048 .f32) : FVec Ideal S4352x2048 .f32 :=
  fun i => (∑ k : Fin 8192, (dy (ix2 (i 0) k) : EReal) * (w (ix2 (i 1) k) : EReal)) + (dn i : EReal)

/-- The share of the columns of step `s`. -/
def part (w : FVec Ideal S2048x8192 .bf16) (dy : FVec Ideal S4352x8192 .bf16) (l : Fin 4352) (d : Fin 2048) (s : Fin 4) : EReal :=
  ∑ k : Fin 2048, (dy (ix2 l ⟨s * 2048 + k, by omega⟩) : EReal) * (w (ix2 d ⟨s * 2048 + k, by omega⟩) : EReal)

theorem idx : ∀ t : Fin cfg0.N, win0_0.index t = ![t.val / 8, t.val % 4] ∧ win0_1.index t = ![t.val / 4 % 2, t.val % 4]
    ∧ win0_2.index t = ![t.val / 8, t.val / 4 % 2] ∧ win0_3.index t = ![t.val / 8, t.val / 4 % 2] :=
  (by decide +kernel : ∀ t : Fin grid0.N, win0_0.index t = ![t.val / 8, t.val % 4] ∧ win0_1.index t = ![t.val / 4 % 2, t.val % 4]
    ∧ win0_2.index t = ![t.val / 8, t.val / 4 % 2] ∧ win0_3.index t = ![t.val / 8, t.val / 4 % 2])

theorem hzero (j) : k0_pay1 (F := Ideal) j = 0 := by pointwise [k0_pay1]

/-- The product of the two blocks in hand, at one place of the running block. -/
def slice (x0 : FVec Ideal S1088x2048 .bf16) (x1 : FVec Ideal S1024x2048 .bf16) (y : S1088x1024.Idx) : EReal :=
  ∑ k : Fin 2048, (x0 (ix2 (y 0) k) : EReal) * (x1 (ix2 (y 1) k) : EReal)

theorem added (acc : Vec Ideal S1088x1024 .f32) (x0 : Vec Ideal S1088x2048 .bf16) (x1 : Vec Ideal S1024x2048 .bf16) (y) :
    k0_pay2 acc x0 x1 y = (acc y : EReal) + slice x0 x1 y := by
  pointwise [k0_pay2, slice]

theorem joined (acc e : Vec Ideal S1088x1024 .f32) (y) : k0_pay3 acc e y = (acc y : EReal) + (e y : EReal) := by pointwise [k0_pay3]

section Points

variable (c : Dev nD) (t : Fin cfg0.N) (y : S1088x1024.Idx) (l : Fin 4352) (d : Fin 2048) (s : Fin 4)
  (hl : (l : ℕ) = t.val / 8 * 1088 + y 0) (hd : (d : ℕ) = t.val / 4 % 2 * 1024 + y 1) (hs : (s : ℕ) = t.val % 4)

include hl hd

theorem other : (iblk m c 2 t y : EReal) = m ((c : Thread nD τ).loc main_arg2) (ix2 l d) := by
  blk_point [iblk, V, idx t]

include hs

theorem placed : slice (iblk m c 0 t) (iblk m c 1 t) y
    = part (m ((c : Thread nD τ).loc main_arg0)) (m ((c : Thread nD τ).loc main_arg1)) l d s := by
  unfold part slice
  blk_point [iblk, V, idx t]

theorem first (h : t.val % 4 = 0) : ((outsAt0 m c t.val t.isLt).2 y : EReal)
    = part (m ((c : Thread nD τ).loc main_arg0)) (m ((c : Thread nD τ).loc main_arg1)) l d s := by
  rw [outsAt0_A m c t h (by omega)]
  frame_out
  rw [added, hzero, placed m c t y l d s hl hd hs]
  exact zero_add _

theorem next (h0 : ¬t.val % 4 = 0) (h1 : ¬t.val % 4 = 3) : ((outsAt0 m c t.val t.isLt).2 y : EReal)
    = ((outsAt0 m c (t.val - 1) (Nat.lt_of_le_of_lt (Nat.sub_le _ _) t.isLt)).2 y : EReal)
      + part (m ((c : Thread nD τ).loc main_arg0)) (m ((c : Thread nD τ).loc main_arg1)) l d s := by
  rw [outsAt0_B m c t h0 h1]
  frame_out
  rw [added, placed m c t y l d s hl hd hs]
  exact congrArg (fun z : EReal => z + _) (congrFun ((Memref.isWhole_whole cc0_scratch0).read_unread _) y)

theorem last (h1 : t.val % 4 = 3) : ((outsAt0 m c t.val t.isLt).1 y : EReal)
    = (((outsAt0 m c (t.val - 1) (Nat.lt_of_le_of_lt (Nat.sub_le _ _) t.isLt)).2 y : EReal)
      + part (m ((c : Thread nD τ).loc main_arg0)) (m ((c : Thread nD τ).loc main_arg1)) l d s)
      + (m ((c : Thread nD τ).loc main_arg2) (ix2 l d) : EReal) := by
  rw [outsAt0_C m c t (by omega) h1]
  frame_out
  rw [joined, added, placed m c t y l d s hl hd hs, other m c t y l d hl hd]
  exact congrArg (fun z : EReal => (z + _) + _) (congrFun ((Memref.isWhole_whole cc0_scratch0).read_unread _) y)

end Points

/-- The running block holds the shares of the steps so far. -/
theorem running (c : Dev nD) (y : S1088x1024.Idx) (l : Fin 4352) (d : Fin 2048) (r : ℕ) (hr : r < 3) : ∀ t : Fin cfg0.N,
    t.val % 4 = r → (l : ℕ) = t.val / 8 * 1088 + y 0 → (d : ℕ) = t.val / 4 % 2 * 1024 + y 1 → ((outsAt0 m c t.val t.isLt).2 y : EReal)
    = ∑ s : Fin (r + 1), part (m ((c : Thread nD τ).loc main_arg0)) (m ((c : Thread nD τ).loc main_arg1)) l d ⟨s, by omega⟩ := by
  induction r with
  | zero =>
    intro t h hl hd
    rw [first m c t y l d 0 hl hd (by rw [h]; rfl) h, Fin.sum_univ_one]
    rfl
  | succ r ih =>
    intro t h hl hd
    have lt := t.isLt
    rw [next m c t y l d ⟨r + 1, by omega⟩ hl hd (by rw [h]) (by omega) (by omega),
      ih (by omega) ⟨t.val - 1, by omega⟩ (by simp only; omega) (by simp only; omega) (by simp only; omega), Fin.sum_univ_castSucc (n := r + 1)]
    rfl

/-- The block written back is the gradient at its place. -/
theorem point (c : Dev nD) (t : Fin cfg0.N) (h : t.val % 4 = 3) (y : S1088x1024.Idx) (l : Fin 4352) (d : Fin 2048)
    (hl : (l : ℕ) = t.val / 8 * 1088 + y 0) (hd : (d : ℕ) = t.val / 4 % 2 * 1024 + y 1) : ((outsAt0 m c t.val t.isLt).1 y : EReal)
    = grad (m ((c : Thread nD τ).loc main_arg0)) (m ((c : Thread nD τ).loc main_arg1)) (m ((c : Thread nD τ).loc main_arg2)) (ix2 l d) := by
  have lt := t.isLt
  rw [last m c t y l d 3 hl hd (by rw [h]; rfl) h,
    running m c y l d 2 (by omega) ⟨t.val - 1, by omega⟩ (by simp only; omega) (by simp only; omega) (by simp only; omega)]
  refine congrArg (fun z : EReal => z + _) ?_
  refine (Fin.sum_univ_castSucc (n := 3) fun s => part (m ((c : Thread nD τ).loc main_arg0)) (m ((c : Thread nD τ).loc main_arg1)) l d s).symm.trans ?_
  unfold part
  exact Fin.sum_mul_add_congr fun s k hl => rfl

theorem final (c : Dev nD) : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (point m c t ((flush0_3 t).mp hf) y (((cfg0.win 3).blk t).view.emb y 0) (((cfg0.win 3).blk t).view.emb y 1) ?_ ?_).trans
    (congrArg _ (eq_ix2 _).symm) <;> blk_simp [idx t] <;> omega

theorem reference (w : FVec Ideal S2048x8192 .bf16) (dy : FVec Ideal S4352x8192 .bf16) (dn : FVec Ideal S4352x2048 .f32) :
    Cert.Reference12Ideal.Read.val_main_v5 (F := Ideal) w dy dn = grad w dy dn := by
  funext i
  pointwise [Cert.Reference12Ideal.Read.val_main_v5, Cert.Reference12Ideal.Read.val_main_v4,
    Cert.Reference12Ideal.Read.val_main_v3, Cert.Reference12Ideal.Read.val_main_v1, grad]

/-- From memories agreeing on the arguments, the call and its reference end with the same gradient. -/
theorem algebraic : Cert.algebraic_Kernel12Ideal_Reference12Ideal := by
  intro m g m' g' _ h
  refine ⟨fun c => grad (m ((c : Thread nD τ).loc main_arg0)) (m ((c : Thread nD τ).loc main_arg1)) (m ((c : Thread nD τ).loc main_arg2)),
    (θ_run _ _ _).mono (fun r hr c => ⟨(hr c).1.trans (final m c), (hr c).2⟩) (Cert.Kernel12Ideal.Value.run_blocks m g),
    (θ_run _ _ _).mono (fun r hr c => ⟨?_, (hr c).2⟩) (Cert.Reference12Ideal.Value.run m' g')⟩
  rw [(hr c).1, (h c).1, (h c).2.1, (h c).2.2]
  exact reference _ _ _

theorem frame_kernel : Cert.quiescent_Kernel12 := by
  intro m ρ _
  rw [show Cert.Kernel12.defs (F := Bits) = defs (F := Bits) by chain_rfl, show Cert.Kernel12.main (F := Bits) = main (F := Bits) by chain_rfl]
  exact Gen.frame (F := Bits) m ρ

theorem frame_ideal : Cert.quiescent_Kernel12Ideal := fun m ρ _ => Gen.frame (F := Ideal) m ρ

theorem frame_reference : Cert.quiescent_Reference12Ideal := fun m ρ _ =>
  (θ_run _ _ _).mono (fun r h => ⟨fun c => (h c).2, sem_eq_zero_of_no_sems (by decide) r.2⟩)
    (Cert.Reference12Ideal.Value.run (F := Ideal) m ρ)

end Cert.Proof.ProjBDx

end
-- ==== Proof.OutProj.lean ====
module

public import proofs.«01_k».proof.Defs
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.Regions
public import Idealize.ShloMosaic.Adequacy
public import Idealize.ShloMosaic.Init

/-! # The output projection: its product added to the incoming rows, and its two gradients. -/

@[expose] public section

set_option maxRecDepth 16384

noncomputable section

/-! ## The product. -/

namespace Cert.Proof.OutProj

open Cert.Kernel14Ideal Cert.Kernel14Ideal.Gen
open Idealize.ShloMosaic Idealize.ShloMosaic.TcCoe Idealize.SL.Sem

variable (m : (ℓ : Loc nD τ sig) → Buf (Elt Ideal) ℓ)

/-- The residual rows plus the merged branches times the weights. -/
def value (x : FVec Ideal S4352x2048 .bf16) (w : FVec Ideal S2048x2048 .bf16) (h : FVec Ideal S4352x2048 .f32) : FVec Ideal S4352x2048 .f32 :=
  fun i => (h i : EReal) + ∑ k : Fin 2048, (x (ix2 (i 0) k) : EReal) * (w (ix2 k (i 1)) : EReal)

theorem idx : ∀ t : Fin cfg0.N, win0_0.index t = ![t.val / 2, 0] ∧ win0_1.index t = ![0, t.val % 2] ∧ win0_2.index t = ![t.val / 2, t.val % 2]
    ∧ win0_3.index t = ![t.val / 2, t.val % 2] :=
  (by decide +kernel : ∀ t : Fin grid0.N, win0_0.index t = ![t.val / 2, 0] ∧ win0_1.index t = ![0, t.val % 2] ∧ win0_2.index t = ![t.val / 2, t.val % 2]
    ∧ win0_3.index t = ![t.val / 2, t.val % 2])

/-- What a point stores is the value at the place of its block. -/
theorem point (c : Dev nD) (t : Fin cfg0.N) (y) : k0_pay1 (iblk m c 0 t) (iblk m c 1 t) (iblk m c 2 t) y
    = value (m ((c : Thread nD τ).loc main_arg0)) (m ((c : Thread nD τ).loc main_arg1)) (m ((c : Thread nD τ).loc main_arg2))
      (((cfg0.win 3).blk t).view.emb y) := by
  pointwise [k0_pay1, value]
  blk_point [iblk, V, idx t]

theorem final (c : Dev nD) : (dats m 0 c).arrAt 3 (cfgs 0).N
    = value (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem reference (x : FVec Ideal S4352x2048 .bf16) (w : FVec Ideal S2048x2048 .bf16) (h : FVec Ideal S4352x2048 .f32) :
    Cert.Reference14Ideal.Read.val_main_v3 (F := Ideal) x w h = value x w h := by
  funext i
  pointwise [Cert.Reference14Ideal.Read.val_main_v3, Cert.Reference14Ideal.Read.val_main_v2, Cert.Reference14Ideal.Read.val_main_v1,
    Cert.Reference14Ideal.Read.val_main_v0, value]

/-- From memories agreeing on the arguments, the call and its reference end with the same rows. -/
theorem algebraic : Cert.algebraic_Kernel14Ideal_Reference14Ideal := by
  intro m g m' g' _ h
  refine ⟨fun c => value (m ((c : Thread nD τ).loc main_arg0)) (m ((c : Thread nD τ).loc main_arg1)) (m ((c : Thread nD τ).loc main_arg2)),
    (θ_run _ _ _).mono (fun r hr c => ⟨(hr c).1.trans (final m c), (hr c).2⟩) (Cert.Kernel14Ideal.Value.run_blocks m g),
    (θ_run _ _ _).mono (fun r hr c => ⟨?_, (hr c).2⟩) (Cert.Reference14Ideal.Value.run m' g')⟩
  rw [(hr c).1, (h c).1, (h c).2.1, (h c).2.2]
  exact reference _ _ _

theorem frame_kernel : Cert.quiescent_Kernel14 := by
  intro m ρ _
  rw [show Cert.Kernel14.defs (F := Bits) = defs (F := Bits) by chain_rfl, show Cert.Kernel14.main (F := Bits) = main (F := Bits) by chain_rfl]
  exact Gen.frame (F := Bits) m ρ

theorem frame_ideal : Cert.quiescent_Kernel14Ideal := fun m ρ _ => Gen.frame (F := Ideal) m ρ

theorem frame_reference : Cert.quiescent_Reference14Ideal := fun m ρ _ =>
  (θ_run _ _ _).mono (fun r h => ⟨fun c => (h c).2, sem_eq_zero_of_no_sems (by decide) r.2⟩)
    (Cert.Reference14Ideal.Value.run (F := Ideal) m ρ)

end Cert.Proof.OutProj

/-! ## The gradient of the merged branches. -/

namespace Cert.Proof.OutProjDx

open Cert.Kernel15Ideal Cert.Kernel15Ideal.Gen
open Idealize.ShloMosaic Idealize.ShloMosaic.TcCoe Idealize.SL.Sem

variable (m : (ℓ : Loc nD τ sig) → Buf (Elt Ideal) ℓ)

/-- The incoming gradient times the weights, transposed. -/
def grad (w : FVec Ideal S2048x2048 .bf16) (dh : FVec Ideal S4352x2048 .bf16) : FVec Ideal S4352x2048 .bf16 :=
  fun i => ∑ k : Fin 2048, (dh (ix2 (i 0) k) : EReal) * (w (ix2 (i 1) k) : EReal)

theorem idx : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

/-- What a point stores is the gradient at the place of its block. -/
theorem point (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, idx t]

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem reference (w : FVec Ideal S2048x2048 .bf16) (dh : FVec Ideal S4352x2048 .bf16) :
    Cert.Reference15Ideal.Read.val_main_v5 (F := Ideal) w dh = grad w dh := by
  funext i
  pointwise [Cert.Reference15Ideal.Read.val_main_v5, Cert.Reference15Ideal.Read.val_main_v4, Cert.Reference15Ideal.Read.val_main_v3,
    Cert.Reference15Ideal.Read.val_main_v1, grad]

/-- From memories agreeing on the arguments, the call and its reference end with the same gradient. -/
theorem algebraic : Cert.algebraic_Kernel15Ideal_Reference15Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel15Ideal.Value.run_blocks m g),
    (θ_run _ _ _).mono (fun r hr c => ⟨?_, (hr c).2⟩) (Cert.Reference15Ideal.Value.run m' g')⟩
  rw [(hr c).1, (h c).1, (h c).2]
  exact reference _ _

theorem frame_kernel : Cert.quiescent_Kernel15 := by
  intro m ρ _
  rw [show Cert.Kernel15.defs (F := Bits) = defs (F := Bits) by chain_rfl, show Cert.Kernel15.main (F := Bits) = main (F := Bits) by chain_rfl]
  exact Gen.frame (F := Bits) m ρ

theorem frame_ideal : Cert.quiescent_Kernel15Ideal := fun m ρ _ => Gen.frame (F := Ideal) m ρ

theorem frame_reference : Cert.quiescent_Reference15Ideal := fun m ρ _ =>
  (θ_run _ _ _).mono (fun r h => ⟨fun c => (h c).2, sem_eq_zero_of_no_sems (by decide) r.2⟩)
    (Cert.Reference15Ideal.Value.run (F := Ideal) m ρ)

end Cert.Proof.OutProjDx

/-! ## The gradient of the weights. -/

namespace Cert.Proof.OutProjDw

open Cert.Kernel16Ideal Cert.Kernel16Ideal.Gen
open Idealize.ShloMosaic Idealize.ShloMosaic.TcCoe Idealize.SL.Sem

variable (m : (ℓ : Loc nD τ sig) → Buf (Elt Ideal) ℓ)

/-- The merged branches, transposed, times the incoming gradient. -/
def grad (x : FVec Ideal S4352x2048 .bf16) (dh : FVec Ideal S4352x2048 .bf16) : FVec Ideal S2048x2048 .bf16 :=
  fun i => ∑ l : Fin 4352, (x (ix2 l (i 0)) : EReal) * (dh (ix2 l (i 1)) : EReal)

theorem idx : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

/-- What a point stores is the gradient at the place of its block. -/
theorem point (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, idx t]

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem reference (x : FVec Ideal S4352x2048 .bf16) (dh : FVec Ideal S4352x2048 .bf16) :
    Cert.Reference16Ideal.Read.val_main_v6 (F := Ideal) x dh = grad x dh := by
  funext i
  pointwise [Cert.Reference16Ideal.Read.val_main_v6, Cert.Reference16Ideal.Read.val_main_v5, Cert.Reference16Ideal.Read.val_main_v4,
    Cert.Reference16Ideal.Read.val_main_v3, Cert.Reference16Ideal.Read.val_main_v1, grad]
  exact Finset.sum_congr rfl fun _ _ => mul_comm _ _

/-- From memories agreeing on the arguments, the call and its reference end with the same gradient. -/
theorem algebraic : Cert.algebraic_Kernel16Ideal_Reference16Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel16Ideal.Value.run_blocks m g),
    (θ_run _ _ _).mono (fun r hr c => ⟨?_, (hr c).2⟩) (Cert.Reference16Ideal.Value.run m' g')⟩
  rw [(hr c).1, (h c).1, (h c).2]
  exact reference _ _

theorem frame_kernel : Cert.quiescent_Kernel16 := by
  intro m ρ _
  rw [show Cert.Kernel16.defs (F := Bits) = defs (F := Bits) by chain_rfl, show Cert.Kernel16.main (F := Bits) = main (F := Bits) by chain_rfl]
  exact Gen.frame (F := Bits) m ρ

theorem frame_ideal : Cert.quiescent_Kernel16Ideal := fun m ρ _ => Gen.frame (F := Ideal) m ρ

theorem frame_reference : Cert.quiescent_Reference16Ideal := fun m ρ _ =>
  (θ_run _ _ _).mono (fun r h => ⟨fun c => (h c).2, sem_eq_zero_of_no_sems (by decide) r.2⟩)
    (Cert.Reference16Ideal.Value.run (F := Ideal) m ρ)

end Cert.Proof.OutProjDw

end
-- ==== Proof.Branch.lean ====
module

public import proofs.«01_k».proof.Defs
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.Pipeline.ValueKit
public import Idealize.ShloMosaic.Lib.Pipeline.Regions
public import Idealize.ShloMosaic.Adequacy
public import Idealize.ShloMosaic.Init

/-! # A branch's projection, its weights held as one column block per device: the product and the weights' gradient. -/

@[expose] public section

set_option maxRecDepth 16384

noncomputable section

/-! ## The product. -/

namespace Cert.Proof.Branch

open Cert.Kernel17Ideal Cert.Kernel17Ideal.Gen
open Idealize.ShloMosaic Idealize.ShloMosaic.TcCoe Idealize.SL.Sem

variable (m : (ℓ : Loc nD τ sig) → Buf (Elt Ideal) ℓ)

/-- The branch times the weights: column c is column c % 256 of device c / 256. -/
def value (o : FVec Ideal S4352x1024 .bf16) (w : FVec Ideal S8x1024x256 .bf16) : FVec Ideal S4352x2048 .bf16 :=
  fun i => ∑ k : Fin 1024, (o (ix2 (i 0) k) : EReal)
    * (w (ix3 ⟨(i 1).val / 256, by have : (i 1).val < 2048 := (i 1).isLt; omega⟩ k ⟨(i 1).val % 256, by omega⟩) : EReal)

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, win0_0.index t = ![t.val / 8, 0] ∧ win0_1.index t = ![t.val % 8, 0, 0] ∧ win0_2.index t = ![t.val / 8, t.val % 8])

/-- What a point stores is the value at the place of its block. -/
theorem point (c : Dev nD) (t : Fin cfg0.N) (y) : k0_pay1 (iblk m c 0 t) (iblk m c 1 t) y
    = value (m ((c : Thread nD τ).loc main_arg0)) (m ((c : Thread nD τ).loc main_arg1)) (((cfg0.win 2).blk t).view.emb y) := by
  pointwise [k0_pay1, value]
  blk_point [iblk, V, idx t]

theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem reference (o : FVec Ideal S4352x1024 .bf16) (w : FVec Ideal S8x1024x256 .bf16) :
    Cert.Reference17Ideal.Read.val_main_v4 (F := Ideal) o w = value o w := by
  funext i
  pointwise [Cert.Reference17Ideal.Read.val_main_v4, Cert.Reference17Ideal.Read.val_main_v3, Cert.Reference17Ideal.Read.val_main_v2,
    Cert.Reference17Ideal.Read.val_main_v1, Cert.Reference17Ideal.Read.val_main_v0, value]

/-- From memories agreeing on the arguments, the call and its reference end with the same product. -/
theorem algebraic : Cert.algebraic_Kernel17Ideal_Reference17Ideal := by
  intro m g m' g' _ h
  refine ⟨fun c => value (m ((c : Thread nD τ).loc main_arg0)) (m ((c : Thread nD τ).loc main_arg1)),
    (θ_run _ _ _).mono (fun r hr c => ⟨(hr c).1.trans (final m c), (hr c).2⟩) (Cert.Kernel17Ideal.Value.run_blocks m g),
    (θ_run _ _ _).mono (fun r hr c => ⟨?_, (hr c).2⟩) (Cert.Reference17Ideal.Value.run m' g')⟩
  rw [(hr c).1, (h c).1, (h c).2]
  exact reference _ _

theorem frame_kernel : Cert.quiescent_Kernel17 := by
  intro m ρ _
  rw [show Cert.Kernel17.defs (F := Bits) = defs (F := Bits) by chain_rfl, show Cert.Kernel17.main (F := Bits) = main (F := Bits) by chain_rfl]
  exact Gen.frame (F := Bits) m ρ

theorem frame_ideal : Cert.quiescent_Kernel17Ideal := fun m ρ _ => Gen.frame (F := Ideal) m ρ

theorem frame_reference : Cert.quiescent_Reference17Ideal := fun m ρ _ =>
  (θ_run _ _ _).mono (fun r h => ⟨fun c => (h c).2, sem_eq_zero_of_no_sems (by decide) r.2⟩)
    (Cert.Reference17Ideal.Value.run (F := Ideal) m ρ)

end Cert.Proof.Branch

/-! ## The gradient of the weights. -/

namespace Cert.Proof.BranchDw

open Cert.Kernel19Ideal Cert.Kernel19Ideal.Gen
open Idealize.ShloMosaic Idealize.ShloMosaic.TcCoe Idealize.SL.Sem

variable (m : (ℓ : Loc nD τ sig) → Buf (Elt Ideal) ℓ)

/-- The branch, transposed, times device j's columns of the incoming gradient. -/
def grad (o : FVec Ideal S4352x1024 .bf16) (dbr : FVec Ideal S4352x2048 .bf16) : FVec Ideal S8x1024x256 .bf16 :=
  fun i => ∑ l : Fin 4352, (o (ix2 l (i 1)) : EReal)
    * (dbr (ix2 l ⟨(i 0).val * 256 + (i 2).val, by have : (i 0).val < 8 := (i 0).isLt; have : (i 2).val < 256 := (i 2).isLt; omega⟩) : EReal)

theorem idx : ∀ t : Fin cfg0.N, win0_0.index t = ![0, t.val / 8] ∧ win0_1.index t = ![0, t.val % 8] ∧ win0_2.index t = ![t.val % 8, t.val / 8, 0] :=
  (by decide +kernel : ∀ t : Fin grid0.N, win0_0.index t = ![0, t.val / 8] ∧ win0_1.index t = ![0, t.val % 8] ∧ win0_2.index t = ![t.val % 8, t.val / 8, 0])

/-- What a point stores is the gradient at the place of its block. -/
theorem point (c : Dev nD) (t : Fin cfg0.N) (y) : k0_pay1 (iblk m c 0 t) (iblk m c 1 t) y
    = grad (m ((c : Thread nD τ).loc main_arg0)) (m ((c : Thread nD τ).loc main_arg1)) (((cfg0.win 2).blk t).view.emb y) := by
  pointwise [k0_pay1, grad]
  blk_point [iblk, V, idx t]

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem reference (o : FVec Ideal S4352x1024 .bf16) (dbr : FVec Ideal S4352x2048 .bf16) :
    Cert.Reference19Ideal.Read.val_main_v8 (F := Ideal) o dbr = grad o dbr := by
  funext i
  pointwise [Cert.Reference19Ideal.Read.val_main_v8, Cert.Reference19Ideal.Read.val_main_v7, Cert.Reference19Ideal.Read.val_main_v6,
    Cert.Reference19Ideal.Read.val_main_v5, Cert.Reference19Ideal.Read.val_main_v4, Cert.Reference19Ideal.Read.val_main_v1, grad]
  exact Finset.sum_congr rfl fun _ _ => mul_comm _ _

/-- From memories agreeing on the arguments, the call and its reference end with the same gradient. -/
theorem algebraic : Cert.algebraic_Kernel19Ideal_Reference19Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel19Ideal.Value.run_blocks m g),
    (θ_run _ _ _).mono (fun r hr c => ⟨?_, (hr c).2⟩) (Cert.Reference19Ideal.Value.run m' g')⟩
  rw [(hr c).1, (h c).1, (h c).2]
  exact reference _ _

theorem frame_kernel : Cert.quiescent_Kernel19 := by
  intro m ρ _
  rw [show Cert.Kernel19.defs (F := Bits) = defs (F := Bits) by chain_rfl, show Cert.Kernel19.main (F := Bits) = main (F := Bits) by chain_rfl]
  exact Gen.frame (F := Bits) m ρ

theorem frame_ideal : Cert.quiescent_Kernel19Ideal := fun m ρ _ => Gen.frame (F := Ideal) m ρ

theorem frame_reference : Cert.quiescent_Reference19Ideal := fun m ρ _ =>
  (θ_run _ _ _).mono (fun r h => ⟨fun c => (h c).2, sem_eq_zero_of_no_sems (by decide) r.2⟩)
    (Cert.Reference19Ideal.Value.run (F := Ideal) m ρ)

end Cert.Proof.BranchDw

end
-- ==== Proof.BranchDx.lean ====
module

public import proofs.«01_k».proof.Defs
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.Regions
public import Idealize.ShloMosaic.Adequacy
public import Idealize.ShloMosaic.Init
/-! # The gradient of a branch's input: each output block is visited at eight grid points, one per block of the branch's
weights. -/

@[expose] public section

set_option maxRecDepth 16384

noncomputable section

namespace Cert.Proof.BranchDx

open Cert.Kernel18Ideal Cert.Kernel18Ideal.Gen
open Idealize.ShloMosaic Idealize.ShloMosaic.TcCoe Idealize.SL.Sem

variable (m : (ℓ : Loc nD τ sig) → Buf (Elt Ideal) ℓ)

/-- The share of block `s` of the weights. -/
def part (w : FVec Ideal S8x1024x256 .bf16) (dy : FVec Ideal S4352x2048 .bf16) (l : Fin 4352) (e : Fin 1024) (s : Fin 8) : EReal :=
  ∑ k : Fin 256, (dy (ix2 l ⟨s * 256 + k, by omega⟩) : EReal) * (w (ix3 s e k) : EReal)

/-- The incoming gradient times the blocks of the weights, transposed, summed over the blocks. -/
def grad (w : FVec Ideal S8x1024x256 .bf16) (dy : FVec Ideal S4352x2048 .bf16) : FVec Ideal S4352x1024 .bf16 :=
  fun i => ∑ s : Fin 8, part w dy (i 0) (i 1) s

theorem idx : ∀ t : Fin cfg0.N, win0_0.index t = ![t.val / 16, t.val % 8] ∧ win0_1.index t = ![t.val % 8, t.val / 8 % 2, 0]
    ∧ win0_2.index t = ![t.val / 16, t.val / 8 % 2] :=
  (by decide +kernel : ∀ t : Fin grid0.N, win0_0.index t = ![t.val / 16, t.val % 8] ∧ win0_1.index t = ![t.val % 8, t.val / 8 % 2, 0]
    ∧ win0_2.index t = ![t.val / 16, t.val / 8 % 2])

theorem hzero (j) : k0_pay1 (F := Ideal) j = 0 := by pointwise [k0_pay1]

/-- The product of the two blocks in hand, at one place of the running block. -/
def slice (x0 : FVec Ideal S1088x256 .bf16) (x1 : FVec Ideal S1x512x256 .bf16) (y : S1088x512.Idx) : EReal :=
  ∑ k : Fin 256, (x0 (ix2 (y 0) k) : EReal) * (x1 (ix3 0 (y 1) k) : EReal)

theorem added (acc : Vec Ideal S1088x512 .f32) (x0 : Vec Ideal S1088x256 .bf16) (x1 : Vec Ideal S1x512x256 .bf16) (y) :
    k0_pay2 acc x0 x1 y = (acc y : EReal) + slice x0 x1 y := by
  pointwise [k0_pay2, slice]

theorem rounded (acc : Vec Ideal S1088x512 .f32) (y) : k0_pay3 acc y = acc y := by pointwise [k0_pay3]

section Points

variable (c : Dev nD) (t : Fin cfg0.N) (y : S1088x512.Idx) (l : Fin 4352) (e : Fin 1024) (s : Fin 8)
  (hl : (l : ℕ) = t.val / 16 * 1088 + y 0) (he : (e : ℕ) = t.val / 8 % 2 * 512 + y 1) (hs : (s : ℕ) = t.val % 8)

include hl he hs

theorem placed : slice (iblk m c 0 t) (iblk m c 1 t) y
    = part (m ((c : Thread nD τ).loc main_arg0)) (m ((c : Thread nD τ).loc main_arg1)) l e s := by
  unfold part slice
  blk_point [iblk, V, idx t]

theorem first (h : t.val % 8 = 0) : ((outsAt0 m c t.val t.isLt).2 y : EReal)
    = part (m ((c : Thread nD τ).loc main_arg0)) (m ((c : Thread nD τ).loc main_arg1)) l e s := by
  rw [outsAt0_A m c t h (by omega)]
  frame_out
  rw [added, hzero, placed m c t y l e s hl he hs]
  exact zero_add _

theorem next (h0 : ¬t.val % 8 = 0) (h1 : ¬t.val % 8 = 7) : ((outsAt0 m c t.val t.isLt).2 y : EReal)
    = ((outsAt0 m c (t.val - 1) (Nat.lt_of_le_of_lt (Nat.sub_le _ _) t.isLt)).2 y : EReal)
      + part (m ((c : Thread nD τ).loc main_arg0)) (m ((c : Thread nD τ).loc main_arg1)) l e s := by
  rw [outsAt0_B m c t h0 h1]
  frame_out
  rw [added, placed m c t y l e s hl he hs]
  exact congrArg (fun z : EReal => z + _) (congrFun ((Memref.isWhole_whole cc0_scratch0).read_unread _) y)

theorem last (h1 : t.val % 8 = 7) : ((outsAt0 m c t.val t.isLt).1 y : EReal)
    = ((outsAt0 m c (t.val - 1) (Nat.lt_of_le_of_lt (Nat.sub_le _ _) t.isLt)).2 y : EReal)
      + part (m ((c : Thread nD τ).loc main_arg0)) (m ((c : Thread nD τ).loc main_arg1)) l e s := by
  rw [outsAt0_C m c t (by omega) h1]
  frame_out
  rw [rounded, added, placed m c t y l e s hl he hs]
  exact congrArg (fun z : EReal => z + _) (congrFun ((Memref.isWhole_whole cc0_scratch0).read_unread _) y)

end Points

/-- The running block holds the shares of the blocks so far. -/
theorem running (c : Dev nD) (y : S1088x512.Idx) (l : Fin 4352) (e : Fin 1024) (r : ℕ) (hr : r < 7) : ∀ t : Fin cfg0.N,
    t.val % 8 = r → (l : ℕ) = t.val / 16 * 1088 + y 0 → (e : ℕ) = t.val / 8 % 2 * 512 + y 1 → ((outsAt0 m c t.val t.isLt).2 y : EReal)
    = ∑ s : Fin (r + 1), part (m ((c : Thread nD τ).loc main_arg0)) (m ((c : Thread nD τ).loc main_arg1)) l e ⟨s, by omega⟩ := by
  induction r with
  | zero =>
    intro t h hl he
    rw [first m c t y l e 0 hl he (by rw [h]; rfl) h, Fin.sum_univ_one]
    rfl
  | succ r ih =>
    intro t h hl he
    have lt := t.isLt
    rw [next m c t y l e ⟨r + 1, by omega⟩ hl he (by rw [h]) (by omega) (by omega),
      ih (by omega) ⟨t.val - 1, by omega⟩ (by simp only; omega) (by simp only; omega) (by simp only; omega), Fin.sum_univ_castSucc (n := r + 1)]
    rfl

/-- The block written back is the gradient at its place. -/
theorem point (c : Dev nD) (t : Fin cfg0.N) (h : t.val % 8 = 7) (y : S1088x512.Idx) (l : Fin 4352) (e : Fin 1024)
    (hl : (l : ℕ) = t.val / 16 * 1088 + y 0) (he : (e : ℕ) = t.val / 8 % 2 * 512 + y 1) : ((outsAt0 m c t.val t.isLt).1 y : EReal)
    = grad (m ((c : Thread nD τ).loc main_arg0)) (m ((c : Thread nD τ).loc main_arg1)) (ix2 l e) := by
  have lt := t.isLt
  rw [last m c t y l e 7 hl he (by rw [h]; rfl) h,
    running m c y l e 6 (by omega) ⟨t.val - 1, by omega⟩ (by simp only; omega) (by simp only; omega) (by simp only; omega)]
  exact (Fin.sum_univ_castSucc (n := 7) fun s => part (m ((c : Thread nD τ).loc main_arg0)) (m ((c : Thread nD τ).loc main_arg1)) l e s).symm

theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2]
  refine (point m c t ((flush0_2 t).mp hf) y (((cfg0.win 2).blk t).view.emb y 0) (((cfg0.win 2).blk t).view.emb y 1) ?_ ?_).trans
    (congrArg _ (eq_ix2 _).symm) <;> blk_simp [idx t] <;> omega

theorem reference (w : FVec Ideal S8x1024x256 .bf16) (dy : FVec Ideal S4352x2048 .bf16) :
    Cert.Reference18Ideal.Read.val_main_v7 (F := Ideal) w dy = grad w dy := by
  funext i
  pointwise [Cert.Reference18Ideal.Read.val_main_v7, Cert.Reference18Ideal.Read.val_main_v6, Cert.Reference18Ideal.Read.val_main_v5,
    Cert.Reference18Ideal.Read.val_main_v4, Cert.Reference18Ideal.Read.val_main_v1, grad, part]

/-- From memories agreeing on the arguments, the call and its reference end with the same gradient. -/
theorem algebraic : Cert.algebraic_Kernel18Ideal_Reference18Ideal := by
  intro m g m' g' _ h
  refine ⟨fun c => grad (m ((c : Thread nD τ).loc main_arg0)) (m ((c : Thread nD τ).loc main_arg1)),
    (θ_run _ _ _).mono (fun r hr c => ⟨(hr c).1.trans (final m c), (hr c).2⟩) (Cert.Kernel18Ideal.Value.run_blocks m g),
    (θ_run _ _ _).mono (fun r hr c => ⟨?_, (hr c).2⟩) (Cert.Reference18Ideal.Value.run m' g')⟩
  rw [(hr c).1, (h c).1, (h c).2]
  exact reference _ _

theorem frame_kernel : Cert.quiescent_Kernel18 := by
  intro m ρ _
  rw [show Cert.Kernel18.defs (F := Bits) = defs (F := Bits) by chain_rfl, show Cert.Kernel18.main (F := Bits) = main (F := Bits) by chain_rfl]
  exact Gen.frame (F := Bits) m ρ

theorem frame_ideal : Cert.quiescent_Kernel18Ideal := fun m ρ _ => Gen.frame (F := Ideal) m ρ

theorem frame_reference : Cert.quiescent_Reference18Ideal := fun m ρ _ =>
  (θ_run _ _ _).mono (fun r h => ⟨fun c => (h c).2, sem_eq_zero_of_no_sems (by decide) r.2⟩)
    (Cert.Reference18Ideal.Value.run (F := Ideal) m ρ)

end Cert.Proof.BranchDx

end
-- ==== Proof.Adam.lean ====
module

public import Idealize.ShloMosaic.Lib.IdealHost

/-! # One AdamW step of one weight, in extended reals. The constants are the step's, rounded to f32. -/

@[expose] public section

noncomputable section

namespace Cert.Proof.Adam

open Idealize.ShloMosaic

/-- The first moment: 0.9 of the old, 0.1 of the gradient. -/
def newM (g m : EReal) : EReal :=
  Ideal.ofBits .f32 0x3F666666#32 * m + Ideal.ofBits .f32 0x3DCCCCCD#32 * g

/-- The second moment: 0.999 of the old, 0.001 of the gradient's square. -/
def newV (g v : EReal) : EReal :=
  Ideal.ofBits .f32 0x3F7FBE77#32 * v + Ideal.ofBits .f32 0x3A83126F#32 * (g * g)

/-- The change of the weight: the corrected moments' quotient and the decay, times minus the rate. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

theorem delta_congr {g w m v g' w' m' v' : EReal} (hg : g = g') (hw : w = w') (hm : m = m') (hv : v = v') : delta g w m v = delta g' w' m' v' := by
  subst hg hw hm hv
  rfl

variable {s : Shape} (g w m v : FVec Ideal s .f32)

/-- The new first moments of a whole weight. -/
def moment : FVec Ideal s .f32 := fun i => newM (g i) (m i)

/-- The new second moments of a whole weight. -/
def square : FVec Ideal s .f32 := fun i => newV (g i) (v i)

/-- The changes of a whole weight. -/
def change : FVec Ideal s .f32 := fun i => delta (g i) (w i) (m i) (v i)

end Cert.Proof.Adam

end
-- ==== Proof.AdamGate.lean ====
module

public import proofs.«01_k».proof.Defs
public import proofs.«01_k».proof.Proof.Adam
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.Pipeline.ValueKit
public import Idealize.ShloMosaic.Lib.Pipeline.Regions
public import Idealize.ShloMosaic.Adequacy
public import Idealize.ShloMosaic.Init
/-! # The optimiser's step of a gate's weights. Every output block is written once, from the devices' parts in its rows. -/

@[expose] public section

set_option maxRecDepth 16384

noncomputable section

namespace Cert.Proof.AdamGate

open Cert.Kernel20Ideal Cert.Kernel20Ideal.Gen
open Idealize.ShloMosaic Idealize.ShloMosaic.TcCoe Idealize.SL.Sem

variable (m : (ℓ : Loc nD τ sig) → Buf (Elt Ideal) ℓ)

/-- The gradient: the sum of the eight devices' parts. -/
def total (p : FVec Ideal S8x2x2048x704 .bf16) : FVec Ideal S2048x704 .f32 :=
  fun i => ∑ j : Fin 8, (p (ix4 j 0 (i 0) (i 1)) : EReal)

theorem idx : ∀ t : Fin cfg0.N, win0_0.index t = ![0, 0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![0, 0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

/-- The sum of the eight parts of a block in hand. -/
def sum8 (x : FVec Ideal S8x1x128x704 .bf16) (y : S128x704.Idx) : EReal := ∑ j : Fin 8, (x (ix4 j 0 (y 0) (y 1)) : EReal)

section Block

variable (x0 : Vec Ideal S8x1x128x704 .bf16) (x1 x2 x3 : Vec Ideal S128x704 .f32) (y : S128x704.Idx)

theorem total_value : k0_pay2 (k0_pay6 x0 x1 x2 x3) (View.ld x0 r0_7) y = sum8 x0 y := by
  unfold sum8
  rw [Fin.sum_univ_eight]
  pointwise [k0_pay2, k0_pay6, k0_pay1]

end Block

section Points

variable (c : Dev nD) (t : Fin cfg0.N) (y : S128x704.Idx) (i : S2048x704.Idx) (h0 : (i 0 : ℕ) = t.val * 128 + y 0) (h1 : (i 1 : ℕ) = y 1)

include h0 h1

theorem in_hand : (k0_pay2 (k0_pay6 (iblk m c 0 t) (iblk m c 1 t) (iblk m c 2 t) (iblk m c 3 t)) (View.ld (iblk m c 0 t) r0_7) y : EReal)
    = total (m ((c : Thread nD τ).loc main_arg0)) i := by
  refine (total_value _ _ _ _ y).trans ?_
  unfold total sum8
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_total (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  refine in_hand m c t y _ ?_ ?_ <;> blk_simp [idx t] <;> omega

theorem final_change (c : Dev nD) : (dats m 0 c).arrAt 5 (cfgs 0).N = Adam.change (total (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine Adam.delta_congr (in_hand m c t y _ ?_ ?_) (weight m c t y _ ?_ ?_) (first m c t y _ ?_ ?_) (second m c t y _ ?_ ?_) <;> blk_simp [idx t] <;> omega

theorem final_moment (c : Dev nD) : (dats m 0 c).arrAt 6 (cfgs 0).N
    = Adam.moment (total (m ((c : Thread nD τ).loc main_arg0))) (m ((c : Thread nD τ).loc main_arg2)) := by
  refine (dats m 0 c).arrAt_eq_of_covers 6 _ (by decide +kernel) fun t _ y => ?_
  blk_simp
  rw [after0_6]
  frame_out
  refine congrArg₂ Adam.newM (in_hand m c t y _ ?_ ?_) (first m c t y _ ?_ ?_) <;> blk_simp [idx t] <;> omega

theorem final_square (c : Dev nD) : (dats m 0 c).arrAt 7 (cfgs 0).N
    = Adam.square (total (m ((c : Thread nD τ).loc main_arg0))) (m ((c : Thread nD τ).loc main_arg3)) := by
  refine (dats m 0 c).arrAt_eq_of_covers 7 _ (by decide +kernel) fun t _ y => ?_
  blk_simp
  rw [after0_7]
  frame_out
  refine congrArg₂ Adam.newV (in_hand m c t y _ ?_ ?_) (second m c t y _ ?_ ?_) <;> blk_simp [idx t] <;> omega

theorem reference_total (p : FVec Ideal S8x2x2048x704 .bf16) : Cert.Reference20Ideal.Read.val_main_v3 (F := Ideal) p = total p := by
  funext i
  idx_vars i
  pointwise [Cert.Reference20Ideal.Read.val_main_v3, Cert.Reference20Ideal.Read.val_main_v2, Cert.Reference20Ideal.Read.val_main_v1,
    Cert.Reference20Ideal.Read.val_main_v0, Cert.Reference20Ideal.Read.val_main_cst, total]

/-- From memories agreeing on the arguments, the call and its reference end with the same four results. -/
theorem algebraic : Cert.algebraic_Kernel20Ideal_Reference20Ideal := by
  intro m g m' g' _ h
  refine ⟨fun c => total (m ((c : Thread nD τ).loc main_arg0)),
    fun c => Adam.change (total (m ((c : Thread nD τ).loc main_arg0))) (m ((c : Thread nD τ).loc main_arg1)) (m ((c : Thread nD τ).loc main_arg2)) (m ((c : Thread nD τ).loc main_arg3)),
    fun c => Adam.moment (total (m ((c : Thread nD τ).loc main_arg0))) (m ((c : Thread nD τ).loc main_arg2)),
    fun c => Adam.square (total (m ((c : Thread nD τ).loc main_arg0))) (m ((c : Thread nD τ).loc main_arg3)),
    (θ_run _ _ _).mono (fun r hr c => ⟨(hr c).1.trans (final_total m c), (hr c).2.1.trans (final_change m c), (hr c).2.2.1.trans (final_moment m c),
      (hr c).2.2.2.1.trans (final_square m c), (hr c).2.2.2.2⟩) (Cert.Kernel20Ideal.Value.run_blocks m g),
    (θ_run _ _ _).mono (fun r hr c => ⟨?_, ?_, ?_, ?_, (hr c).2.2.2.2⟩) (Cert.Reference20Ideal.Value.run m' g')⟩
  · rw [(hr c).1, Cert.Reference20Ideal.Read.val_main_v3_eq, (h c).1]
    exact reference_total _
  · rw [(hr c).2.1, Cert.Reference20Ideal.Read.val_main_v27_eq, (h c).1, (h c).2.1, (h c).2.2.1, (h c).2.2.2]
    exact congrArg (fun g => Adam.change g _ _ _) (reference_total _)
  · rw [(hr c).2.2.1, Cert.Reference20Ideal.Read.val_main_v8_eq, (h c).1, (h c).2.2.1]
    exact congrArg (fun g => Adam.moment g _) (reference_total _)
  · rw [(hr c).2.2.2.1, Cert.Reference20Ideal.Read.val_main_v14_eq, (h c).1, (h c).2.2.2]
    exact congrArg (fun g => Adam.square g _) (reference_total _)

theorem frame_kernel : Cert.quiescent_Kernel20 := by
  intro m ρ _
  rw [show Cert.Kernel20.defs (F := Bits) = defs (F := Bits) by chain_rfl, show Cert.Kernel20.main (F := Bits) = main (F := Bits) by chain_rfl]
  exact Gen.frame (F := Bits) m ρ

theorem frame_ideal : Cert.quiescent_Kernel20Ideal := fun m ρ _ => Gen.frame (F := Ideal) m ρ

theorem frame_reference : Cert.quiescent_Reference20Ideal := fun m ρ _ =>
  (θ_run _ _ _).mono (fun r h => ⟨fun c => (h c).2.2.2.2, sem_eq_zero_of_no_sems (by decide) r.2⟩)
    (Cert.Reference20Ideal.Value.run (F := Ideal) m ρ)

end Cert.Proof.AdamGate

end
-- ==== Proof.AdamUp.lean ====
module

public import proofs.«01_k».proof.Defs
public import proofs.«01_k».proof.Proof.Adam
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.Pipeline.ValueKit
public import Idealize.ShloMosaic.Lib.Pipeline.Regions
public import Idealize.ShloMosaic.Adequacy
public import Idealize.ShloMosaic.Init
/-! # The optimiser's step of an up product's weights. Every output block is written once, from the devices' parts in its rows. -/

@[expose] public section

set_option maxRecDepth 16384

noncomputable section

namespace Cert.Proof.AdamUp

open Cert.Kernel21Ideal Cert.Kernel21Ideal.Gen
open Idealize.ShloMosaic Idealize.ShloMosaic.TcCoe Idealize.SL.Sem

variable (m : (ℓ : Loc nD τ sig) → Buf (Elt Ideal) ℓ)

/-- The gradient: the sum of the eight devices' parts. -/
def total (p : FVec Ideal S8x2x2048x704 .bf16) : FVec Ideal S2048x704 .f32 :=
  fun i => ∑ j : Fin 8, (p (ix4 j 1 (i 0) (i 1)) : EReal)

theorem idx : ∀ t : Fin cfg0.N, win0_0.index t = ![0, 1, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![0, 1, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

/-- The sum of the eight parts of a block in hand. -/
def sum8 (x : FVec Ideal S8x1x128x704 .bf16) (y : S128x704.Idx) : EReal := ∑ j : Fin 8, (x (ix4 j 0 (y 0) (y 1)) : EReal)

section Block

variable (x0 : Vec Ideal S8x1x128x704 .bf16) (x1 x2 x3 : Vec Ideal S128x704 .f32) (y : S128x704.Idx)

theorem total_value : k0_pay2 (k0_pay6 x0 x1 x2 x3) (View.ld x0 r0_7) y = sum8 x0 y := by
  unfold sum8
  rw [Fin.sum_univ_eight]
  pointwise [k0_pay2, k0_pay6, k0_pay1]

end Block

section Points

variable (c : Dev nD) (t : Fin cfg0.N) (y : S128x704.Idx) (i : S2048x704.Idx) (h0 : (i 0 : ℕ) = t.val * 128 + y 0) (h1 : (i 1 : ℕ) = y 1)

include h0 h1

theorem in_hand : (k0_pay2 (k0_pay6 (iblk m c 0 t) (iblk m c 1 t) (iblk m c 2 t) (iblk m c 3 t)) (View.ld (iblk m c 0 t) r0_7) y : EReal)
    = total (m ((c : Thread nD τ).loc main_arg0)) i := by
  refine (total_value _ _ _ _ y).trans ?_
  unfold total sum8
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_total (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  refine in_hand m c t y _ ?_ ?_ <;> blk_simp [idx t] <;> omega

theorem final_change (c : Dev nD) : (dats m 0 c).arrAt 5 (cfgs 0).N = Adam.change (total (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine Adam.delta_congr (in_hand m c t y _ ?_ ?_) (weight m c t y _ ?_ ?_) (first m c t y _ ?_ ?_) (second m c t y _ ?_ ?_) <;> blk_simp [idx t] <;> omega

theorem final_moment (c : Dev nD) : (dats m 0 c).arrAt 6 (cfgs 0).N
    = Adam.moment (total (m ((c : Thread nD τ).loc main_arg0))) (m ((c : Thread nD τ).loc main_arg2)) := by
  refine (dats m 0 c).arrAt_eq_of_covers 6 _ (by decide +kernel) fun t _ y => ?_
  blk_simp
  rw [after0_6]
  frame_out
  refine congrArg₂ Adam.newM (in_hand m c t y _ ?_ ?_) (first m c t y _ ?_ ?_) <;> blk_simp [idx t] <;> omega

theorem final_square (c : Dev nD) : (dats m 0 c).arrAt 7 (cfgs 0).N
    = Adam.square (total (m ((c : Thread nD τ).loc main_arg0))) (m ((c : Thread nD τ).loc main_arg3)) := by
  refine (dats m 0 c).arrAt_eq_of_covers 7 _ (by decide +kernel) fun t _ y => ?_
  blk_simp
  rw [after0_7]
  frame_out
  refine congrArg₂ Adam.newV (in_hand m c t y _ ?_ ?_) (second m c t y _ ?_ ?_) <;> blk_simp [idx t] <;> omega

theorem reference_total (p : FVec Ideal S8x2x2048x704 .bf16) : Cert.Reference21Ideal.Read.val_main_v3 (F := Ideal) p = total p := by
  funext i
  idx_vars i
  pointwise [Cert.Reference21Ideal.Read.val_main_v3, Cert.Reference21Ideal.Read.val_main_v2, Cert.Reference21Ideal.Read.val_main_v1,
    Cert.Reference21Ideal.Read.val_main_v0, Cert.Reference21Ideal.Read.val_main_cst, total]

/-- From memories agreeing on the arguments, the call and its reference end with the same four results. -/
theorem algebraic : Cert.algebraic_Kernel21Ideal_Reference21Ideal := by
  intro m g m' g' _ h
  refine ⟨fun c => total (m ((c : Thread nD τ).loc main_arg0)),
    fun c => Adam.change (total (m ((c : Thread nD τ).loc main_arg0))) (m ((c : Thread nD τ).loc main_arg1)) (m ((c : Thread nD τ).loc main_arg2)) (m ((c : Thread nD τ).loc main_arg3)),
    fun c => Adam.moment (total (m ((c : Thread nD τ).loc main_arg0))) (m ((c : Thread nD τ).loc main_arg2)),
    fun c => Adam.square (total (m ((c : Thread nD τ).loc main_arg0))) (m ((c : Thread nD τ).loc main_arg3)),
    (θ_run _ _ _).mono (fun r hr c => ⟨(hr c).1.trans (final_total m c), (hr c).2.1.trans (final_change m c), (hr c).2.2.1.trans (final_moment m c),
      (hr c).2.2.2.1.trans (final_square m c), (hr c).2.2.2.2⟩) (Cert.Kernel21Ideal.Value.run_blocks m g),
    (θ_run _ _ _).mono (fun r hr c => ⟨?_, ?_, ?_, ?_, (hr c).2.2.2.2⟩) (Cert.Reference21Ideal.Value.run m' g')⟩
  · rw [(hr c).1, Cert.Reference21Ideal.Read.val_main_v3_eq, (h c).1]
    exact reference_total _
  · rw [(hr c).2.1, Cert.Reference21Ideal.Read.val_main_v27_eq, (h c).1, (h c).2.1, (h c).2.2.1, (h c).2.2.2]
    exact congrArg (fun g => Adam.change g _ _ _) (reference_total _)
  · rw [(hr c).2.2.1, Cert.Reference21Ideal.Read.val_main_v8_eq, (h c).1, (h c).2.2.1]
    exact congrArg (fun g => Adam.moment g _) (reference_total _)
  · rw [(hr c).2.2.2.1, Cert.Reference21Ideal.Read.val_main_v14_eq, (h c).1, (h c).2.2.2]
    exact congrArg (fun g => Adam.square g _) (reference_total _)

theorem frame_kernel : Cert.quiescent_Kernel21 := by
  intro m ρ _
  rw [show Cert.Kernel21.defs (F := Bits) = defs (F := Bits) by chain_rfl, show Cert.Kernel21.main (F := Bits) = main (F := Bits) by chain_rfl]
  exact Gen.frame (F := Bits) m ρ

theorem frame_ideal : Cert.quiescent_Kernel21Ideal := fun m ρ _ => Gen.frame (F := Ideal) m ρ

theorem frame_reference : Cert.quiescent_Reference21Ideal := fun m ρ _ =>
  (θ_run _ _ _).mono (fun r h => ⟨fun c => (h c).2.2.2.2, sem_eq_zero_of_no_sems (by decide) r.2⟩)
    (Cert.Reference21Ideal.Value.run (F := Ideal) m ρ)

end Cert.Proof.AdamUp

end
-- ==== Proof.AdamDown.lean ====
module

public import proofs.«01_k».proof.Defs
public import proofs.«01_k».proof.Proof.Adam
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.Regions
public import Idealize.ShloMosaic.Adequacy
public import Idealize.ShloMosaic.Init
/-! # The optimiser's step of a down product's weights. Every output block is written once, from the devices' parts in its rows. -/

@[expose] public section

set_option maxRecDepth 16384

noncomputable section

namespace Cert.Proof.AdamDown

open Cert.Kernel22Ideal Cert.Kernel22Ideal.Gen
open Idealize.ShloMosaic Idealize.ShloMosaic.TcCoe Idealize.SL.Sem

variable (m : (ℓ : Loc nD τ sig) → Buf (Elt Ideal) ℓ)

/-- The gradient: the sum of the eight devices' parts. -/
def total (p : FVec Ideal S8x704x2048 .bf16) : FVec Ideal S704x2048 .f32 :=
  fun i => ∑ j : Fin 8, (p (ix3 j (i 0) (i 1)) : EReal)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

/-- The sum of the eight parts of a block in hand. -/
def sum8 (x : FVec Ideal S8x64x2048 .bf16) (y : S64x2048.Idx) : EReal := ∑ j : Fin 8, (x (ix3 j (y 0) (y 1)) : EReal)

section Block

variable (x0 : Vec Ideal S8x64x2048 .bf16) (x1 x2 x3 : Vec Ideal S64x2048 .f32) (y : S64x2048.Idx)

theorem total_value : k0_pay5 x0 x1 x2 x3 y = sum8 x0 y := by
  unfold sum8
  rw [Fin.sum_univ_eight]
  pointwise [k0_pay5, k0_pay4]

end Block

section Points

variable (c : Dev nD) (t : Fin cfg0.N) (y : S64x2048.Idx) (i : S704x2048.Idx) (h0 : (i 0 : ℕ) = t.val * 64 + y 0) (h1 : (i 1 : ℕ) = y 1)

include h0 h1

theorem in_hand : (k0_pay5 (iblk m c 0 t) (iblk m c 1 t) (iblk m c 2 t) (iblk m c 3 t) y : EReal)
    = total (m ((c : Thread nD τ).loc main_arg0)) i := by
  refine (total_value _ _ _ _ y).trans ?_
  unfold total sum8
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_total (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  refine in_hand m c t y _ ?_ ?_ <;> blk_simp [idx t] <;> omega

theorem final_change (c : Dev nD) : (dats m 0 c).arrAt 5 (cfgs 0).N = Adam.change (total (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine Adam.delta_congr (in_hand m c t y _ ?_ ?_) (weight m c t y _ ?_ ?_) (first m c t y _ ?_ ?_) (second m c t y _ ?_ ?_) <;> blk_simp [idx t] <;> omega

theorem final_moment (c : Dev nD) : (dats m 0 c).arrAt 6 (cfgs 0).N
    = Adam.moment (total (m ((c : Thread nD τ).loc main_arg0))) (m ((c : Thread nD τ).loc main_arg2)) := by
  refine (dats m 0 c).arrAt_eq_of_covers 6 _ (by decide +kernel) fun t _ y => ?_
  blk_simp
  rw [after0_6]
  frame_out
  refine congrArg₂ Adam.newM (in_hand m c t y _ ?_ ?_) (first m c t y _ ?_ ?_) <;> blk_simp [idx t] <;> omega

theorem final_square (c : Dev nD) : (dats m 0 c).arrAt 7 (cfgs 0).N
    = Adam.square (total (m ((c : Thread nD τ).loc main_arg0))) (m ((c : Thread nD τ).loc main_arg3)) := by
  refine (dats m 0 c).arrAt_eq_of_covers 7 _ (by decide +kernel) fun t _ y => ?_
  blk_simp
  rw [after0_7]
  frame_out
  refine congrArg₂ Adam.newV (in_hand m c t y _ ?_ ?_) (second m c t y _ ?_ ?_) <;> blk_simp [idx t] <;> omega

theorem reference_total (p : FVec Ideal S8x704x2048 .bf16) : Cert.Reference22Ideal.Read.val_main_v1 (F := Ideal) p = total p := by
  funext i
  idx_vars i
  pointwise [Cert.Reference22Ideal.Read.val_main_v1, Cert.Reference22Ideal.Read.val_main_v0, Cert.Reference22Ideal.Read.val_main_cst, total]

/-- From memories agreeing on the arguments, the call and its reference end with the same four results. -/
theorem algebraic : Cert.algebraic_Kernel22Ideal_Reference22Ideal := by
  intro m g m' g' _ h
  refine ⟨fun c => total (m ((c : Thread nD τ).loc main_arg0)),
    fun c => Adam.change (total (m ((c : Thread nD τ).loc main_arg0))) (m ((c : Thread nD τ).loc main_arg1)) (m ((c : Thread nD τ).loc main_arg2)) (m ((c : Thread nD τ).loc main_arg3)),
    fun c => Adam.moment (total (m ((c : Thread nD τ).loc main_arg0))) (m ((c : Thread nD τ).loc main_arg2)),
    fun c => Adam.square (total (m ((c : Thread nD τ).loc main_arg0))) (m ((c : Thread nD τ).loc main_arg3)),
    (θ_run _ _ _).mono (fun r hr c => ⟨(hr c).1.trans (final_total m c), (hr c).2.1.trans (final_change m c), (hr c).2.2.1.trans (final_moment m c),
      (hr c).2.2.2.1.trans (final_square m c), (hr c).2.2.2.2⟩) (Cert.Kernel22Ideal.Value.run_blocks m g),
    (θ_run _ _ _).mono (fun r hr c => ⟨?_, ?_, ?_, ?_, (hr c).2.2.2.2⟩) (Cert.Reference22Ideal.Value.run m' g')⟩
  · rw [(hr c).1, Cert.Reference22Ideal.Read.val_main_v1_eq, (h c).1]
    exact reference_total _
  · rw [(hr c).2.1, Cert.Reference22Ideal.Read.val_main_v25_eq, (h c).1, (h c).2.1, (h c).2.2.1, (h c).2.2.2]
    exact congrArg (fun g => Adam.change g _ _ _) (reference_total _)
  · rw [(hr c).2.2.1, Cert.Reference22Ideal.Read.val_main_v6_eq, (h c).1, (h c).2.2.1]
    exact congrArg (fun g => Adam.moment g _) (reference_total _)
  · rw [(hr c).2.2.2.1, Cert.Reference22Ideal.Read.val_main_v12_eq, (h c).1, (h c).2.2.2]
    exact congrArg (fun g => Adam.square g _) (reference_total _)

theorem frame_kernel : Cert.quiescent_Kernel22 := by
  intro m ρ _
  rw [show Cert.Kernel22.defs (F := Bits) = defs (F := Bits) by chain_rfl, show Cert.Kernel22.main (F := Bits) = main (F := Bits) by chain_rfl]
  exact Gen.frame (F := Bits) m ρ

theorem frame_ideal : Cert.quiescent_Kernel22Ideal := fun m ρ _ => Gen.frame (F := Ideal) m ρ

theorem frame_reference : Cert.quiescent_Reference22Ideal := fun m ρ _ =>
  (θ_run _ _ _).mono (fun r h => ⟨fun c => (h c).2.2.2.2, sem_eq_zero_of_no_sems (by decide) r.2⟩)
    (Cert.Reference22Ideal.Value.run (F := Ideal) m ρ)

end Cert.Proof.AdamDown

end
-- ==== Proof.AdamIn.lean ====
module

public import proofs.«01_k».proof.Defs
public import proofs.«01_k».proof.Proof.Adam
public import proofs.«01_k».proof.Proof.Gen.Kernel23
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Lib.Pipeline.ValueKit
public import Idealize.ShloMosaic.Lib.Pipeline.Regions
public import Idealize.ShloMosaic.Adequacy
public import Idealize.ShloMosaic.Init
/-! # The optimiser's step of the attention's joint input weights. Every output block is written once, from the devices' parts in its rows. -/

@[expose] public section

set_option maxRecDepth 16384

noncomputable section

namespace Cert.Proof.AdamIn

open Cert.Kernel23Ideal Cert.Kernel23Ideal.Gen
open Idealize.ShloMosaic Idealize.ShloMosaic.TcCoe Idealize.SL.Sem

variable (m : (ℓ : Loc nD τ sig) → Buf (Elt Ideal) ℓ)

/-- The gradient: the sum of the eight devices' parts. -/
def total (p : FVec Ideal S8x2048x1281 .bf16) : FVec Ideal S2048x1281 .f32 :=
  fun i => ∑ j : Fin 8, (p (ix3 j (i 0) (i 1)) : EReal)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

/-- The sum of the eight parts of a block in hand. -/
def sum8 (x : FVec Ideal S8x64x1281 .bf16) (y : S64x1281.Idx) : EReal := ∑ j : Fin 8, (x (ix3 j (y 0) (y 1)) : EReal)

section Block

variable (x0 : Vec Ideal S8x64x1281 .bf16) (x1 x2 x3 : Vec Ideal S64x1281 .f32) (y : S64x1281.Idx)

theorem total_value : k0_pay5 x0 x1 x2 x3 y = sum8 x0 y := by
  unfold sum8
  rw [Fin.sum_univ_eight]
  pointwise [k0_pay5, k0_pay4]

end Block

section Points

variable (c : Dev nD) (t : Fin cfg0.N) (y : S64x1281.Idx) (i : S2048x1281.Idx) (h0 : (i 0 : ℕ) = t.val * 64 + y 0) (h1 : (i 1 : ℕ) = y 1)

include h0 h1

theorem in_hand : (k0_pay5 (iblk m c 0 t) (iblk m c 1 t) (iblk m c 2 t) (iblk m c 3 t) y : EReal)
    = total (m ((c : Thread nD τ).loc main_arg0)) i := by
  refine (total_value _ _ _ _ y).trans ?_
  unfold total sum8
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_total (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  refine in_hand m c t y _ ?_ ?_ <;> blk_simp [idx t] <;> omega

theorem final_change (c : Dev nD) : (dats m 0 c).arrAt 5 (cfgs 0).N = Adam.change (total (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine Adam.delta_congr (in_hand m c t y _ ?_ ?_) (weight m c t y _ ?_ ?_) (first m c t y _ ?_ ?_) (second m c t y _ ?_ ?_) <;> blk_simp [idx t] <;> omega

theorem final_moment (c : Dev nD) : (dats m 0 c).arrAt 6 (cfgs 0).N
    = Adam.moment (total (m ((c : Thread nD τ).loc main_arg0))) (m ((c : Thread nD τ).loc main_arg2)) := by
  refine (dats m 0 c).arrAt_eq_of_covers 6 _ (by decide +kernel) fun t _ y => ?_
  blk_simp
  rw [after0_6]
  frame_out
  refine congrArg₂ Adam.newM (in_hand m c t y _ ?_ ?_) (first m c t y _ ?_ ?_) <;> blk_simp [idx t] <;> omega

theorem final_square (c : Dev nD) : (dats m 0 c).arrAt 7 (cfgs 0).N
    = Adam.square (total (m ((c : Thread nD τ).loc main_arg0))) (m ((c : Thread nD τ).loc main_arg3)) := by
  refine (dats m 0 c).arrAt_eq_of_covers 7 _ (by decide +kernel) fun t _ y => ?_
  blk_simp
  rw [after0_7]
  frame_out
  refine congrArg₂ Adam.newV (in_hand m c t y _ ?_ ?_) (second m c t y _ ?_ ?_) <;> blk_simp [idx t] <;> omega

theorem reference_total (p : FVec Ideal S8x2048x1281 .bf16) : Cert.Reference23Ideal.Read.val_main_v1 (F := Ideal) p = total p := by
  funext i
  idx_vars i
  pointwise [Cert.Reference23Ideal.Read.val_main_v1, Cert.Reference23Ideal.Read.val_main_v0, Cert.Reference23Ideal.Read.val_main_cst, total]

/-- From memories agreeing on the arguments, the call and its reference end with the same four results. -/
theorem algebraic : Cert.algebraic_Kernel23Ideal_Reference23Ideal := by
  intro m g m' g' _ h
  refine ⟨fun c => total (m ((c : Thread nD τ).loc main_arg0)),
    fun c => Adam.change (total (m ((c : Thread nD τ).loc main_arg0))) (m ((c : Thread nD τ).loc main_arg1)) (m ((c : Thread nD τ).loc main_arg2)) (m ((c : Thread nD τ).loc main_arg3)),
    fun c => Adam.moment (total (m ((c : Thread nD τ).loc main_arg0))) (m ((c : Thread nD τ).loc main_arg2)),
    fun c => Adam.square (total (m ((c : Thread nD τ).loc main_arg0))) (m ((c : Thread nD τ).loc main_arg3)),
    (θ_run _ _ _).mono (fun r hr c => ⟨(hr c).1.trans (final_total m c), (hr c).2.1.trans (final_change m c), (hr c).2.2.1.trans (final_moment m c),
      (hr c).2.2.2.1.trans (final_square m c), (hr c).2.2.2.2⟩) (Cert.Kernel23Ideal.Value.run_blocks m g),
    (θ_run _ _ _).mono (fun r hr c => ⟨?_, ?_, ?_, ?_, (hr c).2.2.2.2⟩) (Cert.Reference23Ideal.Value.run m' g')⟩
  · rw [(hr c).1, Cert.Reference23Ideal.Read.val_main_v1_eq, (h c).1]
    exact reference_total _
  · rw [(hr c).2.1, Cert.Reference23Ideal.Read.val_main_v25_eq, (h c).1, (h c).2.1, (h c).2.2.1, (h c).2.2.2]
    exact congrArg (fun g => Adam.change g _ _ _) (reference_total _)
  · rw [(hr c).2.2.1, Cert.Reference23Ideal.Read.val_main_v6_eq, (h c).1, (h c).2.2.1]
    exact congrArg (fun g => Adam.moment g _) (reference_total _)
  · rw [(hr c).2.2.2.1, Cert.Reference23Ideal.Read.val_main_v12_eq, (h c).1, (h c).2.2.2]
    exact congrArg (fun g => Adam.square g _) (reference_total _)

theorem frame_kernel : Cert.quiescent_Kernel23 := by
  intro m ρ _
  rw [show Cert.Kernel23.defs (F := Bits) = defs (F := Bits) by chain_rfl, show Cert.Kernel23.main (F := Bits) = main (F := Bits) by chain_rfl]
  exact Gen.frame (F := Bits) m ρ

theorem frame_ideal : Cert.quiescent_Kernel23Ideal := fun m ρ _ => Gen.frame (F := Ideal) m ρ

theorem frame_reference : Cert.quiescent_Reference23Ideal := fun m ρ _ =>
  (θ_run _ _ _).mono (fun r h => ⟨fun c => (h c).2.2.2.2, sem_eq_zero_of_no_sems (by decide) r.2⟩)
    (Cert.Reference23Ideal.Value.run (F := Ideal) m ρ)

end Cert.Proof.AdamIn

end
-- ==== Proof.AdamBranch.lean ====
module

public import proofs.«01_k».proof.Defs
public import proofs.«01_k».proof.Proof.Adam
public import proofs.«01_k».proof.Proof.Gen.Kernel24
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Lib.Pipeline.ValueKit
public import Idealize.ShloMosaic.Lib.Pipeline.Regions
public import Idealize.ShloMosaic.Adequacy
public import Idealize.ShloMosaic.Init
/-! # The optimiser's step of a branch's output weights. Every output block is written once, from the devices' parts in its rows. -/

@[expose] public section

set_option maxRecDepth 16384

noncomputable section

namespace Cert.Proof.AdamBranch

open Cert.Kernel24Ideal Cert.Kernel24Ideal.Gen
open Idealize.ShloMosaic Idealize.ShloMosaic.TcCoe Idealize.SL.Sem

variable (m : (ℓ : Loc nD τ sig) → Buf (Elt Ideal) ℓ)

/-- The gradient: the sum of the eight devices' parts. -/
def total (p : FVec Ideal S8x1024x256 .bf16) : FVec Ideal S1024x256 .f32 :=
  fun i => ∑ j : Fin 8, (p (ix3 j (i 0) (i 1)) : EReal)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

/-- The sum of the eight parts of a block in hand. -/
def sum8 (x : FVec Ideal S8x512x256 .bf16) (y : S512x256.Idx) : EReal := ∑ j : Fin 8, (x (ix3 j (y 0) (y 1)) : EReal)

section Block

variable (x0 : Vec Ideal S8x512x256 .bf16) (x1 x2 x3 : Vec Ideal S512x256 .f32) (y : S512x256.Idx)

theorem total_value : k0_pay5 x0 x1 x2 x3 y = sum8 x0 y := by
  unfold sum8
  rw [Fin.sum_univ_eight]
  pointwise [k0_pay5, k0_pay4]

end Block

section Points

variable (c : Dev nD) (t : Fin cfg0.N) (y : S512x256.Idx) (i : S1024x256.Idx) (h0 : (i 0 : ℕ) = t.val * 512 + y 0) (h1 : (i 1 : ℕ) = y 1)

include h0 h1

theorem in_hand : (k0_pay5 (iblk m c 0 t) (iblk m c 1 t) (iblk m c 2 t) (iblk m c 3 t) y : EReal)
    = total (m ((c : Thread nD τ).loc main_arg0)) i := by
  refine (total_value _ _ _ _ y).trans ?_
  unfold total sum8
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_total (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  refine in_hand m c t y _ ?_ ?_ <;> blk_simp [idx t] <;> omega

theorem final_change (c : Dev nD) : (dats m 0 c).arrAt 5 (cfgs 0).N = Adam.change (total (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine Adam.delta_congr (in_hand m c t y _ ?_ ?_) (weight m c t y _ ?_ ?_) (first m c t y _ ?_ ?_) (second m c t y _ ?_ ?_) <;> blk_simp [idx t] <;> omega

theorem final_moment (c : Dev nD) : (dats m 0 c).arrAt 6 (cfgs 0).N
    = Adam.moment (total (m ((c : Thread nD τ).loc main_arg0))) (m ((c : Thread nD τ).loc main_arg2)) := by
  refine (dats m 0 c).arrAt_eq_of_covers 6 _ (by decide +kernel) fun t _ y => ?_
  blk_simp
  rw [after0_6]
  frame_out
  refine congrArg₂ Adam.newM (in_hand m c t y _ ?_ ?_) (first m c t y _ ?_ ?_) <;> blk_simp [idx t] <;> omega

theorem final_square (c : Dev nD) : (dats m 0 c).arrAt 7 (cfgs 0).N
    = Adam.square (total (m ((c : Thread nD τ).loc main_arg0))) (m ((c : Thread nD τ).loc main_arg3)) := by
  refine (dats m 0 c).arrAt_eq_of_covers 7 _ (by decide +kernel) fun t _ y => ?_
  blk_simp
  rw [after0_7]
  frame_out
  refine congrArg₂ Adam.newV (in_hand m c t y _ ?_ ?_) (second m c t y _ ?_ ?_) <;> blk_simp [idx t] <;> omega

theorem reference_total (p : FVec Ideal S8x1024x256 .bf16) : Cert.Reference24Ideal.Read.val_main_v1 (F := Ideal) p = total p := by
  funext i
  idx_vars i
  pointwise [Cert.Reference24Ideal.Read.val_main_v1, Cert.Reference24Ideal.Read.val_main_v0, Cert.Reference24Ideal.Read.val_main_cst, total]

/-- From memories agreeing on the arguments, the call and its reference end with the same four results. -/
theorem algebraic : Cert.algebraic_Kernel24Ideal_Reference24Ideal := by
  intro m g m' g' _ h
  refine ⟨fun c => total (m ((c : Thread nD τ).loc main_arg0)),
    fun c => Adam.change (total (m ((c : Thread nD τ).loc main_arg0))) (m ((c : Thread nD τ).loc main_arg1)) (m ((c : Thread nD τ).loc main_arg2)) (m ((c : Thread nD τ).loc main_arg3)),
    fun c => Adam.moment (total (m ((c : Thread nD τ).loc main_arg0))) (m ((c : Thread nD τ).loc main_arg2)),
    fun c => Adam.square (total (m ((c : Thread nD τ).loc main_arg0))) (m ((c : Thread nD τ).loc main_arg3)),
    (θ_run _ _ _).mono (fun r hr c => ⟨(hr c).1.trans (final_total m c), (hr c).2.1.trans (final_change m c), (hr c).2.2.1.trans (final_moment m c),
      (hr c).2.2.2.1.trans (final_square m c), (hr c).2.2.2.2⟩) (Cert.Kernel24Ideal.Value.run_blocks m g),
    (θ_run _ _ _).mono (fun r hr c => ⟨?_, ?_, ?_, ?_, (hr c).2.2.2.2⟩) (Cert.Reference24Ideal.Value.run m' g')⟩
  · rw [(hr c).1, Cert.Reference24Ideal.Read.val_main_v1_eq, (h c).1]
    exact reference_total _
  · rw [(hr c).2.1, Cert.Reference24Ideal.Read.val_main_v25_eq, (h c).1, (h c).2.1, (h c).2.2.1, (h c).2.2.2]
    exact congrArg (fun g => Adam.change g _ _ _) (reference_total _)
  · rw [(hr c).2.2.1, Cert.Reference24Ideal.Read.val_main_v6_eq, (h c).1, (h c).2.2.1]
    exact congrArg (fun g => Adam.moment g _) (reference_total _)
  · rw [(hr c).2.2.2.1, Cert.Reference24Ideal.Read.val_main_v12_eq, (h c).1, (h c).2.2.2]
    exact congrArg (fun g => Adam.square g _) (reference_total _)

theorem frame_kernel : Cert.quiescent_Kernel24 := by
  intro m ρ _
  rw [show Cert.Kernel24.defs (F := Bits) = defs (F := Bits) by chain_rfl, show Cert.Kernel24.main (F := Bits) = main (F := Bits) by chain_rfl]
  exact Gen.frame (F := Bits) m ρ

theorem frame_ideal : Cert.quiescent_Kernel24Ideal := fun m ρ _ => Gen.frame (F := Ideal) m ρ

theorem frame_reference : Cert.quiescent_Reference24Ideal := fun m ρ _ =>
  (θ_run _ _ _).mono (fun r h => ⟨fun c => (h c).2.2.2.2, sem_eq_zero_of_no_sems (by decide) r.2⟩)
    (Cert.Reference24Ideal.Value.run (F := Ideal) m ρ)

end Cert.Proof.AdamBranch

end
-- ==== Proof.AdamOut.lean ====
module

public import proofs.«01_k».proof.Defs
public import proofs.«01_k».proof.Proof.Adam
public import proofs.«01_k».proof.Proof.Gen.Kernel25
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import Idealize.ShloMosaic.Lib.Pipeline.ValueKit
public import Idealize.ShloMosaic.Lib.Pipeline.Regions
public import Idealize.ShloMosaic.Adequacy
public import Idealize.ShloMosaic.Init
/-! # The optimiser's step of the attention's output weights. Every output block is written once, from the devices' parts in its rows. -/

@[expose] public section

set_option maxRecDepth 16384

noncomputable section

namespace Cert.Proof.AdamOut

open Cert.Kernel25Ideal Cert.Kernel25Ideal.Gen
open Idealize.ShloMosaic Idealize.ShloMosaic.TcCoe Idealize.SL.Sem

variable (m : (ℓ : Loc nD τ sig) → Buf (Elt Ideal) ℓ)

/-- The gradient: the sum of the eight devices' parts. -/
def total (p : FVec Ideal S8x256x2048 .bf16) : FVec Ideal S256x2048 .f32 :=
  fun i => ∑ j : Fin 8, (p (ix3 j (i 0) (i 1)) : EReal)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])

/-- The sum of the eight parts of a block in hand. -/
def sum8 (x : FVec Ideal S8x64x2048 .bf16) (y : S64x2048.Idx) : EReal := ∑ j : Fin 8, (x (ix3 j (y 0) (y 1)) : EReal)

section Block

variable (x0 : Vec Ideal S8x64x2048 .bf16) (x1 x2 x3 : Vec Ideal S64x2048 .f32) (y : S64x2048.Idx)

theorem total_value : k0_pay5 x0 x1 x2 x3 y = sum8 x0 y := by
  unfold sum8
  rw [Fin.sum_univ_eight]
  pointwise [k0_pay5, k0_pay4]

end Block

section Points

variable (c : Dev nD) (t : Fin cfg0.N) (y : S64x2048.Idx) (i : S256x2048.Idx) (h0 : (i 0 : ℕ) = t.val * 64 + y 0) (h1 : (i 1 : ℕ) = y 1)

include h0 h1

theorem in_hand : (k0_pay5 (iblk m c 0 t) (iblk m c 1 t) (iblk m c 2 t) (iblk m c 3 t) y : EReal)
    = total (m ((c : Thread nD τ).loc main_arg0)) i := by
  refine (total_value _ _ _ _ y).trans ?_
  unfold total sum8
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_total (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]
  frame_out
  refine in_hand m c t y _ ?_ ?_ <;> blk_simp [idx t] <;> omega

theorem final_change (c : Dev nD) : (dats m 0 c).arrAt 5 (cfgs 0).N = Adam.change (total (m ((c : Thread nD τ).loc main_arg0)))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine Adam.delta_congr (in_hand m c t y _ ?_ ?_) (weight m c t y _ ?_ ?_) (first m c t y _ ?_ ?_) (second m c t y _ ?_ ?_) <;> blk_simp [idx t] <;> omega

theorem final_moment (c : Dev nD) : (dats m 0 c).arrAt 6 (cfgs 0).N
    = Adam.moment (total (m ((c : Thread nD τ).loc main_arg0))) (m ((c : Thread nD τ).loc main_arg2)) := by
  refine (dats m 0 c).arrAt_eq_of_covers 6 _ (by decide +kernel) fun t _ y => ?_
  blk_simp
  rw [after0_6]
  frame_out
  refine congrArg₂ Adam.newM (in_hand m c t y _ ?_ ?_) (first m c t y _ ?_ ?_) <;> blk_simp [idx t] <;> omega

theorem final_square (c : Dev nD) : (dats m 0 c).arrAt 7 (cfgs 0).N
    = Adam.square (total (m ((c : Thread nD τ).loc main_arg0))) (m ((c : Thread nD τ).loc main_arg3)) := by
  refine (dats m 0 c).arrAt_eq_of_covers 7 _ (by decide +kernel) fun t _ y => ?_
  blk_simp
  rw [after0_7]
  frame_out
  refine congrArg₂ Adam.newV (in_hand m c t y _ ?_ ?_) (second m c t y _ ?_ ?_) <;> blk_simp [idx t] <;> omega

theorem reference_total (p : FVec Ideal S8x256x2048 .bf16) : Cert.Reference25Ideal.Read.val_main_v1 (F := Ideal) p = total p := by
  funext i
  idx_vars i
  pointwise [Cert.Reference25Ideal.Read.val_main_v1, Cert.Reference25Ideal.Read.val_main_v0, Cert.Reference25Ideal.Read.val_main_cst, total]

/-- From memories agreeing on the arguments, the call and its reference end with the same four results. -/
theorem algebraic : Cert.algebraic_Kernel25Ideal_Reference25Ideal := by
  intro m g m' g' _ h
  refine ⟨fun c => total (m ((c : Thread nD τ).loc main_arg0)),
    fun c => Adam.change (total (m ((c : Thread nD τ).loc main_arg0))) (m ((c : Thread nD τ).loc main_arg1)) (m ((c : Thread nD τ).loc main_arg2)) (m ((c : Thread nD τ).loc main_arg3)),
    fun c => Adam.moment (total (m ((c : Thread nD τ).loc main_arg0))) (m ((c : Thread nD τ).loc main_arg2)),
    fun c => Adam.square (total (m ((c : Thread nD τ).loc main_arg0))) (m ((c : Thread nD τ).loc main_arg3)),
    (θ_run _ _ _).mono (fun r hr c => ⟨(hr c).1.trans (final_total m c), (hr c).2.1.trans (final_change m c), (hr c).2.2.1.trans (final_moment m c),
      (hr c).2.2.2.1.trans (final_square m c), (hr c).2.2.2.2⟩) (Cert.Kernel25Ideal.Value.run_blocks m g),
    (θ_run _ _ _).mono (fun r hr c => ⟨?_, ?_, ?_, ?_, (hr c).2.2.2.2⟩) (Cert.Reference25Ideal.Value.run m' g')⟩
  · rw [(hr c).1, Cert.Reference25Ideal.Read.val_main_v1_eq, (h c).1]
    exact reference_total _
  · rw [(hr c).2.1, Cert.Reference25Ideal.Read.val_main_v25_eq, (h c).1, (h c).2.1, (h c).2.2.1, (h c).2.2.2]
    exact congrArg (fun g => Adam.change g _ _ _) (reference_total _)
  · rw [(hr c).2.2.1, Cert.Reference25Ideal.Read.val_main_v6_eq, (h c).1, (h c).2.2.1]
    exact congrArg (fun g => Adam.moment g _) (reference_total _)
  · rw [(hr c).2.2.2.1, Cert.Reference25Ideal.Read.val_main_v12_eq, (h c).1, (h c).2.2.2]
    exact congrArg (fun g => Adam.square g _) (reference_total _)

theorem frame_kernel : Cert.quiescent_Kernel25 := by
  intro m ρ _
  rw [show Cert.Kernel25.defs (F := Bits) = defs (F := Bits) by chain_rfl, show Cert.Kernel25.main (F := Bits) = main (F := Bits) by chain_rfl]
  exact Gen.frame (F := Bits) m ρ

theorem frame_ideal : Cert.quiescent_Kernel25Ideal := fun m ρ _ => Gen.frame (F := Ideal) m ρ

theorem frame_reference : Cert.quiescent_Reference25Ideal := fun m ρ _ =>
  (θ_run _ _ _).mono (fun r h => ⟨fun c => (h c).2.2.2.2, sem_eq_zero_of_no_sems (by decide) r.2⟩)
    (Cert.Reference25Ideal.Value.run (F := Ideal) m ρ)

end Cert.Proof.AdamOut

end
-- ==== Proof.AdamMeta.lean ====
module

public import proofs.«01_k».proof.Defs
public import proofs.«01_k».proof.Proof.Adam
public import proofs.«01_k».proof.Proof.Gen.Kernel26
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Lib.Pipeline.ValueKit
public import Idealize.ShloMosaic.Lib.Pipeline.Regions
public import Idealize.ShloMosaic.Adequacy
public import Idealize.ShloMosaic.Init
/-! # The optimiser's step of the memory tokens, from their summed gradient. The call has one step and its blocks are the whole arrays. -/

@[expose] public section

set_option maxRecDepth 16384

noncomputable section

namespace Cert.Proof.AdamMeta

open Cert.Kernel26Ideal Cert.Kernel26Ideal.Gen
open Idealize.ShloMosaic Idealize.ShloMosaic.TcCoe Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

section Points

variable (c : Dev nD) (t : Fin cfg0.N) (y i : S16x256.Idx) (h0 : (i 0 : ℕ) = y 0) (h1 : (i 1 : ℕ) = y 1)

include h0 h1

theorem gradient : (iblk m c 0 t y : EReal) = m ((c : Thread nD τ).loc main_arg0) i := by
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_change (c : Dev nD) : (dats m 0 c).arrAt 4 (cfgs 0).N = Adam.change (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  refine Adam.delta_congr (gradient m c t y _ ?_ ?_) (weight m c t y _ ?_ ?_) (first m c t y _ ?_ ?_) (second m c t y _ ?_ ?_) <;> blk_simp [idx t] <;> omega

theorem final_moment (c : Dev nD) : (dats m 0 c).arrAt 5 (cfgs 0).N
    = Adam.moment (m ((c : Thread nD τ).loc main_arg0)) (m ((c : Thread nD τ).loc main_arg2)) := by
  refine (dats m 0 c).arrAt_eq_of_covers 5 _ (by decide +kernel) fun t _ y => ?_
  blk_simp
  rw [after0_5]
  frame_out
  refine congrArg₂ Adam.newM (gradient m c t y _ ?_ ?_) (first m c t y _ ?_ ?_) <;> blk_simp [idx t] <;> omega

theorem final_square (c : Dev nD) : (dats m 0 c).arrAt 6 (cfgs 0).N
    = Adam.square (m ((c : Thread nD τ).loc main_arg0)) (m ((c : Thread nD τ).loc main_arg3)) := by
  refine (dats m 0 c).arrAt_eq_of_covers 6 _ (by decide +kernel) fun t _ y => ?_
  blk_simp
  rw [after0_6]
  frame_out
  refine congrArg₂ Adam.newV (gradient m c t y _ ?_ ?_) (second m c t y _ ?_ ?_) <;> blk_simp [idx t] <;> omega

/-- From memories agreeing on the arguments, the call and its reference end with the same three results. -/
theorem algebraic : Cert.algebraic_Kernel26Ideal_Reference26Ideal := by
  intro m g m' g' _ h
  refine ⟨fun c => Adam.change (m ((c : Thread nD τ).loc main_arg0)) (m ((c : Thread nD τ).loc main_arg1))
      (m ((c : Thread nD τ).loc main_arg2)) (m ((c : Thread nD τ).loc main_arg3)),
    fun c => Adam.moment (m ((c : Thread nD τ).loc main_arg0)) (m ((c : Thread nD τ).loc main_arg2)),
    fun c => Adam.square (m ((c : Thread nD τ).loc main_arg0)) (m ((c : Thread nD τ).loc main_arg3)),
    (θ_run _ _ _).mono (fun r hr c => ⟨(hr c).1.trans (final_change m c), (hr c).2.1.trans (final_moment m c), (hr c).2.2.1.trans (final_square m c),
      (hr c).2.2.2⟩) (Cert.Kernel26Ideal.Value.run_blocks m g),
    (θ_run _ _ _).mono (fun r hr c => ⟨?_, ?_, ?_, (hr c).2.2.2⟩) (Cert.Reference26Ideal.Value.run m' g')⟩
  · rw [(hr c).1, Cert.Reference26Ideal.Read.val_main_v23_eq, (h c).1, (h c).2.1, (h c).2.2.1, (h c).2.2.2]
    rfl
  · rw [(hr c).2.1, Cert.Reference26Ideal.Read.val_main_v4_eq, (h c).1, (h c).2.2.1]
    rfl
  · rw [(hr c).2.2.1, Cert.Reference26Ideal.Read.val_main_v10_eq, (h c).1, (h c).2.2.2]
    rfl

theorem frame_kernel : Cert.quiescent_Kernel26 := by
  intro m ρ _
  rw [show Cert.Kernel26.defs (F := Bits) = defs (F := Bits) by chain_rfl, show Cert.Kernel26.main (F := Bits) = main (F := Bits) by chain_rfl]
  exact Gen.frame (F := Bits) m ρ

theorem frame_ideal : Cert.quiescent_Kernel26Ideal := fun m ρ _ => Gen.frame (F := Ideal) m ρ

theorem frame_reference : Cert.quiescent_Reference26Ideal := fun m ρ _ =>
  (θ_run _ _ _).mono (fun r h => ⟨fun c => (h c).2.2.2, sem_eq_zero_of_no_sems (by decide) r.2⟩)
    (Cert.Reference26Ideal.Value.run (F := Ideal) m ρ)

end Cert.Proof.AdamMeta

end
-- ==== Proof.AdamNorm.lean ====
module

public import proofs.«01_k».proof.Defs
public import proofs.«01_k».proof.Proof.Adam
public import proofs.«01_k».proof.Proof.Gen.Kernel27
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import Idealize.ShloMosaic.Lib.Pipeline.ValueKit
public import Idealize.ShloMosaic.Lib.Pipeline.Regions
public import Idealize.ShloMosaic.Adequacy
public import Idealize.ShloMosaic.Init
/-! # The optimiser's step of a norm's scale, from their summed gradient. The call has one step and its blocks are the whole arrays. -/

@[expose] public section

set_option maxRecDepth 16384

noncomputable section

namespace Cert.Proof.AdamNorm

open Cert.Kernel27Ideal Cert.Kernel27Ideal.Gen
open Idealize.ShloMosaic Idealize.ShloMosaic.TcCoe Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

section Points

variable (c : Dev nD) (t : Fin cfg0.N) (y i : S1x2048.Idx) (h0 : (i 0 : ℕ) = y 0) (h1 : (i 1 : ℕ) = y 1)

include h0 h1

theorem gradient : (iblk m c 0 t y : EReal) = m ((c : Thread nD τ).loc main_arg0) i := by
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_change (c : Dev nD) : (dats m 0 c).arrAt 4 (cfgs 0).N = Adam.change (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  refine Adam.delta_congr (gradient m c t y _ ?_ ?_) (weight m c t y _ ?_ ?_) (first m c t y _ ?_ ?_) (second m c t y _ ?_ ?_) <;> blk_simp [idx t] <;> omega

theorem final_moment (c : Dev nD) : (dats m 0 c).arrAt 5 (cfgs 0).N
    = Adam.moment (m ((c : Thread nD τ).loc main_arg0)) (m ((c : Thread nD τ).loc main_arg2)) := by
  refine (dats m 0 c).arrAt_eq_of_covers 5 _ (by decide +kernel) fun t _ y => ?_
  blk_simp
  rw [after0_5]
  frame_out
  refine congrArg₂ Adam.newM (gradient m c t y _ ?_ ?_) (first m c t y _ ?_ ?_) <;> blk_simp [idx t] <;> omega

theorem final_square (c : Dev nD) : (dats m 0 c).arrAt 6 (cfgs 0).N
    = Adam.square (m ((c : Thread nD τ).loc main_arg0)) (m ((c : Thread nD τ).loc main_arg3)) := by
  refine (dats m 0 c).arrAt_eq_of_covers 6 _ (by decide +kernel) fun t _ y => ?_
  blk_simp
  rw [after0_6]
  frame_out
  refine congrArg₂ Adam.newV (gradient m c t y _ ?_ ?_) (second m c t y _ ?_ ?_) <;> blk_simp [idx t] <;> omega

/-- From memories agreeing on the arguments, the call and its reference end with the same three results. -/
theorem algebraic : Cert.algebraic_Kernel27Ideal_Reference27Ideal := by
  intro m g m' g' _ h
  refine ⟨fun c => Adam.change (m ((c : Thread nD τ).loc main_arg0)) (m ((c : Thread nD τ).loc main_arg1))
      (m ((c : Thread nD τ).loc main_arg2)) (m ((c : Thread nD τ).loc main_arg3)),
    fun c => Adam.moment (m ((c : Thread nD τ).loc main_arg0)) (m ((c : Thread nD τ).loc main_arg2)),
    fun c => Adam.square (m ((c : Thread nD τ).loc main_arg0)) (m ((c : Thread nD τ).loc main_arg3)),
    (θ_run _ _ _).mono (fun r hr c => ⟨(hr c).1.trans (final_change m c), (hr c).2.1.trans (final_moment m c), (hr c).2.2.1.trans (final_square m c),
      (hr c).2.2.2⟩) (Cert.Kernel27Ideal.Value.run_blocks m g),
    (θ_run _ _ _).mono (fun r hr c => ⟨?_, ?_, ?_, (hr c).2.2.2⟩) (Cert.Reference27Ideal.Value.run m' g')⟩
  · rw [(hr c).1, Cert.Reference27Ideal.Read.val_main_v23_eq, (h c).1, (h c).2.1, (h c).2.2.1, (h c).2.2.2]
    rfl
  · rw [(hr c).2.1, Cert.Reference27Ideal.Read.val_main_v4_eq, (h c).1, (h c).2.2.1]
    rfl
  · rw [(hr c).2.2.1, Cert.Reference27Ideal.Read.val_main_v10_eq, (h c).1, (h c).2.2.2]
    rfl

theorem frame_kernel : Cert.quiescent_Kernel27 := by
  intro m ρ _
  rw [show Cert.Kernel27.defs (F := Bits) = defs (F := Bits) by chain_rfl, show Cert.Kernel27.main (F := Bits) = main (F := Bits) by chain_rfl]
  exact Gen.frame (F := Bits) m ρ

theorem frame_ideal : Cert.quiescent_Kernel27Ideal := fun m ρ _ => Gen.frame (F := Ideal) m ρ

theorem frame_reference : Cert.quiescent_Reference27Ideal := fun m ρ _ =>
  (θ_run _ _ _).mono (fun r h => ⟨fun c => (h c).2.2.2, sem_eq_zero_of_no_sems (by decide) r.2⟩)
    (Cert.Reference27Ideal.Value.run (F := Ideal) m ρ)

end Cert.Proof.AdamNorm

end
-- ==== Proof.AdamForget.lean ====
module

public import proofs.«01_k».proof.Defs
public import proofs.«01_k».proof.Proof.Adam
public import proofs.«01_k».proof.Proof.Gen.Kernel28
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import Idealize.ShloMosaic.Lib.Pipeline.ValueKit
public import Idealize.ShloMosaic.Lib.Pipeline.Regions
public import Idealize.ShloMosaic.Adequacy
public import Idealize.ShloMosaic.Init
/-! # The optimiser's step of the forget bias, from their summed gradient. The call has one step and its blocks are the whole arrays. -/

@[expose] public section

set_option maxRecDepth 16384

noncomputable section

namespace Cert.Proof.AdamForget

open Cert.Kernel28Ideal Cert.Kernel28Ideal.Gen
open Idealize.ShloMosaic Idealize.ShloMosaic.TcCoe Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

section Points

variable (c : Dev nD) (t : Fin cfg0.N) (y i : S1x8.Idx) (h0 : (i 0 : ℕ) = y 0) (h1 : (i 1 : ℕ) = y 1)

include h0 h1

theorem gradient : (iblk m c 0 t y : EReal) = m ((c : Thread nD τ).loc main_arg0) i := by
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_change (c : Dev nD) : (dats m 0 c).arrAt 4 (cfgs 0).N = Adam.change (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  refine Adam.delta_congr (gradient m c t y _ ?_ ?_) (weight m c t y _ ?_ ?_) (first m c t y _ ?_ ?_) (second m c t y _ ?_ ?_) <;> blk_simp [idx t] <;> omega

theorem final_moment (c : Dev nD) : (dats m 0 c).arrAt 5 (cfgs 0).N
    = Adam.moment (m ((c : Thread nD τ).loc main_arg0)) (m ((c : Thread nD τ).loc main_arg2)) := by
  refine (dats m 0 c).arrAt_eq_of_covers 5 _ (by decide +kernel) fun t _ y => ?_
  blk_simp
  rw [after0_5]
  frame_out
  refine congrArg₂ Adam.newM (gradient m c t y _ ?_ ?_) (first m c t y _ ?_ ?_) <;> blk_simp [idx t] <;> omega

theorem final_square (c : Dev nD) : (dats m 0 c).arrAt 6 (cfgs 0).N
    = Adam.square (m ((c : Thread nD τ).loc main_arg0)) (m ((c : Thread nD τ).loc main_arg3)) := by
  refine (dats m 0 c).arrAt_eq_of_covers 6 _ (by decide +kernel) fun t _ y => ?_
  blk_simp
  rw [after0_6]
  frame_out
  refine congrArg₂ Adam.newV (gradient m c t y _ ?_ ?_) (second m c t y _ ?_ ?_) <;> blk_simp [idx t] <;> omega

/-- From memories agreeing on the arguments, the call and its reference end with the same three results. -/
theorem algebraic : Cert.algebraic_Kernel28Ideal_Reference28Ideal := by
  intro m g m' g' _ h
  refine ⟨fun c => Adam.change (m ((c : Thread nD τ).loc main_arg0)) (m ((c : Thread nD τ).loc main_arg1))
      (m ((c : Thread nD τ).loc main_arg2)) (m ((c : Thread nD τ).loc main_arg3)),
    fun c => Adam.moment (m ((c : Thread nD τ).loc main_arg0)) (m ((c : Thread nD τ).loc main_arg2)),
    fun c => Adam.square (m ((c : Thread nD τ).loc main_arg0)) (m ((c : Thread nD τ).loc main_arg3)),
    (θ_run _ _ _).mono (fun r hr c => ⟨(hr c).1.trans (final_change m c), (hr c).2.1.trans (final_moment m c), (hr c).2.2.1.trans (final_square m c),
      (hr c).2.2.2⟩) (Cert.Kernel28Ideal.Value.run_blocks m g),
    (θ_run _ _ _).mono (fun r hr c => ⟨?_, ?_, ?_, (hr c).2.2.2⟩) (Cert.Reference28Ideal.Value.run m' g')⟩
  · rw [(hr c).1, Cert.Reference28Ideal.Read.val_main_v23_eq, (h c).1, (h c).2.1, (h c).2.2.1, (h c).2.2.2]
    rfl
  · rw [(hr c).2.1, Cert.Reference28Ideal.Read.val_main_v4_eq, (h c).1, (h c).2.2.1]
    rfl
  · rw [(hr c).2.2.1, Cert.Reference28Ideal.Read.val_main_v10_eq, (h c).1, (h c).2.2.2]
    rfl

theorem frame_kernel : Cert.quiescent_Kernel28 := by
  intro m ρ _
  rw [show Cert.Kernel28.defs (F := Bits) = defs (F := Bits) by chain_rfl, show Cert.Kernel28.main (F := Bits) = main (F := Bits) by chain_rfl]
  exact Gen.frame (F := Bits) m ρ

theorem frame_ideal : Cert.quiescent_Kernel28Ideal := fun m ρ _ => Gen.frame (F := Ideal) m ρ

theorem frame_reference : Cert.quiescent_Reference28Ideal := fun m ρ _ =>
  (θ_run _ _ _).mono (fun r h => ⟨fun c => (h c).2.2.2, sem_eq_zero_of_no_sems (by decide) r.2⟩)
    (Cert.Reference28Ideal.Value.run (F := Ideal) m ρ)

end Cert.Proof.AdamForget

end
-- ==== Proof.AdamQk.lean ====
module

public import proofs.«01_k».proof.Defs
public import proofs.«01_k».proof.Proof.Adam
public import proofs.«01_k».proof.Proof.Gen.Kernel29
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import Idealize.ShloMosaic.Lib.Pipeline.ValueKit
public import Idealize.ShloMosaic.Lib.Pipeline.Regions
public import Idealize.ShloMosaic.Adequacy
public import Idealize.ShloMosaic.Init
/-! # The optimiser's step of a query or key scale, from their summed gradient. The call has one step and its blocks are the whole arrays. -/

@[expose] public section

set_option maxRecDepth 16384

noncomputable section

namespace Cert.Proof.AdamQk

open Cert.Kernel29Ideal Cert.Kernel29Ideal.Gen
open Idealize.ShloMosaic Idealize.ShloMosaic.TcCoe Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

section Points

variable (c : Dev nD) (t : Fin cfg0.N) (y i : S8x128.Idx) (h0 : (i 0 : ℕ) = y 0) (h1 : (i 1 : ℕ) = y 1)

include h0 h1

theorem gradient : (iblk m c 0 t y : EReal) = m ((c : Thread nD τ).loc main_arg0) i := by
  blk_point [iblk, V, idx t]

theorem weight : (iblk m c 1 t y : EReal) = m ((c : Thread nD τ).loc main_arg1) i := by
  blk_point [iblk, V, idx t]

theorem first : (iblk m c 2 t y : EReal) = m ((c : Thread nD τ).loc main_arg2) i := by
  blk_point [iblk, V, idx t]

theorem second : (iblk m c 3 t y : EReal) = m ((c : Thread nD τ).loc main_arg3) i := by
  blk_point [iblk, V, idx t]

end Points

theorem final_change (c : Dev nD) : (dats m 0 c).arrAt 4 (cfgs 0).N = Adam.change (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  refine Adam.delta_congr (gradient m c t y _ ?_ ?_) (weight m c t y _ ?_ ?_) (first m c t y _ ?_ ?_) (second m c t y _ ?_ ?_) <;> blk_simp [idx t] <;> omega

theorem final_moment (c : Dev nD) : (dats m 0 c).arrAt 5 (cfgs 0).N
    = Adam.moment (m ((c : Thread nD τ).loc main_arg0)) (m ((c : Thread nD τ).loc main_arg2)) := by
  refine (dats m 0 c).arrAt_eq_of_covers 5 _ (by decide +kernel) fun t _ y => ?_
  blk_simp
  rw [after0_5]
  frame_out
  refine congrArg₂ Adam.newM (gradient m c t y _ ?_ ?_) (first m c t y _ ?_ ?_) <;> blk_simp [idx t] <;> omega

theorem final_square (c : Dev nD) : (dats m 0 c).arrAt 6 (cfgs 0).N
    = Adam.square (m ((c : Thread nD τ).loc main_arg0)) (m ((c : Thread nD τ).loc main_arg3)) := by
  refine (dats m 0 c).arrAt_eq_of_covers 6 _ (by decide +kernel) fun t _ y => ?_
  blk_simp
  rw [after0_6]
  frame_out
  refine congrArg₂ Adam.newV (gradient m c t y _ ?_ ?_) (second m c t y _ ?_ ?_) <;> blk_simp [idx t] <;> omega

/-- From memories agreeing on the arguments, the call and its reference end with the same three results. -/
theorem algebraic : Cert.algebraic_Kernel29Ideal_Reference29Ideal := by
  intro m g m' g' _ h
  refine ⟨fun c => Adam.change (m ((c : Thread nD τ).loc main_arg0)) (m ((c : Thread nD τ).loc main_arg1))
      (m ((c : Thread nD τ).loc main_arg2)) (m ((c : Thread nD τ).loc main_arg3)),
    fun c => Adam.moment (m ((c : Thread nD τ).loc main_arg0)) (m ((c : Thread nD τ).loc main_arg2)),
    fun c => Adam.square (m ((c : Thread nD τ).loc main_arg0)) (m ((c : Thread nD τ).loc main_arg3)),
    (θ_run _ _ _).mono (fun r hr c => ⟨(hr c).1.trans (final_change m c), (hr c).2.1.trans (final_moment m c), (hr c).2.2.1.trans (final_square m c),
      (hr c).2.2.2⟩) (Cert.Kernel29Ideal.Value.run_blocks m g),
    (θ_run _ _ _).mono (fun r hr c => ⟨?_, ?_, ?_, (hr c).2.2.2⟩) (Cert.Reference29Ideal.Value.run m' g')⟩
  · rw [(hr c).1, Cert.Reference29Ideal.Read.val_main_v23_eq, (h c).1, (h c).2.1, (h c).2.2.1, (h c).2.2.2]
    rfl
  · rw [(hr c).2.1, Cert.Reference29Ideal.Read.val_main_v4_eq, (h c).1, (h c).2.2.1]
    rfl
  · rw [(hr c).2.2.1, Cert.Reference29Ideal.Read.val_main_v10_eq, (h c).1, (h c).2.2.2]
    rfl

theorem frame_kernel : Cert.quiescent_Kernel29 := by
  intro m ρ _
  rw [show Cert.Kernel29.defs (F := Bits) = defs (F := Bits) by chain_rfl, show Cert.Kernel29.main (F := Bits) = main (F := Bits) by chain_rfl]
  exact Gen.frame (F := Bits) m ρ

theorem frame_ideal : Cert.quiescent_Kernel29Ideal := fun m ρ _ => Gen.frame (F := Ideal) m ρ

theorem frame_reference : Cert.quiescent_Reference29Ideal := fun m ρ _ =>
  (θ_run _ _ _).mono (fun r h => ⟨fun c => (h c).2.2.2, sem_eq_zero_of_no_sems (by decide) r.2⟩)
    (Cert.Reference29Ideal.Value.run (F := Ideal) m ρ)

end Cert.Proof.AdamQk

end
-- ==== Proof.Norm.lean ====
module

public import Idealize.ShloMosaic.Lib.IdealHost

/-! # One row of the root-mean-square norm and of its gradient, in extended reals. The mean square plus the small constant is
a positive real or infinite, so that the gradient's two spellings agree with no condition on the row. -/

@[expose] public section

noncomputable section

namespace Cert.Proof.Norm

open Idealize.ShloMosaic

/-- A mean over the 2048 columns, from the sum. -/
def mean (z : EReal) : EReal := Ideal.div z (Ideal.ofBits .f32 0x45000000#32)

/-- A row's mean square, plus the small constant. -/
def size (x : Fin 2048 → EReal) : EReal := mean (∑ k, x k * x k) + Ideal.ofBits .f32 0x358637BD#32

/-- The factor that normalises a row. -/
def scale (x : Fin 2048 → EReal) : EReal := Ideal.rsqrt (size x)

/-- The gradient of a normalised row with respect to the row, as the kernel spells it. -/
def grad (x u : Fin 2048 → EReal) (j : Fin 2048) : EReal :=
  scale x * u j - (x j * (scale x * scale x * scale x)) * mean (∑ k, x k * u k)

/-- The part of the gradient that comes through the mean square, by the chain rule. -/
def through (x u : Fin 2048 → EReal) : EReal :=
  mean ((∑ k, x k * u k) * (Ideal.ofBits .f32 0xBF000000#32 * Ideal.div (scale x) (size x)))

theorem columns : Ideal.ofBits .f32 0x45000000#32 = ((2048 : ℝ) : EReal) := by
  simp [Ideal.ofBits, Ideal.ieee, -EReal.coe_mul]; norm_num

theorem minus_half : Ideal.ofBits .f32 0xBF000000#32 = ((-1 / 2 : ℝ) : EReal) := by
  simp [Ideal.ofBits, Ideal.ieee, -EReal.coe_mul]; norm_num

theorem small : ∃ e : ℝ, 0 < e ∧ Ideal.ofBits .f32 0x358637BD#32 = (e : EReal) := by
  refine ⟨_, ?_, by simp [Ideal.ofBits, Ideal.ieee, -EReal.coe_mul]; rfl⟩
  norm_num

theorem mean_eq (z : EReal) : mean z = z * ((1 / 2048 : ℝ) : EReal) := by
  rw [mean, columns, Ideal.div_coe (by norm_num)]

theorem square_nonneg (x : EReal) : 0 ≤ x * x := by
  induction x with
  | bot => simp
  | top => simp
  | coe r => exact_mod_cast mul_self_nonneg r

/-- Something that is not negative, plus the small constant, is infinite or a positive real. -/
theorem positive {z : EReal} (p : 0 ≤ z) : z + Ideal.ofBits .f32 0x358637BD#32 = ⊤ ∨ ∃ s : ℝ, 0 < s ∧ z + Ideal.ofBits .f32 0x358637BD#32 = s := by
  obtain ⟨e, he, h⟩ := small
  rw [h]
  induction z with
  | bot => simp at p
  | top => exact .inl rfl
  | coe r =>
    have p : 0 ≤ r := by exact_mod_cast p
    exact .inr ⟨r + e, by linarith, rfl⟩

theorem size_cases (x : Fin 2048 → EReal) : size x = ⊤ ∨ ∃ s : ℝ, 0 < s ∧ size x = s := by
  refine positive ?_
  rw [mean_eq]
  exact mul_nonneg (Finset.sum_nonneg fun k _ => square_nonneg _) (by exact_mod_cast (by norm_num : (0 : ℝ) ≤ 1 / 2048))

theorem twice (y : EReal) (k : ℝ) : y * (k : EReal) + y * (k : EReal) = y * ((2 * k : ℝ) : EReal) := by
  induction y with
  | coe r => norm_cast; ring
  | bot =>
    rcases lt_trichotomy k 0 with h | h | h
    · rw [EReal.bot_mul_coe_of_neg h, EReal.bot_mul_coe_of_neg (by linarith)]; rfl
    · simp [h]
    · rw [EReal.bot_mul_coe_of_pos h, EReal.bot_mul_coe_of_pos (by linarith)]; rfl
  | top =>
    rcases lt_trichotomy k 0 with h | h | h
    · rw [EReal.top_mul_coe_of_neg h, EReal.top_mul_coe_of_neg (by linarith)]; rfl
    · simp [h]
    · rw [EReal.top_mul_coe_of_pos h, EReal.top_mul_coe_of_pos (by linarith)]; rfl

/-- The two spellings of the gradient agree at a column: `z` is the mean square and the small constant, `e` the row's product with the
gradient, `u` the column's gradient, `x` its entry and `q` the inverse of the number of columns. -/
theorem column {z : EReal} (hz : z = ⊤ ∨ ∃ s : ℝ, 0 < s ∧ z = s) (x u e : EReal) (q : ℝ) :
    u * Ideal.rsqrt z + x * (e * (Ideal.ofBits .f32 0xBF000000#32 * Ideal.div (Ideal.rsqrt z) z) * (q : EReal))
      + e * (Ideal.ofBits .f32 0xBF000000#32 * Ideal.div (Ideal.rsqrt z) z) * (q : EReal) * x
    = Ideal.rsqrt z * u - x * (Ideal.rsqrt z * Ideal.rsqrt z * Ideal.rsqrt z) * (e * (q : EReal)) := by
  rw [mul_comm _ x, minus_half]
  rcases hz with h | ⟨s, hs, h⟩
  · simp [h, Ideal.div]
  · rw [h, Ideal.rsqrt_coe, if_neg hs.not_gt, if_neg hs.ne', Ideal.div_coe hs.ne']
    have p : 0 < Real.sqrt s := Real.sqrt_pos.2 hs
    have a : x * (e * (((-1 / 2 : ℝ) : EReal) * (((Real.sqrt s)⁻¹ : ℝ) * ((1 / s : ℝ) : EReal))) * (q : EReal))
        = (x * e) * ((-1 / 2 * ((Real.sqrt s)⁻¹ * (1 / s)) * q : ℝ) : EReal) := by
      simp only [EReal.coe_mul, mul_assoc]
    have b : x * ((((Real.sqrt s)⁻¹ : ℝ) : EReal) * ((Real.sqrt s)⁻¹ : ℝ) * ((Real.sqrt s)⁻¹ : ℝ)) * (e * (q : EReal))
        = (x * e) * (((Real.sqrt s)⁻¹ * (Real.sqrt s)⁻¹ * (Real.sqrt s)⁻¹ * q : ℝ) : EReal) := by
      simp only [EReal.coe_mul]
      ac_rfl
    rw [a, b, add_assoc, twice, mul_comm u, sub_eq_add_neg, ← mul_neg, ← EReal.coe_neg]
    congr 3
    have r : s = Real.sqrt s * Real.sqrt s := (Real.mul_self_sqrt hs.le).symm
    generalize Real.sqrt s = t at *
    subst r
    field_simp

/-- The two spellings of the gradient agree. -/
theorem spelling (x u : Fin 2048 → EReal) (j : Fin 2048) :
    u j * scale x + x j * through x u + through x u * x j = grad x u j := by
  unfold through grad scale
  simp only [mean_eq]
  exact column (size_cases x) _ _ _ _

end Cert.Proof.Norm

end
-- ==== Proof.NormFirst.lean ====
module

public import proofs.«01_k».proof.Defs
public import proofs.«01_k».proof.Proof.Norm
public import proofs.«01_k».proof.Proof.Gen.Kernel30
public import proofs.«01_k».proof.Proof.Gen.Kernel30Ideal
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import Idealize.ShloMosaic.Lib.Pipeline.ValueKit
public import Idealize.ShloMosaic.Lib.Pipeline.Regions
public import Idealize.ShloMosaic.Adequacy
public import Idealize.ShloMosaic.Init
/-! # The gradient through the first norm, for the token rows: the step's gradient of its input, and the gain's gradient. The
first is written block by block, the second is summed in place over the sixteen points. -/

@[expose] public section

set_option maxRecDepth 16384

noncomputable section

namespace Cert.Proof.NormFirst

open Cert.Kernel30Ideal Cert.Kernel30Ideal.Gen
open Idealize.ShloMosaic Idealize.ShloMosaic.TcCoe Idealize.SL.Sem

variable (m : (ℓ : Loc nD τ sig) → Buf (Elt Ideal) ℓ)

/-- The row of token `l`: the first block of rows is the memory's. -/
def token (l : Fin 4096) : Fin 4352 := ⟨256 + l, by omega⟩

def row (h : FVec Ideal S4352x2048 .f32) (l : Fin 4352) : Fin 2048 → EReal := fun k => h (ix2 l k)

/-- The incoming gradient times the gain. -/
def gained (dn : FVec Ideal S4352x2048 .f32) (g : FVec Ideal S1x2048 .f32) (l : Fin 4352) : Fin 2048 → EReal :=
  fun k => (dn (ix2 l k) : EReal) * (g (ix2 0 k) : EReal)

/-- The gradient of the input: the residual's and the norm's. -/
def input (dn h : FVec Ideal S4352x2048 .f32) (g : FVec Ideal S1x2048 .f32) (dh : FVec Ideal S4352x2048 .f32) : FVec Ideal S4096x2048 .f32 :=
  fun i => (dh (ix2 (token (i 0)) (i 1)) : EReal) + Norm.grad (row h (token (i 0))) (gained dn g (token (i 0))) (i 1)

/-- A row's share of the gain's gradient. -/
def share (dn h : FVec Ideal S4352x2048 .f32) (j : Fin 2048) (l : Fin 4352) : EReal :=
  ((dn (ix2 l j) : EReal) * (h (ix2 l j) : EReal)) * Norm.scale (row h l)

def gain (dn h : FVec Ideal S4352x2048 .f32) : FVec Ideal S1x2048 .f32 := fun i => ∑ l : Fin 4096, share dn h (i 1) (token l)

/-- The shares of the rows of point `t`. -/
def part (dn h : FVec Ideal S4352x2048 .f32) (j : Fin 2048) (t : Fin 16) : EReal :=
  ∑ r : Fin 256, share dn h j (token ⟨t * 256 + r, by omega⟩)

theorem idx : ∀ t : Fin cfg0.N, win0_0.index t = ![t.val + 1, 0] ∧ win0_1.index t = ![t.val + 1, 0] ∧ win0_2.index t = ![t.val + 1, 0]
    ∧ win0_3.index t = ![0, 0] ∧ win0_4.index t = ![t.val, 0] ∧ win0_5.index t = ![0, 0] :=
  (by decide +kernel : ∀ t : Fin grid0.N, win0_0.index t = ![t.val + 1, 0] ∧ win0_1.index t = ![t.val + 1, 0] ∧ win0_2.index t = ![t.val + 1, 0]
    ∧ win0_3.index t = ![0, 0] ∧ win0_4.index t = ![t.val, 0] ∧ win0_5.index t = ![0, 0])

section Block

variable (x0 x1 x2 : Vec Ideal S256x2048 .f32) (x3 : Vec Ideal S1x2048 .f32)

/-- The same, of the blocks in hand. -/
def hand (y : S256x2048.Idx) : EReal :=
  (x2 y : EReal) + Norm.grad (fun k => x1 (ix2 (y 0) k)) (fun k => (x0 (ix2 (y 0) k) : EReal) * (x3 (ix2 0 k) : EReal)) (y 1)

def sumHand (j : Fin 2048) : EReal :=
  ∑ r : Fin 256, ((x0 (ix2 r j) : EReal) * (x1 (ix2 r j) : EReal)) * Norm.scale fun k => x1 (ix2 r k)

theorem hand_value (y) : k0_pay3 x0 x1 x2 x3 y = hand x0 x1 x2 x3 y := by
  pointwise [k0_pay3, k0_pay2, hand, Norm.grad, Norm.scale, Norm.size, Norm.mean]

theorem sum_value (acc : Vec Ideal S1x2048 .f32) (y) : k0_pay1 (k0_pay4 x0 x1) acc y = (acc y : EReal) + sumHand x0 x1 (y 1) := by
  pointwise [k0_pay1, k0_pay4, k0_pay2, sumHand, Norm.scale, Norm.size, Norm.mean]

theorem zero_value (y) : k0_pay5 (F := Ideal) y = 0 := by pointwise [k0_pay5]

end Block

section Points

variable (c : Dev nD) (t : Fin cfg0.N)

theorem placed (y : S256x2048.Idx) (i : S4096x2048.Idx) (h0 : (i 0 : ℕ) = t.val * 256 + y 0) (h1 : (i 1 : ℕ) = y 1) :
    hand (iblk m c 0 t) (iblk m c 1 t) (iblk m c 2 t) (iblk m c 3 t) y
    = input (m ((c : Thread nD τ).loc main_arg0)) (m ((c : Thread nD τ).loc main_arg1)) (m ((c : Thread nD τ).loc main_arg2)) (m ((c : Thread nD τ).loc main_arg3)) i := by
  unfold hand input row gained token
  blk_point [iblk, V, idx t]

theorem placed_sum (j e : Fin 2048) (s : Fin 16) (h : e = j) (hs : (s : ℕ) = t.val) :
    sumHand (iblk m c 0 t) (iblk m c 1 t) j = part (m ((c : Thread nD τ).loc main_arg0)) (m ((c : Thread nD τ).loc main_arg1)) e s := by
  unfold sumHand part share row token
  blk_point [iblk, V, idx t]

theorem written (y) : ((outsAt0 m c t.val t.isLt).1 y : EReal) = hand (iblk m c 0 t) (iblk m c 1 t) (iblk m c 2 t) (iblk m c 3 t) y := by
  by_cases h : t.val % 16 = 0
  · rw [outsAt0_A m c t h]
    frame_out
    exact hand_value _ _ _ _ y
  · rw [outsAt0_B m c t h]
    frame_out
    exact hand_value _ _ _ _ y

variable (y : S1x2048.Idx) (e : Fin 2048) (he : e = y 1)

include he

theorem first (h : t.val % 16 = 0) : ((outsAt0 m c t.val t.isLt).2 y : EReal)
    = part (m ((c : Thread nD τ).loc main_arg0)) (m ((c : Thread nD τ).loc main_arg1)) e ⟨t.val, t.isLt⟩ := by
  rw [outsAt0_A m c t h]
  frame_out
  rw [sum_value, zero_value, placed_sum m c t (y 1) e ⟨t.val, t.isLt⟩ he rfl]
  exact zero_add _

theorem next (h : ¬t.val % 16 = 0) : ((outsAt0 m c t.val t.isLt).2 y : EReal)
    = ((outsAt0 m c (t.val - 1) (Nat.lt_of_le_of_lt (Nat.sub_le _ _) t.isLt)).2 y : EReal)
      + part (m ((c : Thread nD τ).loc main_arg0)) (m ((c : Thread nD τ).loc main_arg1)) e ⟨t.val, t.isLt⟩ := by
  rw [outsAt0_B m c t h]
  frame_out
  rw [sum_value, placed_sum m c t (y 1) e ⟨t.val, t.isLt⟩ he rfl]

end Points

/-- The running row holds the shares of the points so far. -/
theorem running (c : Dev nD) (y : S1x2048.Idx) (e : Fin 2048) (he : e = y 1) (r : ℕ) (hr : r < 16) :
    ((outsAt0 m c r hr).2 y : EReal)
    = ∑ s : Fin (r + 1), part (m ((c : Thread nD τ).loc main_arg0)) (m ((c : Thread nD τ).loc main_arg1)) e ⟨s, by omega⟩ := by
  induction r with
  | zero =>
    rw [Fin.sum_univ_one]
    exact first m c ⟨0, hr⟩ y e he rfl
  | succ r ih =>
    rw [Fin.sum_univ_castSucc (n := r + 1)]
    refine (next m c ⟨r + 1, hr⟩ y e he (by simp only; omega)).trans ?_
    exact congrArg (fun z : EReal => z + _) (ih (by omega))

theorem final_input (c : Dev nD) : (dats m 0 c).arrAt 4 (cfgs 0).N = input (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, written]
  refine placed m c t y _ ?_ ?_ <;> blk_simp [idx t] <;> omega

theorem final_gain (c : Dev nD) : (dats m 0 c).arrAt 5 (cfgs 0).N = gain (m ((c : Thread nD τ).loc main_arg0)) (m ((c : Thread nD τ).loc main_arg1)) := by
  refine (dats m 0 c).arrAt_eq_of_covers 5 _ (by decide +kernel) fun t hf y => ?_
  have h := (flush0_5 t).mp hf
  have lt : t.val < 16 := t.isLt
  blk_simp
  rw [after0_5]
  have e : ((cfg0.win 5).blk t).view.emb y 1 = y 1 := Fin.ext (by blk_simp [idx t])
  obtain ⟨t, ht⟩ := t
  obtain rfl : t = 15 := by simp only at h lt; omega
  refine (running m c y (((cfg0.win 5).blk ⟨15, ht⟩).view.emb y 1) e 15 (by omega)).trans ?_
  unfold part gain
  exact Fin.sum_mul_add_congr fun s k hl => rfl

section Reference

open Cert.Reference30Ideal.Read

variable (dn h : FVec Ideal S4352x2048 .f32) (g : FVec Ideal S1x2048 .f32) (dh : FVec Ideal S4352x2048 .f32)

theorem reference_gain : val_main_v19 (F := Ideal) dn h = gain dn h := by
  funext i
  idx_vars i
  pointwise [val_main_v19, val_main_v18, val_main_v17, val_main_v16, val_main_v13, val_main_v12, val_main_v8, val_main_v7, val_main_v6,
    val_main_v5, val_main_v4, val_main_v3, val_main_v2, val_main_v1, val_main_v0, val_main_cst, val_main_cst_0, val_main_cst_1, val_main_cst_3,
    gain, share, row, token, Norm.scale, Norm.size, Norm.mean]
  refine Finset.sum_congr rfl fun x _ => ?_
  rw [mul_right_comm, mul_comm (dn _)]

theorem reference_input : val_main_v37 (F := Ideal) dn h g dh = input dn h g dh := by
  funext i
  idx_vars i
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v16,
    val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_4, val_main_cst_5, val_main_cst_6, input]
  rw [Fin.sum_univ_one]
  exact congrArg (fun z : EReal => dh (ix2 (token i0) i1) + z) (Norm.spelling (row h (token i0)) (gained dn g (token i0)) i1)

end Reference

/-- From memories agreeing on the arguments, the call and its reference end with the same two results. -/
theorem algebraic : Cert.algebraic_Kernel30Ideal_Reference30Ideal := by
  intro m g m' g' _ h
  refine ⟨fun c => input (m ((c : Thread nD τ).loc main_arg0)) (m ((c : Thread nD τ).loc main_arg1))
      (m ((c : Thread nD τ).loc main_arg2)) (m ((c : Thread nD τ).loc main_arg3)),
    fun c => gain (m ((c : Thread nD τ).loc main_arg0)) (m ((c : Thread nD τ).loc main_arg1)),
    (θ_run _ _ _).mono (fun r hr c => ⟨(hr c).1.trans (final_input m c), (hr c).2.1.trans (final_gain m c), (hr c).2.2⟩)
      (Cert.Kernel30Ideal.Value.run_blocks m g),
    (θ_run _ _ _).mono (fun r hr c => ⟨?_, ?_, (hr c).2.2⟩) (Cert.Reference30Ideal.Value.run m' g')⟩
  · rw [(hr c).1, Cert.Reference30Ideal.Read.val_main_v37_eq, (h c).1, (h c).2.1, (h c).2.2.1, (h c).2.2.2]
    exact reference_input _ _ _ _
  · rw [(hr c).2.1, Cert.Reference30Ideal.Read.val_main_v19_eq, (h c).1, (h c).2.1]
    exact reference_gain _ _

theorem frame_kernel : Cert.quiescent_Kernel30 := by
  intro m ρ _
  rw [show Cert.Kernel30.defs (F := Bits) = defs (F := Bits) by chain_rfl, show Cert.Kernel30.main (F := Bits) = main (F := Bits) by chain_rfl]
  exact Gen.frame (F := Bits) m ρ

theorem frame_ideal : Cert.quiescent_Kernel30Ideal := fun m ρ _ => Gen.frame (F := Ideal) m ρ

theorem frame_reference : Cert.quiescent_Reference30Ideal := fun m ρ _ =>
  (θ_run _ _ _).mono (fun r h => ⟨fun c => (h c).2.2, sem_eq_zero_of_no_sems (by decide) r.2⟩)
    (Cert.Reference30Ideal.Value.run (F := Ideal) m ρ)

end Cert.Proof.NormFirst

end
-- ==== Proof.NormForward.lean ====
module

public import proofs.«01_k».proof.Defs
public import proofs.«01_k».proof.Proof.Norm
public import proofs.«01_k».proof.Proof.Gen.Kernel31
public import proofs.«01_k».proof.Proof.Gen.Kernel31Ideal
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import Idealize.ShloMosaic.Lib.Pipeline.ValueKit
public import Idealize.ShloMosaic.Lib.Pipeline.Regions
public import Idealize.ShloMosaic.Adequacy
public import Idealize.ShloMosaic.Init
/-! # The norm before the token mixer: every row over its root mean square, times the gain. -/

@[expose] public section

set_option maxRecDepth 16384

noncomputable section

namespace Cert.Proof.NormForward

open Cert.Kernel31Ideal Cert.Kernel31Ideal.Gen
open Idealize.ShloMosaic Idealize.ShloMosaic.TcCoe Idealize.SL.Sem

/-- Element `(i, j)` is `h i j · scale (h i) · g j`. -/
def normed (h : FVec Ideal S4352x2048 .f32) (g : FVec Ideal S1x2048 .f32) : FVec Ideal S4352x2048 .bf16 := fun i =>
  ((h i : EReal) * Norm.scale fun k => h (ix2 (i 0) k)) * (g (ix2 0 (i 1)) : EReal)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The same, of the blocks in hand. -/
def hand (x0 : Vec Ideal S256x2048 .f32) (x1 : Vec Ideal S1x2048 .f32) (y : S256x2048.Idx) : EReal :=
  ((x0 y : EReal) * Norm.scale fun k => x0 (ix2 (y 0) k)) * (x1 (ix2 0 (y 1)) : EReal)

theorem hand_value (x0 : Vec Ideal S256x2048 .f32) (x1 : Vec Ideal S1x2048 .f32) (y) : k0_pay1 x0 x1 y = hand x0 x1 y := by
  idx_vars y
  pointwise [k0_pay1, hand, Norm.scale, Norm.size, Norm.mean]

variable (m : (ℓ : Loc nD τ sig) → Buf (Elt Ideal) ℓ)

theorem placed (c : Dev nD) (t : Fin cfg0.N) (y : S256x2048.Idx) (i : S4352x2048.Idx) (h0 : (i 0).val = t.val * 256 + (y 0).val)
    (h1 : (i 1).val = (y 1).val) :
    hand (iblk m c 0 t) (iblk m c 1 t) y = normed (m ((c : Thread nD τ).loc main_arg0)) (m ((c : Thread nD τ).loc main_arg1)) i := by
  unfold hand normed Norm.scale Norm.size Norm.mean
  blk_point [iblk, V, idx t]
  congr 1 <;> blk_ext [iblk, V, idx t]

theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (hand_value _ _ y).trans (placed m c t y _ ?_ ?_) <;> blk_simp [idx t] <;> omega

section Reference

open Cert.Reference31Ideal.Read

theorem reference (h : FVec Ideal S4352x2048 .f32) (g : FVec Ideal S1x2048 .f32) : val_main_v12 (F := Ideal) h g = normed h g := by
  funext i
  idx_vars i
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, normed, Norm.scale, Norm.size, Norm.mean]

end Reference

/-- From memories agreeing on the arguments, the call and its reference end with the same result. -/
theorem algebraic : Cert.algebraic_Kernel31Ideal_Reference31Ideal := by
  intro m g m' g' _ h
  refine ⟨fun c => normed (m ((c : Thread nD τ).loc main_arg0)) (m ((c : Thread nD τ).loc main_arg1)),
    (θ_run _ _ _).mono (fun r hr c => ⟨(hr c).1.trans (final m c), (hr c).2⟩) (Cert.Kernel31Ideal.Value.run_blocks m g),
    (θ_run _ _ _).mono (fun r hr c => ⟨?_, (hr c).2⟩) (Cert.Reference31Ideal.Value.run m' g')⟩
  rw [(hr c).1, Cert.Reference31Ideal.Read.val_main_v12_eq, (h c).1, (h c).2]
  exact reference _ _

theorem frame_kernel : Cert.quiescent_Kernel31 := by
  intro m ρ _
  rw [show Cert.Kernel31.defs (F := Bits) = defs (F := Bits) by chain_rfl, show Cert.Kernel31.main (F := Bits) = main (F := Bits) by chain_rfl]
  exact Gen.frame (F := Bits) m ρ

theorem frame_ideal : Cert.quiescent_Kernel31Ideal := fun m ρ _ => Gen.frame (F := Ideal) m ρ

theorem frame_reference : Cert.quiescent_Reference31Ideal := fun m ρ _ =>
  (θ_run _ _ _).mono (fun r h => ⟨fun c => (h c).2, sem_eq_zero_of_no_sems (by decide) r.2⟩)
    (Cert.Reference31Ideal.Value.run (F := Ideal) m ρ)

end Cert.Proof.NormForward

end
-- ==== Proof.NormBack.lean ====
module

public import proofs.«01_k».proof.Defs
public import proofs.«01_k».proof.Proof.NormFirst
public import proofs.«01_k».proof.Proof.Gen.Kernel32
public import proofs.«01_k».proof.Proof.Gen.Kernel32Ideal
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import Idealize.ShloMosaic.Lib.Pipeline.ValueKit
public import Idealize.ShloMosaic.Lib.Pipeline.Regions
public import Idealize.ShloMosaic.Adequacy
public import Idealize.ShloMosaic.Init
/-! # The gradient through the norm before the token mixer: the layer's gradient, its half in bfloat16, and the gain's gradient.
The first two are written block by block, the third is summed in place over the seventeen points. -/

@[expose] public section

set_option maxRecDepth 16384

noncomputable section

namespace Cert.Proof.NormBack

open Cert.Kernel32Ideal Cert.Kernel32Ideal.Gen
open NormFirst (row gained share hand sumHand)
open Idealize.ShloMosaic Idealize.ShloMosaic.TcCoe Idealize.SL.Sem

variable (m : (ℓ : Loc nD τ sig) → Buf (Elt Ideal) ℓ)

/-- The gradient of the input: the residual's and the norm's. -/
def input (dn h : FVec Ideal S4352x2048 .f32) (g : FVec Ideal S1x2048 .f32) (dh : FVec Ideal S4352x2048 .f32) : FVec Ideal S4352x2048 .f32 :=
  fun i => (dh i : EReal) + Norm.grad (row h (i 0)) (gained dn g (i 0)) (i 1)

/-- Its half, for the feed-forward layer before. -/
def low (dn h : FVec Ideal S4352x2048 .f32) (g : FVec Ideal S1x2048 .f32) (dh : FVec Ideal S4352x2048 .f32) : FVec Ideal S4352x2048 .bf16 :=
  fun i => Ideal.ofBits .f32 0x3F000000#32 * (input dn h g dh i : EReal)

def gain (dn h : FVec Ideal S4352x2048 .f32) : FVec Ideal S1x2048 .f32 := fun i => ∑ l : Fin 4352, share dn h (i 1) l

/-- The shares of the rows of point `t`. -/
def part (dn h : FVec Ideal S4352x2048 .f32) (j : Fin 2048) (t : Fin 17) : EReal :=
  ∑ r : Fin 256, share dn h j ⟨t * 256 + r, by omega⟩

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0])

section Block

variable (x0 x1 x2 : Vec Ideal S256x2048 .f32) (x3 : Vec Ideal S1x2048 .f32)

theorem hand_value (y) : k0_pay4 x0 x1 x2 x3 y = hand x0 x1 x2 x3 y := by
  pointwise [k0_pay4, k0_pay3, hand, Norm.grad, Norm.scale, Norm.size, Norm.mean]

theorem low_value (y) : k0_pay6 x0 x1 x2 x3 y = Ideal.ofBits .f32 0x3F000000#32 * hand x0 x1 x2 x3 y := by
  rw [← hand_value]
  rfl

theorem sum_value (acc : Vec Ideal S1x2048 .f32) (y) : k0_pay2 (k0_pay5 x0 x1) acc y = (acc y : EReal) + sumHand x0 x1 (y 1) := by
  pointwise [k0_pay2, k0_pay5, k0_pay3, sumHand, Norm.scale, Norm.size, Norm.mean]

theorem zero_value (y) : k0_pay1 (F := Ideal) y = 0 := by pointwise [k0_pay1]

end Block

section Points

variable (c : Dev nD) (t : Fin cfg0.N)

theorem placed (y : S256x2048.Idx) (i : S4352x2048.Idx) (h0 : (i 0 : ℕ) = t.val * 256 + y 0) (h1 : (i 1 : ℕ) = y 1) :
    hand (iblk m c 0 t) (iblk m c 1 t) (iblk m c 2 t) (iblk m c 3 t) y
    = input (m ((c : Thread nD τ).loc main_arg0)) (m ((c : Thread nD τ).loc main_arg1)) (m ((c : Thread nD τ).loc main_arg2)) (m ((c : Thread nD τ).loc main_arg3)) i := by
  unfold hand input row gained
  blk_point [iblk, V, idx t]

theorem placed_sum (j e : Fin 2048) (s : Fin 17) (h : e = j) (hs : (s : ℕ) = t.val) :
    sumHand (iblk m c 0 t) (iblk m c 1 t) j = part (m ((c : Thread nD τ).loc main_arg0)) (m ((c : Thread nD τ).loc main_arg1)) e s := by
  unfold sumHand part share row
  blk_point [iblk, V, idx t]

theorem written_low (y) : ((outsAt0 m c t.val t.isLt).2.1 y : EReal)
    = Ideal.ofBits .f32 0x3F000000#32 * hand (iblk m c 0 t) (iblk m c 1 t) (iblk m c 2 t) (iblk m c 3 t) y := by
  by_cases h : t.val % 17 = 0
  · rw [outsAt0_A m c t h]
    frame_out
    exact low_value _ _ _ _ y
  · rw [outsAt0_B m c t h]
    frame_out
    exact low_value _ _ _ _ y

theorem written (y) : ((outsAt0 m c t.val t.isLt).1 y : EReal) = hand (iblk m c 0 t) (iblk m c 1 t) (iblk m c 2 t) (iblk m c 3 t) y := by
  by_cases h : t.val % 17 = 0
  · rw [outsAt0_A m c t h]
    frame_out
    exact hand_value _ _ _ _ y
  · rw [outsAt0_B m c t h]
    frame_out
    exact hand_value _ _ _ _ y

variable (y : S1x2048.Idx) (e : Fin 2048) (he : e = y 1)

include he

theorem first (h : t.val % 17 = 0) : ((outsAt0 m c t.val t.isLt).2.2 y : EReal)
    = part (m ((c : Thread nD τ).loc main_arg0)) (m ((c : Thread nD τ).loc main_arg1)) e ⟨t.val, t.isLt⟩ := by
  rw [outsAt0_A m c t h]
  frame_out
  rw [sum_value, zero_value, placed_sum m c t (y 1) e ⟨t.val, t.isLt⟩ he rfl]
  exact zero_add _

theorem next (h : ¬t.val % 17 = 0) : ((outsAt0 m c t.val t.isLt).2.2 y : EReal)
    = ((outsAt0 m c (t.val - 1) (Nat.lt_of_le_of_lt (Nat.sub_le _ _) t.isLt)).2.2 y : EReal)
      + part (m ((c : Thread nD τ).loc main_arg0)) (m ((c : Thread nD τ).loc main_arg1)) e ⟨t.val, t.isLt⟩ := by
  rw [outsAt0_B m c t h]
  frame_out
  rw [sum_value, placed_sum m c t (y 1) e ⟨t.val, t.isLt⟩ he rfl]

end Points

/-- The running row holds the shares of the points so far. -/
theorem running (c : Dev nD) (y : S1x2048.Idx) (e : Fin 2048) (he : e = y 1) (r : ℕ) (hr : r < 17) :
    ((outsAt0 m c r hr).2.2 y : EReal)
    = ∑ s : Fin (r + 1), part (m ((c : Thread nD τ).loc main_arg0)) (m ((c : Thread nD τ).loc main_arg1)) e ⟨s, by omega⟩ := by
  induction r with
  | zero =>
    rw [Fin.sum_univ_one]
    exact first m c ⟨0, hr⟩ y e he rfl
  | succ r ih =>
    rw [Fin.sum_univ_castSucc (n := r + 1)]
    refine (next m c ⟨r + 1, hr⟩ y e he (by simp only; omega)).trans ?_
    exact congrArg (fun z : EReal => z + _) (ih (by omega))

theorem final_input (c : Dev nD) : (dats m 0 c).arrAt 4 (cfgs 0).N = input (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, written]
  refine placed m c t y _ ?_ ?_ <;> blk_simp [idx t] <;> omega

theorem final_low (c : Dev nD) : (dats m 0 c).arrAt 5 (cfgs 0).N = low (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, written_low]
  refine congrArg (fun z : EReal => Ideal.ofBits .f32 0x3F000000#32 * z) (placed m c t y _ ?_ ?_) <;> blk_simp [idx t] <;> omega

theorem final_gain (c : Dev nD) : (dats m 0 c).arrAt 6 (cfgs 0).N = gain (m ((c : Thread nD τ).loc main_arg0)) (m ((c : Thread nD τ).loc main_arg1)) := by
  refine (dats m 0 c).arrAt_eq_of_covers 6 _ (by decide +kernel) fun t hf y => ?_
  have h := (flush0_6 t).mp hf
  have lt : t.val < 17 := t.isLt
  blk_simp
  rw [after0_6]
  have e : ((cfg0.win 6).blk t).view.emb y 1 = y 1 := Fin.ext (by blk_simp [idx t])
  obtain ⟨t, ht⟩ := t
  obtain rfl : t = 16 := by simp only at h lt; omega
  refine (running m c y (((cfg0.win 6).blk ⟨16, ht⟩).view.emb y 1) e 16 (by omega)).trans ?_
  unfold part gain
  exact Fin.sum_mul_add_congr fun s k hl => rfl

section Reference

open Cert.Reference32Ideal.Read

variable (dn h : FVec Ideal S4352x2048 .f32) (g : FVec Ideal S1x2048 .f32) (dh : FVec Ideal S4352x2048 .f32)

theorem reference_gain : val_main_v17 (F := Ideal) dn h = gain dn h := by
  funext i
  idx_vars i
  pointwise [val_main_v17, val_main_v16, val_main_v15, val_main_v12, val_main_v11, val_main_v7, val_main_v6,
    val_main_v5, val_main_v4, val_main_v3, val_main_v2, val_main_v1, val_main_v0, val_main_cst, val_main_cst_0, val_main_cst_1, val_main_cst_3,
    gain, share, row, Norm.scale, Norm.size, Norm.mean]
  refine Finset.sum_congr rfl fun x _ => ?_
  rw [mul_right_comm, mul_comm (dn _)]

theorem reference_input : val_main_v34 (F := Ideal) dn h g dh = input dn h g dh := by
  funext i
  idx_vars i
  pointwise [val_main_v34, val_main_v33, val_main_v32, val_main_v31, val_main_v30, val_main_v29,
    val_main_v28, val_main_v27, val_main_v26, val_main_v25, val_main_v24, val_main_v23, val_main_v22, val_main_v21, val_main_v20, val_main_v19, val_main_v18,
    val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_4, val_main_cst_5, val_main_cst_6, input]
  rw [Fin.sum_univ_one]
  exact congrArg (fun z : EReal => dh (ix2 i0 i1) + z) (Norm.spelling (row h i0) (gained dn g i0) i1)

theorem reference_low : val_main_v37 (F := Ideal) dn h g dh = low dn h g dh := by
  unfold low
  rw [← reference_input]
  rfl

end Reference

/-- From memories agreeing on the arguments, the call and its reference end with the same three results. -/
theorem algebraic : Cert.algebraic_Kernel32Ideal_Reference32Ideal := by
  intro m g m' g' _ h
  refine ⟨fun c => input (m ((c : Thread nD τ).loc main_arg0)) (m ((c : Thread nD τ).loc main_arg1))
      (m ((c : Thread nD τ).loc main_arg2)) (m ((c : Thread nD τ).loc main_arg3)),
    fun c => low (m ((c : Thread nD τ).loc main_arg0)) (m ((c : Thread nD τ).loc main_arg1))
      (m ((c : Thread nD τ).loc main_arg2)) (m ((c : Thread nD τ).loc main_arg3)),
    fun c => gain (m ((c : Thread nD τ).loc main_arg0)) (m ((c : Thread nD τ).loc main_arg1)),
    (θ_run _ _ _).mono (fun r hr c => ⟨(hr c).1.trans (final_input m c), (hr c).2.1.trans (final_low m c),
      (hr c).2.2.1.trans (final_gain m c), (hr c).2.2.2⟩) (Cert.Kernel32Ideal.Value.run_blocks m g),
    (θ_run _ _ _).mono (fun r hr c => ⟨?_, ?_, ?_, (hr c).2.2.2⟩) (Cert.Reference32Ideal.Value.run m' g')⟩
  · rw [(hr c).1, Cert.Reference32Ideal.Read.val_main_v34_eq, (h c).1, (h c).2.1, (h c).2.2.1, (h c).2.2.2]
    exact reference_input _ _ _ _
  · rw [(hr c).2.1, Cert.Reference32Ideal.Read.val_main_v37_eq, (h c).1, (h c).2.1, (h c).2.2.1, (h c).2.2.2]
    exact reference_low _ _ _ _
  · rw [(hr c).2.2.1, Cert.Reference32Ideal.Read.val_main_v17_eq, (h c).1, (h c).2.1]
    exact reference_gain _ _

theorem frame_kernel : Cert.quiescent_Kernel32 := by
  intro m ρ _
  rw [show Cert.Kernel32.defs (F := Bits) = defs (F := Bits) by chain_rfl, show Cert.Kernel32.main (F := Bits) = main (F := Bits) by chain_rfl]
  exact Gen.frame (F := Bits) m ρ

theorem frame_ideal : Cert.quiescent_Kernel32Ideal := fun m ρ _ => Gen.frame (F := Ideal) m ρ

theorem frame_reference : Cert.quiescent_Reference32Ideal := fun m ρ _ =>
  (θ_run _ _ _).mono (fun r h => ⟨fun c => (h c).2.2.2, sem_eq_zero_of_no_sems (by decide) r.2⟩)
    (Cert.Reference32Ideal.Value.run (F := Ideal) m ρ)

end Cert.Proof.NormBack

end
-- ==== Proof.Merge.lean ====
module

public import proofs.«01_k».proof.Defs
public import proofs.«01_k».proof.Proof.Sigmoid
public import proofs.«01_k».proof.Proof.Gen.Kernel33
public import proofs.«01_k».proof.Proof.Gen.Kernel33Ideal
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import Idealize.ShloMosaic.Lib.Pipeline.ValueKit
public import Idealize.ShloMosaic.Lib.Pipeline.Regions
public import Idealize.ShloMosaic.Adequacy
public import Idealize.ShloMosaic.Init
/-! # The merge of the two branches: each through its own gate, the gate through the logistic function. -/

@[expose] public section

set_option maxRecDepth 16384

noncomputable section

namespace Cert.Proof.Merge

open Cert.Kernel33Ideal Cert.Kernel33Ideal.Gen
open Idealize.ShloMosaic Idealize.ShloMosaic.TcCoe Idealize.SL.Sem

/-- The gates of the two branches, column by column. -/
def gateFox (p : FVec Ideal S4352x8192 .bf16) : FVec Ideal S4352x2048 .bf16 := fun i => p (ix2 (i 0) ⟨4096 + (i 1).val, by have := (i 1).isLt; dsimp at this; omega⟩)

def gateSb (p : FVec Ideal S4352x8192 .bf16) : FVec Ideal S4352x2048 .bf16 := fun i => p (ix2 (i 0) ⟨6144 + (i 1).val, by have := (i 1).isLt; dsimp at this; omega⟩)

/-- One element, from the two branches and the two gates. -/
def cell (f s p q : EReal) : EReal := Ideal.logistic p * f + Ideal.logistic q * s

def merged (f s : FVec Ideal S4352x2048 .bf16) (p : FVec Ideal S4352x8192 .bf16) : FVec Ideal S4352x2048 .bf16 := fun i =>
  cell (f i) (s i) (gateFox p i) (gateSb p i)

theorem idx : ∀ t : Fin cfg0.N, win0_0.index t = ![t.val, 0] ∧ win0_1.index t = ![t.val, 0] ∧ win0_2.index t = ![t.val, 2] ∧ win0_3.index t = ![t.val, 3]
    ∧ win0_4.index t = ![t.val, 0] :=
  (by decide +kernel : ∀ t : Fin grid0.N, win0_0.index t = ![t.val, 0] ∧ win0_1.index t = ![t.val, 0] ∧ win0_2.index t = ![t.val, 2] ∧ win0_3.index t = ![t.val, 3]
    ∧ win0_4.index t = ![t.val, 0])

theorem cell_value (x0 x1 x2 x3 : Vec Ideal S256x2048 .bf16) (y) : k0_pay1 x0 x1 x2 x3 y = cell (x0 y) (x1 y) (x2 y) (x3 y) := by
  simp only [cell, ← Sigmoid.spelling]
  pointwise [k0_pay1]

variable (m : (ℓ : Loc nD τ sig) → Buf (Elt Ideal) ℓ)

theorem placed (c : Dev nD) (t : Fin cfg0.N) (y : S256x2048.Idx) (i : S4352x2048.Idx) (h0 : (i 0).val = t.val * 256 + (y 0).val)
    (h1 : (i 1).val = (y 1).val) :
    cell (iblk m c 0 t y) (iblk m c 1 t y) (iblk m c 2 t y) (iblk m c 3 t y)
    = merged (m ((c : Thread nD τ).loc main_arg0)) (m ((c : Thread nD τ).loc main_arg1)) (m ((c : Thread nD τ).loc main_arg2)) i := by
  unfold merged cell gateFox gateSb
  blk_point [iblk, V, idx t]

theorem final (c : Dev nD) : (dats m 0 c).arrAt 4 (cfgs 0).N
    = merged (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  refine (cell_value _ _ _ _ y).trans (placed m c t y _ ?_ ?_) <;> blk_simp [idx t] <;> omega

section Reference

open Cert.Reference33Ideal.Read

theorem reference (f s : FVec Ideal S4352x2048 .bf16) (p : FVec Ideal S4352x8192 .bf16) : val_main_v21 (F := Ideal) f s p = merged f s p := by
  funext i
  idx_vars i
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1,
    val_main_v0, val_main_cst, val_main_cst_0, val_main_cst_1, val_main_cst_2, merged, cell, gateFox, gateSb, Ideal.logistic]

end Reference

/-- From memories agreeing on the arguments, the call and its reference end with the same result. -/
theorem algebraic : Cert.algebraic_Kernel33Ideal_Reference33Ideal := by
  intro m g m' g' _ h
  refine ⟨fun c => merged (m ((c : Thread nD τ).loc main_arg0)) (m ((c : Thread nD τ).loc main_arg1)) (m ((c : Thread nD τ).loc main_arg2)),
    (θ_run _ _ _).mono (fun r hr c => ⟨(hr c).1.trans (final m c), (hr c).2⟩) (Cert.Kernel33Ideal.Value.run_blocks m g),
    (θ_run _ _ _).mono (fun r hr c => ⟨?_, (hr c).2⟩) (Cert.Reference33Ideal.Value.run m' g')⟩
  rw [(hr c).1, Cert.Reference33Ideal.Read.val_main_v21_eq, (h c).1, (h c).2.1, (h c).2.2]
  exact reference _ _ _

theorem frame_kernel : Cert.quiescent_Kernel33 := by
  intro m ρ _
  rw [show Cert.Kernel33.defs (F := Bits) = defs (F := Bits) by chain_rfl, show Cert.Kernel33.main (F := Bits) = main (F := Bits) by chain_rfl]
  exact Gen.frame (F := Bits) m ρ

theorem frame_ideal : Cert.quiescent_Kernel33Ideal := fun m ρ _ => Gen.frame (F := Ideal) m ρ

theorem frame_reference : Cert.quiescent_Reference33Ideal := fun m ρ _ =>
  (θ_run _ _ _).mono (fun r h => ⟨fun c => (h c).2, sem_eq_zero_of_no_sems (by decide) r.2⟩)
    (Cert.Reference33Ideal.Value.run (F := Ideal) m ρ)

end Cert.Proof.Merge

end
-- ==== Proof.MergeBack.lean ====
module

public import proofs.«01_k».proof.Defs
public import proofs.«01_k».proof.Proof.Merge
public import proofs.«01_k».proof.Proof.Gen.Kernel34
public import proofs.«01_k».proof.Proof.Gen.Kernel34Ideal
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import Idealize.ShloMosaic.Lib.Pipeline.ValueKit
public import Idealize.ShloMosaic.Lib.Pipeline.Regions
public import Idealize.ShloMosaic.Adequacy
public import Idealize.ShloMosaic.Init
/-! # The gradients of the merge: of the two branches' results and of the two gates. -/

@[expose] public section

set_option maxRecDepth 16384

noncomputable section

namespace Cert.Proof.MergeBack

open Cert.Kernel34Ideal Cert.Kernel34Ideal.Gen
open Merge (gateFox gateSb)
open Idealize.ShloMosaic Idealize.ShloMosaic.TcCoe Idealize.SL.Sem

/-- A branch's gradient, one element: the merged gradient through the branch's gate. -/
def branchCell (d p : EReal) : EReal := d * Ideal.logistic p

/-- A gate's gradient, one element, through the branch and the gate's slope. -/
def gateCell (d b p : EReal) : EReal := ((d * b) * Ideal.logistic p) * (Ideal.ofBits .f32 0x3F800000#32 - Ideal.logistic p)

def branch (d p : FVec Ideal S4352x2048 .bf16) : FVec Ideal S4352x2048 .bf16 := fun i => branchCell (d i) (p i)

def gate (d b p : FVec Ideal S4352x2048 .bf16) : FVec Ideal S4352x2048 .bf16 := fun i => gateCell (d i) (b i) (p i)

theorem idx : ∀ t : Fin cfg0.N, win0_0.index t = ![t.val, 0] ∧ win0_1.index t = ![t.val, 0] ∧ win0_2.index t = ![t.val, 0] ∧ win0_3.index t = ![t.val, 2]
    ∧ win0_4.index t = ![t.val, 3] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 2]
    ∧ win0_4.index t = ![t.val, 3] ∧ win0_5.index t = ![t.val, 0] ∧ win0_6.index t = ![t.val, 0] ∧ win0_7.index t = ![t.val, 0] ∧ win0_8.index t = ![t.val, 0])

section Block

variable (x0 x1 x2 x3 x4 : Vec Ideal S256x2048 .bf16) (y : S256x2048.Idx)

theorem value_fox : k0_pay10 x0 x3 y = branchCell (x0 y) (x3 y) := by
  simp only [branchCell, ← Sigmoid.spelling]
  pointwise [k0_pay10, k0_pay9, k0_pay8, k0_pay7, k0_pay6, k0_pay5, k0_pay4, k0_pay3, k0_pay2, k0_pay1]

theorem value_sb : k0_pay1 (k0_pay7 x0 x4) y = branchCell (x0 y) (x4 y) := by
  simp only [branchCell, ← Sigmoid.spelling]
  pointwise [k0_pay10, k0_pay9, k0_pay8, k0_pay7, k0_pay6, k0_pay5, k0_pay4, k0_pay3, k0_pay2, k0_pay1]

theorem value_gate_fox : k0_pay2 (k0_pay8 x0 x1 x3) y = gateCell (x0 y) (x1 y) (x3 y) := by
  simp only [gateCell, ← Sigmoid.spelling]
  pointwise [k0_pay10, k0_pay9, k0_pay8, k0_pay7, k0_pay6, k0_pay5, k0_pay4, k0_pay3, k0_pay2, k0_pay1]

theorem value_gate_sb : k0_pay3 (k0_pay9 x0 x2 x4) y = gateCell (x0 y) (x2 y) (x4 y) := by
  simp only [gateCell, ← Sigmoid.spelling]
  pointwise [k0_pay10, k0_pay9, k0_pay8, k0_pay7, k0_pay6, k0_pay5, k0_pay4, k0_pay3, k0_pay2, k0_pay1]

end Block

variable (m : (ℓ : Loc nD τ sig) → Buf (Elt Ideal) ℓ)

section Points

variable (c : Dev nD) (t : Fin cfg0.N) (y : S256x2048.Idx) (i : S4352x2048.Idx) (h0 : (i 0).val = t.val * 256 + (y 0).val) (h1 : (i 1).val = (y 1).val)

include h0 h1

theorem placedFox : branchCell (iblk m c 0 t y) (iblk m c 3 t y) = branch (m ((c : Thread nD τ).loc main_arg3)) (gateFox (m ((c : Thread nD τ).loc main_arg2))) i := by
  unfold branch branchCell gateFox
  blk_point [iblk, V, idx t]

theorem placedSb : branchCell (iblk m c 0 t y) (iblk m c 4 t y) = branch (m ((c : Thread nD τ).loc main_arg3)) (gateSb (m ((c : Thread nD τ).loc main_arg2))) i := by
  unfold branch branchCell gateSb
  blk_point [iblk, V, idx t]

theorem placedGateFox : gateCell (iblk m c 0 t y) (iblk m c 1 t y) (iblk m c 3 t y) = gate (m ((c : Thread nD τ).loc main_arg3)) (m ((c : Thread nD τ).loc main_arg0)) (gateFox (m ((c : Thread nD τ).loc main_arg2))) i := by
  unfold gate gateCell gateFox
  blk_point [iblk, V, idx t]

theorem placedGateSb : gateCell (iblk m c 0 t y) (iblk m c 2 t y) (iblk m c 4 t y) = gate (m ((c : Thread nD τ).loc main_arg3)) (m ((c : Thread nD τ).loc main_arg1)) (gateSb (m ((c : Thread nD τ).loc main_arg2))) i := by
  unfold gate gateCell gateSb
  blk_point [iblk, V, idx t]

end Points

theorem final_fox (c : Dev nD) : (dats m 0 c).arrAt 5 (cfgs 0).N = branch (m ((c : Thread nD τ).loc main_arg3)) (gateFox (m ((c : Thread nD τ).loc main_arg2))) := by
  refine (dats m 0 c).arrAt_eq_of_covers 5 _ (by decide +kernel) fun t _ y => ?_
  blk_simp
  rw [after0_5]
  frame_out
  refine (value_fox _ _ y).trans (placedFox m c t y _ ?_ ?_) <;> blk_simp [idx t] <;> omega

theorem final_sb (c : Dev nD) : (dats m 0 c).arrAt 6 (cfgs 0).N = branch (m ((c : Thread nD τ).loc main_arg3)) (gateSb (m ((c : Thread nD τ).loc main_arg2))) := by
  refine (dats m 0 c).arrAt_eq_of_covers 6 _ (by decide +kernel) fun t _ y => ?_
  blk_simp
  rw [after0_6]
  frame_out
  refine (value_sb _ _ y).trans (placedSb m c t y _ ?_ ?_) <;> blk_simp [idx t] <;> omega

theorem final_gate_fox (c : Dev nD) : (dats m 0 c).arrAt 7 (cfgs 0).N = gate (m ((c : Thread nD τ).loc main_arg3)) (m ((c : Thread nD τ).loc main_arg0)) (gateFox (m ((c : Thread nD τ).loc main_arg2))) := by
  refine (dats m 0 c).arrAt_eq_of_covers 7 _ (by decide +kernel) fun t _ y => ?_
  blk_simp
  rw [after0_7]
  frame_out
  refine (value_gate_fox _ _ _ y).trans (placedGateFox m c t y _ ?_ ?_) <;> blk_simp [idx t] <;> omega

theorem final_gate_sb (c : Dev nD) : (dats m 0 c).arrAt 8 (cfgs 0).N = gate (m ((c : Thread nD τ).loc main_arg3)) (m ((c : Thread nD τ).loc main_arg1)) (gateSb (m ((c : Thread nD τ).loc main_arg2))) := by
  refine (dats m 0 c).arrAt_eq_of_covers 8 _ (by decide +kernel) fun t _ y => ?_
  blk_simp
  rw [after0_8]
  frame_out
  refine (value_gate_sb _ _ _ y).trans (placedGateSb m c t y _ ?_ ?_) <;> blk_simp [idx t] <;> omega

section Reference

open Cert.Reference34Ideal.Read

variable (f s : FVec Ideal S4352x2048 .bf16) (p : FVec Ideal S4352x8192 .bf16) (d : FVec Ideal S4352x2048 .bf16)

theorem reference_fox : val_main_v38 (F := Ideal) p d = branch d (gateFox p) := by
  funext i
  idx_vars i
  rw [branch, branchCell, mul_comm]
  pointwise [val_main_v38, val_main_v37, val_main_v36, val_main_v35, val_main_v34, val_main_v33, val_main_v32, val_main_v31, val_main_v30, val_main_v29, val_main_v28,
    val_main_v24, val_main_v23, val_main_v22, val_main_v21, val_main_v20, val_main_v19, val_main_v18, val_main_v17, val_main_v16, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4,
    branch, gate, gateFox, gateSb, Ideal.logistic]

theorem reference_sb : val_main_v37 (F := Ideal) p d = branch d (gateSb p) := by
  funext i
  idx_vars i
  rw [branch, branchCell, mul_comm]
  pointwise [val_main_v38, val_main_v37, val_main_v36, val_main_v35, val_main_v34, val_main_v33, val_main_v32, val_main_v31, val_main_v30, val_main_v29, val_main_v28,
    val_main_v24, val_main_v23, val_main_v22, val_main_v21, val_main_v20, val_main_v19, val_main_v18, val_main_v17, val_main_v16, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4,
    branch, gate, gateFox, gateSb, Ideal.logistic]

theorem reference_gate_fox : val_main_v36 (F := Ideal) f p d = gate d f (gateFox p) := by
  funext i
  idx_vars i
  rw [gate, gateCell, mul_assoc]
  pointwise [val_main_v38, val_main_v37, val_main_v36, val_main_v35, val_main_v34, val_main_v33, val_main_v32, val_main_v31, val_main_v30, val_main_v29, val_main_v28,
    val_main_v24, val_main_v23, val_main_v22, val_main_v21, val_main_v20, val_main_v19, val_main_v18, val_main_v17, val_main_v16, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4,
    branch, gate, gateFox, gateSb, Ideal.logistic]

theorem reference_gate_sb : val_main_v35 (F := Ideal) s p d = gate d s (gateSb p) := by
  funext i
  idx_vars i
  rw [gate, gateCell, mul_assoc]
  pointwise [val_main_v38, val_main_v37, val_main_v36, val_main_v35, val_main_v34, val_main_v33, val_main_v32, val_main_v31, val_main_v30, val_main_v29, val_main_v28,
    val_main_v24, val_main_v23, val_main_v22, val_main_v21, val_main_v20, val_main_v19, val_main_v18, val_main_v17, val_main_v16, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4,
    branch, gate, gateFox, gateSb, Ideal.logistic]

end Reference

/-- From memories agreeing on the arguments, the call and its reference end with the same four results. -/
theorem algebraic : Cert.algebraic_Kernel34Ideal_Reference34Ideal := by
  intro m g m' g' _ h
  refine ⟨fun c => branch (m ((c : Thread nD τ).loc main_arg3)) (gateFox (m ((c : Thread nD τ).loc main_arg2))), fun c => branch (m ((c : Thread nD τ).loc main_arg3)) (gateSb (m ((c : Thread nD τ).loc main_arg2))),
    fun c => gate (m ((c : Thread nD τ).loc main_arg3)) (m ((c : Thread nD τ).loc main_arg0)) (gateFox (m ((c : Thread nD τ).loc main_arg2))),
    fun c => gate (m ((c : Thread nD τ).loc main_arg3)) (m ((c : Thread nD τ).loc main_arg1)) (gateSb (m ((c : Thread nD τ).loc main_arg2))),
    (θ_run _ _ _).mono (fun r hr c => ⟨(hr c).1.trans (final_fox m c), (hr c).2.1.trans (final_sb m c), (hr c).2.2.1.trans (final_gate_fox m c),
      (hr c).2.2.2.1.trans (final_gate_sb m c), (hr c).2.2.2.2⟩) (Cert.Kernel34Ideal.Value.run_blocks m g),
    (θ_run _ _ _).mono (fun r hr c => ⟨?_, ?_, ?_, ?_, (hr c).2.2.2.2⟩) (Cert.Reference34Ideal.Value.run m' g')⟩
  · rw [(hr c).1, Cert.Reference34Ideal.Read.val_main_v38_eq, (h c).2.2.1, (h c).2.2.2]
    exact reference_fox _ _
  · rw [(hr c).2.1, Cert.Reference34Ideal.Read.val_main_v37_eq, (h c).2.2.1, (h c).2.2.2]
    exact reference_sb _ _
  · rw [(hr c).2.2.1, Cert.Reference34Ideal.Read.val_main_v36_eq, (h c).1, (h c).2.2.1, (h c).2.2.2]
    exact reference_gate_fox _ _ _
  · rw [(hr c).2.2.2.1, Cert.Reference34Ideal.Read.val_main_v35_eq, (h c).2.1, (h c).2.2.1, (h c).2.2.2]
    exact reference_gate_sb _ _ _

theorem frame_kernel : Cert.quiescent_Kernel34 := by
  intro m ρ _
  rw [show Cert.Kernel34.defs (F := Bits) = defs (F := Bits) by chain_rfl, show Cert.Kernel34.main (F := Bits) = main (F := Bits) by chain_rfl]
  exact Gen.frame (F := Bits) m ρ

theorem frame_ideal : Cert.quiescent_Kernel34Ideal := fun m ρ _ => Gen.frame (F := Ideal) m ρ

theorem frame_reference : Cert.quiescent_Reference34Ideal := fun m ρ _ =>
  (θ_run _ _ _).mono (fun r h => ⟨fun c => (h c).2.2.2.2, sem_eq_zero_of_no_sems (by decide) r.2⟩)
    (Cert.Reference34Ideal.Value.run (F := Ideal) m ρ)

end Cert.Proof.MergeBack

end
-- ==== Proof.Loss.lean ====
module

public import proofs.«01_k».proof.Defs
public import proofs.«01_k».proof.Proof.Norm
public import proofs.«01_k».proof.Proof.Gen.Kernel35
public import proofs.«01_k».proof.Proof.Gen.Kernel35Ideal
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import Idealize.ShloMosaic.Lib.Pipeline.ValueKit
public import Idealize.ShloMosaic.Lib.Pipeline.Regions
public import Idealize.ShloMosaic.Adequacy
public import Idealize.ShloMosaic.Init
/-! # The loss of one device's rows, column by column, and its gradient. The memory rows and the rows before them carry no loss:
the first block of rows has gradient zero. The columns' sums run over the points in place. -/

@[expose] public section

set_option maxRecDepth 16384

noncomputable section

namespace Cert.Proof.Loss

open Cert.Kernel35Ideal Cert.Kernel35Ideal.Gen
open Idealize.ShloMosaic Idealize.ShloMosaic.TcCoe Idealize.SL.Sem

/-- One over the number of columns, and one half. -/
def unit : EReal := Ideal.ofBits .f32 0x3A000000#32

def half : EReal := Ideal.ofBits .f32 0x3F000000#32

theorem unit_eq : unit = ((1 / 2048 : ℝ) : EReal) := by
  simp [unit, Ideal.ofBits, Ideal.ieee, -EReal.coe_mul]; norm_num

theorem half_eq : half = ((1 / 2 : ℝ) : EReal) := by
  simp [half, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The token's error. -/
def miss (h : FVec Ideal S4352x2048 .f32) (g : FVec Ideal S4096x2048 .f32) (l : Fin 4096) (j : Fin 2048) : EReal :=
  (h (ix2 ⟨256 + l, by omega⟩ j) : EReal) - (g (ix2 l j) : EReal)

/-- The loss's gradient: zero before the tokens. -/
def grad (h : FVec Ideal S4352x2048 .f32) (g : FVec Ideal S4096x2048 .f32) : FVec Ideal S4352x2048 .f32 := fun i =>
  if k : (i 0).val < 256 then (0 : EReal) else miss h g ⟨(i 0).val - 256, by have := (i 0).isLt; dsimp at this; omega⟩ (i 1) * unit

/-- Its half, for the feed-forward layer before. -/
def low (h : FVec Ideal S4352x2048 .f32) (g : FVec Ideal S4096x2048 .f32) : FVec Ideal S4352x2048 .bf16 := fun i => half * (grad h g i : EReal)

/-- An error's share of the loss. -/
def share (e : EReal) : EReal := half * (e * (e * unit))

def cols (h : FVec Ideal S4352x2048 .f32) (g : FVec Ideal S4096x2048 .f32) : FVec Ideal S1x2048 .f32 := fun i =>
  ∑ l : Fin 4096, share (miss h g l (i 1))

/-- The shares of the rows of the point after `t`. -/
def part (h : FVec Ideal S4352x2048 .f32) (g : FVec Ideal S4096x2048 .f32) (j : Fin 2048) (t : Fin 16) : EReal :=
  ∑ r : Fin 256, share (miss h g ⟨t * 256 + r, by omega⟩ j)

theorem square_nonneg (e : EReal) : 0 ≤ e * (e * unit) := by
  rw [← mul_assoc, unit_eq]
  exact mul_nonneg (Norm.square_nonneg e) (by exact_mod_cast (by norm_num : (0 : ℝ) ≤ 1 / 2048))

/-- The derivative's scale, on twice the error. -/
theorem scale (z : EReal) : Ideal.div (Ideal.ofBits .f32 0x3F000000#32) (Ideal.ofBits .f32 0x45000000#32) * (Ideal.ofBits .f32 0x40000000#32 * z)
    = z * unit := by
  rw [Norm.columns, Ideal.div_coe (by norm_num), two_eq, show Ideal.ofBits .f32 0x3F000000#32 = _ from half_eq, unit_eq, ← mul_assoc, mul_comm z]
  refine congrArg (fun w : EReal => w * z) ?_
  norm_cast
  norm_num

/-- A half times a sum of squares, part by part. -/
theorem half_sum {n : ℕ} (e : Fin n → EReal) : half * ∑ r, e r * (e r * unit) = ∑ r, share (e r) := by
  unfold share
  induction n with
  | zero => simp
  | succ n ih =>
    rw [Fin.sum_univ_castSucc, Fin.sum_univ_castSucc, EReal.left_distrib_of_nonneg (Finset.sum_nonneg fun r _ => square_nonneg _) (square_nonneg _), ih]

theorem idx : ∀ t : Fin cfg0.N, win0_0.index t = ![t.val, 0] ∧ win0_1.index t = ![t.val - 1, 0] ∧ win0_2.index t = ![t.val, 0] ∧ win0_3.index t = ![t.val, 0]
    ∧ win0_4.index t = ![0, 0] :=
  (by decide +kernel : ∀ t : Fin grid0.N, win0_0.index t = ![t.val, 0] ∧ win0_1.index t = ![t.val - 1, 0] ∧ win0_2.index t = ![t.val, 0] ∧ win0_3.index t = ![t.val, 0]
    ∧ win0_4.index t = ![0, 0])

/-- The point's test for tokens. -/
theorem real : ∀ t : Fin cfg0.N, Scalar.cmpi .sge (BitVec.ofNat 32 (grid0.coords t 0).val) 1#32 = if t.val = 0 then 0#1 else 1#1 :=
  (by decide +kernel : ∀ t : Fin grid0.N, Scalar.cmpi .sge (BitVec.ofNat 32 (grid0.coords t 0).val) 1#32 = if t.val = 0 then 0#1 else 1#1)

section Block

variable (t : Fin cfg0.N) (x0 x1 : Vec Ideal S256x2048 .f32)

/-- The error, of the blocks in hand. -/
def hand (y : S256x2048.Idx) : EReal := if t.val = 0 then 0 else (x0 y : EReal) - (x1 y : EReal)

theorem hand_value (y) : k0_pay1 (F := Ideal) (grid0.coords t) x0 x1 y = hand t x0 x1 y := by
  unfold k0_pay1 hand
  simp only [real]
  split_ifs with h
  · pointwise [h]
  · pointwise [h]

theorem grad_value (y) : k0_pay2 (F := Ideal) (grid0.coords t) x0 x1 y = hand t x0 x1 y * unit := by
  rw [← hand_value]
  rfl

theorem low_value (y) : k0_pay3 (F := Ideal) (grid0.coords t) x0 x1 y = half * (hand t x0 x1 y * unit) := by
  rw [← hand_value]
  rfl

theorem sum_value (acc : Vec Ideal S1x2048 .f32) (y) : k0_pay5 (grid0.coords t) x0 x1 acc y
    = (acc y : EReal) + ∑ r : Fin 256, share (hand t x0 x1 (ix2 r (y 1))) := by
  simp only [← half_sum, ← hand_value]
  pointwise [k0_pay5, k0_pay2, half, unit]

theorem zero_value (y) : k0_pay4 (F := Ideal) y = 0 := by pointwise [k0_pay4]

end Block

variable (m : (ℓ : Loc nD τ sig) → Buf (Elt Ideal) ℓ)

section Points

variable (c : Dev nD) (t : Fin cfg0.N)

theorem placed (y : S256x2048.Idx) (i : S4352x2048.Idx) (h0 : (i 0 : ℕ) = t.val * 256 + y 0) (h1 : (i 1 : ℕ) = y 1) :
    hand t (iblk m c 0 t) (iblk m c 1 t) y * unit = grad (m ((c : Thread nD τ).loc main_arg0)) (m ((c : Thread nD τ).loc main_arg1)) i := by
  unfold hand grad
  have b := (y 0).isLt
  dsimp at b
  split_ifs with h k k
  · exact zero_mul _
  · omega
  · omega
  · refine congrArg (fun z : EReal => z * unit) ?_
    unfold miss
    blk_point [iblk, V, idx t]

theorem placed_sum (j e : Fin 2048) (s : Fin 16) (h : e = j) (hs : (s : ℕ) + 1 = t.val) :
    ∑ r : Fin 256, share (hand t (iblk m c 0 t) (iblk m c 1 t) (ix2 r j)) = part (m ((c : Thread nD τ).loc main_arg0)) (m ((c : Thread nD τ).loc main_arg1)) e s := by
  unfold part
  refine Finset.sum_congr rfl fun r _ => congrArg share ?_
  unfold hand miss
  rw [if_neg (by omega)]
  blk_point [iblk, V, idx t]

theorem written (y) : ((outsAt0 m c t.val t.isLt).1 y : EReal) = hand t (iblk m c 0 t) (iblk m c 1 t) y * unit := by
  by_cases h : t.val % 17 = 0
  · rw [outsAt0_A m c t h]
    frame_out
    exact grad_value _ _ _ y
  · rw [outsAt0_B m c t h]
    frame_out
    exact grad_value _ _ _ y

theorem written_low (y) : ((outsAt0 m c t.val t.isLt).2.1 y : EReal) = half * (hand t (iblk m c 0 t) (iblk m c 1 t) y * unit) := by
  by_cases h : t.val % 17 = 0
  · rw [outsAt0_A m c t h]
    frame_out
    exact low_value _ _ _ y
  · rw [outsAt0_B m c t h]
    frame_out
    exact low_value _ _ _ y

theorem first (y : S1x2048.Idx) (h : t.val = 0) : ((outsAt0 m c t.val t.isLt).2.2 y : EReal) = 0 := by
  rw [outsAt0_A m c t (by omega)]
  frame_out
  rw [sum_value, zero_value]
  unfold hand share
  simp [h]

theorem next (y : S1x2048.Idx) (e : Fin 2048) (he : e = y 1) (s : Fin 16) (hs : (s : ℕ) + 1 = t.val) : ((outsAt0 m c t.val t.isLt).2.2 y : EReal)
    = ((outsAt0 m c (t.val - 1) (Nat.lt_of_le_of_lt (Nat.sub_le _ _) t.isLt)).2.2 y : EReal) + part (m ((c : Thread nD τ).loc main_arg0)) (m ((c : Thread nD τ).loc main_arg1)) e s := by
  rw [outsAt0_B m c t (by omega)]
  frame_out
  rw [sum_value, placed_sum m c t (y 1) e s he hs]

end Points

/-- The running row holds the shares of the points so far. -/
theorem running (c : Dev nD) (y : S1x2048.Idx) (e : Fin 2048) (he : e = y 1) (r : ℕ) (hr : r < 17) :
    ((outsAt0 m c r hr).2.2 y : EReal) = ∑ s : Fin r, part (m ((c : Thread nD τ).loc main_arg0)) (m ((c : Thread nD τ).loc main_arg1)) e ⟨s, by omega⟩ := by
  induction r with
  | zero => exact first m c ⟨0, hr⟩ y rfl
  | succ r ih =>
    rw [Fin.sum_univ_castSucc]
    refine (next m c ⟨r + 1, hr⟩ y e he ⟨r, by omega⟩ rfl).trans ?_
    exact congrArg (fun z : EReal => z + _) (ih (by omega))

theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2, written]
  refine placed m c t y _ ?_ ?_ <;> blk_simp [idx t] <;> omega

theorem final_low (c : Dev nD) : (dats m 0 c).arrAt 3 (cfgs 0).N = low (m ((c : Thread nD τ).loc main_arg0)) (m ((c : Thread nD τ).loc main_arg1)) := by
  refine (dats m 0 c).arrAt_eq_of_covers 3 _ (by decide +kernel) fun t _ y => ?_
  blk_simp
  rw [after0_3, written_low]
  refine congrArg (fun z : EReal => half * z) (placed m c t y _ ?_ ?_) <;> blk_simp [idx t] <;> omega

theorem final_cols (c : Dev nD) : (dats m 0 c).arrAt 4 (cfgs 0).N = cols (m ((c : Thread nD τ).loc main_arg0)) (m ((c : Thread nD τ).loc main_arg1)) := by
  refine (dats m 0 c).arrAt_eq_of_covers 4 _ (by decide +kernel) fun t hf y => ?_
  have h := (flush0_4 t).mp hf
  have lt : t.val < 17 := t.isLt
  blk_simp
  rw [after0_4]
  have e : ((cfg0.win 4).blk t).view.emb y 1 = y 1 := Fin.ext (by blk_simp [idx t])
  obtain ⟨t, ht⟩ := t
  obtain rfl : t = 16 := by simp only at h lt; omega
  refine (running m c y (((cfg0.win 4).blk ⟨16, ht⟩).view.emb y 1) e 16 (by omega)).trans ?_
  unfold part cols
  exact Fin.sum_mul_add_congr fun s k hl => rfl

section Reference

open Cert.Reference35Ideal.Read

variable (h : FVec Ideal S4352x2048 .f32) (g : FVec Ideal S4096x2048 .f32)

theorem reference_grad : val_main_v16 (F := Ideal) h g = grad h g := by
  funext i
  idx_vars i
  pointwise [val_main_v16, val_main_v15, val_main_v14, val_main_v13, val_main_v12, val_main_v11, val_main_v10, val_main_v4, val_main_v3, val_main_v1,
    val_main_v0, val_main_cst, val_main_cst_4, val_main_cst_5, val_main_cst_6, val_main_cst_7, grad, miss]
  split_ifs with a b b
  · omega
  · rw [scale]
  · rfl
  · omega

theorem reference_low : val_main_v19 (F := Ideal) h g = low h g := by
  unfold low
  rw [← reference_grad]
  rfl

theorem reference_cols : val_main_v28 (F := Ideal) h g = cols h g := by
  funext i
  idx_vars i
  refine Eq.trans ?_ (half_sum fun l => miss h g l i1)
  pointwise [val_main_v28, val_main_v27, val_main_v26, val_main_v25, val_main_v24, val_main_v23, val_main_v22, val_main_v21, val_main_v20, val_main_cst_9,
    val_main_cst_10, val_main_cst_11, miss]
  refine congrArg (fun z : EReal => half * z) (Finset.sum_congr rfl fun l _ => ?_)
  rw [Norm.columns, Ideal.div_coe (by norm_num), mul_assoc, unit_eq]

end Reference

/-- From memories agreeing on the arguments, the call and its reference end with the same three results. -/
theorem algebraic : Cert.algebraic_Kernel35Ideal_Reference35Ideal := by
  intro m g m' g' _ h
  refine ⟨fun c => grad (m ((c : Thread nD τ).loc main_arg0)) (m ((c : Thread nD τ).loc main_arg1)),
    fun c => low (m ((c : Thread nD τ).loc main_arg0)) (m ((c : Thread nD τ).loc main_arg1)),
    fun c => cols (m ((c : Thread nD τ).loc main_arg0)) (m ((c : Thread nD τ).loc main_arg1)),
    (θ_run _ _ _).mono (fun r hr c => ⟨(hr c).1.trans (final_grad m c), (hr c).2.1.trans (final_low m c),
      (hr c).2.2.1.trans (final_cols m c), (hr c).2.2.2⟩) (Cert.Kernel35Ideal.Value.run_blocks m g),
    (θ_run _ _ _).mono (fun r hr c => ⟨?_, ?_, ?_, (hr c).2.2.2⟩) (Cert.Reference35Ideal.Value.run m' g')⟩
  · rw [(hr c).1, Cert.Reference35Ideal.Read.val_main_v16_eq, (h c).1, (h c).2]
    exact reference_grad _ _
  · rw [(hr c).2.1, Cert.Reference35Ideal.Read.val_main_v19_eq, (h c).1, (h c).2]
    exact reference_low _ _
  · rw [(hr c).2.2.1, Cert.Reference35Ideal.Read.val_main_v28_eq, (h c).1, (h c).2]
    exact reference_cols _ _

theorem frame_kernel : Cert.quiescent_Kernel35 := by
  intro m ρ _
  rw [show Cert.Kernel35.defs (F := Bits) = defs (F := Bits) by chain_rfl, show Cert.Kernel35.main (F := Bits) = main (F := Bits) by chain_rfl]
  exact Gen.frame (F := Bits) m ρ

theorem frame_ideal : Cert.quiescent_Kernel35Ideal := fun m ρ _ => Gen.frame (F := Ideal) m ρ

theorem frame_reference : Cert.quiescent_Reference35Ideal := fun m ρ _ =>
  (θ_run _ _ _).mono (fun r h => ⟨fun c => (h c).2.2.2, sem_eq_zero_of_no_sems (by decide) r.2⟩)
    (Cert.Reference35Ideal.Value.run (F := Ideal) m ρ)

end Cert.Proof.Loss

end
-- ==== Proof.NormMeta.lean ====
module

public import proofs.«01_k».proof.Defs
public import proofs.«01_k».proof.Proof.NormFirst
public import proofs.«01_k».proof.Proof.Gen.Kernel36
public import proofs.«01_k».proof.Proof.Gen.Kernel36Ideal
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import Idealize.ShloMosaic.Lib.Pipeline.ValueKit
public import Idealize.ShloMosaic.Lib.Pipeline.Regions
public import Idealize.ShloMosaic.Adequacy
public import Idealize.ShloMosaic.Init
/-! # The gradient through the first norm, for the memory's rows: their gradient and their part of the gain's gradient. One point. -/

@[expose] public section

set_option maxRecDepth 16384

noncomputable section

namespace Cert.Proof.NormMeta

open Cert.Kernel36Ideal Cert.Kernel36Ideal.Gen
open NormFirst (row gained share hand sumHand)
open Idealize.ShloMosaic Idealize.ShloMosaic.TcCoe Idealize.SL.Sem

variable (m : (ℓ : Loc nD τ sig) → Buf (Elt Ideal) ℓ)

/-- The memory's row `l`. -/
def memory (l : Fin 256) : Fin 4352 := ⟨l, by omega⟩

/-- The gradient of the input: the residual's and the norm's. -/
def input (dn h : FVec Ideal S4352x2048 .f32) (g : FVec Ideal S1x2048 .f32) (dh : FVec Ideal S4352x2048 .f32) : FVec Ideal S256x2048 .f32 :=
  fun i => (dh (ix2 (memory (i 0)) (i 1)) : EReal) + Norm.grad (row h (memory (i 0))) (gained dn g (memory (i 0))) (i 1)

def gain (dn h : FVec Ideal S4352x2048 .f32) : FVec Ideal S1x2048 .f32 := fun i => ∑ l : Fin 256, share dn h (i 1) (memory l)

theorem idx : ∀ t : Fin cfg0.N, t.val = 0 ∧ win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, t.val = 0 ∧ win0_0.index t = ![0, 0] ∧ win0_1.index t = ![0, 0] ∧ win0_2.index t = ![0, 0]
    ∧ win0_3.index t = ![0, 0] ∧ win0_4.index t = ![0, 0] ∧ win0_5.index t = ![0, 0])

section Block

variable (x0 x1 x2 : Vec Ideal S256x2048 .f32) (x3 : Vec Ideal S1x2048 .f32)

theorem hand_value (y) : k0_pay3 x0 x1 x2 x3 y = hand x0 x1 x2 x3 y := by
  pointwise [k0_pay3, k0_pay2, hand, Norm.grad, Norm.scale, Norm.size, Norm.mean]

theorem sum_value (acc : Vec Ideal S1x2048 .f32) (y) : k0_pay1 (k0_pay4 x0 x1) acc y = (acc y : EReal) + sumHand x0 x1 (y 1) := by
  pointwise [k0_pay1, k0_pay4, k0_pay2, sumHand, Norm.scale, Norm.size, Norm.mean]

theorem zero_value (y) : k0_pay5 (F := Ideal) y = 0 := by pointwise [k0_pay5]

end Block

section Points

variable (c : Dev nD) (t : Fin cfg0.N)

theorem placed (y : S256x2048.Idx) (i : S256x2048.Idx) (h0 : (i 0 : ℕ) = y 0) (h1 : (i 1 : ℕ) = y 1) :
    hand (iblk m c 0 t) (iblk m c 1 t) (iblk m c 2 t) (iblk m c 3 t) y = input (m ((c : Thread nD τ).loc main_arg0)) (m ((c : Thread nD τ).loc main_arg1)) (m ((c : Thread nD τ).loc main_arg2)) (m ((c : Thread nD τ).loc main_arg3)) i := by
  unfold hand input row gained memory
  blk_point [iblk, V, idx t]

theorem placed_sum (j e : Fin 2048) (h : e = j) : sumHand (iblk m c 0 t) (iblk m c 1 t) j = ∑ l : Fin 256, share (m ((c : Thread nD τ).loc main_arg0)) (m ((c : Thread nD τ).loc main_arg1)) e (memory l) := by
  unfold sumHand share row memory
  blk_point [iblk, V, idx t]

theorem written (y) : ((outsAt0 m c t).1 y : EReal) = hand (iblk m c 0 t) (iblk m c 1 t) (iblk m c 2 t) (iblk m c 3 t) y := by
  unfold outsAt0
  frame_out
  exact hand_value _ _ _ _ y

theorem written_sum (y) : ((outsAt0 m c t).2 y : EReal) = sumHand (iblk m c 0 t) (iblk m c 1 t) (y 1) := by
  unfold outsAt0
  frame_out
  rw [sum_value, zero_value]
  exact zero_add _

end Points

theorem final_input (c : Dev nD) : (dats m 0 c).arrAt 4 (cfgs 0).N = input (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, written]
  refine placed m c t y _ ?_ ?_ <;> blk_simp [idx t] <;> omega

theorem final_gain (c : Dev nD) : (dats m 0 c).arrAt 5 (cfgs 0).N = gain (m ((c : Thread nD τ).loc main_arg0)) (m ((c : Thread nD τ).loc main_arg1)) := by
  refine (dats m 0 c).arrAt_eq_of_covers 5 _ (by decide +kernel) fun t _ y => ?_
  blk_simp
  rw [after0_5, written_sum]
  exact placed_sum m c t (y 1) _ (Fin.ext (by blk_simp [idx t]))

section Reference

open Cert.Reference36Ideal.Read

variable (dn h : FVec Ideal S4352x2048 .f32) (g : FVec Ideal S1x2048 .f32) (dh : FVec Ideal S4352x2048 .f32)

theorem reference_gain : val_main_v19 (F := Ideal) dn h = gain dn h := by
  funext i
  idx_vars i
  pointwise [val_main_v19, val_main_v18, val_main_v17, val_main_v16, val_main_v13, val_main_v12, val_main_v8, val_main_v7, val_main_v6,
    val_main_v5, val_main_v4, val_main_v3, val_main_v2, val_main_v1, val_main_v0, val_main_cst, val_main_cst_0, val_main_cst_1, val_main_cst_3,
    gain, share, row, memory, Norm.scale, Norm.size, Norm.mean]
  refine Finset.sum_congr rfl fun x _ => ?_
  rw [mul_right_comm, mul_comm (dn _)]

theorem reference_input : val_main_v37 (F := Ideal) dn h g dh = input dn h g dh := by
  funext i
  idx_vars i
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v16,
    val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_4, val_main_cst_5, val_main_cst_6, input]
  rw [Fin.sum_univ_one]
  exact congrArg (fun z : EReal => dh (ix2 (memory i0) i1) + z) (Norm.spelling (row h (memory i0)) (gained dn g (memory i0)) i1)

end Reference

/-- From memories agreeing on the arguments, the call and its reference end with the same two results. -/
theorem algebraic : Cert.algebraic_Kernel36Ideal_Reference36Ideal := by
  intro m g m' g' _ h
  refine ⟨fun c => input (m ((c : Thread nD τ).loc main_arg0)) (m ((c : Thread nD τ).loc main_arg1))
      (m ((c : Thread nD τ).loc main_arg2)) (m ((c : Thread nD τ).loc main_arg3)),
    fun c => gain (m ((c : Thread nD τ).loc main_arg0)) (m ((c : Thread nD τ).loc main_arg1)),
    (θ_run _ _ _).mono (fun r hr c => ⟨(hr c).1.trans (final_input m c), (hr c).2.1.trans (final_gain m c), (hr c).2.2⟩)
      (Cert.Kernel36Ideal.Value.run_blocks m g),
    (θ_run _ _ _).mono (fun r hr c => ⟨?_, ?_, (hr c).2.2⟩) (Cert.Reference36Ideal.Value.run m' g')⟩
  · rw [(hr c).1, Cert.Reference36Ideal.Read.val_main_v37_eq, (h c).1, (h c).2.1, (h c).2.2.1, (h c).2.2.2]
    exact reference_input _ _ _ _
  · rw [(hr c).2.1, Cert.Reference36Ideal.Read.val_main_v19_eq, (h c).1, (h c).2.1]
    exact reference_gain _ _

theorem frame_kernel : Cert.quiescent_Kernel36 := by
  intro m ρ _
  rw [show Cert.Kernel36.defs (F := Bits) = defs (F := Bits) by chain_rfl, show Cert.Kernel36.main (F := Bits) = main (F := Bits) by chain_rfl]
  exact Gen.frame (F := Bits) m ρ

theorem frame_ideal : Cert.quiescent_Kernel36Ideal := fun m ρ _ => Gen.frame (F := Ideal) m ρ

theorem frame_reference : Cert.quiescent_Reference36Ideal := fun m ρ _ =>
  (θ_run _ _ _).mono (fun r h => ⟨fun c => (h c).2.2, sem_eq_zero_of_no_sems (by decide) r.2⟩)
    (Cert.Reference36Ideal.Value.run (F := Ideal) m ρ)

end Cert.Proof.NormMeta

end
-- ==== Proof.NormLast.lean ====
module

public import proofs.«01_k».proof.Defs
public import proofs.«01_k».proof.Proof.NormBack
public import proofs.«01_k».proof.Proof.Gen.Kernel37
public import proofs.«01_k».proof.Proof.Gen.Kernel37Ideal
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import Idealize.ShloMosaic.Lib.Pipeline.ValueKit
public import Idealize.ShloMosaic.Lib.Pipeline.Regions
public import Idealize.ShloMosaic.Adequacy
public import Idealize.ShloMosaic.Init
/-! # The gradient through the last norm: the call of the mixer's norm with another literal, so the second result is the first
one rounded to bfloat16. The block facts and the reference's terms are those of the mixer's norm. -/

@[expose] public section

set_option maxRecDepth 16384

noncomputable section

namespace Cert.Proof.NormLast

open Cert.Kernel37Ideal Cert.Kernel37Ideal.Gen
open NormFirst (row gained share hand sumHand)
open NormBack (input gain part)
open Idealize.ShloMosaic Idealize.ShloMosaic.TcCoe Idealize.SL.Sem

variable (m : (ℓ : Loc nD τ sig) → Buf (Elt Ideal) ℓ)

/-- The gradient in bfloat16, for the output projection before. -/
def low (dn h : FVec Ideal S4352x2048 .f32) (g : FVec Ideal S1x2048 .f32) (dh : FVec Ideal S4352x2048 .f32) : FVec Ideal S4352x2048 .bf16 := input dn h g dh

theorem one_eq : Ideal.ofBits .f32 0x3F800000#32 = (1 : EReal) := by
  simp [Ideal.ofBits, Ideal.ieee, -EReal.coe_mul]; norm_num

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0])

section Block

variable (x0 x1 x2 : Vec Ideal S256x2048 .f32) (x3 : Vec Ideal S1x2048 .f32)

theorem hand_value (y) : k0_pay4 x0 x1 x2 x3 y = hand x0 x1 x2 x3 y := NormBack.hand_value x0 x1 x2 x3 y

theorem low_value (y) : k0_pay6 x0 x1 x2 x3 y = hand x0 x1 x2 x3 y := by
  rw [← hand_value]
  refine Eq.trans ?_ (one_mul _)
  rw [← one_eq]
  rfl

theorem sum_value (acc : Vec Ideal S1x2048 .f32) (y) : k0_pay2 (k0_pay5 x0 x1) acc y = (acc y : EReal) + sumHand x0 x1 (y 1) :=
  NormBack.sum_value x0 x1 acc y

theorem zero_value (y) : k0_pay1 (F := Ideal) y = 0 := NormBack.zero_value y

end Block

section Points

variable (c : Dev nD) (t : Fin cfg0.N)

theorem placed (y : S256x2048.Idx) (i : S4352x2048.Idx) (h0 : (i 0 : ℕ) = t.val * 256 + y 0) (h1 : (i 1 : ℕ) = y 1) :
    hand (iblk m c 0 t) (iblk m c 1 t) (iblk m c 2 t) (iblk m c 3 t) y
    = input (m ((c : Thread nD τ).loc main_arg0)) (m ((c : Thread nD τ).loc main_arg1)) (m ((c : Thread nD τ).loc main_arg2)) (m ((c : Thread nD τ).loc main_arg3)) i := by
  unfold hand input row gained
  blk_point [iblk, V, idx t]

theorem placed_sum (j e : Fin 2048) (s : Fin 17) (h : e = j) (hs : (s : ℕ) = t.val) :
    sumHand (iblk m c 0 t) (iblk m c 1 t) j = part (m ((c : Thread nD τ).loc main_arg0)) (m ((c : Thread nD τ).loc main_arg1)) e s := by
  unfold sumHand part share row
  blk_point [iblk, V, idx t]

theorem written_low (y) : ((outsAt0 m c t.val t.isLt).2.1 y : EReal)
    = hand (iblk m c 0 t) (iblk m c 1 t) (iblk m c 2 t) (iblk m c 3 t) y := by
  by_cases h : t.val % 17 = 0
  · rw [outsAt0_A m c t h]
    frame_out
    exact low_value _ _ _ _ y
  · rw [outsAt0_B m c t h]
    frame_out
    exact low_value _ _ _ _ y

theorem written (y) : ((outsAt0 m c t.val t.isLt).1 y : EReal) = hand (iblk m c 0 t) (iblk m c 1 t) (iblk m c 2 t) (iblk m c 3 t) y := by
  by_cases h : t.val % 17 = 0
  · rw [outsAt0_A m c t h]
    frame_out
    exact hand_value _ _ _ _ y
  · rw [outsAt0_B m c t h]
    frame_out
    exact hand_value _ _ _ _ y

variable (y : S1x2048.Idx) (e : Fin 2048) (he : e = y 1)

include he

theorem first (h : t.val % 17 = 0) : ((outsAt0 m c t.val t.isLt).2.2 y : EReal)
    = part (m ((c : Thread nD τ).loc main_arg0)) (m ((c : Thread nD τ).loc main_arg1)) e ⟨t.val, t.isLt⟩ := by
  rw [outsAt0_A m c t h]
  frame_out
  rw [sum_value, zero_value, placed_sum m c t (y 1) e ⟨t.val, t.isLt⟩ he rfl]
  exact zero_add _

theorem next (h : ¬t.val % 17 = 0) : ((outsAt0 m c t.val t.isLt).2.2 y : EReal)
    = ((outsAt0 m c (t.val - 1) (Nat.lt_of_le_of_lt (Nat.sub_le _ _) t.isLt)).2.2 y : EReal)
      + part (m ((c : Thread nD τ).loc main_arg0)) (m ((c : Thread nD τ).loc main_arg1)) e ⟨t.val, t.isLt⟩ := by
  rw [outsAt0_B m c t h]
  frame_out
  rw [sum_value, placed_sum m c t (y 1) e ⟨t.val, t.isLt⟩ he rfl]

end Points

/-- The running row holds the shares of the points so far. -/
theorem running (c : Dev nD) (y : S1x2048.Idx) (e : Fin 2048) (he : e = y 1) (r : ℕ) (hr : r < 17) :
    ((outsAt0 m c r hr).2.2 y : EReal)
    = ∑ s : Fin (r + 1), part (m ((c : Thread nD τ).loc main_arg0)) (m ((c : Thread nD τ).loc main_arg1)) e ⟨s, by omega⟩ := by
  induction r with
  | zero =>
    rw [Fin.sum_univ_one]
    exact first m c ⟨0, hr⟩ y e he rfl
  | succ r ih =>
    rw [Fin.sum_univ_castSucc (n := r + 1)]
    refine (next m c ⟨r + 1, hr⟩ y e he (by simp only; omega)).trans ?_
    exact congrArg (fun z : EReal => z + _) (ih (by omega))

theorem final_input (c : Dev nD) : (dats m 0 c).arrAt 4 (cfgs 0).N = input (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, written]
  refine placed m c t y _ ?_ ?_ <;> blk_simp [idx t] <;> omega

theorem final_low (c : Dev nD) : (dats m 0 c).arrAt 5 (cfgs 0).N = low (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, written_low]
  refine placed m c t y _ ?_ ?_ <;> blk_simp [idx t] <;> omega

theorem final_gain (c : Dev nD) : (dats m 0 c).arrAt 6 (cfgs 0).N = gain (m ((c : Thread nD τ).loc main_arg0)) (m ((c : Thread nD τ).loc main_arg1)) := by
  refine (dats m 0 c).arrAt_eq_of_covers 6 _ (by decide +kernel) fun t hf y => ?_
  have h := (flush0_6 t).mp hf
  have lt : t.val < 17 := t.isLt
  blk_simp
  rw [after0_6]
  have e : ((cfg0.win 6).blk t).view.emb y 1 = y 1 := Fin.ext (by blk_simp [idx t])
  obtain ⟨t, ht⟩ := t
  obtain rfl : t = 16 := by simp only at h lt; omega
  refine (running m c y (((cfg0.win 6).blk ⟨16, ht⟩).view.emb y 1) e 16 (by omega)).trans ?_
  unfold part gain
  exact Fin.sum_mul_add_congr fun s k hl => rfl

section Reference

open Cert.Reference37Ideal.Read

variable (dn h : FVec Ideal S4352x2048 .f32) (g : FVec Ideal S1x2048 .f32) (dh : FVec Ideal S4352x2048 .f32)

theorem reference_gain : val_main_v17 (F := Ideal) dn h = gain dn h := NormBack.reference_gain dn h

theorem reference_input : val_main_v34 (F := Ideal) dn h g dh = input dn h g dh := NormBack.reference_input dn h g dh

theorem reference_low : val_main_v35 (F := Ideal) dn h g dh = low dn h g dh := reference_input dn h g dh

end Reference

/-- From memories agreeing on the arguments, the call and its reference end with the same three results. -/
theorem algebraic : Cert.algebraic_Kernel37Ideal_Reference37Ideal := by
  intro m g m' g' _ h
  refine ⟨fun c => input (m ((c : Thread nD τ).loc main_arg0)) (m ((c : Thread nD τ).loc main_arg1))
      (m ((c : Thread nD τ).loc main_arg2)) (m ((c : Thread nD τ).loc main_arg3)),
    fun c => low (m ((c : Thread nD τ).loc main_arg0)) (m ((c : Thread nD τ).loc main_arg1))
      (m ((c : Thread nD τ).loc main_arg2)) (m ((c : Thread nD τ).loc main_arg3)),
    fun c => gain (m ((c : Thread nD τ).loc main_arg0)) (m ((c : Thread nD τ).loc main_arg1)),
    (θ_run _ _ _).mono (fun r hr c => ⟨(hr c).1.trans (final_input m c), (hr c).2.1.trans (final_low m c),
      (hr c).2.2.1.trans (final_gain m c), (hr c).2.2.2⟩) (Cert.Kernel37Ideal.Value.run_blocks m g),
    (θ_run _ _ _).mono (fun r hr c => ⟨?_, ?_, ?_, (hr c).2.2.2⟩) (Cert.Reference37Ideal.Value.run m' g')⟩
  · rw [(hr c).1, Cert.Reference37Ideal.Read.val_main_v34_eq, (h c).1, (h c).2.1, (h c).2.2.1, (h c).2.2.2]
    exact reference_input _ _ _ _
  · rw [(hr c).2.1, Cert.Reference37Ideal.Read.val_main_v35_eq, (h c).1, (h c).2.1, (h c).2.2.1, (h c).2.2.2]
    exact reference_low _ _ _ _
  · rw [(hr c).2.2.1, Cert.Reference37Ideal.Read.val_main_v17_eq, (h c).1, (h c).2.1]
    exact reference_gain _ _

theorem frame_kernel : Cert.quiescent_Kernel37 := by
  intro m ρ _
  rw [show Cert.Kernel37.defs (F := Bits) = defs (F := Bits) by chain_rfl, show Cert.Kernel37.main (F := Bits) = main (F := Bits) by chain_rfl]
  exact Gen.frame (F := Bits) m ρ

theorem frame_ideal : Cert.quiescent_Kernel37Ideal := fun m ρ _ => Gen.frame (F := Ideal) m ρ

theorem frame_reference : Cert.quiescent_Reference37Ideal := fun m ρ _ =>
  (θ_run _ _ _).mono (fun r h => ⟨fun c => (h c).2.2.2, sem_eq_zero_of_no_sems (by decide) r.2⟩)
    (Cert.Reference37Ideal.Value.run (F := Ideal) m ρ)

end Cert.Proof.NormLast

end
-- ==== Proof.Running.lean ====
module

public import proofs.«01_k».proof.Defs
public import proofs.«01_k».proof.Proof.Finite
public import proofs.«01_k».proof.Proof.Gen.Pre_all_finite
public import Idealize.ShloMosaic.Lib.Pipeline.ValueKit
public import Idealize.ShloMosaic.Lib.Routing.OpsOne
public import Idealize.ShloMosaic.Lib.Pipeline.Regions
public import Idealize.ShloMosaic.Adequacy
public import Idealize.ShloMosaic.Init
/-! # Running sums down a column: the host's window sum, and a tile's part of it. -/

@[expose] public section

set_option maxRecDepth 16384

noncomputable section

namespace Cert.Proof.Running

open Idealize.ShloMosaic Idealize.ShloMosaic.TcCoe Idealize.SL.Sem

/-- A fold of sums is the starting value plus the sum. -/
theorem fold_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- A masked sum is another one plus a block's part, if the two masks agree outside the block and the second is empty there. -/
theorem split {n b : ℕ} (f : Fin n → EReal) (P Q : Fin n → Prop) (R : Fin b → Prop) [DecidablePred P] [DecidablePred Q] [DecidablePred R]
    (a : ℕ) (ha : a + b ≤ n) (hin : ∀ k : Fin b, ¬Q ⟨a + k, by omega⟩ ∧ (P ⟨a + k, by omega⟩ ↔ R k))
    (hout : ∀ w : Fin n, w.val < a ∨ a + b ≤ w.val → (P w ↔ Q w)) :
    (∑ w, if P w then f w else 0) = (∑ k : Fin b, if R k then f ⟨a + k, by omega⟩ else 0) + ∑ w, if Q w then f w else 0 := by
  let e : Fin b ↪ Fin n := ⟨fun k => ⟨a + k, by omega⟩, fun x y h => Fin.ext (by have := congrArg Fin.val h; dsimp only at this; omega)⟩
  rw [← Finset.sum_add_sum_compl (Finset.univ.map e) (fun w => if P w then f w else 0),
    ← Finset.sum_add_sum_compl (Finset.univ.map e) (fun w => if Q w then f w else 0), Finset.sum_map, Finset.sum_map]
  have h1 : (∑ k : Fin b, if P (e k) then f (e k) else 0) = ∑ k : Fin b, if R k then f ⟨a + k, by omega⟩ else 0 :=
    Finset.sum_congr rfl fun k _ => if_congr (hin k).2 rfl rfl
  have h2 : (∑ k : Fin b, if Q (e k) then f (e k) else 0) = 0 := Finset.sum_eq_zero fun k _ => if_neg (hin k).1
  rw [h1, h2, zero_add]
  refine congrArg (fun z : EReal => _ + z) (Finset.sum_congr rfl fun w hw => if_congr (hout w ?_) rfl rfl)
  by_contra h
  rw [Finset.mem_compl, Finset.mem_map] at hw
  exact hw ⟨⟨w.val - a, by omega⟩, Finset.mem_univ _, Fin.ext (by change a + (w.val - a) = w.val; omega)⟩

/-- The host's sum over a window of the whole height, padded by `L` before the first row. -/
theorem window {R C L H : ℕ} (x : (Routing.shape2 R C).Idx → EReal) (init : EReal) (hinit : init = 0)
    (h : (Routing.shape2 R C).ReduceWindows (![R, 1] : Fin 2 → Nat) ![1, 1] ![L, 0] ![H, 0] (Routing.shape2 R C)) (j : Fin R) (c : Fin C) :
    Ideal.hostReduceWindowAdd (![R, 1] : Fin 2 → Nat) ![1, 1] ![L, 0] ![H, 0] h x init (ix2 j c)
    = ∑ w : Fin R, if j.val ≤ w.val + L ∧ w.val + L < j.val + R then x (ix2 w c) else 0 := by
  have hc := c.isLt
  unfold Ideal.hostReduceWindowAdd Host.reduceWindow
  refine (fold_add _ _ _).trans ?_
  rw [← Fin.sum_univ_def, hinit, zero_add]
  let g : ℕ → EReal := fun k => if h : k < R then x (ix2 ⟨k, h⟩ c) else 0
  refine Eq.trans (b := ∑ n : Fin (Routing.shape2 R 1).numel, if L ≤ j.val + n.val ∧ j.val + n.val - L < R then g (j.val + n.val - L) else 0)
    (Finset.sum_congr rfl fun n _ => ?_) ?_
  · have hn := n.isLt
    have hw0 : ((Routing.shape2 R 1).rowMajor.symm n 0).val = n.val := by rw [Routing.symm_col]; rfl
    have hw1 : ((Routing.shape2 R 1).rowMajor.symm n 1).val = 0 := by rw [Routing.symm_col]; rfl
    split
    · next hin =>
      have h0 := hin 0
      change L ≤ j.val * 1 + ((Routing.shape2 R 1).rowMajor.symm n 0).val ∧ j.val * 1 + ((Routing.shape2 R 1).rowMajor.symm n 0).val - L < R at h0
      rw [hw0, Nat.mul_one] at h0
      rw [if_pos h0]
      refine Eq.trans ?_ (dif_pos h0.2).symm
      refine congrArg x (funext fun a => Fin.ext ?_)
      match a with
      | ⟨0, _⟩ =>
        show j.val * 1 + ((Routing.shape2 R 1).rowMajor.symm n 0).val - L = j.val + n.val - L
        rw [hw0, Nat.mul_one]
      | ⟨1, _⟩ =>
        show c.val * 1 + ((Routing.shape2 R 1).rowMajor.symm n 1).val - 0 = c.val
        rw [hw1]
        omega
    · next hin =>
      rw [if_neg fun hle => hin fun a => by
        match a with
        | ⟨0, _⟩ =>
          show L ≤ j.val * 1 + ((Routing.shape2 R 1).rowMajor.symm n 0).val ∧ j.val * 1 + ((Routing.shape2 R 1).rowMajor.symm n 0).val - L < R
          rw [hw0]
          omega
        | ⟨1, _⟩ =>
          show 0 ≤ c.val * 1 + ((Routing.shape2 R 1).rowMajor.symm n 1).val ∧ c.val * 1 + ((Routing.shape2 R 1).rowMajor.symm n 1).val - 0 < C
          rw [hw1]
          omega]
  have e := Routing.numel_col R
  have gw (w : Fin R) : x (ix2 w c) = g w.val := by dsimp only [g]; rw [dif_pos w.isLt]
  simp only [gw]
  rw [← Finset.sum_filter, ← Finset.sum_filter]
  refine Finset.sum_bij' (fun n hn => ⟨j.val + n.val - L, (Finset.mem_filter.mp hn).2.2⟩)
    (fun w hw => ⟨w.val + L - j.val, by have := (Finset.mem_filter.mp hw).2; omega⟩) ?_ ?_ ?_ ?_ ?_
  · intro n hn
    have := (Finset.mem_filter.mp hn).2
    have := n.isLt
    exact Finset.mem_filter.mpr ⟨Finset.mem_univ _, by dsimp only; omega⟩
  · intro w hw
    have := (Finset.mem_filter.mp hw).2
    have := w.isLt
    exact Finset.mem_filter.mpr ⟨Finset.mem_univ _, by dsimp only; omega⟩
  · intro n hn
    have := (Finset.mem_filter.mp hn).2
    exact Fin.ext (by dsimp only; omega)
  · intro w hw
    have := (Finset.mem_filter.mp hw).2
    exact Fin.ext (by dsimp only; omega)
  · intro n hn
    rfl

theorem inf : Ideal.ofBits .f32 0x7F800000#32 = ⊤ := by simp [Ideal.ofBits, Ideal.ieee]

/-- The precondition, element by element. -/
theorem finite (x : FVec Ideal (Routing.shape2 4352 128) .f32) (h : Cert.Pre_all_finite.fn (F := Ideal) x = fun _ => 1#1) (i) : Finite.IsReal (x i) := by
  have h := congrFun h (fun a => a.elim0)
  simp only [Cert.Pre_all_finite.fn] at h
  refine Finite.of_lt _ (Eq.trans (congrArg (fun z => Ideal.cmp .olt _ z) (Finite.inf_bf16.trans inf.symm))
    (Host.reduce_andi_eq_one _ _ _ _ _ h i (funext fun a => a.elim0)))

/-- A finite number less itself. -/
theorem rest {x : EReal} (h : Finite.IsReal x) : x - x = 0 := by
  obtain ⟨r, rfl⟩ := h
  exact (EReal.coe_sub r r).symm.trans (by rw [sub_self]; rfl)

/-- The same of the host's operation. -/
theorem host_window {R C L H : ℕ} {u : Shape} (x : FVec Ideal (Routing.shape2 R C) .f32) (init : FVec Ideal u .f32)
    (h : (Routing.shape2 R C).ReduceWindows (![R, 1] : Fin 2 → Nat) ![1, 1] ![L, 0] ![H, 0] (Routing.shape2 R C)) (hu : 0 < u.numel)
    (hinit : (init (Shape.Idx.first hu) : EReal) = 0) (j : Fin R) (c : Fin C) :
    Host.reduceWindowAdd (![R, 1] : Fin 2 → Nat) ![1, 1] ![L, 0] ![H, 0] x init h hu (ix2 j c)
    = ∑ w : Fin R, if j.val ≤ w.val + L ∧ w.val + L < j.val + R then (x (ix2 w c) : EReal) else 0 :=
  window x _ hinit h j c

/-- A comparison's bit, as a number, is a mask. -/
theorem mask (p : Prop) [Decidable p] (x : EReal) :
    (FloatOps.sitofp (F := Ideal) .f32 (BitVec.setWidth 32 (BitVec.ofBool (decide p))) : EReal) * x = if p then x else 0 := by
  by_cases h : p
  · rw [if_pos h, decide_eq_true h]
    refine Eq.trans (congrArg (fun z : EReal => z * x) ?_) (one_mul x)
    change (((BitVec.setWidth 32 (BitVec.ofBool true)).toInt : ℝ) : EReal) = 1
    rw [show (BitVec.setWidth 32 (BitVec.ofBool true)).toInt = 1 by decide]
    norm_num
  · rw [if_neg h, decide_eq_false h]
    refine Eq.trans (congrArg (fun z : EReal => z * x) ?_) (zero_mul x)
    change (((BitVec.setWidth 32 (BitVec.ofBool false)).toInt : ℝ) : EReal) = 0
    rw [show (BitVec.setWidth 32 (BitVec.ofBool false)).toInt = 0 by decide]
    norm_num

/-- The masked sum of the second part is nothing. -/
theorem no_rest {n : ℕ} (p : Fin n → BitVec 32) (x : Fin n → EReal) (h : ∀ k, Finite.IsReal (x k)) :
    ∑ k, (FloatOps.sitofp (F := Ideal) .f32 (p k) : EReal) * (x k - x k) = 0 :=
  Finset.sum_eq_zero fun k _ => by rw [rest (h k), mul_zero]

end Cert.Proof.Running

end
-- ==== Proof.RunForward.lean ====
module

public import proofs.«01_k».proof.Defs
public import proofs.«01_k».proof.Proof.Running
public import proofs.«01_k».proof.Proof.Gen.Kernel38
public import proofs.«01_k».proof.Proof.Gen.Kernel38Ideal
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import Idealize.ShloMosaic.Lib.Pipeline.ValueKit
public import Idealize.ShloMosaic.Lib.Pipeline.Regions
public import Idealize.ShloMosaic.Adequacy
public import Idealize.ShloMosaic.Init
public import Idealize.ShloMosaic.Lib.WordCmp

/-! # The running sum of the forget gates' logarithms, tile by tile, for a finite argument. A tile's sums are a product with a matrix
of zeros and ones; the last row is carried into the next tile. -/

@[expose] public section

set_option maxRecDepth 16384

noncomputable section

namespace Cert.Proof.RunForward

open Cert.Kernel38Ideal Cert.Kernel38Ideal.Gen
open Idealize.ShloMosaic Idealize.ShloMosaic.TcCoe Idealize.SL.Sem

/-- The sum of the first `n` rows of column `j`. -/
def part (x : FVec Ideal S4352x128 .f32) (j : Fin 128) (n : ℕ) : EReal := ∑ w : Fin 4352, if w.val < n then (x (ix2 w j) : EReal) else 0

def total (x : FVec Ideal S4352x128 .f32) : FVec Ideal S4352x128 .f32 := fun i => part x (i 1) ((i 0).val + 1)

theorem idx : ∀ t : Fin cfg0.N, win0_0.index t = ![t.val, 0] ∧ win0_1.index t = ![t.val, 0] :=
  (by decide +kernel : ∀ t : Fin grid0.N, win0_0.index t = ![t.val, 0] ∧ win0_1.index t = ![t.val, 0])

section Block

variable (x : Vec Ideal S256x128 .f32) (a : Vec Ideal S1x128 .f32) (fin : ∀ i, Finite.IsReal (x i))

include fin

/-- A tile's running sums, over what is carried in. -/
theorem run_value (y) : k0_pay2 x a y = (∑ k : Fin 256, if k.val ≤ (y 0).val then (x (ix2 k (y 1)) : EReal) else 0) + (a (ix2 0 (y 1)) : EReal) := by
  idx_vars y
  pointwise [k0_pay2]
  rw [Running.no_rest _ _ fun k => fin _, add_zero]
  refine congrArg (fun z : EReal => z + _) (Finset.sum_congr rfl fun k _ => ?_)
  have := k.isLt
  have := y0.isLt
  rw [WordCmp.cmpi_sle_ofNat (by omega) (by omega)]
  exact Running.mask _ _

theorem carry_value (y) : k0_pay3 x a y = (∑ k : Fin 256, if k.val ≤ 255 then (x (ix2 k (y 1)) : EReal) else 0) + (a (ix2 0 (y 1)) : EReal) := by
  refine Eq.trans ?_ (run_value x a fin (ix2 255 (y 1)))
  idx_vars y
  pointwise [k0_pay3]

end Block

theorem zero_value (y) : k0_pay1 (F := Ideal) y = 0 := by pointwise [k0_pay1]

variable (m : (ℓ : Loc nD τ sig) → Buf (Elt Ideal) ℓ)

section Points

variable (c : Dev nD) (fin : ∀ i, Finite.IsReal ((m ((c : Thread nD τ).loc main_arg0)) i))

/-- A tile of the argument. -/
abbrev tile (t : Fin cfg0.N) : Vec Ideal S256x128 .f32 := iblk m c 0 t

theorem placed (t : Fin cfg0.N) (k : Fin 256) (j : Fin 128) (w : Fin 4352) (h : w.val = t.val * 256 + k.val) : tile m c t (ix2 k j) = (m ((c : Thread nD τ).loc main_arg0)) (ix2 w j) := by
  unfold tile
  blk_point [iblk, V, idx t]

include fin in
theorem placed_real (t : Fin cfg0.N) (i) : Finite.IsReal (tile m c t i) := by
  have ht : t.val < 17 := t.isLt
  idx_vars i
  rw [placed m c t i0 i1 ⟨t.val * 256 + i0.val, by have := i0.isLt; omega⟩ rfl]
  exact fin _

/-- A tile's part and the parts before it. -/
theorem step (t : Fin cfg0.N) (j : Fin 128) (r : Fin 256) : (∑ k : Fin 256, if k.val ≤ r.val then (tile m c t (ix2 k j) : EReal) else 0)
    + part (m ((c : Thread nD τ).loc main_arg0)) j (t.val * 256) = part (m ((c : Thread nD τ).loc main_arg0)) j (t.val * 256 + r.val + 1) := by
  have ht : t.val < 17 := t.isLt
  have hr := r.isLt
  have hb : t.val * 256 + 256 ≤ 4352 := by omega
  refine Eq.symm ((Running.split (fun w => ((m ((c : Thread nD τ).loc main_arg0)) (ix2 w j) : EReal)) (fun w => w.val < (t.val * 256 + r.val + 1)) (fun w => w.val < (t.val * 256)) (fun k => k.val ≤ r.val)
    (t.val * 256) hb (fun k => ?_) (fun w hw => ?_)).trans ?_)
  · have := k.isLt
    constructor
    · simp only; omega
    · simp only; omega
  · omega
  · refine congrArg (fun z : EReal => z + _) (Finset.sum_congr rfl fun k _ => ?_)
    rw [placed m c t k j ⟨_, (Nat.add_lt_add_left k.isLt _).trans_le hb⟩ rfl]

theorem first (t : Fin cfg0.N) (h : t.val = 0) (j : Fin 128) : part (m ((c : Thread nD τ).loc main_arg0)) j (t.val * 256) = 0 := by
  refine Finset.sum_eq_zero fun w _ => if_neg ?_
  have := w.isLt
  omega

/-- What is carried out of a tile, over what is carried in. -/
theorem carry_step (t : Fin cfg0.N) (a : Vec Ideal S1x128 .f32) (y : S1x128.Idx) (real : ∀ i, Finite.IsReal (tile m c t i))
    (h : (a (ix2 0 (y 1)) : EReal) = part (m ((c : Thread nD τ).loc main_arg0)) (y 1) (t.val * 256)) : k0_pay3 (tile m c t) a y = part (m ((c : Thread nD τ).loc main_arg0)) (y 1) (t.val * 256 + 255 + 1) :=
  ((carry_value _ _ real y).trans (congrArg (fun z : EReal => _ + z) h)).trans (step m c t (y 1) 255)

theorem run_step (t : Fin cfg0.N) (a : Vec Ideal S1x128 .f32) (y : S256x128.Idx) (real : ∀ i, Finite.IsReal (tile m c t i))
    (h : (a (ix2 0 (y 1)) : EReal) = part (m ((c : Thread nD τ).loc main_arg0)) (y 1) (t.val * 256)) : k0_pay2 (tile m c t) a y = part (m ((c : Thread nD τ).loc main_arg0)) (y 1) (t.val * 256 + (y 0).val + 1) :=
  ((run_value _ _ real y).trans (congrArg (fun z : EReal => _ + z) h)).trans (step m c t (y 1) (y 0))

include fin

/-- The carried row holds the tiles so far. -/
theorem carried (n : ℕ) (hn : n < cfg0.N) (y : S1x128.Idx) : ((outsAt0 m c n hn).2 y : EReal) = part (m ((c : Thread nD τ).loc main_arg0)) (y 1) (n * 256 + 255 + 1) := by
  induction n generalizing y with
  | zero =>
    rw [outsAt0_A m c ⟨0, hn⟩ rfl]
    frame_out
    exact carry_step m c ⟨0, hn⟩ _ y (placed_real m c fin _) ((zero_value _).trans (first m c ⟨0, hn⟩ rfl (y 1)).symm)
  | succ n ih =>
    have lt : n + 1 < 17 := hn
    rw [outsAt0_B m c ⟨n + 1, hn⟩ (by simp only; omega)]
    frame_out
    refine carry_step m c ⟨n + 1, hn⟩ _ y (placed_real m c fin _) (((congrFun ((Memref.isWhole_whole cc0_scratch0).read_unread _) _).trans (ih (Nat.lt_of_succ_lt hn) _)).trans ?_)
    exact congrArg (part _ _) (by simp only; omega)

theorem written (t : Fin cfg0.N) (y : S256x128.Idx) : ((outsAt0 m c t.val t.isLt).1 y : EReal) = part (m ((c : Thread nD τ).loc main_arg0)) (y 1) (t.val * 256 + (y 0).val + 1) := by
  have ht : t.val < 17 := t.isLt
  by_cases h : t.val % 17 = 0
  · rw [outsAt0_A m c t h]
    frame_out
    exact run_step m c t _ y (placed_real m c fin _) ((zero_value _).trans (first m c t (by omega) (y 1)).symm)
  · rw [outsAt0_B m c t h]
    frame_out
    refine run_step m c t _ y (placed_real m c fin _) (((congrFun ((Memref.isWhole_whole cc0_scratch0).read_unread _) _).trans (carried m c fin _ _ _)).trans ?_)
    exact congrArg (part _ _) (by omega)

theorem final : (dats m 0 c).arrAt 1 (cfgs 0).N = total (m ((c : Thread nD τ).loc main_arg0)) := by
  refine (dats m 0 c).arrAt_eq_of_covers 1 _ (by decide +kernel) fun t _ y => ?_
  have ht : t.val < 17 := t.isLt
  blk_simp
  rw [after0_1]
  refine (written m c fin t y).trans ?_
  unfold total
  refine congrArg₂ (part _) (Fin.ext ?_) ?_ <;> blk_simp [idx t] <;> omega

end Points

open Cert.Reference38Ideal.Read

theorem reference (x : FVec Ideal S4352x128 .f32) : val_main_v0 (F := Ideal) x = total x := by
  funext i
  obtain ⟨w, j, rfl⟩ : ∃ w j, i = ix2 w j := ⟨i 0, i 1, by funext a; fin_cases a <;> rfl⟩
  unfold val_main_v0
  rw [Running.host_window (R := 4352) (C := 128) (L := 4351) (H := 0) x _ _ _ ?_ w j]
  unfold total part
  refine Finset.sum_congr rfl fun k _ => if_congr ?_ rfl rfl
  rotate_left
  · pointwise [val_main_call0_v0, val_main_call0_cst]
  · have := k.isLt
    have := w.isLt
    change _ ↔ k.val < w.val + 1
    omega

/-- From memories agreeing on a finite argument, the call and its reference end with the same sums. -/
theorem algebraic : Cert.algebraic_Kernel38Ideal_Reference38Ideal_pre_all_finite := by
  intro m g m' g' p h
  refine ⟨fun c => total (m ((c : Thread nD τ).loc main_arg0)),
    (θ_run _ _ _).mono (fun r hr c => ⟨(hr c).1.trans (final m c (Running.finite _ (p c))), (hr c).2⟩) (Cert.Kernel38Ideal.Value.run_blocks m g),
    (θ_run _ _ _).mono (fun r hr c => ⟨?_, (hr c).2⟩) (Cert.Reference38Ideal.Value.run m' g')⟩
  rw [(hr c).1, val_main_v0_eq, h c]
  exact reference _

theorem frame_kernel : Cert.quiescent_Kernel38 := by
  intro m ρ _
  rw [show Cert.Kernel38.defs (F := Bits) = defs (F := Bits) by chain_rfl, show Cert.Kernel38.main (F := Bits) = main (F := Bits) by chain_rfl]
  exact Gen.frame (F := Bits) m ρ

theorem frame_ideal : Cert.quiescent_Kernel38Ideal := fun m ρ _ => Gen.frame (F := Ideal) m ρ

theorem frame_ideal_finite : Cert.quiescent_Kernel38Ideal_pre_all_finite := fun m ρ _ => Gen.frame (F := Ideal) m ρ

theorem frame_reference : Cert.quiescent_Reference38Ideal := fun m ρ _ =>
  (θ_run _ _ _).mono (fun r h => ⟨fun c => (h c).2, sem_eq_zero_of_no_sems (by decide) r.2⟩)
    (Cert.Reference38Ideal.Value.run (F := Ideal) m ρ)

theorem frame_reference_finite : Cert.quiescent_Reference38Ideal_pre_all_finite := fun m ρ _ => frame_reference m ρ trivial

end Cert.Proof.RunForward

end
-- ==== Proof.RunBack.lean ====
module

public import proofs.«01_k».proof.Defs
public import proofs.«01_k».proof.Proof.Running
public import proofs.«01_k».proof.Proof.Gen.Kernel39
public import proofs.«01_k».proof.Proof.Gen.Kernel39Ideal
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import Idealize.ShloMosaic.Lib.Pipeline.ValueKit
public import Idealize.ShloMosaic.Lib.Pipeline.Regions
public import Idealize.ShloMosaic.Adequacy
public import Idealize.ShloMosaic.Init
public import Idealize.ShloMosaic.Lib.WordCmp

/-! # The running sum's gradient: the sums from the last row back, tile by tile, for a finite argument. The first row of a tile is
carried into the tile before it. -/

@[expose] public section

set_option maxRecDepth 16384

noncomputable section

namespace Cert.Proof.RunBack

open Cert.Kernel39Ideal Cert.Kernel39Ideal.Gen
open Idealize.ShloMosaic Idealize.ShloMosaic.TcCoe Idealize.SL.Sem

/-- The sum of the rows from `n` on, of column `j`. -/
def part (x : FVec Ideal S4352x128 .f32) (j : Fin 128) (n : ℕ) : EReal := ∑ w : Fin 4352, if n ≤ w.val then (x (ix2 w j) : EReal) else 0

def total (x : FVec Ideal S4352x128 .f32) : FVec Ideal S4352x128 .f32 := fun i => part x (i 1) ((i 0).val)

theorem idx : ∀ t : Fin cfg0.N, win0_0.index t = ![16 - t.val, 0] ∧ win0_1.index t = ![16 - t.val, 0] :=
  (by decide +kernel : ∀ t : Fin grid0.N, win0_0.index t = ![16 - t.val, 0] ∧ win0_1.index t = ![16 - t.val, 0])

section Block

variable (x : Vec Ideal S256x128 .f32) (a : Vec Ideal S1x128 .f32) (fin : ∀ i, Finite.IsReal (x i))

include fin

/-- A tile's running sums, over what is carried in. -/
theorem run_value (y) : k0_pay2 x a y = (∑ k : Fin 256, if (y 0).val ≤ k.val then (x (ix2 k (y 1)) : EReal) else 0) + (a (ix2 0 (y 1)) : EReal) := by
  idx_vars y
  pointwise [k0_pay2]
  rw [Running.no_rest _ _ fun k => fin _, add_zero]
  refine congrArg (fun z : EReal => z + _) (Finset.sum_congr rfl fun k _ => ?_)
  have := k.isLt
  have := y0.isLt
  rw [WordCmp.cmpi_sge_ofNat (by omega) (by omega)]
  exact Running.mask _ _

theorem carry_value (y) : k0_pay3 x a y = (∑ k : Fin 256, if 0 ≤ k.val then (x (ix2 k (y 1)) : EReal) else 0) + (a (ix2 0 (y 1)) : EReal) := by
  refine Eq.trans ?_ (run_value x a fin (ix2 0 (y 1)))
  idx_vars y
  pointwise [k0_pay3]

end Block

theorem zero_value (y) : k0_pay1 (F := Ideal) y = 0 := by pointwise [k0_pay1]

variable (m : (ℓ : Loc nD τ sig) → Buf (Elt Ideal) ℓ)

section Points

variable (c : Dev nD) (fin : ∀ i, Finite.IsReal ((m ((c : Thread nD τ).loc main_arg0)) i))

/-- A tile of the argument. -/
abbrev tile (t : Fin cfg0.N) : Vec Ideal S256x128 .f32 := iblk m c 0 t

theorem placed (t : Fin cfg0.N) (k : Fin 256) (j : Fin 128) (w : Fin 4352) (h : w.val = (16 - t.val) * 256 + k.val) : tile m c t (ix2 k j) = (m ((c : Thread nD τ).loc main_arg0)) (ix2 w j) := by
  unfold tile
  blk_point [iblk, V, idx t]

include fin in
theorem placed_real (t : Fin cfg0.N) (i) : Finite.IsReal (tile m c t i) := by
  have ht : t.val < 17 := t.isLt
  idx_vars i
  rw [placed m c t i0 i1 ⟨(16 - t.val) * 256 + i0.val, by have := i0.isLt; omega⟩ rfl]
  exact fin _

/-- A tile's part and the parts before it. -/
theorem step (t : Fin cfg0.N) (j : Fin 128) (r : Fin 256) : (∑ k : Fin 256, if r.val ≤ k.val then (tile m c t (ix2 k j) : EReal) else 0)
    + part (m ((c : Thread nD τ).loc main_arg0)) j ((17 - t.val) * 256) = part (m ((c : Thread nD τ).loc main_arg0)) j ((16 - t.val) * 256 + r.val) := by
  have ht : t.val < 17 := t.isLt
  have hr := r.isLt
  have hb : (16 - t.val) * 256 + 256 ≤ 4352 := by omega
  refine Eq.symm ((Running.split (fun w => ((m ((c : Thread nD τ).loc main_arg0)) (ix2 w j) : EReal)) (fun w => ((16 - t.val) * 256 + r.val) ≤ w.val) (fun w => ((17 - t.val) * 256) ≤ w.val) (fun k => r.val ≤ k.val)
    ((16 - t.val) * 256) hb (fun k => ?_) (fun w hw => ?_)).trans ?_)
  · have := k.isLt
    constructor
    · simp only; omega
    · simp only; omega
  · omega
  · refine congrArg (fun z : EReal => z + _) (Finset.sum_congr rfl fun k _ => ?_)
    rw [placed m c t k j ⟨_, (Nat.add_lt_add_left k.isLt _).trans_le hb⟩ rfl]

theorem first (t : Fin cfg0.N) (h : t.val = 0) (j : Fin 128) : part (m ((c : Thread nD τ).loc main_arg0)) j ((17 - t.val) * 256) = 0 := by
  refine Finset.sum_eq_zero fun w _ => if_neg ?_
  have := w.isLt
  omega

/-- What is carried out of a tile, over what is carried in. -/
theorem carry_step (t : Fin cfg0.N) (a : Vec Ideal S1x128 .f32) (y : S1x128.Idx) (real : ∀ i, Finite.IsReal (tile m c t i))
    (h : (a (ix2 0 (y 1)) : EReal) = part (m ((c : Thread nD τ).loc main_arg0)) (y 1) ((17 - t.val) * 256)) : k0_pay3 (tile m c t) a y = part (m ((c : Thread nD τ).loc main_arg0)) (y 1) ((16 - t.val) * 256 + 0) :=
  ((carry_value _ _ real y).trans (congrArg (fun z : EReal => _ + z) h)).trans (step m c t (y 1) 0)

theorem run_step (t : Fin cfg0.N) (a : Vec Ideal S1x128 .f32) (y : S256x128.Idx) (real : ∀ i, Finite.IsReal (tile m c t i))
    (h : (a (ix2 0 (y 1)) : EReal) = part (m ((c : Thread nD τ).loc main_arg0)) (y 1) ((17 - t.val) * 256)) : k0_pay2 (tile m c t) a y = part (m ((c : Thread nD τ).loc main_arg0)) (y 1) ((16 - t.val) * 256 + (y 0).val) :=
  ((run_value _ _ real y).trans (congrArg (fun z : EReal => _ + z) h)).trans (step m c t (y 1) (y 0))

include fin

/-- The carried row holds the tiles so far. -/
theorem carried (n : ℕ) (hn : n < cfg0.N) (y : S1x128.Idx) : ((outsAt0 m c n hn).2 y : EReal) = part (m ((c : Thread nD τ).loc main_arg0)) (y 1) ((16 - n) * 256 + 0) := by
  induction n generalizing y with
  | zero =>
    rw [outsAt0_A m c ⟨0, hn⟩ rfl]
    frame_out
    exact carry_step m c ⟨0, hn⟩ _ y (placed_real m c fin _) ((zero_value _).trans (first m c ⟨0, hn⟩ rfl (y 1)).symm)
  | succ n ih =>
    have lt : n + 1 < 17 := hn
    rw [outsAt0_B m c ⟨n + 1, hn⟩ (by simp only; omega)]
    frame_out
    refine carry_step m c ⟨n + 1, hn⟩ _ y (placed_real m c fin _) (((congrFun ((Memref.isWhole_whole cc0_scratch0).read_unread _) _).trans (ih (Nat.lt_of_succ_lt hn) _)).trans ?_)
    exact congrArg (part _ _) (by simp only; omega)

theorem written (t : Fin cfg0.N) (y : S256x128.Idx) : ((outsAt0 m c t.val t.isLt).1 y : EReal) = part (m ((c : Thread nD τ).loc main_arg0)) (y 1) ((16 - t.val) * 256 + (y 0).val) := by
  have ht : t.val < 17 := t.isLt
  by_cases h : t.val % 17 = 0
  · rw [outsAt0_A m c t h]
    frame_out
    exact run_step m c t _ y (placed_real m c fin _) ((zero_value _).trans (first m c t (by omega) (y 1)).symm)
  · rw [outsAt0_B m c t h]
    frame_out
    refine run_step m c t _ y (placed_real m c fin _) (((congrFun ((Memref.isWhole_whole cc0_scratch0).read_unread _) _).trans (carried m c fin _ _ _)).trans ?_)
    exact congrArg (part _ _) (by omega)

theorem final : (dats m 0 c).arrAt 1 (cfgs 0).N = total (m ((c : Thread nD τ).loc main_arg0)) := by
  refine (dats m 0 c).arrAt_eq_of_covers 1 _ (by decide +kernel) fun t _ y => ?_
  have ht : t.val < 17 := t.isLt
  blk_simp
  rw [after0_1]
  refine (written m c fin t y).trans ?_
  unfold total
  refine congrArg₂ (part _) (Fin.ext ?_) ?_ <;> blk_simp [idx t] <;> omega

end Points

open Cert.Reference39Ideal.Read

theorem reference (x : FVec Ideal S4352x128 .f32) : val_main_v2 (F := Ideal) x = total x := by
  funext i
  obtain ⟨w, j, rfl⟩ : ∃ w j, i = ix2 w j := ⟨i 0, i 1, by funext a; fin_cases a <;> rfl⟩
  unfold val_main_v2
  rw [Running.host_window (R := 4352) (C := 128) (L := 0) (H := 4351) x _ _ _ ?_ w j]
  unfold total part
  refine Finset.sum_congr rfl fun k _ => if_congr ?_ rfl rfl
  rotate_left
  · pointwise [val_main_call1_v0, val_main_call1_cst]
  · have := k.isLt
    have := w.isLt
    change _ ↔ w.val ≤ k.val
    omega

/-- From memories agreeing on a finite argument, the call and its reference end with the same sums. -/
theorem algebraic : Cert.algebraic_Kernel39Ideal_Reference39Ideal_pre_all_finite := by
  intro m g m' g' p h
  refine ⟨fun c => total (m ((c : Thread nD τ).loc main_arg0)),
    (θ_run _ _ _).mono (fun r hr c => ⟨(hr c).1.trans (final m c (Running.finite _ (p c))), (hr c).2⟩) (Cert.Kernel39Ideal.Value.run_blocks m g),
    (θ_run _ _ _).mono (fun r hr c => ⟨?_, (hr c).2⟩) (Cert.Reference39Ideal.Value.run m' g')⟩
  rw [(hr c).1, val_main_v2_eq, h c]
  exact reference _

theorem frame_kernel : Cert.quiescent_Kernel39 := by
  intro m ρ _
  rw [show Cert.Kernel39.defs (F := Bits) = defs (F := Bits) by chain_rfl, show Cert.Kernel39.main (F := Bits) = main (F := Bits) by chain_rfl]
  exact Gen.frame (F := Bits) m ρ

theorem frame_ideal : Cert.quiescent_Kernel39Ideal := fun m ρ _ => Gen.frame (F := Ideal) m ρ

theorem frame_ideal_finite : Cert.quiescent_Kernel39Ideal_pre_all_finite := fun m ρ _ => Gen.frame (F := Ideal) m ρ

theorem frame_reference : Cert.quiescent_Reference39Ideal := fun m ρ _ =>
  (θ_run _ _ _).mono (fun r h => ⟨fun c => (h c).2, sem_eq_zero_of_no_sems (by decide) r.2⟩)
    (Cert.Reference39Ideal.Value.run (F := Ideal) m ρ)

theorem frame_reference_finite : Cert.quiescent_Reference39Ideal_pre_all_finite := fun m ρ _ => frame_reference m ρ trivial

end Cert.Proof.RunBack

end
-- ==== Proof.Prep.lean ====
module

public import proofs.«01_k».proof.Defs
public import proofs.«01_k».proof.Proof.Gen.Kernel40
public import proofs.«01_k».proof.Proof.Gen.Kernel40Ideal
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import Idealize.ShloMosaic.Lib.Pipeline.ValueKit
public import Idealize.ShloMosaic.Lib.Pipeline.Regions
public import Idealize.ShloMosaic.Lib.WordCmp
public import Idealize.ShloMosaic.Adequacy
public import Idealize.ShloMosaic.Init
/-! # The queries and keys of the forgetting attention, normalised head by head, and the logarithms of its forget gates. The rows of
padding and the columns beyond the heads get zero logarithms. -/

@[expose] public section

set_option maxRecDepth 16384

noncomputable section

namespace Cert.Proof.Prep

open Cert.Kernel40Ideal Cert.Kernel40Ideal.Gen
open Idealize.ShloMosaic Idealize.ShloMosaic.TcCoe Idealize.SL.Sem

/-- Column `j` of a row's normalised heads; the heads begin at column `off` of the row, and have 128 columns each. -/
def unit (row : Fin 2176 → EReal) (g : Fin 1024 → EReal) (off : ℕ) (h : off + 1024 ≤ 2176) (j : Fin 1024) : EReal :=
  row ⟨off + j.val, by omega⟩ * Ideal.rsqrt (Ideal.div (∑ k : Fin 128, row ⟨off + (j.val / 128 * 128 + k.val), by omega⟩ * row ⟨off + (j.val / 128 * 128 + k.val), by omega⟩)
    (Ideal.ofBits .f32 0x43000000#32) + Ideal.ofBits .f32 0x358637BD#32) * g j

/-- The logistic function's logarithm. -/
def log (z : EReal) : EReal := min z 0 - Ideal.log (1 + Ideal.exp (0 - max z (-z)))

def heads (off : ℕ) (h : off + 1024 ≤ 2176) (x : FVec Ideal S4352x2176 .f32) (g : FVec Ideal S1x1024 .f32) : FVec Ideal S4352x1024 .bf16 :=
  fun i => unit (fun k => x (ix2 (i 0) k)) (fun k => g (ix2 0 k)) off h (i 1)

def forget (x : FVec Ideal S4352x2176 .f32) (b : FVec Ideal S1x128 .f32) : FVec Ideal S4352x128 .f32 := fun i =>
  if 240 ≤ (i 0).val ∧ (i 1).val < 8 then log ((x (ix2 (i 0) ⟨2048 + (i 1).val, by have := (i 1).isLt; dsimp at this; omega⟩) : EReal) + (b (ix2 0 (i 1)) : EReal)) else 0

theorem unit_at (row : Fin 2176 → EReal) (g : Fin 1024 → EReal) (off : ℕ) (ho : off + 1024 ≤ 2176) (h : Fin 8) (l : Fin 128) :
    unit row g off ho ⟨h.val * 128 + l.val, by omega⟩ = row ⟨off + (h.val * 128 + l.val), by omega⟩
      * Ideal.rsqrt (Ideal.div (∑ k : Fin 128, row ⟨off + (h.val * 128 + k.val), by omega⟩ * row ⟨off + (h.val * 128 + k.val), by omega⟩)
        (Ideal.ofBits .f32 0x43000000#32) + Ideal.ofBits .f32 0x358637BD#32) * g ⟨h.val * 128 + l.val, by omega⟩ := by
  have e : (h.val * 128 + l.val) / 128 = h.val := by omega
  unfold unit
  simp only [e]

theorem columns (j : Fin 1024) : ∃ (h : Fin 8) (l : Fin 128), j = ⟨h.val * 128 + l.val, by omega⟩ :=
  ⟨⟨j.val / 128, by omega⟩, ⟨j.val % 128, by omega⟩, Fin.ext (by simp only; omega)⟩

theorem select_mask {p q : Prop} [Decidable p] [Decidable q] (a b : EReal) :
    Scalar.select (IntOp.andi (BitVec.ofBool (decide p)) (BitVec.ofBool (decide q))) a b = if p ∧ q then a else b := by
  by_cases hp : p <;> by_cases hq : q <;> simp [hp, hq, IntOp.andi, Scalar.select]

/-- The softplus function of the negated argument, negated. -/
theorem spelling (z : EReal) : -(max (-z) 0 + Ideal.log (1 + Ideal.exp (-(max (-z) z)))) = log z := by
  have h1 : Ideal.log 1 = 0 := by
    rw [← EReal.coe_one, Ideal.log_coe]
    simp
  obtain ⟨r, h⟩ : ∃ r : ℝ, Ideal.log (1 + Ideal.exp (-(max (-z) z))) = r := by
    induction z with
    | bot => exact ⟨0, by simp [h1]⟩
    | top => exact ⟨0, by simp [h1]⟩
    | coe x =>
      refine ⟨Real.log (1 + Real.exp (-(max (-x) x))), ?_⟩
      have p : 0 < 1 + Real.exp (-(max (-x) x)) := by positivity
      rw [← EReal.coe_neg x, ← EReal.coe_strictMono.monotone.map_max, ← EReal.coe_neg, Ideal.exp_coe, ← EReal.coe_one, ← EReal.coe_add, Ideal.log_coe]
      exact if_neg p.not_ge
  unfold log
  rw [zero_sub, max_comm z (-z), h, EReal.neg_add (.inr (EReal.coe_ne_top r)) (.inr (EReal.coe_ne_bot r))]
  congr 1
  exact EReal.neg_strictAnti.antitone.map_max.trans (by rw [neg_neg, neg_zero])

/-- The same, in the operations of the reference. -/
theorem spelled (z : EReal) : -(max (-z) 0 + Ideal.log1p (Ideal.exp (-(FloatOps.absf (F := Ideal) (φ := .f32) (-z) : EReal)))) = log z := by
  refine Eq.trans ?_ (spelling z)
  exact congrArg (fun w : EReal => -(max (-z) 0 + Ideal.log (1 + Ideal.exp (-(max (-z) w))))) (neg_neg z)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0])

/-- Eight heads side by side. -/
theorem joined (f : Fin 8 → FVec Ideal S256x128 .f32) (r : Fin 256) (h : Fin 8) (l : Fin 128) :
    k0_pay2 (f 0) (f 1) (f 2) (f 3) (f 4) (f 5) (f 6) (f 7) (ix2 r ⟨h.val * 128 + l.val, by omega⟩) = f h (ix2 r l) := by
  have := l.isLt
  fin_cases h <;> pointwise [k0_pay2] <;> simp (discharger := omega) only [dif_pos, dif_neg] <;> simp (discharger := omega) only [Nat.add_sub_cancel_left, Nat.sub_sub, Nat.reduceAdd] <;> rfl

section Block

variable (x : Vec Ideal S256x2176 .f32) (g : Vec Ideal S1x1024 .f32)

theorem query_value (r : Fin 256) (j : Fin 1024) : k0_pay2 (k0_pay4 x g) (k0_pay9 (k0_pay6 x) (k0_pay7 g) (k0_pay8 x)) (k0_pay11 x g)
      (k0_pay16 (k0_pay13 x) (k0_pay14 g) (k0_pay15 x)) (k0_pay18 x g) (k0_pay23 x g) (k0_pay25 x g) (k0_pay30 x g) (ix2 r j)
    = unit (fun k => x (ix2 r k)) (fun k => g (ix2 0 k)) 0 (by omega) j := by
  obtain ⟨h, l, rfl⟩ := columns j
  refine (joined ![k0_pay4 x g, k0_pay9 (k0_pay6 x) (k0_pay7 g) (k0_pay8 x), k0_pay11 x g, k0_pay16 (k0_pay13 x) (k0_pay14 g) (k0_pay15 x), k0_pay18 x g,
    k0_pay23 x g, k0_pay25 x g, k0_pay30 x g] r h l).trans ?_
  rw [unit_at]
  fin_cases h <;> pointwise [k0_pay4, k0_pay9, k0_pay6, k0_pay7, k0_pay8, k0_pay11, k0_pay16, k0_pay13, k0_pay14, k0_pay15, k0_pay18, k0_pay23, k0_pay25, k0_pay30]

theorem key_value (r : Fin 256) (j : Fin 1024) : k0_pay3 (k0_pay5 x g) (k0_pay10 x g) (k0_pay12 x g) (k0_pay17 x g) (k0_pay22 (k0_pay19 x) (k0_pay20 g) (k0_pay21 x))
      (k0_pay24 x g) (k0_pay29 (k0_pay26 x) (k0_pay27 g) (k0_pay28 x)) (k0_pay31 x g) (ix2 r j)
    = unit (fun k => x (ix2 r k)) (fun k => g (ix2 0 k)) 1024 (by omega) j := by
  obtain ⟨h, l, rfl⟩ := columns j
  refine (joined ![k0_pay5 x g, k0_pay10 x g, k0_pay12 x g, k0_pay17 x g, k0_pay22 (k0_pay19 x) (k0_pay20 g) (k0_pay21 x), k0_pay24 x g,
    k0_pay29 (k0_pay26 x) (k0_pay27 g) (k0_pay28 x), k0_pay31 x g] r h l).trans ?_
  rw [unit_at]
  fin_cases h <;> pointwise [k0_pay5, k0_pay10, k0_pay12, k0_pay17, k0_pay22, k0_pay19, k0_pay20, k0_pay21, k0_pay24, k0_pay29, k0_pay26, k0_pay27, k0_pay28, k0_pay31] <;>
    simp only [← Nat.add_assoc, Nat.reduceAdd]

theorem forget_value (b : Vec Ideal S1x128 .f32) (t : Fin 17) (r : Fin 256) (l : Fin 128) :
    k0_pay1 (k0_pay32 (BitVec.ofNat 32 t.val)) (k0_pay33 x) (k0_pay34 b) (ix2 r l)
    = if 240 ≤ t.val * 256 + r.val ∧ l.val < 8 then log ((x (ix2 r ⟨2048 + l.val, by omega⟩) : EReal) + (b (ix2 0 l) : EReal)) else 0 := by
  have := t.isLt
  pointwise [k0_pay1, k0_pay32, k0_pay33, k0_pay34]
  rw [show IntOp.addi (Scalar.muli (BitVec.ofNat 32 t.val) 256#32) (BitVec.ofNat 32 r.val) = BitVec.ofNat 32 (t.val * 256 + r.val) by
    rw [BitVec.ofNat_add, BitVec.ofNat_mul]; rfl]
  rw [WordCmp.cmpi_sge_ofNat (b := 240) (by omega) (by omega), WordCmp.cmpi_slt_ofNat (b := 8) (by omega) (by omega)]
  exact select_mask _ _

end Block

theorem unit_congr {row row' : Fin 2176 → EReal} {g g' : Fin 1024 → EReal} (off : ℕ) (h : off + 1024 ≤ 2176) {j j' : Fin 1024} (hr : ∀ k, row k = row' k)
    (hg : ∀ k, g k = g' k) (hj : j = j') : unit row g off h j = unit row' g' off h j' := by
  rw [funext hr, funext hg, hj]

variable (m : (ℓ : Loc nD τ sig) → Buf (Elt Ideal) ℓ)

theorem row (c : Dev nD) (t : Fin cfg0.N) (r : Fin 256) (k : Fin 2176) (i : Fin 4352) (h : i.val = t.val * 256 + r.val) :
    (iblk m c 0 t (ix2 r k) : EReal) = (m ((c : Thread nD τ).loc main_arg0)) (ix2 i k) := by
  blk_point [iblk, V, idx t]

theorem gain1 (c : Dev nD) (t : Fin cfg0.N) (k : Fin 1024) : (iblk m c 1 t (ix2 0 k) : EReal) = (m ((c : Thread nD τ).loc main_arg1)) (ix2 0 k) := by
  blk_point [iblk, V, idx t]

theorem gain2 (c : Dev nD) (t : Fin cfg0.N) (k : Fin 1024) : (iblk m c 2 t (ix2 0 k) : EReal) = (m ((c : Thread nD τ).loc main_arg2)) (ix2 0 k) := by
  blk_point [iblk, V, idx t]

theorem bias (c : Dev nD) (t : Fin cfg0.N) (k : Fin 128) : (iblk m c 3 t (ix2 0 k) : EReal) = (m ((c : Thread nD τ).loc main_arg3)) (ix2 0 k) := by
  blk_point [iblk, V, idx t]

theorem final_query (c : Dev nD) : (dats m 0 c).arrAt 4 (cfgs 0).N = heads 0 (by omega) (m ((c : Thread nD τ).loc main_arg0)) (m ((c : Thread nD τ).loc main_arg1)) := by
  refine (dats m 0 c).arrAt_eq_of_covers 4 _ (by decide +kernel) fun t _ y => ?_
  blk_simp
  rw [after0_4]
  frame_out
  obtain ⟨r, j, rfl⟩ : ∃ (r : Fin 256) (j : Fin 1024), y = ix2 r j := ⟨y 0, y 1, by funext a; fin_cases a <;> rfl⟩
  refine (query_value _ _ r j).trans (unit_congr _ _ (fun k => row m c t r k _ ?_) (fun k => gain1 m c t k) (Fin.ext ?_)) <;> blk_simp [idx t] <;> omega

theorem final_key (c : Dev nD) : (dats m 0 c).arrAt 5 (cfgs 0).N = heads 1024 (by omega) (m ((c : Thread nD τ).loc main_arg0)) (m ((c : Thread nD τ).loc main_arg2)) := by
  refine (dats m 0 c).arrAt_eq_of_covers 5 _ (by decide +kernel) fun t _ y => ?_
  blk_simp
  rw [after0_5]
  frame_out
  obtain ⟨r, j, rfl⟩ : ∃ (r : Fin 256) (j : Fin 1024), y = ix2 r j := ⟨y 0, y 1, by funext a; fin_cases a <;> rfl⟩
  refine (key_value _ _ r j).trans (unit_congr _ _ (fun k => row m c t r k _ ?_) (fun k => gain2 m c t k) (Fin.ext ?_)) <;> blk_simp [idx t] <;> omega

theorem point : ∀ t : Fin cfg0.N, (grid0.coords t 0).val = t.val := (by decide +kernel : ∀ t : Fin grid0.N, (grid0.coords t 0).val = t.val)

theorem final_forget (c : Dev nD) : (dats m 0 c).arrAt 6 (cfgs 0).N = forget (m ((c : Thread nD τ).loc main_arg0)) (m ((c : Thread nD τ).loc main_arg3)) := by
  refine (dats m 0 c).arrAt_eq_of_covers 6 _ (by decide +kernel) fun t _ y => ?_
  blk_simp
  rw [after0_6]
  frame_out
  obtain ⟨r, j, rfl⟩ : ∃ (r : Fin 256) (j : Fin 128), y = ix2 r j := ⟨y 0, y 1, by funext a; fin_cases a <;> rfl⟩
  rw [point t]
  refine (forget_value _ _ ⟨t.val, t.isLt⟩ r j).trans ?_
  unfold forget
  rw [bias m c t, row m c t r _ (((cfg0.win 6).blk t).view.emb (ix2 r j) 0) (by blk_simp [idx t])]
  have e0 : (((cfg0.win 6).blk t).view.emb (ix2 r j) 0).val = t.val * 256 + r.val := by blk_simp [idx t]
  have e1 : ((cfg0.win 6).blk t).view.emb (ix2 r j) 1 = j := Fin.ext (by blk_simp [idx t])
  simp only [e0, e1]

section Reference

open Cert.Reference40Ideal.Read

theorem reference_query (x : FVec Ideal S4352x2176 .f32) (g : FVec Ideal S1x1024 .f32) : val_main_v25 (F := Ideal) x g = heads 0 (by omega) x g := by
  funext i
  idx_vars i
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1, heads, unit]

theorem reference_key (x : FVec Ideal S4352x2176 .f32) (g : FVec Ideal S1x1024 .f32) : val_main_v43 (F := Ideal) x g = heads 1024 (by omega) x g := by
  funext i
  idx_vars i
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_cst_2, val_main_cst_3, val_main_cst_4, heads, unit]

theorem reference_forget (x : FVec Ideal S4352x2176 .f32) (b : FVec Ideal S1x128 .f32) : val_main_v51 (F := Ideal) x b = forget x b := by
  funext i
  idx_vars i
  pointwise [val_main_v51, val_main_v50, val_main_v49, val_main_v48, val_main_v47, val_main_v46, val_main_v45, val_main_v44, val_main_v7, val_main_v6, val_main_v5, val_main_v4, val_main_v3, val_main_v2, val_main_v1, val_main_v0, val_main_c, val_main_c_5, val_main_cst_6, val_main_call1_v0, val_main_call1_v1, val_main_call0_v0, val_main_call0_v1, val_main_call0_call0_cst, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, forget]
  rw [WordCmp.cmpi_sge_ofNat (b := 240) (by omega) (by omega), WordCmp.cmpi_slt_ofNat (b := 8) (by omega) (by omega), if_neg (not_not.2 rfl), select_mask]
  refine if_congr Iff.rfl ?_ ?_
  · exact spelled _
  · change constant (F := Ideal) Cert.Reference40Ideal.S_ .f32 0x00000000#32 ix0 = (0 : EReal)
    pointwise []

end Reference

/-- From memories agreeing on the arguments, the call and its reference end with the same results. -/
theorem algebraic : Cert.algebraic_Kernel40Ideal_Reference40Ideal := by
  intro m g m' g' _ h
  refine ⟨fun c => heads 0 (by omega) (m ((c : Thread nD τ).loc main_arg0)) (m ((c : Thread nD τ).loc main_arg1)), fun c => heads 1024 (by omega) (m ((c : Thread nD τ).loc main_arg0)) (m ((c : Thread nD τ).loc main_arg2)), fun c => forget (m ((c : Thread nD τ).loc main_arg0)) (m ((c : Thread nD τ).loc main_arg3)),
    (θ_run _ _ _).mono (fun r hr c => ⟨(hr c).1.trans (final_query m c), (hr c).2.1.trans (final_key m c), (hr c).2.2.1.trans (final_forget m c), (hr c).2.2.2⟩)
      (Cert.Kernel40Ideal.Value.run_blocks m g),
    (θ_run _ _ _).mono (fun r hr c => ⟨?_, ?_, ?_, (hr c).2.2.2⟩) (Cert.Reference40Ideal.Value.run m' g')⟩
  · rw [(hr c).1, Cert.Reference40Ideal.Read.val_main_v25_eq, (h c).1, (h c).2.1]
    exact reference_query _ _
  · rw [(hr c).2.1, Cert.Reference40Ideal.Read.val_main_v43_eq, (h c).1, (h c).2.2.1]
    exact reference_key _ _
  · rw [(hr c).2.2.1, Cert.Reference40Ideal.Read.val_main_v51_eq, (h c).1, (h c).2.2.2]
    exact reference_forget _ _

theorem frame_kernel : Cert.quiescent_Kernel40 := by
  intro m ρ _
  rw [show Cert.Kernel40.defs (F := Bits) = defs (F := Bits) by chain_rfl, show Cert.Kernel40.main (F := Bits) = main (F := Bits) by chain_rfl]
  exact Gen.frame (F := Bits) m ρ

theorem frame_ideal : Cert.quiescent_Kernel40Ideal := fun m ρ _ => Gen.frame (F := Ideal) m ρ

theorem frame_reference : Cert.quiescent_Reference40Ideal := fun m ρ _ =>
  (θ_run _ _ _).mono (fun r h => ⟨fun c => (h c).2.2.2, sem_eq_zero_of_no_sems (by decide) r.2⟩)
    (Cert.Reference40Ideal.Value.run (F := Ideal) m ρ)

end Cert.Proof.Prep
end
-- ==== Proof.Head.lean ====
module

public import proofs.«01_k».proof.Proof.Norm

/-! # The root-mean-square norm of one head's 128 columns, its gradient, and the derivative of the logarithm of a forget gate. -/

@[expose] public section

noncomputable section

namespace Cert.Proof.Head

open Idealize.ShloMosaic

/-- A mean over a head's columns, from the sum. -/
def mean (z : EReal) : EReal := Ideal.div z (Ideal.ofBits .f32 0x43000000#32)

/-- A head's mean square, plus the small constant. -/
def size (x : Fin 128 → EReal) : EReal := mean (∑ k, x k * x k) + Ideal.ofBits .f32 0x358637BD#32

/-- The factor that normalises a head. -/
def scale (x : Fin 128 → EReal) : EReal := Ideal.rsqrt (size x)

/-- The gradient of a normalised head with respect to the head, as the kernel spells it. -/
def grad (x u : Fin 128 → EReal) (j : Fin 128) : EReal :=
  scale x * u j - (x j * (scale x * scale x * scale x)) * mean (∑ k, x k * u k)

/-- The part of the gradient that comes through the mean square, by the chain rule. -/
def through (x u : Fin 128 → EReal) : EReal :=
  mean ((∑ k, x k * u k) * (Ideal.ofBits .f32 0xBF000000#32 * Ideal.div (scale x) (size x)))

theorem mean_eq (z : EReal) : mean z = z * ((1 / 128 : ℝ) : EReal) := by
  have h : Ideal.ofBits .f32 0x43000000#32 = ((128 : ℝ) : EReal) := by
    simp [Ideal.ofBits, Ideal.ieee, -EReal.coe_mul]; norm_num
  rw [mean, h, Ideal.div_coe (by norm_num)]

theorem size_cases (x : Fin 128 → EReal) : size x = ⊤ ∨ ∃ s : ℝ, 0 < s ∧ size x = s := by
  refine Norm.positive ?_
  rw [mean_eq]
  exact mul_nonneg (Finset.sum_nonneg fun k _ => Norm.square_nonneg _) (by exact_mod_cast (by norm_num : (0 : ℝ) ≤ 1 / 128))

/-- The two spellings of the gradient agree. -/
theorem spelling (x u : Fin 128 → EReal) (j : Fin 128) : u j * scale x + x j * through x u + through x u * x j = grad x u j := by
  unfold through grad scale
  simp only [mean_eq]
  exact Norm.column (size_cases x) _ _ _ _

/-- The derivative of the logistic function's logarithm, as the kernel spells it. -/
def slope (z : EReal) : EReal :=
  if 0 ≤ z then Ideal.exp (0 - max z (-z)) * Ideal.div 1 (1 + Ideal.exp (0 - max z (-z))) else Ideal.div 1 (1 + Ideal.exp (0 - max z (-z)))

/-- Infinity counts as zero. -/
def tame (z : EReal) : EReal := if z = ⊤ then 0 else z

theorem exp_logarithm (a b : ℝ) (h : 0 < b) : Real.exp (a - Real.log b) = Real.exp a * (1 / b) := by
  rw [Real.exp_sub, Real.exp_log h, div_eq_mul_one_div]

theorem infinity : Ideal.ofBits .f32 0x7F800000#32 = ⊤ := by
  simp [Ideal.ofBits, Ideal.ieee]

/-- The derivative as the reference spells it: the exponential of the argument less its softplus function. -/
theorem slope_eq (z : EReal) : Ideal.exp (tame (-z) - tame (max (-z) 0 + Ideal.log (1 + Ideal.exp (-(max (-z) z))))) = slope z := by
  have h1 : Ideal.log 1 = 0 := by
    rw [← EReal.coe_one, Ideal.log_coe]
    simp
  have d1 : Ideal.div 1 1 = 1 := by
    rw [← EReal.coe_one, Ideal.div_coe one_ne_zero]
    simp
  have e1 : Ideal.exp 0 = 1 := by
    rw [← EReal.coe_zero, Ideal.exp_coe]
    simp
  unfold slope
  induction z with
  | bot => simp [h1, d1, e1, tame]
  | top => simp [h1, d1, tame]
  | coe x =>
    have p : 0 < 1 + Real.exp (-(max x (-x))) := by positivity
    have k : Ideal.div 1 (((1 + Real.exp (-(max x (-x))) : ℝ)) : EReal) = ((1 / (1 + Real.exp (-(max x (-x)))) : ℝ) : EReal) := by
      rw [Ideal.div_coe p.ne', one_mul]
    rw [zero_sub, max_comm (-(x : EReal)) x, ← EReal.coe_neg x, ← EReal.coe_strictMono.monotone.map_max, ← EReal.coe_neg, Ideal.exp_coe, ← EReal.coe_one, ← EReal.coe_add,
      Ideal.log_coe, if_neg p.not_ge, ← EReal.coe_zero, ← EReal.coe_strictMono.monotone.map_max, ← EReal.coe_add, tame, tame, if_neg (EReal.coe_ne_top _),
      if_neg (EReal.coe_ne_top _), ← EReal.coe_sub, Ideal.exp_coe, EReal.coe_one, k, ← sub_sub, exp_logarithm _ _ p]
    rcases le_or_gt 0 x with hx | hx
    · rw [if_pos (by exact_mod_cast hx), ← EReal.coe_mul, max_eq_right (by linarith : -x ≤ 0), max_eq_left (by linarith : -x ≤ x), sub_zero]
    · rw [if_neg (by exact_mod_cast hx.not_ge), max_eq_left (by linarith : (0 : ℝ) ≤ -x), sub_self, Real.exp_zero, one_mul]

end Cert.Proof.Head

end
-- ==== Proof.PrepBackBase.lean ====
module

public import proofs.«01_k».proof.Defs
public import proofs.«01_k».proof.Proof.Norm
public import proofs.«01_k».proof.Proof.Head
public import proofs.«01_k».proof.Proof.Gen.Kernel41
public import proofs.«01_k».proof.Proof.Gen.Kernel41Ideal
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import Idealize.ShloMosaic.Lib.Pipeline.ValueKit
public import Idealize.ShloMosaic.Lib.Pipeline.Regions
public import Idealize.ShloMosaic.Lib.WordCmp
public import Idealize.ShloMosaic.Adequacy
public import Idealize.ShloMosaic.Init
/-! # What the call that goes back through the preparation of queries and keys computes, entry by entry. -/

@[expose] public section

set_option maxRecDepth 16384

noncomputable section

namespace Cert.Proof.PrepBack

open Cert.Kernel41Ideal Cert.Kernel41Ideal.Gen
open Idealize.ShloMosaic Idealize.ShloMosaic.TcCoe Idealize.SL.Sem

/-- The head of a column, and its place there. -/
def hd (j : Fin 1024) : Fin 8 := ⟨j.val / 128, by omega⟩
def ln (j : Fin 1024) : Fin 128 := ⟨j.val % 128, by omega⟩

theorem hd_at (h : Fin 8) (l : Fin 128) (p : h.val * 128 + l.val < 1024) : hd ⟨h.val * 128 + l.val, p⟩ = h := Fin.ext (by simp only [hd]; omega)
theorem ln_at (h : Fin 8) (l : Fin 128) (p : h.val * 128 + l.val < 1024) : ln ⟨h.val * 128 + l.val, p⟩ = l := Fin.ext (by simp only [ln]; omega)

theorem columns (j : Fin 1024) : ∃ (h : Fin 8) (l : Fin 128), j = ⟨h.val * 128 + l.val, by omega⟩ := ⟨hd j, ln j, Fin.ext (by simp only [hd, ln]; omega)⟩

theorem lanes (j : Fin 2176) : ∃ (p : Fin 17) (l : Fin 128), j = ⟨p.val * 128 + l.val, by omega⟩ :=
  ⟨⟨j.val / 128, by omega⟩, ⟨j.val % 128, by omega⟩, Fin.ext (by simp only; omega)⟩

/-- The gradient of a row at place `l` of head `h`; the heads begin at column `off` of the row. -/
def head (row : Fin 2176 → EReal) (d g : Fin 1024 → EReal) (off : ℕ) (ho : off + 1024 ≤ 2176) (h : Fin 8) (l : Fin 128) : EReal :=
  Head.grad (fun k => row ⟨off + (h.val * 128 + k.val), by omega⟩) (fun k => d ⟨h.val * 128 + k.val, by omega⟩ * g ⟨h.val * 128 + k.val, by omega⟩) l

/-- A row's share of the gain's gradient there. -/
def share (row : Fin 2176 → EReal) (d : Fin 1024 → EReal) (off : ℕ) (ho : off + 1024 ≤ 2176) (h : Fin 8) (l : Fin 128) : EReal :=
  d ⟨h.val * 128 + l.val, by omega⟩ * row ⟨off + (h.val * 128 + l.val), by omega⟩ * Head.scale (fun k => row ⟨off + (h.val * 128 + k.val), by omega⟩)

/-- The gradient of a forget gate's argument: row `i`, column `l`. -/
def gate (row : Fin 2176 → EReal) (d b : Fin 128 → EReal) (i : ℕ) (l : Fin 128) : EReal :=
  if 240 ≤ i ∧ l.val < 8 then d l * Head.slope (row ⟨2048 + l.val, by omega⟩ + b l) else 0

/-- The gradient of a row at place `l` of the `p`-th group of 128 columns: the queries' heads, the keys' heads, the gates. -/
def entry (row : Fin 2176 → EReal) (dq dk : Fin 1024 → EReal) (df : Fin 128 → EReal) (g1 g2 : Fin 1024 → EReal) (p : Fin 17) (l : Fin 128) : EReal :=
  if h : p.val < 8 then head row dq g1 0 (by omega) ⟨p.val, h⟩ l
  else if h : p.val - 8 < 8 then head row dk g2 1024 (by omega) ⟨p.val - 8, h⟩ l else df l

def input (x : FVec Ideal S4352x2176 .f32) (dq dk : FVec Ideal S4352x1024 .f32) (dl : FVec Ideal S4352x128 .f32) (g1 g2 : FVec Ideal S1x1024 .f32)
    (b : FVec Ideal S1x128 .f32) : FVec Ideal S4352x2176 .bf16 := fun i =>
  entry (fun k => x (ix2 (i 0) k)) (fun k => dq (ix2 (i 0) k)) (fun k => dk (ix2 (i 0) k))
    (gate (fun k => x (ix2 (i 0) k)) (fun k => dl (ix2 (i 0) k)) (fun k => b (ix2 0 k)) (i 0).val) (fun k => g1 (ix2 0 k)) (fun k => g2 (ix2 0 k))
    ⟨(i 1).val / 128, by have := (i 1).isLt; dsimp at this; omega⟩ ⟨(i 1).val % 128, by omega⟩

def gain (x : FVec Ideal S4352x2176 .f32) (d : FVec Ideal S4352x1024 .f32) (off : ℕ) (ho : off + 1024 ≤ 2176) : FVec Ideal S1x1024 .f32 :=
  fun i => ∑ l : Fin 4352, share (fun k => x (ix2 l k)) (fun k => d (ix2 l k)) off ho (hd (i 1)) (ln (i 1))

def bias (x : FVec Ideal S4352x2176 .f32) (dl : FVec Ideal S4352x128 .f32) (b : FVec Ideal S1x128 .f32) : FVec Ideal S1x128 .f32 :=
  fun i => ∑ l : Fin 4352, gate (fun k => x (ix2 l k)) (fun k => dl (ix2 l k)) (fun k => b (ix2 0 k)) l.val (i 1)

theorem input_at (x : FVec Ideal S4352x2176 .f32) (dq dk : FVec Ideal S4352x1024 .f32) (dl : FVec Ideal S4352x128 .f32) (g1 g2 : FVec Ideal S1x1024 .f32)
    (b : FVec Ideal S1x128 .f32) (i : Fin 4352) (p : Fin 17) (l : Fin 128) (q : p.val * 128 + l.val < 2176) :
    (input x dq dk dl g1 g2 b (ix2 i ⟨p.val * 128 + l.val, q⟩) : EReal)
    = entry (fun k => x (ix2 i k)) (fun k => dq (ix2 i k)) (fun k => dk (ix2 i k))
      (gate (fun k => x (ix2 i k)) (fun k => dl (ix2 i k)) (fun k => b (ix2 0 k)) i.val) (fun k => g1 (ix2 0 k)) (fun k => g2 (ix2 0 k)) p l := by
  have e : (p.val * 128 + l.val) / 128 = p.val := by omega
  have f : (p.val * 128 + l.val) % 128 = l.val := by omega
  unfold input
  congr 1
  · exact Fin.ext e
  · exact Fin.ext f

theorem select_mask {p q : Prop} [Decidable p] [Decidable q] (a b : EReal) :
    Scalar.select (IntOp.andi (BitVec.ofBool (decide p)) (BitVec.ofBool (decide q))) a b = if p ∧ q then a else b := by
  by_cases hp : p <;> by_cases hq : q <;> simp [hp, hq, IntOp.andi, Scalar.select]

end Cert.Proof.PrepBack

end
-- ==== Proof.PrepBackHost.lean ====
module

public import proofs.«01_k».proof.Defs
public import proofs.«01_k».proof.Proof.Norm
public import proofs.«01_k».proof.Proof.PrepBackBase
public import proofs.«01_k».proof.Proof.Gen.Kernel41
public import proofs.«01_k».proof.Proof.Gen.Kernel41Ideal
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import Idealize.ShloMosaic.Lib.Pipeline.ValueKit
public import Idealize.ShloMosaic.Lib.Pipeline.Regions
public import Idealize.ShloMosaic.Lib.WordCmp
public import Idealize.ShloMosaic.Adequacy
public import Idealize.ShloMosaic.Init
/-! # The reference of the gradient back through the preparation of queries and keys, entry by entry. -/

@[expose] public section

set_option maxRecDepth 16384

noncomputable section

namespace Cert.Proof.PrepBack

open Cert.Kernel41Ideal Cert.Kernel41Ideal.Gen
open Idealize.ShloMosaic Idealize.ShloMosaic.TcCoe Idealize.SL.Sem

section Reference

open Cert.Reference41Ideal.Read

variable (x : FVec Ideal S4352x2176 .f32) (dq dk d : FVec Ideal S4352x1024 .f32) (dl : FVec Ideal S4352x128 .f32) (g1 g2 g : FVec Ideal S1x1024 .f32) (b : FVec Ideal S1x128 .f32)

theorem reference_query (i : Fin 4352) (h : Fin 8) (l : Fin 128) (q : h.val * 128 + l.val < 1024) : (val_main_v42 (F := Ideal) x d g (ix2 i ⟨h.val * 128 + l.val, q⟩) : EReal)
    = head (fun k => x (ix2 i k)) (fun k => d (ix2 i k)) (fun k => g (ix2 0 k)) 0 (by omega) h l := by
  have e : (h.val * 128 + l.val) / 128 = h.val := by omega
  pointwise [val_main_cst, val_main_cst_0, val_main_cst_1, val_main_cst_2, val_main_cst_5, val_main_cst_6, val_main_cst_7, val_main_v0, val_main_v1,
    val_main_v10, val_main_v11, val_main_v12, val_main_v13, val_main_v16, val_main_v2, val_main_v20, val_main_v24, val_main_v25, val_main_v27,
    val_main_v28, val_main_v29, val_main_v3, val_main_v30, val_main_v31, val_main_v32, val_main_v33, val_main_v34, val_main_v35, val_main_v36,
    val_main_v37, val_main_v38, val_main_v39, val_main_v4, val_main_v40, val_main_v42, val_main_v5, val_main_v6, val_main_v7, val_main_v8, val_main_v9]
  simp only [e, Fin.sum_univ_one]
  refine Eq.trans ?_ (Head.spelling (fun k => x (ix2 i ⟨0 + (h.val * 128 + k.val), by omega⟩)) (fun k => d (ix2 i ⟨h.val * 128 + k.val, by omega⟩) * g (ix2 0 ⟨h.val * 128 + k.val, by omega⟩)) l)
  unfold Head.through Head.scale Head.size Head.mean
  simp only [Nat.zero_add]

theorem reference_key (i : Fin 4352) (h : Fin 8) (l : Fin 128) (q : h.val * 128 + l.val < 1024) : (val_main_v85 (F := Ideal) x d g (ix2 i ⟨h.val * 128 + l.val, q⟩) : EReal)
    = head (fun k => x (ix2 i k)) (fun k => d (ix2 i k)) (fun k => g (ix2 0 k)) 1024 (by omega) h l := by
  have e : (h.val * 128 + l.val) / 128 = h.val := by omega
  pointwise [val_main_cst_10, val_main_cst_11, val_main_cst_14, val_main_cst_15, val_main_cst_16, val_main_cst_8, val_main_cst_9, val_main_v43, val_main_v44,
    val_main_v45, val_main_v46, val_main_v47, val_main_v48, val_main_v49, val_main_v50, val_main_v51, val_main_v52, val_main_v53, val_main_v54,
    val_main_v55, val_main_v56, val_main_v59, val_main_v63, val_main_v67, val_main_v68, val_main_v70, val_main_v71, val_main_v72, val_main_v73,
    val_main_v74, val_main_v75, val_main_v76, val_main_v77, val_main_v78, val_main_v79, val_main_v80, val_main_v81, val_main_v82, val_main_v83,
    val_main_v85]
  simp only [e, Fin.sum_univ_one]
  exact Head.spelling (fun k => x (ix2 i ⟨1024 + (h.val * 128 + k.val), by omega⟩)) (fun k => d (ix2 i ⟨h.val * 128 + k.val, by omega⟩) * g (ix2 0 ⟨h.val * 128 + k.val, by omega⟩)) l

/-- The derivative in the operations of the reference. -/
theorem slope_spelled (a z : EReal) (p : Prop) [Decidable p] :
    -(-(if p then a else 0) * Ideal.exp ((if -z = Ideal.ofBits .f32 2139095040#32 then 0 else -z)
      - if (max (-z) 0 + Ideal.log1p (Ideal.exp (-(FloatOps.absf (F := Ideal) (φ := .f32) (-z) : EReal)))) = Ideal.ofBits .f32 2139095040#32 then 0
        else max (-z) 0 + Ideal.log1p (Ideal.exp (-(FloatOps.absf (F := Ideal) (φ := .f32) (-z) : EReal)))))
    = if p then a * Head.slope z else 0 := by
  have s : max (-z) 0 + Ideal.log1p (Ideal.exp (-(FloatOps.absf (F := Ideal) (φ := .f32) (-z) : EReal))) = max (-z) 0 + Ideal.log (1 + Ideal.exp (-(max (-z) z))) :=
    congrArg (fun w : EReal => max (-z) 0 + Ideal.log (1 + Ideal.exp (-(max (-z) w)))) (neg_neg z)
  rw [s, Head.infinity, neg_mul, neg_neg, ← Head.slope_eq z]
  by_cases h : p
  · rw [if_pos h, if_pos h]
    rfl
  · rw [if_neg h, if_neg h, zero_mul]

theorem reference_gate (i : Fin 4352) (l : Fin 128) : (val_main_v103 (F := Ideal) x dl b (ix2 i l) : EReal)
    = gate (fun k => x (ix2 i k)) (fun k => dl (ix2 i k)) (fun k => b (ix2 0 k)) i.val l := by
  pointwise [val_main_c, val_main_c_17, val_main_call0_call0_cst, val_main_call0_call0_cst_0, val_main_call0_call0_cst_1, val_main_call0_call0_cst_2,
    val_main_call0_call0_cst_3, val_main_call0_call0_v0, val_main_call0_call0_v1, val_main_call0_call0_v10, val_main_call0_call0_v11,
    val_main_call0_call0_v13, val_main_call0_call0_v14, val_main_call0_call0_v15, val_main_call0_call0_v16, val_main_call0_call0_v17,
    val_main_call0_call0_v18, val_main_call0_call0_v19, val_main_call0_call0_v2, val_main_call0_call0_v20, val_main_call0_call0_v21,
    val_main_call0_call0_v3, val_main_call0_call0_v4, val_main_call0_call0_v5, val_main_call0_call0_v6, val_main_call0_call0_v7,
    val_main_call0_call0_v8, val_main_call0_call0_v9, val_main_call0_v0, val_main_call0_v1_0, val_main_call2_cst, val_main_call2_v0,
    val_main_call3_v0, val_main_call3_v1, val_main_v100_1, val_main_v102, val_main_v103, val_main_v86, val_main_v87, val_main_v88, val_main_v89,
    val_main_v90, val_main_v91, val_main_v92, val_main_v93, val_main_v94, val_main_v95, val_main_v96, val_main_v97, val_main_v98, val_main_v99]
  rw [WordCmp.cmpi_sge_ofNat (b := 240) (by omega) (by omega), WordCmp.cmpi_slt_ofNat (b := 8) (by omega) (by omega), select_mask]
  simp only [ne_eq, not_true_eq_false, if_false]
  exact slope_spelled _ _ _

theorem reference_input : val_main_v107 (F := Ideal) x dq dk dl g1 g2 b = input x dq dk dl g1 g2 b := by
  funext i
  idx_vars i
  obtain ⟨p, l, rfl⟩ := lanes i1
  refine Eq.trans ?_ (input_at x dq dk dl g1 g2 b i0 p l _).symm
  unfold entry
  pointwise [val_main_v107, val_main_v106]
  by_cases h : p.val < 8
  · rw [dif_pos (by omega), dif_pos h]
    exact reference_query x dq g1 i0 ⟨p.val, h⟩ l (by dsimp only; omega)
  · rw [dif_neg (by omega), dif_neg h]
    by_cases h' : p.val - 8 < 8
    · rw [dif_pos (by omega), dif_pos h']
      refine Eq.trans (congrArg (fun j => (val_main_v85 (F := Ideal) x dk g2 (ix2 i0 j) : EReal)) (Fin.ext ?_)) (reference_key x dk g2 i0 ⟨p.val - 8, h'⟩ l (by dsimp only; omega))
      dsimp only
      omega
    · rw [dif_neg (by omega), dif_neg h']
      refine Eq.trans (congrArg (fun j => (val_main_v103 (F := Ideal) x dl b (ix2 i0 j) : EReal)) (Fin.ext ?_)) (reference_gate x dl b i0 l)
      dsimp only
      omega

theorem reference_query_gain : val_main_v41 (F := Ideal) x d = gain x d 0 (by omega) := by
  funext i
  idx_vars i
  unfold gain share Head.scale Head.size Head.mean
  pointwise [val_main_cst, val_main_cst_0, val_main_cst_1, val_main_cst_3, val_main_cst_4, val_main_v0, val_main_v1, val_main_v10, val_main_v14, val_main_v15,
    val_main_v20, val_main_v21, val_main_v22, val_main_v23, val_main_v26, val_main_v3, val_main_v4, val_main_v41, val_main_v5, val_main_v6,
    val_main_v7, val_main_v8, val_main_v9, hd, ln]
  rw [Fin.sum_univ_one]
  refine Finset.sum_congr rfl fun k _ => ?_
  simp only [Nat.div_add_mod']
  rw [mul_right_comm, mul_comm (d _)]

theorem reference_key_gain : val_main_v84 (F := Ideal) x d = gain x d 1024 (by omega) := by
  funext i
  idx_vars i
  unfold gain share Head.scale Head.size Head.mean
  pointwise [val_main_cst_10, val_main_cst_12, val_main_cst_13, val_main_cst_8, val_main_cst_9, val_main_v43, val_main_v44, val_main_v46, val_main_v47,
    val_main_v48, val_main_v49, val_main_v50, val_main_v51, val_main_v52, val_main_v53, val_main_v57, val_main_v58, val_main_v63, val_main_v64,
    val_main_v65, val_main_v66, val_main_v69, val_main_v84, hd, ln]
  rw [Fin.sum_univ_one]
  refine Finset.sum_congr rfl fun k _ => ?_
  simp only [Nat.div_add_mod']
  rw [mul_right_comm, mul_comm (d _)]

theorem reference_bias : val_main_v105 (F := Ideal) x dl b = bias x dl b := by
  funext i
  idx_vars i
  have e : bias x dl b (ix2 i0 i1) = ∑ k : Fin 4352, gate (fun n => x (ix2 k n)) (fun n => dl (ix2 k n)) (fun n => b (ix2 0 n)) k.val i1 := rfl
  rw [e]
  simp only [← reference_gate]
  pointwise [val_main_v105, val_main_v104, val_main_cst_19]

end Reference

end Cert.Proof.PrepBack

end
-- ==== Proof.PrepBack.lean ====
module

public import proofs.«01_k».proof.Defs
public import proofs.«01_k».proof.Proof.Norm
public import proofs.«01_k».proof.Proof.PrepBackHost
public import proofs.«01_k».proof.Proof.Gen.Kernel41
public import proofs.«01_k».proof.Proof.Gen.Kernel41Ideal
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import Idealize.ShloMosaic.Lib.Pipeline.ValueKit
public import Idealize.ShloMosaic.Lib.Pipeline.Regions
public import Idealize.ShloMosaic.Lib.WordCmp
public import Idealize.ShloMosaic.Adequacy
public import Idealize.ShloMosaic.Init
/-! # The gradient back through the preparation of queries and keys: through the heads' norms and the forget gates' logarithms to the
projection, and to the two gains and the gates' bias. The first is written block by block, the others are summed in place over the points. -/

@[expose] public section

set_option maxRecDepth 16384

noncomputable section

namespace Cert.Proof.PrepBack

open Cert.Kernel41Ideal Cert.Kernel41Ideal.Gen
open Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![0, 0] ∧ win0_9.index t = ![0, 0] ∧ win0_10.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![0, 0] ∧ win0_9.index t = ![0, 0] ∧ win0_10.index t = ![0, 0])

theorem point : ∀ t : Fin cfg0.N, (grid0.coords t 0).val = t.val := (by decide +kernel : ∀ t : Fin grid0.N, (grid0.coords t 0).val = t.val)

/-- Seventeen groups of columns side by side. -/
def side (a0 a1 a2 a3 a4 a5 a6 a7 a8 a9 a10 a11 a12 a13 a14 a15 a16 : FVec Ideal S256x128 .f32) : FVec Ideal S256x2176 .bf16 :=
  k0_pay111 (concatenate S256x2176 1 [⟨S256x128, a0⟩, ⟨S256x128, a1⟩, ⟨S256x128, a2⟩, ⟨S256x128, a3⟩, ⟨S256x128, a4⟩, ⟨S256x128, a5⟩, ⟨S256x128, a6⟩, ⟨S256x128, a7⟩, ⟨S256x128, a8⟩,
      ⟨S256x128, a9⟩, ⟨S256x128, a10⟩, ⟨S256x128, a11⟩, ⟨S256x128, a12⟩, ⟨S256x128, a13⟩, ⟨S256x128, a14⟩, ⟨S256x128, a15⟩, ⟨S256x128, a16⟩]
    concatenates_S256x128_S256x128_S256x128_S256x128_S256x128_S256x128_S256x128_S256x128_S256x128_S256x128_S256x128_S256x128_S256x128_S256x128_S256x128_S256x128_S256x128_S256x2176_d1)

theorem joined (f : Fin 17 → FVec Ideal S256x128 .f32) (r : Fin 256) (p : Fin 17) (l : Fin 128) :
    side (f 0) (f 1) (f 2) (f 3) (f 4) (f 5) (f 6) (f 7) (f 8) (f 9) (f 10) (f 11) (f 12) (f 13) (f 14) (f 15) (f 16) (ix2 r ⟨p.val * 128 + l.val, by omega⟩) = f p (ix2 r l) := by
  refine concatenate_ofFn_apply (t := S256x2176) (s₁ := S256x128) (1 : Fin 2) f concatenates_S256x128_S256x128_S256x128_S256x128_S256x128_S256x128_S256x128_S256x128_S256x128_S256x128_S256x128_S256x128_S256x128_S256x128_S256x128_S256x128_S256x128_S256x2176_d1 rfl 128 rfl (ix2 r ⟨p.val * 128 + l.val, by omega⟩) p ?_ (ix2 r l) ?_ ?_
  · change (p.val * 128 + l.val) / 128 = p.val
    omega
  · change l.val = (p.val * 128 + l.val) % 128
    omega
  · intro b hb
    fin_cases b
    · rfl
    · exact absurd rfl hb

/-- Eight rows side by side, added to the running row. -/
theorem added (f : Fin 8 → FVec Ideal S1x128 .f32) (acc : Vec Ideal S1x1024 .f32) (r : Fin 1) (h : Fin 8) (l : Fin 128) :
    k0_pay115 (f 0) (f 1) (f 2) (f 3) (f 4) (f 5) (f 6) (f 7) acc (ix2 r ⟨h.val * 128 + l.val, by omega⟩)
    = (acc (ix2 r ⟨h.val * 128 + l.val, by omega⟩) : EReal) + (f h (ix2 r l) : EReal) := by
  have := l.isLt
  obtain rfl : r = 0 := Fin.eq_zero r
  fin_cases h <;> pointwise [k0_pay115] <;> (try simp (discharger := omega) only [dif_pos, dif_neg]) <;>
    (try simp (discharger := omega) only [Nat.add_sub_cancel_left, Nat.sub_sub, Nat.reduceAdd]) <;> rfl

section Block

variable (x : Vec Ideal S256x2176 .f32) (dq dk d : Vec Ideal S256x1024 .f32) (dl : Vec Ideal S256x128 .f32) (g1 g2 : Vec Ideal S1x1024 .f32) (b : Vec Ideal S1x128 .f32)

theorem query_value (r : Fin 256) (h : Fin 8) (l : Fin 128) :
    (![k0_pay4 x dq g1, k0_pay17 (k0_pay11 x) (k0_pay14 dq g1) (k0_pay15 x dq g1) (k0_pay16 x), k0_pay29 (k0_pay24 x) (k0_pay25 g1) (k0_pay26 dq)
    (k0_pay27 x), k0_pay44 x dq g1, k0_pay57 x dq g1, k0_pay71 (k0_pay66 x) (k0_pay68 x) (k0_pay69 dq g1) (k0_pay70 x dq g1), k0_pay82 dq (k0_pay78 x)
    (k0_pay79 g1), k0_pay96 x dq g1] h (ix2 r l) : EReal) = head (fun k => x (ix2 r k)) (fun k => dq (ix2 r k)) (fun k => g1 (ix2 0 k)) 0 (by omega) h l := by
  unfold head Head.grad Head.scale Head.size Head.mean
  fin_cases h <;> pointwise [k0_pay1, k0_pay2, k0_pay3, k0_pay4, k0_pay11, k0_pay12, k0_pay13, k0_pay14, k0_pay15, k0_pay16, k0_pay17, k0_pay24, k0_pay25, k0_pay26, k0_pay27, k0_pay28, k0_pay29, k0_pay41, k0_pay42, k0_pay43, k0_pay44, k0_pay54, k0_pay55, k0_pay56, k0_pay57, k0_pay66, k0_pay67, k0_pay68, k0_pay69, k0_pay70, k0_pay71, k0_pay78, k0_pay79, k0_pay80, k0_pay81, k0_pay82, k0_pay93, k0_pay94, k0_pay95, k0_pay96]

theorem key_value (r : Fin 256) (h : Fin 8) (l : Fin 128) :
    (![k0_pay9 x dk g2, k0_pay22 x dk g2, k0_pay39 (k0_pay35 x dk g2) (k0_pay36 x) (k0_pay37 x dk g2) k0_pay38, k0_pay52 (k0_pay46 x) (k0_pay47 g2)
    (k0_pay48 dk) (k0_pay49 x) k0_pay50, k0_pay64 x dk g2, k0_pay76 x dk g2, k0_pay91 (k0_pay88 x dk g2) (k0_pay89 x) (k0_pay90 x dk g2), k0_pay103
    (k0_pay98 x) (k0_pay99 g2) (k0_pay100 dk) (k0_pay101 x) (FloatOps.ofBits .f32 1124073472#32)] h (ix2 r l) : EReal) = head (fun k => x (ix2 r k)) (fun k => dk (ix2 r k)) (fun k => g2 (ix2 0 k)) 1024 (by omega) h l := by
  unfold head Head.grad Head.scale Head.size Head.mean
  fin_cases h <;> pointwise [k0_pay6, k0_pay7, k0_pay8, k0_pay9, k0_pay19, k0_pay20, k0_pay21, k0_pay22, k0_pay31, k0_pay32, k0_pay33, k0_pay34, k0_pay35, k0_pay36, k0_pay37, k0_pay38, k0_pay39, k0_pay46, k0_pay47, k0_pay48, k0_pay49, k0_pay50, k0_pay51, k0_pay52, k0_pay61, k0_pay62, k0_pay63, k0_pay64, k0_pay73, k0_pay74, k0_pay75, k0_pay76, k0_pay84, k0_pay85, k0_pay86, k0_pay87, k0_pay88, k0_pay89, k0_pay90, k0_pay91, k0_pay98, k0_pay99, k0_pay100, k0_pay101, k0_pay102, k0_pay103] <;> simp only [← Nat.add_assoc, Nat.reduceAdd]

theorem gate_value (t : Fin 17) (r : Fin 256) (l : Fin 128) :
    (k0_pay110 dl (k0_pay106 x b) (k0_pay107 x b) (k0_pay108 (BitVec.ofNat 32 t.val)) (k0_pay109 x b) (ix2 r l) : EReal)
    = gate (fun k => x (ix2 r k)) (fun k => dl (ix2 r k)) (fun k => b (ix2 0 k)) (t.val * 256 + r.val) l := by
  have := t.isLt
  pointwise [k0_pay105, k0_pay106, k0_pay107, k0_pay108, k0_pay109, k0_pay110]
  rw [show IntOp.addi (Scalar.muli (BitVec.ofNat 32 t.val) 256#32) (BitVec.ofNat 32 r.val) = BitVec.ofNat 32 (t.val * 256 + r.val) by
    rw [BitVec.ofNat_add, BitVec.ofNat_mul]; rfl]
  rw [WordCmp.cmpi_sge_ofNat (b := 240) (by omega) (by omega), WordCmp.cmpi_slt_ofNat (b := 8) (by omega) (by omega)]
  exact select_mask _ _

theorem query_share (acc : Vec Ideal S1x1024 .f32) (r : Fin 1) (h : Fin 8) (l : Fin 128) : (k0_pay115 (k0_pay5 x d) (k0_pay18 (k0_pay11 x) (k0_pay12 d) (k0_pay13 x)) (k0_pay30 (k0_pay24 x) (k0_pay26 d) (k0_pay27 x)) (k0_pay45 x d) (k0_pay60
    (k0_pay58 x d) (k0_pay59 x)) (k0_pay72 (k0_pay66 x) (k0_pay67 d) (k0_pay68 x)) (k0_pay83 d (k0_pay78 x)) (k0_pay97 x d) acc (ix2 r ⟨h.val * 128 + l.val, by omega⟩) : EReal)
    = (acc (ix2 r ⟨h.val * 128 + l.val, by omega⟩) : EReal)
      + ∑ k : Fin 256, share (fun j => x (ix2 k j)) (fun j => d (ix2 k j)) 0 (by omega) h l := by
  refine (added ![k0_pay5 x d, k0_pay18 (k0_pay11 x) (k0_pay12 d) (k0_pay13 x), k0_pay30 (k0_pay24 x) (k0_pay26 d) (k0_pay27 x), k0_pay45 x d, k0_pay60 (k0_pay58 x
    d) (k0_pay59 x), k0_pay72 (k0_pay66 x) (k0_pay67 d) (k0_pay68 x), k0_pay83 d (k0_pay78 x), k0_pay97 x d] acc r h l).trans (congrArg (fun z : EReal => _ + z) ?_)
  unfold share Head.scale Head.size Head.mean
  fin_cases h <;> pointwise [k0_pay1, k0_pay2, k0_pay3, k0_pay5, k0_pay11, k0_pay12, k0_pay13, k0_pay18, k0_pay24, k0_pay26, k0_pay27, k0_pay28, k0_pay30, k0_pay41, k0_pay42, k0_pay43, k0_pay45, k0_pay54, k0_pay55, k0_pay56, k0_pay58, k0_pay59, k0_pay60, k0_pay66, k0_pay67, k0_pay68, k0_pay72, k0_pay78, k0_pay80, k0_pay81, k0_pay83, k0_pay93, k0_pay94, k0_pay95, k0_pay97]

theorem key_share (acc : Vec Ideal S1x1024 .f32) (r : Fin 1) (h : Fin 8) (l : Fin 128) : (k0_pay116 (k0_pay10 x d) (k0_pay23 x d) (k0_pay40 (k0_pay31 x) (k0_pay32 d) (k0_pay33 x)) (k0_pay53 (k0_pay46 x) (k0_pay48 d) (k0_pay49 x) k0_pay50)
    (k0_pay65 x d) (k0_pay77 x d) (k0_pay92 (k0_pay84 x) (k0_pay85 d) (k0_pay86 x)) (k0_pay104 (k0_pay98 x) (k0_pay100 d) (k0_pay101 x)
    (FloatOps.ofBits .f32 1124073472#32)) acc (ix2 r ⟨h.val * 128 + l.val, by omega⟩) : EReal)
    = (acc (ix2 r ⟨h.val * 128 + l.val, by omega⟩) : EReal)
      + ∑ k : Fin 256, share (fun j => x (ix2 k j)) (fun j => d (ix2 k j)) 1024 (by omega) h l := by
  refine (added ![k0_pay10 x d, k0_pay23 x d, k0_pay40 (k0_pay31 x) (k0_pay32 d) (k0_pay33 x), k0_pay53 (k0_pay46 x) (k0_pay48 d) (k0_pay49 x) k0_pay50, k0_pay65 x
    d, k0_pay77 x d, k0_pay92 (k0_pay84 x) (k0_pay85 d) (k0_pay86 x), k0_pay104 (k0_pay98 x) (k0_pay100 d) (k0_pay101 x) (FloatOps.ofBits .f32
    1124073472#32)] acc r h l).trans (congrArg (fun z : EReal => _ + z) ?_)
  unfold share Head.scale Head.size Head.mean
  fin_cases h <;> pointwise [k0_pay6, k0_pay7, k0_pay8, k0_pay10, k0_pay19, k0_pay20, k0_pay21, k0_pay23, k0_pay31, k0_pay32, k0_pay33, k0_pay40, k0_pay46, k0_pay48, k0_pay49, k0_pay50, k0_pay51, k0_pay53, k0_pay61, k0_pay62, k0_pay63, k0_pay65, k0_pay73, k0_pay74, k0_pay75, k0_pay77, k0_pay84, k0_pay85, k0_pay86, k0_pay92, k0_pay98, k0_pay100, k0_pay101, k0_pay102, k0_pay104] <;> simp only [← Nat.add_assoc, Nat.reduceAdd]

theorem gate_share (acc : Vec Ideal S1x128 .f32) (t : Fin 17) (r : Fin 1) (l : Fin 128) :
    (k0_pay117 (k0_pay110 dl (k0_pay106 x b) (k0_pay107 x b) (k0_pay108 (BitVec.ofNat 32 t.val)) (k0_pay109 x b)) acc (ix2 r l) : EReal)
    = (acc (ix2 r l) : EReal) + ∑ k : Fin 256, gate (fun j => x (ix2 k j)) (fun j => dl (ix2 k j)) (fun j => b (ix2 0 j)) (t.val * 256 + k.val) l := by
  simp only [← gate_value x dl b t]
  pointwise [k0_pay117]

end Block

section Written

variable (x : Vec Ideal S256x2176 .f32) (dq dk : Vec Ideal S256x1024 .f32) (dl : Vec Ideal S256x128 .f32) (g1 g2 : Vec Ideal S1x1024 .f32) (b : Vec Ideal S1x128 .f32)

theorem block_value (t : Fin 17) (r : Fin 256) (p : Fin 17) (l : Fin 128) :
    (side (k0_pay4 x dq g1) (k0_pay17 (k0_pay11 x) (k0_pay14 dq g1) (k0_pay15 x dq g1) (k0_pay16 x)) (k0_pay29 (k0_pay24 x) (k0_pay25 g1) (k0_pay26 dq)
    (k0_pay27 x)) (k0_pay44 x dq g1) (k0_pay57 x dq g1) (k0_pay71 (k0_pay66 x) (k0_pay68 x) (k0_pay69 dq g1) (k0_pay70 x dq g1)) (k0_pay82 dq
    (k0_pay78 x) (k0_pay79 g1)) (k0_pay96 x dq g1) (k0_pay9 x dk g2) (k0_pay22 x dk g2) (k0_pay39 (k0_pay35 x dk g2) (k0_pay36 x) (k0_pay37 x dk g2)
    k0_pay38) (k0_pay52 (k0_pay46 x) (k0_pay47 g2) (k0_pay48 dk) (k0_pay49 x) k0_pay50) (k0_pay64 x dk g2) (k0_pay76 x dk g2) (k0_pay91 (k0_pay88 x dk
    g2) (k0_pay89 x) (k0_pay90 x dk g2)) (k0_pay103 (k0_pay98 x) (k0_pay99 g2) (k0_pay100 dk) (k0_pay101 x) (FloatOps.ofBits .f32 1124073472#32))
    (k0_pay110 dl (k0_pay106 x b) (k0_pay107 x b) (k0_pay108 (BitVec.ofNat 32 t.val)) (k0_pay109 x b)) (ix2 r ⟨p.val * 128 + l.val, by omega⟩) : EReal)
    = entry (fun k => x (ix2 r k)) (fun k => dq (ix2 r k)) (fun k => dk (ix2 r k))
      (gate (fun k => x (ix2 r k)) (fun k => dl (ix2 r k)) (fun k => b (ix2 0 k)) (t.val * 256 + r.val)) (fun k => g1 (ix2 0 k)) (fun k => g2 (ix2 0 k)) p l := by
  refine (joined ![k0_pay4 x dq g1, k0_pay17 (k0_pay11 x) (k0_pay14 dq g1) (k0_pay15 x dq g1) (k0_pay16 x), k0_pay29 (k0_pay24 x) (k0_pay25 g1) (k0_pay26 dq)
    (k0_pay27 x), k0_pay44 x dq g1, k0_pay57 x dq g1, k0_pay71 (k0_pay66 x) (k0_pay68 x) (k0_pay69 dq g1) (k0_pay70 x dq g1), k0_pay82 dq (k0_pay78 x)
    (k0_pay79 g1), k0_pay96 x dq g1, k0_pay9 x dk g2, k0_pay22 x dk g2, k0_pay39 (k0_pay35 x dk g2) (k0_pay36 x) (k0_pay37 x dk g2) k0_pay38, k0_pay52
    (k0_pay46 x) (k0_pay47 g2) (k0_pay48 dk) (k0_pay49 x) k0_pay50, k0_pay64 x dk g2, k0_pay76 x dk g2, k0_pay91 (k0_pay88 x dk g2) (k0_pay89 x)
    (k0_pay90 x dk g2), k0_pay103 (k0_pay98 x) (k0_pay99 g2) (k0_pay100 dk) (k0_pay101 x) (FloatOps.ofBits .f32 1124073472#32), k0_pay110 dl
    (k0_pay106 x b) (k0_pay107 x b) (k0_pay108 (BitVec.ofNat 32 t.val)) (k0_pay109 x b)] r p l).trans ?_
  unfold entry
  rw [← gate_value x dl b t r l]
  simp only [← query_value x dq g1 r, ← key_value x dk g2 r]
  fin_cases p <;> rfl

end Written

section Points

variable (m : (ℓ : Loc nD τ sig) → Buf (Elt Ideal) ℓ) (c : Dev nD) (t : Fin cfg0.N)

theorem rows (r : Fin 256) (k : Fin 2176) (i : Fin 4352) (h : i.val = t.val * 256 + r.val) :
    (iblk m c 0 t (ix2 r k) : EReal) = (m ((c : Thread nD τ).loc main_arg0)) (ix2 i k) := by
  blk_point [iblk, V, idx t]

theorem queries (r : Fin 256) (k : Fin 1024) (i : Fin 4352) (h : i.val = t.val * 256 + r.val) :
    (iblk m c 1 t (ix2 r k) : EReal) = (m ((c : Thread nD τ).loc main_arg1)) (ix2 i k) := by
  blk_point [iblk, V, idx t]

theorem keys (r : Fin 256) (k : Fin 1024) (i : Fin 4352) (h : i.val = t.val * 256 + r.val) :
    (iblk m c 2 t (ix2 r k) : EReal) = (m ((c : Thread nD τ).loc main_arg2)) (ix2 i k) := by
  blk_point [iblk, V, idx t]

theorem gates (r : Fin 256) (k : Fin 128) (i : Fin 4352) (h : i.val = t.val * 256 + r.val) :
    (iblk m c 3 t (ix2 r k) : EReal) = (m ((c : Thread nD τ).loc main_arg3)) (ix2 i k) := by
  blk_point [iblk, V, idx t]

theorem gain1 (k : Fin 1024) : (iblk m c 4 t (ix2 0 k) : EReal) = (m ((c : Thread nD τ).loc main_arg4)) (ix2 0 k) := by
  blk_point [iblk, V, idx t]

theorem gain2 (k : Fin 1024) : (iblk m c 5 t (ix2 0 k) : EReal) = (m ((c : Thread nD τ).loc main_arg5)) (ix2 0 k) := by
  blk_point [iblk, V, idx t]

theorem offset (k : Fin 128) : (iblk m c 6 t (ix2 0 k) : EReal) = (m ((c : Thread nD τ).loc main_arg6)) (ix2 0 k) := by
  blk_point [iblk, V, idx t]

/-- The entry a point writes, of its blocks. -/
def blockEntry (r : Fin 256) (p : Fin 17) (l : Fin 128) : EReal :=
  entry (fun k => iblk m c 0 t (ix2 r k)) (fun k => iblk m c 1 t (ix2 r k)) (fun k => iblk m c 2 t (ix2 r k))
    (gate (fun k => iblk m c 0 t (ix2 r k)) (fun k => iblk m c 3 t (ix2 r k)) (fun k => iblk m c 6 t (ix2 0 k)) (t.val * 256 + r.val))
    (fun k => iblk m c 4 t (ix2 0 k)) (fun k => iblk m c 5 t (ix2 0 k)) p l

theorem written (r : Fin 256) (p : Fin 17) (l : Fin 128) :
    ((outsAt0 m c t.val t.isLt).1 (ix2 r ⟨p.val * 128 + l.val, by omega⟩) : EReal) = blockEntry m c t r p l := by
  by_cases h : t.val % 17 = 0
  · rw [outsAt0_A m c t h]
    frame_out
    change side _ _ _ _ _ _ _ _ _ _ _ _ _ _ _ _ _ _ = _
    frame_out
    rw [point t]
    exact block_value (iblk m c 0 t) (iblk m c 1 t) (iblk m c 2 t) (iblk m c 3 t) (iblk m c 4 t) (iblk m c 5 t) (iblk m c 6 t) ⟨t.val, t.isLt⟩ r p l
  · rw [outsAt0_B m c t h]
    frame_out
    change side _ _ _ _ _ _ _ _ _ _ _ _ _ _ _ _ _ _ = _
    frame_out
    rw [point t]
    exact block_value (iblk m c 0 t) (iblk m c 1 t) (iblk m c 2 t) (iblk m c 3 t) (iblk m c 4 t) (iblk m c 5 t) (iblk m c 6 t) ⟨t.val, t.isLt⟩ r p l

theorem placed (r : Fin 256) (p : Fin 17) (l : Fin 128) (i : S4352x2176.Idx) (h0 : (i 0 : ℕ) = t.val * 256 + r.val) (h1 : (i 1 : ℕ) = p.val * 128 + l.val) :
    blockEntry m c t r p l = input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  have e : i = ix2 (i 0) ⟨p.val * 128 + l.val, by omega⟩ := by
    funext a
    fin_cases a
    · rfl
    · exact Fin.ext h1
  rw [e]
  refine Eq.trans ?_ (input_at _ _ _ _ _ _ _ (i 0) p l _).symm
  unfold blockEntry
  simp only [rows m c t r _ (i 0) h0, queries m c t r _ (i 0) h0, keys m c t r _ (i 0) h0, gates m c t r _ (i 0) h0, gain1 m c t, gain2 m c t, offset m c t, h0]

end Points

theorem zero_query (y) : (k0_pay112 (F := Ideal) y : EReal) = 0 := by pointwise [k0_pay112]
theorem zero_key (y) : (k0_pay113 (F := Ideal) y : EReal) = 0 := by pointwise [k0_pay113]
theorem zero_gate (y) : (k0_pay114 (F := Ideal) y : EReal) = 0 := by pointwise [k0_pay114]

/-- A sum that starts with the first point's part and takes each later point's part is the sum of the parts. -/
theorem running (a : (r : ℕ) → r < 17 → EReal) (p : Fin 17 → EReal) (first : a 0 (by omega) = p 0)
    (next : ∀ (r : ℕ) (h : r + 1 < 17), a (r + 1) h = a r (by omega) + p ⟨r + 1, h⟩) (r : ℕ) (hr : r < 17) :
    a r hr = ∑ s : Fin (r + 1), p ⟨s.val, by omega⟩ := by
  induction r with
  | zero =>
    rw [Fin.sum_univ_one]
    exact first
  | succ r ih =>
    rw [Fin.sum_univ_castSucc (n := r + 1)]
    exact (next r hr).trans (congrArg (fun z : EReal => z + _) (ih (by omega)))

section Sums

variable (m : (ℓ : Loc nD τ sig) → Buf (Elt Ideal) ℓ) (c : Dev nD)

/-- The shares of the rows of point `s`. -/
def part (x : FVec Ideal S4352x2176 .f32) (d : FVec Ideal S4352x1024 .f32) (off : ℕ) (ho : off + 1024 ≤ 2176) (h : Fin 8) (l : Fin 128) (s : Fin 17) : EReal :=
  ∑ k : Fin 256, share (fun j => x (ix2 ⟨s.val * 256 + k.val, by omega⟩ j)) (fun j => d (ix2 ⟨s.val * 256 + k.val, by omega⟩ j)) off ho h l

def gatePart (x : FVec Ideal S4352x2176 .f32) (dl : FVec Ideal S4352x128 .f32) (b : FVec Ideal S1x128 .f32) (l : Fin 128) (s : Fin 17) : EReal :=
  ∑ k : Fin 256, gate (fun j => x (ix2 ⟨s.val * 256 + k.val, by omega⟩ j)) (fun j => dl (ix2 ⟨s.val * 256 + k.val, by omega⟩ j)) (fun j => b (ix2 0 j)) (s.val * 256 + k.val) l

theorem query_part (t : Fin cfg0.N) (h : Fin 8) (l : Fin 128) :
    (∑ k : Fin 256, share (fun j => iblk m c 0 t (ix2 k j)) (fun j => iblk m c 1 t (ix2 k j)) 0 (by omega) h l)
    = part (m ((c : Thread nD τ).loc main_arg0)) (m ((c : Thread nD τ).loc main_arg1)) 0 (by omega) h l ⟨t.val, t.isLt⟩ := by
  unfold part
  refine Finset.sum_congr rfl fun k _ => ?_
  have lt : t.val < 17 := t.isLt
  simp only [rows m c t k _ ⟨t.val * 256 + k.val, by omega⟩ rfl, queries m c t k _ ⟨t.val * 256 + k.val, by omega⟩ rfl]

theorem key_part (t : Fin cfg0.N) (h : Fin 8) (l : Fin 128) :
    (∑ k : Fin 256, share (fun j => iblk m c 0 t (ix2 k j)) (fun j => iblk m c 2 t (ix2 k j)) 1024 (by omega) h l)
    = part (m ((c : Thread nD τ).loc main_arg0)) (m ((c : Thread nD τ).loc main_arg2)) 1024 (by omega) h l ⟨t.val, t.isLt⟩ := by
  unfold part
  refine Finset.sum_congr rfl fun k _ => ?_
  have lt : t.val < 17 := t.isLt
  simp only [rows m c t k _ ⟨t.val * 256 + k.val, by omega⟩ rfl, keys m c t k _ ⟨t.val * 256 + k.val, by omega⟩ rfl]

theorem gate_part (t : Fin cfg0.N) (l : Fin 128) :
    (∑ k : Fin 256, gate (fun j => iblk m c 0 t (ix2 k j)) (fun j => iblk m c 3 t (ix2 k j)) (fun j => iblk m c 6 t (ix2 0 j)) (t.val * 256 + k.val) l)
    = gatePart (m ((c : Thread nD τ).loc main_arg0)) (m ((c : Thread nD τ).loc main_arg3)) (m ((c : Thread nD τ).loc main_arg6)) l ⟨t.val, t.isLt⟩ := by
  unfold gatePart
  refine Finset.sum_congr rfl fun k _ => ?_
  have lt : t.val < 17 := t.isLt
  simp only [rows m c t k _ ⟨t.val * 256 + k.val, by omega⟩ rfl, gates m c t k _ ⟨t.val * 256 + k.val, by omega⟩ rfl, offset m c t]

theorem query_first (t : Fin cfg0.N) (z : t.val % 17 = 0) (i : Fin 1) (h : Fin 8) (l : Fin 128) :
    ((outsAt0 m c t.val t.isLt).2.1 (ix2 i ⟨h.val * 128 + l.val, by omega⟩) : EReal)
    = part (m ((c : Thread nD τ).loc main_arg0)) (m ((c : Thread nD τ).loc main_arg1)) 0 (by omega) h l ⟨t.val, t.isLt⟩ := by
  rw [outsAt0_A m c t z]
  frame_out
  refine (query_share (iblk m c 0 t) (iblk m c 1 t) _ i h l).trans ?_
  rw [query_part m c t h l, zero_query]
  exact zero_add _

theorem query_next (t : Fin cfg0.N) (z : ¬t.val % 17 = 0) (i : Fin 1) (h : Fin 8) (l : Fin 128) :
    ((outsAt0 m c t.val t.isLt).2.1 (ix2 i ⟨h.val * 128 + l.val, by omega⟩) : EReal)
    = ((outsAt0 m c (t.val - 1) (Nat.lt_of_le_of_lt (Nat.sub_le _ _) t.isLt)).2.1 (ix2 i ⟨h.val * 128 + l.val, by omega⟩) : EReal) + part (m ((c : Thread nD τ).loc main_arg0)) (m ((c : Thread nD τ).loc main_arg1)) 0 (by omega) h l ⟨t.val, t.isLt⟩ := by
  rw [outsAt0_B m c t z]
  frame_out
  refine (query_share (iblk m c 0 t) (iblk m c 1 t) _ i h l).trans ?_
  rw [query_part m c t h l]

theorem query_running (r : ℕ) (hr : r < 17) (i : Fin 1) (h : Fin 8) (l : Fin 128) :
    ((outsAt0 m c r hr).2.1 (ix2 i ⟨h.val * 128 + l.val, by omega⟩) : EReal) = ∑ s : Fin (r + 1), part (m ((c : Thread nD τ).loc main_arg0)) (m ((c : Thread nD τ).loc main_arg1)) 0 (by omega) h l ⟨s.val, by omega⟩ :=
  running (fun r hr => (outsAt0 m c r hr).2.1 (ix2 i ⟨h.val * 128 + l.val, by omega⟩)) (part (m ((c : Thread nD τ).loc main_arg0)) (m ((c : Thread nD τ).loc main_arg1)) 0 (by omega) h l) (query_first m c ⟨0, by decide⟩ rfl i h l)
    (fun r hr => query_next m c ⟨r + 1, hr⟩ (by dsimp only; omega) i h l) r hr

theorem query_at (r : ℕ) (hr : r < 17) (y : S1x1024.Idx) (i : Fin 1) (h : Fin 8) (l : Fin 128) (hy : y = (ix2 i ⟨h.val * 128 + l.val, by omega⟩)) :
    ((outsAt0 m c r hr).2.1 y : EReal) = ∑ s : Fin (r + 1), part (m ((c : Thread nD τ).loc main_arg0)) (m ((c : Thread nD τ).loc main_arg1)) 0 (by omega) h l ⟨s.val, by omega⟩ := by
  subst hy
  exact query_running m c r hr i h l

theorem key_first (t : Fin cfg0.N) (z : t.val % 17 = 0) (i : Fin 1) (h : Fin 8) (l : Fin 128) :
    ((outsAt0 m c t.val t.isLt).2.2.1 (ix2 i ⟨h.val * 128 + l.val, by omega⟩) : EReal)
    = part (m ((c : Thread nD τ).loc main_arg0)) (m ((c : Thread nD τ).loc main_arg2)) 1024 (by omega) h l ⟨t.val, t.isLt⟩ := by
  rw [outsAt0_A m c t z]
  frame_out
  refine (key_share (iblk m c 0 t) (iblk m c 2 t) _ i h l).trans ?_
  rw [key_part m c t h l, zero_key]
  exact zero_add _

theorem key_next (t : Fin cfg0.N) (z : ¬t.val % 17 = 0) (i : Fin 1) (h : Fin 8) (l : Fin 128) :
    ((outsAt0 m c t.val t.isLt).2.2.1 (ix2 i ⟨h.val * 128 + l.val, by omega⟩) : EReal)
    = ((outsAt0 m c (t.val - 1) (Nat.lt_of_le_of_lt (Nat.sub_le _ _) t.isLt)).2.2.1 (ix2 i ⟨h.val * 128 + l.val, by omega⟩) : EReal) + part (m ((c : Thread nD τ).loc main_arg0)) (m ((c : Thread nD τ).loc main_arg2)) 1024 (by omega) h l ⟨t.val, t.isLt⟩ := by
  rw [outsAt0_B m c t z]
  frame_out
  refine (key_share (iblk m c 0 t) (iblk m c 2 t) _ i h l).trans ?_
  rw [key_part m c t h l]

theorem key_running (r : ℕ) (hr : r < 17) (i : Fin 1) (h : Fin 8) (l : Fin 128) :
    ((outsAt0 m c r hr).2.2.1 (ix2 i ⟨h.val * 128 + l.val, by omega⟩) : EReal) = ∑ s : Fin (r + 1), part (m ((c : Thread nD τ).loc main_arg0)) (m ((c : Thread nD τ).loc main_arg2)) 1024 (by omega) h l ⟨s.val, by omega⟩ :=
  running (fun r hr => (outsAt0 m c r hr).2.2.1 (ix2 i ⟨h.val * 128 + l.val, by omega⟩)) (part (m ((c : Thread nD τ).loc main_arg0)) (m ((c : Thread nD τ).loc main_arg2)) 1024 (by omega) h l) (key_first m c ⟨0, by decide⟩ rfl i h l)
    (fun r hr => key_next m c ⟨r + 1, hr⟩ (by dsimp only; omega) i h l) r hr

theorem key_at (r : ℕ) (hr : r < 17) (y : S1x1024.Idx) (i : Fin 1) (h : Fin 8) (l : Fin 128) (hy : y = (ix2 i ⟨h.val * 128 + l.val, by omega⟩)) :
    ((outsAt0 m c r hr).2.2.1 y : EReal) = ∑ s : Fin (r + 1), part (m ((c : Thread nD τ).loc main_arg0)) (m ((c : Thread nD τ).loc main_arg2)) 1024 (by omega) h l ⟨s.val, by omega⟩ := by
  subst hy
  exact key_running m c r hr i h l

theorem gate_first (t : Fin cfg0.N) (z : t.val % 17 = 0) (i : Fin 1) (l : Fin 128) :
    ((outsAt0 m c t.val t.isLt).2.2.2 (ix2 i l) : EReal)
    = gatePart (m ((c : Thread nD τ).loc main_arg0)) (m ((c : Thread nD τ).loc main_arg3)) (m ((c : Thread nD τ).loc main_arg6)) l ⟨t.val, t.isLt⟩ := by
  rw [outsAt0_A m c t z]
  frame_out
  rw [point t]
  refine (gate_share (iblk m c 0 t) (iblk m c 3 t) (iblk m c 6 t) _ ⟨t.val, t.isLt⟩ i l).trans ?_
  rw [gate_part m c t l, zero_gate]
  exact zero_add _

theorem gate_next (t : Fin cfg0.N) (z : ¬t.val % 17 = 0) (i : Fin 1) (l : Fin 128) :
    ((outsAt0 m c t.val t.isLt).2.2.2 (ix2 i l) : EReal)
    = ((outsAt0 m c (t.val - 1) (Nat.lt_of_le_of_lt (Nat.sub_le _ _) t.isLt)).2.2.2 (ix2 i l) : EReal) + gatePart (m ((c : Thread nD τ).loc main_arg0)) (m ((c : Thread nD τ).loc main_arg3)) (m ((c : Thread nD τ).loc main_arg6)) l ⟨t.val, t.isLt⟩ := by
  rw [outsAt0_B m c t z]
  frame_out
  rw [point t]
  refine (gate_share (iblk m c 0 t) (iblk m c 3 t) (iblk m c 6 t) _ ⟨t.val, t.isLt⟩ i l).trans ?_
  rw [gate_part m c t l]

theorem gate_running (r : ℕ) (hr : r < 17) (i : Fin 1) (l : Fin 128) :
    ((outsAt0 m c r hr).2.2.2 (ix2 i l) : EReal) = ∑ s : Fin (r + 1), gatePart (m ((c : Thread nD τ).loc main_arg0)) (m ((c : Thread nD τ).loc main_arg3)) (m ((c : Thread nD τ).loc main_arg6)) l ⟨s.val, by omega⟩ :=
  running (fun r hr => (outsAt0 m c r hr).2.2.2 (ix2 i l)) (gatePart (m ((c : Thread nD τ).loc main_arg0)) (m ((c : Thread nD τ).loc main_arg3)) (m ((c : Thread nD τ).loc main_arg6)) l) (gate_first m c ⟨0, by decide⟩ rfl i l)
    (fun r hr => gate_next m c ⟨r + 1, hr⟩ (by dsimp only; omega) i l) r hr

theorem gate_at (r : ℕ) (hr : r < 17) (y : S1x128.Idx) (i : Fin 1) (l : Fin 128) (hy : y = (ix2 i l)) :
    ((outsAt0 m c r hr).2.2.2 y : EReal) = ∑ s : Fin (r + 1), gatePart (m ((c : Thread nD τ).loc main_arg0)) (m ((c : Thread nD τ).loc main_arg3)) (m ((c : Thread nD τ).loc main_arg6)) l ⟨s.val, by omega⟩ := by
  subst hy
  exact gate_running m c r hr i l

theorem total (x : FVec Ideal S4352x2176 .f32) (d : FVec Ideal S4352x1024 .f32) (off : ℕ) (ho : off + 1024 ≤ 2176) (i : Fin 1) (h : Fin 8) (l : Fin 128)
    (q : h.val * 128 + l.val < 1024) (n : ℕ) (hn : n = 16) : (∑ s : Fin (n + 1), part x d off ho h l ⟨s.val, by omega⟩) = gain x d off ho (ix2 i ⟨h.val * 128 + l.val, q⟩) := by
  have e : gain x d off ho (ix2 i ⟨h.val * 128 + l.val, q⟩)
      = ∑ k : Fin 4352, share (fun j => x (ix2 k j)) (fun j => d (ix2 k j)) off ho (hd ⟨h.val * 128 + l.val, q⟩) (ln ⟨h.val * 128 + l.val, q⟩) := rfl
  subst hn
  rw [e, hd_at, ln_at]
  unfold part
  exact Fin.sum_mul_add_congr fun s k hl => rfl

theorem gate_total (x : FVec Ideal S4352x2176 .f32) (dl : FVec Ideal S4352x128 .f32) (b : FVec Ideal S1x128 .f32) (i : Fin 1) (l : Fin 128) (n : ℕ) (hn : n = 16) :
    (∑ s : Fin (n + 1), gatePart x dl b l ⟨s.val, by omega⟩) = bias x dl b (ix2 i l) := by
  subst hn
  unfold gatePart bias
  exact Fin.sum_mul_add_congr fun s k hl => rfl

theorem query_end (t : Fin cfg0.N) (g : t.val % 17 = 16) (y z : S1x1024.Idx) (e : z 1 = y 1) : ((outsAt0 m c t.val t.isLt).2.1 y : EReal) = gain (m ((c : Thread nD τ).loc main_arg0)) (m ((c : Thread nD τ).loc main_arg1)) 0 (by omega) z := by
  have lt : t.val < 17 := t.isLt
  obtain ⟨h, l, hl⟩ := columns (y 1)
  have hy : y = ix2 (y 0) ⟨h.val * 128 + l.val, by omega⟩ := by
    funext a
    fin_cases a
    · rfl
    · exact hl
  refine (query_at m c t.val lt y (y 0) h l hy).trans ((total _ _ _ _ (y 0) h l (by omega) t.val (by omega)).trans ?_)
  unfold gain
  exact congrArg (fun j : Fin 1024 => ∑ k : Fin 4352, share (fun n => (m ((c : Thread nD τ).loc main_arg0)) (ix2 k n)) (fun n => (m ((c : Thread nD τ).loc main_arg1)) (ix2 k n)) 0 (by omega) (hd j) (ln j)) (e.trans hl).symm

theorem key_end (t : Fin cfg0.N) (g : t.val % 17 = 16) (y z : S1x1024.Idx) (e : z 1 = y 1) : ((outsAt0 m c t.val t.isLt).2.2.1 y : EReal) = gain (m ((c : Thread nD τ).loc main_arg0)) (m ((c : Thread nD τ).loc main_arg2)) 1024 (by omega) z := by
  have lt : t.val < 17 := t.isLt
  obtain ⟨h, l, hl⟩ := columns (y 1)
  have hy : y = ix2 (y 0) ⟨h.val * 128 + l.val, by omega⟩ := by
    funext a
    fin_cases a
    · rfl
    · exact hl
  refine (key_at m c t.val lt y (y 0) h l hy).trans ((total _ _ _ _ (y 0) h l (by omega) t.val (by omega)).trans ?_)
  unfold gain
  exact congrArg (fun j : Fin 1024 => ∑ k : Fin 4352, share (fun n => (m ((c : Thread nD τ).loc main_arg0)) (ix2 k n)) (fun n => (m ((c : Thread nD τ).loc main_arg2)) (ix2 k n)) 1024 (by omega) (hd j) (ln j)) (e.trans hl).symm

theorem gate_end (t : Fin cfg0.N) (g : t.val % 17 = 16) (y z : S1x128.Idx) (e : z 1 = y 1) : ((outsAt0 m c t.val t.isLt).2.2.2 y : EReal) = bias (m ((c : Thread nD τ).loc main_arg0)) (m ((c : Thread nD τ).loc main_arg3)) (m ((c : Thread nD τ).loc main_arg6)) z := by
  have lt : t.val < 17 := t.isLt
  have hy : y = ix2 (y 0) (y 1) := by
    funext a
    fin_cases a <;> rfl
  refine (gate_at m c t.val lt y (y 0) (y 1) hy).trans ((gate_total _ _ _ (y 0) (y 1) t.val (by omega)).trans ?_)
  unfold bias
  exact congrArg (fun j : Fin 128 => ∑ k : Fin 4352, gate (fun n => (m ((c : Thread nD τ).loc main_arg0)) (ix2 k n)) (fun n => (m ((c : Thread nD τ).loc main_arg3)) (ix2 k n)) (fun n => (m ((c : Thread nD τ).loc main_arg6)) (ix2 0 n)) k.val j) e.symm

theorem final_input : (dats m 0 c).arrAt 7 (cfgs 0).N = input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  obtain ⟨r, j, rfl⟩ : ∃ (r : Fin 256) (j : Fin 2176), y = ix2 r j := ⟨y 0, y 1, by funext a; fin_cases a <;> rfl⟩
  obtain ⟨p, l, rfl⟩ := lanes j
  rw [written]
  refine placed m c t r p l _ ?_ ?_ <;> blk_simp [idx t] <;> omega

theorem final_query : (dats m 0 c).arrAt 8 (cfgs 0).N = gain (m ((c : Thread nD τ).loc main_arg0)) (m ((c : Thread nD τ).loc main_arg1)) 0 (by omega) := by
  refine (dats m 0 c).arrAt_eq_of_covers 8 _ (by decide +kernel) fun t hf y => ?_
  have g := (flush0_8 t).mp hf
  blk_simp
  rw [after0_8]
  exact query_end m c t g y _ (Fin.ext (by blk_simp [idx t]))

theorem final_key : (dats m 0 c).arrAt 9 (cfgs 0).N = gain (m ((c : Thread nD τ).loc main_arg0)) (m ((c : Thread nD τ).loc main_arg2)) 1024 (by omega) := by
  refine (dats m 0 c).arrAt_eq_of_covers 9 _ (by decide +kernel) fun t hf y => ?_
  have g := (flush0_9 t).mp hf
  blk_simp
  rw [after0_9]
  exact key_end m c t g y _ (Fin.ext (by blk_simp [idx t]))

theorem final_bias : (dats m 0 c).arrAt 10 (cfgs 0).N = bias (m ((c : Thread nD τ).loc main_arg0)) (m ((c : Thread nD τ).loc main_arg3)) (m ((c : Thread nD τ).loc main_arg6)) := by
  refine (dats m 0 c).arrAt_eq_of_covers 10 _ (by decide +kernel) fun t hf y => ?_
  have g := (flush0_10 t).mp hf
  blk_simp
  rw [after0_10]
  exact gate_end m c t g y _ (Fin.ext (by blk_simp [idx t]))

end Sums

/-- From memories agreeing on the arguments, the call and its reference end with the same results. -/
theorem algebraic : Cert.algebraic_Kernel41Ideal_Reference41Ideal := by
  intro m g m' g' _ h
  refine ⟨fun c => input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => gain (m ((c : Thread nD τ).loc main_arg0)) (m ((c : Thread nD τ).loc main_arg1)) 0 (by omega), fun c => gain (m ((c : Thread nD τ).loc main_arg0)) (m ((c : Thread nD τ).loc main_arg2)) 1024 (by omega), fun c => bias (m ((c : Thread nD τ).loc main_arg0)) (m ((c : Thread nD τ).loc main_arg3)) (m ((c : Thread nD τ).loc main_arg6)),
    (θ_run _ _ _).mono (fun r hr c => ⟨(hr c).1.trans (final_input m c), (hr c).2.1.trans (final_query m c), (hr c).2.2.1.trans (final_key m c),
      (hr c).2.2.2.1.trans (final_bias m c), (hr c).2.2.2.2⟩) (Cert.Kernel41Ideal.Value.run_blocks m g),
    (θ_run _ _ _).mono (fun r hr c => ⟨?_, ?_, ?_, ?_, (hr c).2.2.2.2⟩) (Cert.Reference41Ideal.Value.run m' g')⟩
  · rw [(hr c).1, Cert.Reference41Ideal.Read.val_main_v107_eq]
    change Cert.Reference41Ideal.Read.val_main_v107 (F := Ideal) (m' ((c : Thread Cert.Reference41Ideal.nD Cert.Reference41Ideal.τ).loc Cert.Reference41Ideal.main_arg0)) (m' ((c : Thread Cert.Reference41Ideal.nD Cert.Reference41Ideal.τ).loc Cert.Reference41Ideal.main_arg1)) (m' ((c : Thread Cert.Reference41Ideal.nD Cert.Reference41Ideal.τ).loc Cert.Reference41Ideal.main_arg2)) (m' ((c : Thread Cert.Reference41Ideal.nD Cert.Reference41Ideal.τ).loc Cert.Reference41Ideal.main_arg3)) (m' ((c : Thread Cert.Reference41Ideal.nD Cert.Reference41Ideal.τ).loc Cert.Reference41Ideal.main_arg4)) (m' ((c : Thread Cert.Reference41Ideal.nD Cert.Reference41Ideal.τ).loc Cert.Reference41Ideal.main_arg5)) (m' ((c : Thread Cert.Reference41Ideal.nD Cert.Reference41Ideal.τ).loc Cert.Reference41Ideal.main_arg6)) = _
    rw [(h c).1, (h c).2.1, (h c).2.2.1, (h c).2.2.2.1, (h c).2.2.2.2.1, (h c).2.2.2.2.2.1, (h c).2.2.2.2.2.2]
    exact reference_input _ _ _ _ _ _ _
  · rw [(hr c).2.1, Cert.Reference41Ideal.Read.val_main_v41_eq]
    change Cert.Reference41Ideal.Read.val_main_v41 (F := Ideal) (m' ((c : Thread Cert.Reference41Ideal.nD Cert.Reference41Ideal.τ).loc Cert.Reference41Ideal.main_arg0)) (m' ((c : Thread Cert.Reference41Ideal.nD Cert.Reference41Ideal.τ).loc Cert.Reference41Ideal.main_arg1)) = _
    rw [(h c).1, (h c).2.1]
    exact reference_query_gain _ _
  · rw [(hr c).2.2.1, Cert.Reference41Ideal.Read.val_main_v84_eq]
    change Cert.Reference41Ideal.Read.val_main_v84 (F := Ideal) (m' ((c : Thread Cert.Reference41Ideal.nD Cert.Reference41Ideal.τ).loc Cert.Reference41Ideal.main_arg0)) (m' ((c : Thread Cert.Reference41Ideal.nD Cert.Reference41Ideal.τ).loc Cert.Reference41Ideal.main_arg2)) = _
    rw [(h c).1, (h c).2.2.1]
    exact reference_key_gain _ _
  · rw [(hr c).2.2.2.1, Cert.Reference41Ideal.Read.val_main_v105_eq]
    change Cert.Reference41Ideal.Read.val_main_v105 (F := Ideal) (m' ((c : Thread Cert.Reference41Ideal.nD Cert.Reference41Ideal.τ).loc Cert.Reference41Ideal.main_arg0)) (m' ((c : Thread Cert.Reference41Ideal.nD Cert.Reference41Ideal.τ).loc Cert.Reference41Ideal.main_arg3)) (m' ((c : Thread Cert.Reference41Ideal.nD Cert.Reference41Ideal.τ).loc Cert.Reference41Ideal.main_arg6)) = _
    rw [(h c).1, (h c).2.2.2.1, (h c).2.2.2.2.2.2]
    exact reference_bias _ _ _

theorem frame_kernel : Cert.quiescent_Kernel41 := by
  intro m ρ _
  rw [show Cert.Kernel41.defs (F := Bits) = defs (F := Bits) by chain_rfl, show Cert.Kernel41.main (F := Bits) = main (F := Bits) by chain_rfl]
  exact Gen.frame (F := Bits) m ρ

theorem frame_ideal : Cert.quiescent_Kernel41Ideal := fun m ρ _ => Gen.frame (F := Ideal) m ρ

theorem frame_reference : Cert.quiescent_Reference41Ideal := fun m ρ _ =>
  (θ_run _ _ _).mono (fun r h => ⟨fun c => (h c).2.2.2.2, sem_eq_zero_of_no_sems (by decide) r.2⟩)
    (Cert.Reference41Ideal.Value.run (F := Ideal) m ρ)

end Cert.Proof.PrepBack

end
-- ==== Proof.lean ====
/-
  The proof of this directory's claims, assembled. The mathematics and the runs are in the modules of `Proof/`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.GateUpDx
public import proofs.«01_k».proof.Proof.GateUpDw
public import proofs.«01_k».proof.Proof.DownDw
public import proofs.«01_k».proof.Proof.DownDx
public import proofs.«01_k».proof.Proof.Up
public import proofs.«01_k».proof.Proof.Down
public import proofs.«01_k».proof.Proof.Proj
public import proofs.«01_k».proof.Proof.ProjGrad
public import proofs.«01_k».proof.Proof.ProjADw
public import proofs.«01_k».proof.Proof.ProjBDx
public import proofs.«01_k».proof.Proof.OutProj
public import proofs.«01_k».proof.Proof.Branch
public import proofs.«01_k».proof.Proof.BranchDx
public import proofs.«01_k».proof.Proof.AdamGate
public import proofs.«01_k».proof.Proof.AdamUp
public import proofs.«01_k».proof.Proof.AdamDown
public import proofs.«01_k».proof.Proof.AdamIn
public import proofs.«01_k».proof.Proof.AdamBranch
public import proofs.«01_k».proof.Proof.AdamOut
public import proofs.«01_k».proof.Proof.AdamMeta
public import proofs.«01_k».proof.Proof.AdamNorm
public import proofs.«01_k».proof.Proof.AdamForget
public import proofs.«01_k».proof.Proof.AdamQk
public import proofs.«01_k».proof.Proof.Norm
public import proofs.«01_k».proof.Proof.NormFirst
public import proofs.«01_k».proof.Proof.NormForward
public import proofs.«01_k».proof.Proof.NormBack
public import proofs.«01_k».proof.Proof.Merge
public import proofs.«01_k».proof.Proof.MergeBack
public import proofs.«01_k».proof.Proof.Loss
public import proofs.«01_k».proof.Proof.NormMeta
public import proofs.«01_k».proof.Proof.NormLast
public import proofs.«01_k».proof.Proof.Running
public import proofs.«01_k».proof.Proof.RunForward
public import proofs.«01_k».proof.Proof.RunBack
public import proofs.«01_k».proof.Proof.Prep
public import proofs.«01_k».proof.Proof.PrepBack
public import Idealize.ShloMosaic.Lib.Pipeline.Regions
public import Idealize.ShloMosaic.Adequacy
public import Idealize.ShloMosaic.Init

@[expose] public section

noncomputable section

namespace Cert.Proof

open Idealize.ShloMosaic Idealize.ShloMosaic.TcCoe Idealize.SL.Sem

/-- The kernel's body table and its idealization's are the same text. -/
theorem defs_same : Cert.Kernel.defs (F := Bits) = Cert.KernelIdeal.defs (F := Bits) := by chain_rfl

/-- So are the two `@main`s. -/
theorem main_same : Cert.Kernel.main (F := Bits) = Cert.KernelIdeal.main (F := Bits) := by chain_rfl

/-- The kernel runs to the end on every memory and leaves its arguments alone: it is the text of its
    idealization, whose run is stated over any float values. -/
theorem frame_kernel : Cert.quiescent_Kernel := by
  intro m ρ _
  rw [defs_same, main_same]
  exact Sb.frame_run (F := Bits) (m := m) ρ

theorem frame_ideal : Cert.quiescent_KernelIdeal := fun m ρ _ => Sb.frame_run (F := Ideal) (m := m) ρ

/-- The reference's frame: host operations, and no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Pre_finite.Gen.facts, Cert.Pre_all_finite.Gen.facts,
  frame_kernel, frame_ideal, frame_reference,
  DownDx.frame_kernel, DownDx.frame_ideal, DownDx.frame_ideal_finite, DownDx.frame_reference, DownDx.frame_reference_finite,
  GateUpDx.frame_kernel, GateUpDx.frame_ideal, GateUpDx.frame_reference,
  GateUpDw.frame_kernel, GateUpDw.frame_ideal, GateUpDw.frame_reference,
  DownDw.frame_kernel, DownDw.frame_ideal, DownDw.frame_reference,
  Up.frame_kernel, Up.frame_ideal, Up.frame_reference,
  Down.frame_kernel, Down.frame_ideal, Down.frame_reference,
  ProjA.frame_kernel, ProjA.frame_ideal, ProjA.frame_reference,
  ProjB.frame_kernel, ProjB.frame_ideal, ProjB.frame_reference,
  ProjADx.frame_kernel, ProjADx.frame_ideal, ProjADx.frame_reference,
  ProjADw.frame_kernel, ProjADw.frame_ideal, ProjADw.frame_reference,
  ProjBDx.frame_kernel, ProjBDx.frame_ideal, ProjBDx.frame_reference,
  ProjBDw.frame_kernel, ProjBDw.frame_ideal, ProjBDw.frame_reference,
  OutProj.frame_kernel, OutProj.frame_ideal, OutProj.frame_reference,
  OutProjDx.frame_kernel, OutProjDx.frame_ideal, OutProjDx.frame_reference,
  OutProjDw.frame_kernel, OutProjDw.frame_ideal, OutProjDw.frame_reference,
  Branch.frame_kernel, Branch.frame_ideal, Branch.frame_reference,
  BranchDx.frame_kernel, BranchDx.frame_ideal, BranchDx.frame_reference,
  BranchDw.frame_kernel, BranchDw.frame_ideal, BranchDw.frame_reference,
  AdamGate.frame_kernel, AdamGate.frame_ideal, AdamGate.frame_reference,
  AdamUp.frame_kernel, AdamUp.frame_ideal, AdamUp.frame_reference,
  AdamDown.frame_kernel, AdamDown.frame_ideal, AdamDown.frame_reference,
  AdamIn.frame_kernel, AdamIn.frame_ideal, AdamIn.frame_reference,
  AdamBranch.frame_kernel, AdamBranch.frame_ideal, AdamBranch.frame_reference,
  AdamOut.frame_kernel, AdamOut.frame_ideal, AdamOut.frame_reference,
  AdamMeta.frame_kernel, AdamMeta.frame_ideal, AdamMeta.frame_reference,
  AdamNorm.frame_kernel, AdamNorm.frame_ideal, AdamNorm.frame_reference,
  AdamForget.frame_kernel, AdamForget.frame_ideal, AdamForget.frame_reference,
  AdamQk.frame_kernel, AdamQk.frame_ideal, AdamQk.frame_reference,
  NormFirst.frame_kernel, NormFirst.frame_ideal, NormFirst.frame_reference,
  NormForward.frame_kernel, NormForward.frame_ideal, NormForward.frame_reference,
  NormBack.frame_kernel, NormBack.frame_ideal, NormBack.frame_reference,
  Merge.frame_kernel, Merge.frame_ideal, Merge.frame_reference,
  MergeBack.frame_kernel, MergeBack.frame_ideal, MergeBack.frame_reference,
  Loss.frame_kernel, Loss.frame_ideal, Loss.frame_reference,
  NormMeta.frame_kernel, NormMeta.frame_ideal, NormMeta.frame_reference,
  NormLast.frame_kernel, NormLast.frame_ideal, NormLast.frame_reference,
  RunForward.frame_kernel, RunForward.frame_ideal, RunForward.frame_ideal_finite, RunForward.frame_reference, RunForward.frame_reference_finite,
  RunBack.frame_kernel, RunBack.frame_ideal, RunBack.frame_ideal_finite, RunBack.frame_reference, RunBack.frame_reference_finite,
  Prep.frame_kernel, Prep.frame_ideal, Prep.frame_reference,
  PrepBack.frame_kernel, PrepBack.frame_ideal, PrepBack.frame_reference,
  trivial,
  trivial, DownDx.algebraic, trivial, GateUpDx.algebraic, trivial, GateUpDw.algebraic, trivial, DownDw.algebraic,
  trivial, Up.algebraic, trivial, Down.algebraic, trivial, ProjA.algebraic, trivial, ProjB.algebraic,
  trivial, ProjADx.algebraic, trivial, ProjADw.algebraic, trivial, ProjBDx.algebraic, trivial, ProjBDw.algebraic,
  trivial, OutProj.algebraic, trivial, OutProjDx.algebraic, trivial, OutProjDw.algebraic, trivial, Branch.algebraic,
  trivial, BranchDx.algebraic, trivial, BranchDw.algebraic, trivial, AdamGate.algebraic, trivial, AdamUp.algebraic,
  trivial, AdamDown.algebraic, trivial, AdamIn.algebraic, trivial, AdamBranch.algebraic, trivial, AdamOut.algebraic,
  trivial, AdamMeta.algebraic, trivial, AdamNorm.algebraic, trivial, AdamForget.algebraic, trivial, AdamQk.algebraic,
  trivial, NormFirst.algebraic, trivial, NormForward.algebraic, trivial, NormBack.algebraic, trivial, Merge.algebraic,
  trivial, MergeBack.algebraic, trivial, Loss.algebraic, trivial, NormMeta.algebraic, trivial, NormLast.algebraic,
  trivial, RunForward.algebraic, trivial, RunBack.algebraic, trivial, Prep.algebraic, trivial, PrepBack.algebraic⟩

end Cert.Proof

end
